-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x4304 : Shape := ⟨2, ![1536, 4304]⟩
abbrev S96x4304 : Shape := ⟨2, ![96, 4304]⟩
abbrev S1536x1152 : Shape := ⟨2, ![1536, 1152]⟩
abbrev S1x1 : Shape := ⟨2, ![1, 1]⟩
abbrev S1152x4304 : Shape := ⟨2, ![1152, 4304]⟩
abbrev S96x16x4304 : Shape := ⟨3, ![96, 16, 4304]⟩
abbrev S_ : Shape := ⟨0, ![]⟩
abbrev S96x17x4352 : Shape := ⟨3, ![96, 17, 4352]⟩
abbrev S1632x34x128 : Shape := ⟨3, ![1632, 34, 128]⟩
abbrev S34x1632x128 : Shape := ⟨3, ![34, 1632, 128]⟩
abbrev S96x4352 : Shape := ⟨2, ![96, 4352]⟩
abbrev S1152x1536 : Shape := ⟨2, ![1152, 1536]⟩
abbrev S4304x1152 : Shape := ⟨2, ![4304, 1152]⟩
abbrev S4304x768 : Shape := ⟨2, ![4304, 768]⟩
abbrev S2x96x128 : Shape := ⟨3, ![2, 96, 128]⟩
abbrev S768x128 : Shape := ⟨2, ![768, 128]⟩
abbrev S2x256x768 : Shape := ⟨3, ![2, 256, 768]⟩
abbrev S1536x256 : Shape := ⟨2, ![1536, 256]⟩
abbrev S2x256x1152 : Shape := ⟨3, ![2, 256, 1152]⟩
abbrev S2 : Shape := ⟨1, ![2]⟩
abbrev S8 : Shape := ⟨1, ![8]⟩
abbrev S1 : Shape := ⟨1, ![1]⟩
abbrev S1x256x1152 : Shape := ⟨3, ![1, 256, 1152]⟩
abbrev S256x1152 : Shape := ⟨2, ![256, 1152]⟩
abbrev S1x208x1152 : Shape := ⟨3, ![1, 208, 1152]⟩
abbrev S208x1152 : Shape := ⟨2, ![208, 1152]⟩
abbrev S256x768 : Shape := ⟨2, ![256, 768]⟩
abbrev S1x256x768 : Shape := ⟨3, ![1, 256, 768]⟩
abbrev S96x128 : Shape := ⟨2, ![96, 128]⟩
abbrev S1x96x128 : Shape := ⟨3, ![1, 96, 128]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S64x128 : Shape := ⟨2, ![64, 128]⟩
abbrev S8x8x128 : Shape := ⟨3, ![8, 8, 128]⟩
abbrev S8x1x128 : Shape := ⟨3, ![8, 1, 128]⟩
abbrev S16x128 : Shape := ⟨2, ![16, 128]⟩
abbrev S32x128 : Shape := ⟨2, ![32, 128]⟩
abbrev S128x768 : Shape := ⟨2, ![128, 768]⟩
abbrev S1x128x768 : Shape := ⟨3, ![1, 128, 768]⟩
abbrev S1152x256 : Shape := ⟨2, ![1152, 256]⟩
abbrev S208x768 : Shape := ⟨2, ![208, 768]⟩
abbrev S1x208x768 : Shape := ⟨3, ![1, 208, 768]⟩
abbrev S768x4304 : Shape := ⟨2, ![768, 4304]⟩

abbrev nBuf : Space → Nat
  | .hbm => 22
  | .vmem => 13
  | .smem => 0
  | _ => 0

abbrev bufTy : (tb : Table) → Fin (tcTables nBuf tb) → BufTy
  | .hbm, ⟨0, _⟩ => ⟨S1536x4304, .f32⟩
  | .hbm, ⟨1, _⟩ => ⟨S96x4304, .f32⟩
  | .hbm, ⟨2, _⟩ => ⟨S1536x1152, .bf16⟩
  | .hbm, ⟨3, _⟩ => ⟨S1x1, .f32⟩
  | .hbm, ⟨4, _⟩ => ⟨S1x1, .f32⟩
  | .hbm, ⟨5, _⟩ => ⟨S1152x4304, .f32⟩
  | .hbm, ⟨6, _⟩ => ⟨S96x16x4304, .f32⟩
  | .hbm, ⟨7, _⟩ => ⟨S_, .i32⟩
  | .hbm, ⟨8, _⟩ => ⟨S_, .f32⟩
  | .hbm, ⟨9, _⟩ => ⟨S96x17x4352, .f32⟩
  | .hbm, ⟨10, _⟩ => ⟨S1632x34x128, .f32⟩
  | .hbm, ⟨11, _⟩ => ⟨S34x1632x128, .f32⟩
  | .hbm, ⟨12, _⟩ => ⟨S_, .i32⟩
  | .hbm, ⟨13, _⟩ => ⟨S_, .f32⟩
  | .hbm, ⟨14, _⟩ => ⟨S96x4352, .f32⟩
  | .hbm, ⟨15, _⟩ => ⟨S1152x1536, .bf16⟩
  | .hbm, ⟨16, _⟩ => ⟨S4304x1152, .f32⟩
  | .hbm, ⟨17, _⟩ => ⟨S4304x1152, .f32⟩
  | .hbm, ⟨18, _⟩ => ⟨S4304x768, .i8⟩
  | .hbm, ⟨19, _⟩ => ⟨S96x4304, .fp8e4m3⟩
  | .hbm, ⟨20, _⟩ => ⟨S1152x4304, .f32⟩
  | .hbm, ⟨21, _⟩ => ⟨S768x4304, .i8⟩
  | .local _ .vmem, ⟨0, _⟩ => ⟨S34x1632x128, .f32⟩
  | .local _ .vmem, ⟨1, _⟩ => ⟨S96x4352, .f32⟩
  | .local _ .vmem, ⟨2, _⟩ => ⟨S1152x1536, .bf16⟩
  | .local _ .vmem, ⟨3, _⟩ => ⟨S1x1, .f32⟩
  | .local _ .vmem, ⟨4, _⟩ => ⟨S1x1, .f32⟩
  | .local _ .vmem, ⟨5, _⟩ => ⟨S2x96x128, .f32⟩
  | .local _ .vmem, ⟨6, _⟩ => ⟨S2x96x128, .f32⟩
  | .local _ .vmem, ⟨7, _⟩ => ⟨S96x4352, .fp8e4m3⟩
  | .local _ .vmem, ⟨8, _⟩ => ⟨S768x128, .i8⟩
  | .local _ .vmem, ⟨9, _⟩ => ⟨S2x256x768, .i8⟩
  | .local _ .vmem, ⟨10, _⟩ => ⟨S1536x256, .bf16⟩
  | .local _ .vmem, ⟨11, _⟩ => ⟨S2x256x1152, .f32⟩
  | .local _ .vmem, ⟨12, _⟩ => ⟨S2x256x1152, .f32⟩
  | _, _ => ⟨S1536x4304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_8 : BitVec 32 := 0#32
  let c17_i32 : BitVec 32 := 17#32
  let v8 : BitVec 32 := Scalar.addi c0_i32_8 c17_i32
  let c1_i32 : BitVec 32 := 1#32
  ⟨c0_i32_8, v8, c1_i32⟩
def k0_cond1 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c1_i32_41 : BitVec 32 := 1#32
  let v43 : BitVec 32 := Scalar.addi arg22 c1_i32_41
  let c17_i32_42 : BitVec 32 := 17#32
  let v44 : BitVec 1 := Scalar.cmpi .slt v43 c17_i32_42
  let v45 : BitVec 32 := Scalar.extui v44
  let c0_i32_43 : BitVec 32 := 0#32
  let v46 : BitVec 1 := Scalar.cmpi .ne v45 c0_i32_43
  v46

def k0_cond2 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c1_i32_110 : BitVec 32 := 1#32
  let v171 : BitVec 32 := Scalar.addi arg22 c1_i32_110
  let c16_i32_111 : BitVec 32 := 16#32
  let v172 : BitVec 1 := Scalar.cmpi .slt v171 c16_i32_111
  let v173 : BitVec 32 := Scalar.extui v172
  let c0_i32_112 : BitVec 32 := 0#32
  let v174 : BitVec 1 := Scalar.cmpi .ne v173 c0_i32_112
  v174

def k0_off1 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c2_i32_123 : BitVec 32 := 2#32
  let c0_i32_124 : BitVec 32 := 0#32
  let v190 : BitVec 1 := Scalar.cmpi .eq c2_i32_123 c0_i32_124
  let c1_i32_125 : BitVec 32 := 1#32
  let v191 : BitVec 32 := Scalar.select v190 c1_i32_125 c2_i32_123
  let v192 : BitVec 32 := Scalar.remsi v178 v191
  let c0_i32_127 : BitVec 32 := 0#32
  let v194 : BitVec 1 := Scalar.cmpi .slt v192 c0_i32_127
  let c0_i32_128 : BitVec 32 := 0#32
  let v195 : BitVec 1 := Scalar.cmpi .slt v191 c0_i32_128
  let v196 : BitVec 1 := Scalar.xori v194 v195
  let c0_i32_126 : BitVec 32 := 0#32
  let v193 : BitVec 1 := Scalar.cmpi .ne v192 c0_i32_126
  let v197 : BitVec 1 := Scalar.andi v196 v193
  let v198 : BitVec 32 := Scalar.addi v192 v191
  let v199 : BitVec 32 := Scalar.select v197 v198 v192
  ![v199.toNat]
def k0_off2 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c2_i32_117 : BitVec 32 := 2#32
  let c0_i32_118 : BitVec 32 := 0#32
  let v180 : BitVec 1 := Scalar.cmpi .eq c2_i32_117 c0_i32_118
  let c1_i32_119 : BitVec 32 := 1#32
  let v181 : BitVec 32 := Scalar.select v180 c1_i32_119 c2_i32_117
  let v182 : BitVec 32 := Scalar.remsi v178 v181
  let c0_i32_121 : BitVec 32 := 0#32
  let v184 : BitVec 1 := Scalar.cmpi .slt v182 c0_i32_121
  let c0_i32_122 : BitVec 32 := 0#32
  let v185 : BitVec 1 := Scalar.cmpi .slt v181 c0_i32_122
  let v186 : BitVec 1 := Scalar.xori v184 v185
  let c0_i32_120 : BitVec 32 := 0#32
  let v183 : BitVec 1 := Scalar.cmpi .ne v182 c0_i32_120
  let v187 : BitVec 1 := Scalar.andi v186 v183
  let v188 : BitVec 32 := Scalar.addi v182 v181
  let v189 : BitVec 32 := Scalar.select v187 v188 v182
  let c0_i32_129 : BitVec 32 := 0#32
  let c0_i32_130 : BitVec 32 := 0#32
  ![v189.toNat, 0, 0]
def k0_off3 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c256_i32_116 : BitVec 32 := 256#32
  let v179 : BitVec 32 := Scalar.muli v178 c256_i32_116
  let c0_i32_131 : BitVec 32 := 0#32
  ![v179.toNat, 0]
def k0_cond3 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c1_i32_110 : BitVec 32 := 1#32
  let v171 : BitVec 32 := Scalar.addi arg22 c1_i32_110
  let c16_i32_113 : BitVec 32 := 16#32
  let v175 : BitVec 1 := Scalar.cmpi .eq v171 c16_i32_113
  let v176 : BitVec 32 := Scalar.extui v175
  let c0_i32_114 : BitVec 32 := 0#32
  let v177 : BitVec 1 := Scalar.cmpi .ne v176 c0_i32_114
  v177

def k0_off4 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c2_i32_123 : BitVec 32 := 2#32
  let c0_i32_124 : BitVec 32 := 0#32
  let v190 : BitVec 1 := Scalar.cmpi .eq c2_i32_123 c0_i32_124
  let c1_i32_125 : BitVec 32 := 1#32
  let v191 : BitVec 32 := Scalar.select v190 c1_i32_125 c2_i32_123
  let v192 : BitVec 32 := Scalar.remsi v178 v191
  let c0_i32_127 : BitVec 32 := 0#32
  let v194 : BitVec 1 := Scalar.cmpi .slt v192 c0_i32_127
  let c0_i32_128 : BitVec 32 := 0#32
  let v195 : BitVec 1 := Scalar.cmpi .slt v191 c0_i32_128
  let v196 : BitVec 1 := Scalar.xori v194 v195
  let c0_i32_126 : BitVec 32 := 0#32
  let v193 : BitVec 1 := Scalar.cmpi .ne v192 c0_i32_126
  let v197 : BitVec 1 := Scalar.andi v196 v193
  let v198 : BitVec 32 := Scalar.addi v192 v191
  let v199 : BitVec 32 := Scalar.select v197 v198 v192
  ![v199.toNat]
def k0_off5 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c2_i32_117 : BitVec 32 := 2#32
  let c0_i32_118 : BitVec 32 := 0#32
  let v180 : BitVec 1 := Scalar.cmpi .eq c2_i32_117 c0_i32_118
  let c1_i32_119 : BitVec 32 := 1#32
  let v181 : BitVec 32 := Scalar.select v180 c1_i32_119 c2_i32_117
  let v182 : BitVec 32 := Scalar.remsi v178 v181
  let c0_i32_121 : BitVec 32 := 0#32
  let v184 : BitVec 1 := Scalar.cmpi .slt v182 c0_i32_121
  let c0_i32_122 : BitVec 32 := 0#32
  let v185 : BitVec 1 := Scalar.cmpi .slt v181 c0_i32_122
  let v186 : BitVec 1 := Scalar.xori v184 v185
  let c0_i32_120 : BitVec 32 := 0#32
  let v183 : BitVec 1 := Scalar.cmpi .ne v182 c0_i32_120
  let v187 : BitVec 1 := Scalar.andi v186 v183
  let v188 : BitVec 32 := Scalar.addi v182 v181
  let v189 : BitVec 32 := Scalar.select v187 v188 v182
  let c0_i32_129 : BitVec 32 := 0#32
  let c0_i32_130 : BitVec 32 := 0#32
  ![v189.toNat, 0, 0]
def k0_off6 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c1_i32_115 : BitVec 32 := 1#32
  let v178 : BitVec 32 := Scalar.addi arg22 c1_i32_115
  let c256_i32_116 : BitVec 32 := 256#32
  let v179 : BitVec 32 := Scalar.muli v178 c256_i32_116
  let c0_i32_131 : BitVec 32 := 0#32
  ![v179.toNat, 0]
def k0_cond4 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c2_i32_44 : BitVec 32 := 2#32
  let v47 : BitVec 1 := Scalar.cmpi .sge arg22 c2_i32_44
  let v48 : BitVec 32 := Scalar.extui v47
  let c0_i32_45 : BitVec 32 := 0#32
  let v49 : BitVec 1 := Scalar.cmpi .ne v48 c0_i32_45
  v49

def k0_off7 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c2_i32_110 : BitVec 32 := 2#32
  let v171 : BitVec 32 := Scalar.subi arg22 c2_i32_110
  let c2_i32_118 : BitVec 32 := 2#32
  let c0_i32_119 : BitVec 32 := 0#32
  let v183 : BitVec 1 := Scalar.cmpi .eq c2_i32_118 c0_i32_119
  let c1_i32_120 : BitVec 32 := 1#32
  let v184 : BitVec 32 := Scalar.select v183 c1_i32_120 c2_i32_118
  let v185 : BitVec 32 := Scalar.remsi v171 v184
  let c0_i32_122 : BitVec 32 := 0#32
  let v187 : BitVec 1 := Scalar.cmpi .slt v185 c0_i32_122
  let c0_i32_123 : BitVec 32 := 0#32
  let v188 : BitVec 1 := Scalar.cmpi .slt v184 c0_i32_123
  let v189 : BitVec 1 := Scalar.xori v187 v188
  let c0_i32_121 : BitVec 32 := 0#32
  let v186 : BitVec 1 := Scalar.cmpi .ne v185 c0_i32_121
  let v190 : BitVec 1 := Scalar.andi v189 v186
  let v191 : BitVec 32 := Scalar.addi v185 v184
  let v192 : BitVec 32 := Scalar.select v190 v191 v185
  ![v192.toNat]
def k0_off8 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c2_i32_110 : BitVec 32 := 2#32
  let v171 : BitVec 32 := Scalar.subi arg22 c2_i32_110
  let c256_i32_117 : BitVec 32 := 256#32
  let v182 : BitVec 32 := Scalar.muli v171 c256_i32_117
  let c0_i32_124 : BitVec 32 := 0#32
  ![v182.toNat, 0]
def k0_off9 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_110 : BitVec 32 := 2#32
  let v171 : BitVec 32 := Scalar.subi arg22 c2_i32_110
  let c2_i32_111 : BitVec 32 := 2#32
  let c0_i32_112 : BitVec 32 := 0#32
  let v172 : BitVec 1 := Scalar.cmpi .eq c2_i32_111 c0_i32_112
  let c1_i32_113 : BitVec 32 := 1#32
  let v173 : BitVec 32 := Scalar.select v172 c1_i32_113 c2_i32_111
  let v174 : BitVec 32 := Scalar.remsi v171 v173
  let c0_i32_115 : BitVec 32 := 0#32
  let v176 : BitVec 1 := Scalar.cmpi .slt v174 c0_i32_115
  let c0_i32_116 : BitVec 32 := 0#32
  let v177 : BitVec 1 := Scalar.cmpi .slt v173 c0_i32_116
  let v178 : BitVec 1 := Scalar.xori v176 v177
  let c0_i32_114 : BitVec 32 := 0#32
  let v175 : BitVec 1 := Scalar.cmpi .ne v174 c0_i32_114
  let v179 : BitVec 1 := Scalar.andi v178 v175
  let v180 : BitVec 32 := Scalar.addi v174 v173
  let v181 : BitVec 32 := Scalar.select v179 v180 v174
  let c0_i32_125 : BitVec 32 := 0#32
  let c0_i32_126 : BitVec 32 := 0#32
  ![v181.toNat, 0, 0]
def k0_off10 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c2_i32_127 : BitVec 32 := 2#32
  let v198 : BitVec 32 := Scalar.subi arg22 c2_i32_127
  let c256_i32_134 : BitVec 32 := 256#32
  let v209 : BitVec 32 := Scalar.muli v198 c256_i32_134
  let c0_i32_141 : BitVec 32 := 0#32
  ![v209.toNat, 0]
def k0_off11 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_127 : BitVec 32 := 2#32
  let v198 : BitVec 32 := Scalar.subi arg22 c2_i32_127
  let c2_i32_128 : BitVec 32 := 2#32
  let c0_i32_129 : BitVec 32 := 0#32
  let v199 : BitVec 1 := Scalar.cmpi .eq c2_i32_128 c0_i32_129
  let c1_i32_130 : BitVec 32 := 1#32
  let v200 : BitVec 32 := Scalar.select v199 c1_i32_130 c2_i32_128
  let v201 : BitVec 32 := Scalar.remsi v198 v200
  let c0_i32_132 : BitVec 32 := 0#32
  let v203 : BitVec 1 := Scalar.cmpi .slt v201 c0_i32_132
  let c0_i32_133 : BitVec 32 := 0#32
  let v204 : BitVec 1 := Scalar.cmpi .slt v200 c0_i32_133
  let v205 : BitVec 1 := Scalar.xori v203 v204
  let c0_i32_131 : BitVec 32 := 0#32
  let v202 : BitVec 1 := Scalar.cmpi .ne v201 c0_i32_131
  let v206 : BitVec 1 := Scalar.andi v205 v202
  let v207 : BitVec 32 := Scalar.addi v201 v200
  let v208 : BitVec 32 := Scalar.select v206 v207 v201
  let c0_i32_142 : BitVec 32 := 0#32
  let c0_i32_143 : BitVec 32 := 0#32
  ![v208.toNat, 0, 0]
def k0_mult1 (k0_t1 : Fin k0_t1_loop.trips) : BitVec 32 :=
  let c0_i32_8 : BitVec 32 := 0#32
  let c1_i32 : BitVec 32 := 1#32
  let arg22 : BitVec 32 := Scf.iv c0_i32_8 c1_i32 k0_t1
  let c256_i32 : BitVec 32 := 256#32
  let v50 : BitVec 32 := Scalar.muli arg22 c256_i32
  let c0_i32_46 : BitVec 32 := 0#32
  let v51 : BitVec 32 := Scalar.addi v50 c0_i32_46
  v51
def k0_off12 (k0_t1 : Fin k0_t1_loop.trips) (c0_i32_46 : BitVec 32) : Fin 2 → Nat :=
  let c0_47 : Index := 0#32
  let c0_i32_8 : BitVec 32 := 0#32
  let c1_i32 : BitVec 32 := 1#32
  let arg22 : BitVec 32 := Scf.iv c0_i32_8 c1_i32 k0_t1
  let c256_i32 : BitVec 32 := 256#32
  let v50 : BitVec 32 := Scalar.muli arg22 c256_i32
  let v51 : BitVec 32 := Scalar.addi v50 c0_i32_46
  let v52 : BitVec 32 := v51
  let v53 : Index := Scalar.indexCast v52
  ![0, v53.toNat]
@[reducible] def k0_t2_loop : Scf.Loop 32 :=
  let c0_i32_63 : BitVec 32 := 0#32
  let c24_i32 : BitVec 32 := 24#32
  let v90 : BitVec 32 := Scalar.addi c0_i32_63 c24_i32
  let c1_i32_64 : BitVec 32 := 1#32
  ⟨c0_i32_63, v90, c1_i32_64⟩
def k0_off13 (k0_t2 : Fin k0_t2_loop.trips) (c0_i32_114 : BitVec 32) : Fin 3 → Nat :=
  let c0_115 : Index := 0#32
  let c0_i32_63 : BitVec 32 := 0#32
  let c1_i32_64 : BitVec 32 := 1#32
  let arg23 : BitVec 32 := Scf.iv c0_i32_63 c1_i32_64 k0_t2
  let c4_i32_113 : BitVec 32 := 4#32
  let v175 : BitVec 32 := Scalar.muli arg23 c4_i32_113
  let v176 : BitVec 32 := Scalar.addi v175 c0_i32_114
  let v177 : Index := Scalar.indexCast v176
  let c0_116 : Index := 0#32
  ![0, v177.toNat, 0]
def k0_off14 (k0_t1 : Fin k0_t1_loop.trips) (k0_t2 : Fin k0_t2_loop.trips) (c0_i32_117 : BitVec 32) (c0_i32_118 : BitVec 32) : Fin 3 → Nat :=
  let c2_i32_110 : BitVec 32 := 2#32
  let c0_i32_8 : BitVec 32 := 0#32
  let c1_i32 : BitVec 32 := 1#32
  let arg22 : BitVec 32 := Scf.iv c0_i32_8 c1_i32 k0_t1
  let v171 : BitVec 32 := Scalar.muli c2_i32_110 arg22
  let c0_i32_111 : BitVec 32 := 0#32
  let v172 : BitVec 32 := Scalar.addi v171 c0_i32_111
  let v184 : Index := Scalar.indexCast v172
  let c0_i32_63 : BitVec 32 := 0#32
  let c1_i32_64 : BitVec 32 := 1#32
  let arg23 : BitVec 32 := Scf.iv c0_i32_63 c1_i32_64 k0_t2
  let c4_i32 : BitVec 32 := 4#32
  let v173 : BitVec 32 := Scalar.muli arg23 c4_i32
  let c17_i32_112 : BitVec 32 := 17#32
  let v174 : BitVec 32 := Scalar.muli v173 c17_i32_112
  let v182 : BitVec 32 := Scalar.addi v174 c0_i32_117
  let v183 : BitVec 32 := Scalar.addi v182 c0_i32_118
  let v185 : Index := Scalar.indexCast v183
  let c0_119 : Index := 0#32
  ![v184.toNat, v185.toNat, 0]
def k0_mult2 (k0_t2 : Fin k0_t2_loop.trips) : BitVec 32 :=
  let c32_i32 : BitVec 32 := 32#32
  let c0_i32_63 : BitVec 32 := 0#32
  let c1_i32_64 : BitVec 32 := 1#32
  let arg23 : BitVec 32 := Scf.iv c0_i32_63 c1_i32_64 k0_t2
  let v417 : BitVec 32 := Scalar.muli c32_i32 arg23
  v417
def k0_off15 (k0_t2 : Fin k0_t2_loop.trips) : Fin 2 → Nat :=
  let c32_i32 : BitVec 32 := 32#32
  let c0_i32_63 : BitVec 32 := 0#32
  let c1_i32_64 : BitVec 32 := 1#32
  let arg23 : BitVec 32 := Scf.iv c0_i32_63 c1_i32_64 k0_t2
  let v417 : BitVec 32 := Scalar.muli c32_i32 arg23
  let v418 : BitVec 32 := v417
  let v419 : Index := Scalar.indexCast v418
  let c0_197 : Index := 0#32
  ![v419.toNat, 0]
def k0_mult3 (k0_t2 : Fin k0_t2_loop.trips) : BitVec 32 :=
  let c64_i32 : BitVec 32 := 64#32
  let c0_i32_63 : BitVec 32 := 0#32
  let c1_i32_64 : BitVec 32 := 1#32
  let arg23 : BitVec 32 := Scf.iv c0_i32_63 c1_i32_64 k0_t2
  let v423 : BitVec 32 := Scalar.muli c64_i32 arg23
  v423
def k0_off16 (k0_t2 : Fin k0_t2_loop.trips) : Fin 2 → Nat :=
  let c64_i32 : BitVec 32 := 64#32
  let c0_i32_63 : BitVec 32 := 0#32
  let c1_i32_64 : BitVec 32 := 1#32
  let arg23 : BitVec 32 := Scf.iv c0_i32_63 c1_i32_64 k0_t2
  let v423 : BitVec 32 := Scalar.muli c64_i32 arg23
  let v424 : BitVec 32 := v423
  let v425 : Index := Scalar.indexCast v424
  let c0_198 : Index := 0#32
  ![v425.toNat, 0]
def k0_off17 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32 : BitVec 32 := 2#32
  let c0_i32_36 : BitVec 32 := 0#32
  let v33 : BitVec 1 := Scalar.cmpi .eq c2_i32 c0_i32_36
  let c1_i32_37 : BitVec 32 := 1#32
  let v34 : BitVec 32 := Scalar.select v33 c1_i32_37 c2_i32
  let v35 : BitVec 32 := Scalar.remsi arg22 v34
  let c0_i32_39 : BitVec 32 := 0#32
  let v37 : BitVec 1 := Scalar.cmpi .slt v35 c0_i32_39
  let c0_i32_40 : BitVec 32 := 0#32
  let v38 : BitVec 1 := Scalar.cmpi .slt v34 c0_i32_40
  let v39 : BitVec 1 := Scalar.xori v37 v38
  let c0_i32_38 : BitVec 32 := 0#32
  let v36 : BitVec 1 := Scalar.cmpi .ne v35 c0_i32_38
  let v40 : BitVec 1 := Scalar.andi v39 v36
  let v41 : BitVec 32 := Scalar.addi v35 v34
  let v42 : BitVec 32 := Scalar.select v40 v41 v35
  let v93 : Index := Scalar.indexCast v42
  let c0_68 : Index := 0#32
  let c0_69 : Index := 0#32
  ![v93.toNat, 0, 0]
def k0_mult4 (k0_t1 : Fin k0_t1_loop.trips) : BitVec 32 :=
  let c0_i32_8 : BitVec 32 := 0#32
  let c1_i32 : BitVec 32 := 1#32
  let arg22 : BitVec 32 := Scf.iv c0_i32_8 c1_i32 k0_t1
  let c256_i32_70 : BitVec 32 := 256#32
  let v97 : BitVec 32 := Scalar.muli arg22 c256_i32_70
  let c128_i32 : BitVec 32 := 128#32
  let v98 : BitVec 32 := Scalar.addi v97 c128_i32
  v98
@[reducible] def k0_t3_loop : Scf.Loop 32 :=
  let c0_i32_87 : BitVec 32 := 0#32
  let c24_i32_88 : BitVec 32 := 24#32
  let v137 : BitVec 32 := Scalar.addi c0_i32_87 c24_i32_88
  let c1_i32_89 : BitVec 32 := 1#32
  ⟨c0_i32_87, v137, c1_i32_89⟩
def k0_off18 (k0_t3 : Fin k0_t3_loop.trips) (c0_i32_114 : BitVec 32) : Fin 3 → Nat :=
  let c1_115 : Index := 1#32
  let c0_i32_87 : BitVec 32 := 0#32
  let c1_i32_89 : BitVec 32 := 1#32
  let arg23 : BitVec 32 := Scf.iv c0_i32_87 c1_i32_89 k0_t3
  let c4_i32_113 : BitVec 32 := 4#32
  let v175 : BitVec 32 := Scalar.muli arg23 c4_i32_113
  let v176 : BitVec 32 := Scalar.addi v175 c0_i32_114
  let v177 : Index := Scalar.indexCast v176
  let c0_116 : Index := 0#32
  ![1, v177.toNat, 0]
def k0_off19 (k0_t1 : Fin k0_t1_loop.trips) (k0_t3 : Fin k0_t3_loop.trips) (c0_i32_117 : BitVec 32) (c0_i32_118 : BitVec 32) : Fin 3 → Nat :=
  let c2_i32_110 : BitVec 32 := 2#32
  let c0_i32_8 : BitVec 32 := 0#32
  let c1_i32 : BitVec 32 := 1#32
  let arg22 : BitVec 32 := Scf.iv c0_i32_8 c1_i32 k0_t1
  let v171 : BitVec 32 := Scalar.muli c2_i32_110 arg22
  let c1_i32_111 : BitVec 32 := 1#32
  let v172 : BitVec 32 := Scalar.addi v171 c1_i32_111
  let v184 : Index := Scalar.indexCast v172
  let c0_i32_87 : BitVec 32 := 0#32
  let c1_i32_89 : BitVec 32 := 1#32
  let arg23 : BitVec 32 := Scf.iv c0_i32_87 c1_i32_89 k0_t3
  let c4_i32 : BitVec 32 := 4#32
  let v173 : BitVec 32 := Scalar.muli arg23 c4_i32
  let c17_i32_112 : BitVec 32 := 17#32
  let v174 : BitVec 32 := Scalar.muli v173 c17_i32_112
  let v182 : BitVec 32 := Scalar.addi v174 c0_i32_117
  let v183 : BitVec 32 := Scalar.addi v182 c0_i32_118
  let v185 : Index := Scalar.indexCast v183
  let c0_119 : Index := 0#32
  ![v184.toNat, v185.toNat, 0]
def k0_mult5 (k0_t3 : Fin k0_t3_loop.trips) : BitVec 32 :=
  let c32_i32 : BitVec 32 := 32#32
  let c0_i32_87 : BitVec 32 := 0#32
  let c1_i32_89 : BitVec 32 := 1#32
  let arg23 : BitVec 32 := Scf.iv c0_i32_87 c1_i32_89 k0_t3
  let v417 : BitVec 32 := Scalar.muli c32_i32 arg23
  v417
def k0_off20 (k0_t3 : Fin k0_t3_loop.trips) : Fin 2 → Nat :=
  let c32_i32 : BitVec 32 := 32#32
  let c0_i32_87 : BitVec 32 := 0#32
  let c1_i32_89 : BitVec 32 := 1#32
  let arg23 : BitVec 32 := Scf.iv c0_i32_87 c1_i32_89 k0_t3
  let v417 : BitVec 32 := Scalar.muli c32_i32 arg23
  let v418 : BitVec 32 := v417
  let v419 : Index := Scalar.indexCast v418
  let c0_197 : Index := 0#32
  ![v419.toNat, 0]
def k0_mult6 (k0_t3 : Fin k0_t3_loop.trips) : BitVec 32 :=
  let c64_i32 : BitVec 32 := 64#32
  let c0_i32_87 : BitVec 32 := 0#32
  let c1_i32_89 : BitVec 32 := 1#32
  let arg23 : BitVec 32 := Scf.iv c0_i32_87 c1_i32_89 k0_t3
  let v423 : BitVec 32 := Scalar.muli c64_i32 arg23
  v423
def k0_off21 (k0_t3 : Fin k0_t3_loop.trips) : Fin 2 → Nat :=
  let c64_i32 : BitVec 32 := 64#32
  let c0_i32_87 : BitVec 32 := 0#32
  let c1_i32_89 : BitVec 32 := 1#32
  let arg23 : BitVec 32 := Scf.iv c0_i32_87 c1_i32_89 k0_t3
  let v423 : BitVec 32 := Scalar.muli c64_i32 arg23
  let v424 : BitVec 32 := v423
  let v425 : Index := Scalar.indexCast v424
  let c128_198 : Index := 128#32
  ![v425.toNat, 128]
def k0_off22 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32 : BitVec 32 := 2#32
  let c0_i32_36 : BitVec 32 := 0#32
  let v33 : BitVec 1 := Scalar.cmpi .eq c2_i32 c0_i32_36
  let c1_i32_37 : BitVec 32 := 1#32
  let v34 : BitVec 32 := Scalar.select v33 c1_i32_37 c2_i32
  let v35 : BitVec 32 := Scalar.remsi arg22 v34
  let c0_i32_39 : BitVec 32 := 0#32
  let v37 : BitVec 1 := Scalar.cmpi .slt v35 c0_i32_39
  let c0_i32_40 : BitVec 32 := 0#32
  let v38 : BitVec 1 := Scalar.cmpi .slt v34 c0_i32_40
  let v39 : BitVec 1 := Scalar.xori v37 v38
  let c0_i32_38 : BitVec 32 := 0#32
  let v36 : BitVec 1 := Scalar.cmpi .ne v35 c0_i32_38
  let v40 : BitVec 1 := Scalar.andi v39 v36
  let v41 : BitVec 32 := Scalar.addi v35 v34
  let v42 : BitVec 32 := Scalar.select v40 v41 v35
  let v140 : Index := Scalar.indexCast v42
  let c128 : Index := 128#32
  let c0_93 : Index := 0#32
  ![v140.toNat, 128, 0]
def k0_cond5 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c16_i32 : BitVec 32 := 16#32
  let v148 : BitVec 1 := Scalar.cmpi .slt arg22 c16_i32
  let v149 : BitVec 32 := Scalar.extui v148
  let c0_i32_99 : BitVec 32 := 0#32
  let v150 : BitVec 1 := Scalar.cmpi .ne v149 c0_i32_99
  v150

def k0_off23 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c2_i32_117 : BitVec 32 := 2#32
  let c0_i32_118 : BitVec 32 := 0#32
  let v182 : BitVec 1 := Scalar.cmpi .eq c2_i32_117 c0_i32_118
  let c1_i32_119 : BitVec 32 := 1#32
  let v183 : BitVec 32 := Scalar.select v182 c1_i32_119 c2_i32_117
  let v184 : BitVec 32 := Scalar.remsi arg22 v183
  let c0_i32_121 : BitVec 32 := 0#32
  let v186 : BitVec 1 := Scalar.cmpi .slt v184 c0_i32_121
  let c0_i32_122 : BitVec 32 := 0#32
  let v187 : BitVec 1 := Scalar.cmpi .slt v183 c0_i32_122
  let v188 : BitVec 1 := Scalar.xori v186 v187
  let c0_i32_120 : BitVec 32 := 0#32
  let v185 : BitVec 1 := Scalar.cmpi .ne v184 c0_i32_120
  let v189 : BitVec 1 := Scalar.andi v188 v185
  let v190 : BitVec 32 := Scalar.addi v184 v183
  let v191 : BitVec 32 := Scalar.select v189 v190 v184
  ![v191.toNat]
def k0_off24 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_111 : BitVec 32 := 2#32
  let c0_i32_112 : BitVec 32 := 0#32
  let v172 : BitVec 1 := Scalar.cmpi .eq c2_i32_111 c0_i32_112
  let c1_i32_113 : BitVec 32 := 1#32
  let v173 : BitVec 32 := Scalar.select v172 c1_i32_113 c2_i32_111
  let v174 : BitVec 32 := Scalar.remsi arg22 v173
  let c0_i32_115 : BitVec 32 := 0#32
  let v176 : BitVec 1 := Scalar.cmpi .slt v174 c0_i32_115
  let c0_i32_116 : BitVec 32 := 0#32
  let v177 : BitVec 1 := Scalar.cmpi .slt v173 c0_i32_116
  let v178 : BitVec 1 := Scalar.xori v176 v177
  let c0_i32_114 : BitVec 32 := 0#32
  let v175 : BitVec 1 := Scalar.cmpi .ne v174 c0_i32_114
  let v179 : BitVec 1 := Scalar.andi v178 v175
  let v180 : BitVec 32 := Scalar.addi v174 v173
  let v181 : BitVec 32 := Scalar.select v179 v180 v174
  let c0_i32_123 : BitVec 32 := 0#32
  let c0_i32_124 : BitVec 32 := 0#32
  ![v181.toNat, 0, 0]
def k0_off25 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_110 : BitVec 32 := 256#32
  let v171 : BitVec 32 := Scalar.muli arg22 c256_i32_110
  let c0_i32_125 : BitVec 32 := 0#32
  ![v171.toNat, 0]
def k0_cond6 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c16_i32_100 : BitVec 32 := 16#32
  let v151 : BitVec 1 := Scalar.cmpi .eq arg22 c16_i32_100
  let v152 : BitVec 32 := Scalar.extui v151
  let c0_i32_101 : BitVec 32 := 0#32
  let v153 : BitVec 1 := Scalar.cmpi .ne v152 c0_i32_101
  v153

def k0_off26 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c2_i32_117 : BitVec 32 := 2#32
  let c0_i32_118 : BitVec 32 := 0#32
  let v182 : BitVec 1 := Scalar.cmpi .eq c2_i32_117 c0_i32_118
  let c1_i32_119 : BitVec 32 := 1#32
  let v183 : BitVec 32 := Scalar.select v182 c1_i32_119 c2_i32_117
  let v184 : BitVec 32 := Scalar.remsi arg22 v183
  let c0_i32_121 : BitVec 32 := 0#32
  let v186 : BitVec 1 := Scalar.cmpi .slt v184 c0_i32_121
  let c0_i32_122 : BitVec 32 := 0#32
  let v187 : BitVec 1 := Scalar.cmpi .slt v183 c0_i32_122
  let v188 : BitVec 1 := Scalar.xori v186 v187
  let c0_i32_120 : BitVec 32 := 0#32
  let v185 : BitVec 1 := Scalar.cmpi .ne v184 c0_i32_120
  let v189 : BitVec 1 := Scalar.andi v188 v185
  let v190 : BitVec 32 := Scalar.addi v184 v183
  let v191 : BitVec 32 := Scalar.select v189 v190 v184
  ![v191.toNat]
def k0_off27 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_111 : BitVec 32 := 2#32
  let c0_i32_112 : BitVec 32 := 0#32
  let v172 : BitVec 1 := Scalar.cmpi .eq c2_i32_111 c0_i32_112
  let c1_i32_113 : BitVec 32 := 1#32
  let v173 : BitVec 32 := Scalar.select v172 c1_i32_113 c2_i32_111
  let v174 : BitVec 32 := Scalar.remsi arg22 v173
  let c0_i32_115 : BitVec 32 := 0#32
  let v176 : BitVec 1 := Scalar.cmpi .slt v174 c0_i32_115
  let c0_i32_116 : BitVec 32 := 0#32
  let v177 : BitVec 1 := Scalar.cmpi .slt v173 c0_i32_116
  let v178 : BitVec 1 := Scalar.xori v176 v177
  let c0_i32_114 : BitVec 32 := 0#32
  let v175 : BitVec 1 := Scalar.cmpi .ne v174 c0_i32_114
  let v179 : BitVec 1 := Scalar.andi v178 v175
  let v180 : BitVec 32 := Scalar.addi v174 v173
  let v181 : BitVec 32 := Scalar.select v179 v180 v174
  let c0_i32_123 : BitVec 32 := 0#32
  let c0_i32_124 : BitVec 32 := 0#32
  ![v181.toNat, 0, 0]
def k0_off28 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_110 : BitVec 32 := 256#32
  let v171 : BitVec 32 := Scalar.muli arg22 c256_i32_110
  let c0_i32_125 : BitVec 32 := 0#32
  ![v171.toNat, 0]
def k0_off29 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32 : BitVec 32 := 2#32
  let c0_i32_36 : BitVec 32 := 0#32
  let v33 : BitVec 1 := Scalar.cmpi .eq c2_i32 c0_i32_36
  let c1_i32_37 : BitVec 32 := 1#32
  let v34 : BitVec 32 := Scalar.select v33 c1_i32_37 c2_i32
  let v35 : BitVec 32 := Scalar.remsi arg22 v34
  let c0_i32_39 : BitVec 32 := 0#32
  let v37 : BitVec 1 := Scalar.cmpi .slt v35 c0_i32_39
  let c0_i32_40 : BitVec 32 := 0#32
  let v38 : BitVec 1 := Scalar.cmpi .slt v34 c0_i32_40
  let v39 : BitVec 1 := Scalar.xori v37 v38
  let c0_i32_38 : BitVec 32 := 0#32
  let v36 : BitVec 1 := Scalar.cmpi .ne v35 c0_i32_38
  let v40 : BitVec 1 := Scalar.andi v39 v36
  let v41 : BitVec 32 := Scalar.addi v35 v34
  let v42 : BitVec 32 := Scalar.select v40 v41 v35
  let v154 : Index := Scalar.indexCast v42
  let c0_102 : Index := 0#32
  let c0_103 : Index := 0#32
  ![v154.toNat, 0, 0]
def k0_cond7 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c16_i32_106 : BitVec 32 := 16#32
  let v165 : BitVec 1 := Scalar.cmpi .slt arg22 c16_i32_106
  let v166 : BitVec 32 := Scalar.extui v165
  let c0_i32_107 : BitVec 32 := 0#32
  let v167 : BitVec 1 := Scalar.cmpi .ne v166 c0_i32_107
  v167

def k0_off30 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c2_i32_117 : BitVec 32 := 2#32
  let c0_i32_118 : BitVec 32 := 0#32
  let v182 : BitVec 1 := Scalar.cmpi .eq c2_i32_117 c0_i32_118
  let c1_i32_119 : BitVec 32 := 1#32
  let v183 : BitVec 32 := Scalar.select v182 c1_i32_119 c2_i32_117
  let v184 : BitVec 32 := Scalar.remsi arg22 v183
  let c0_i32_121 : BitVec 32 := 0#32
  let v186 : BitVec 1 := Scalar.cmpi .slt v184 c0_i32_121
  let c0_i32_122 : BitVec 32 := 0#32
  let v187 : BitVec 1 := Scalar.cmpi .slt v183 c0_i32_122
  let v188 : BitVec 1 := Scalar.xori v186 v187
  let c0_i32_120 : BitVec 32 := 0#32
  let v185 : BitVec 1 := Scalar.cmpi .ne v184 c0_i32_120
  let v189 : BitVec 1 := Scalar.andi v188 v185
  let v190 : BitVec 32 := Scalar.addi v184 v183
  let v191 : BitVec 32 := Scalar.select v189 v190 v184
  ![v191.toNat]
def k0_off31 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_116 : BitVec 32 := 256#32
  let v181 : BitVec 32 := Scalar.muli arg22 c256_i32_116
  let c0_i32_123 : BitVec 32 := 0#32
  ![v181.toNat, 0]
def k0_off32 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_110 : BitVec 32 := 2#32
  let c0_i32_111 : BitVec 32 := 0#32
  let v171 : BitVec 1 := Scalar.cmpi .eq c2_i32_110 c0_i32_111
  let c1_i32_112 : BitVec 32 := 1#32
  let v172 : BitVec 32 := Scalar.select v171 c1_i32_112 c2_i32_110
  let v173 : BitVec 32 := Scalar.remsi arg22 v172
  let c0_i32_114 : BitVec 32 := 0#32
  let v175 : BitVec 1 := Scalar.cmpi .slt v173 c0_i32_114
  let c0_i32_115 : BitVec 32 := 0#32
  let v176 : BitVec 1 := Scalar.cmpi .slt v172 c0_i32_115
  let v177 : BitVec 1 := Scalar.xori v175 v176
  let c0_i32_113 : BitVec 32 := 0#32
  let v174 : BitVec 1 := Scalar.cmpi .ne v173 c0_i32_113
  let v178 : BitVec 1 := Scalar.andi v177 v174
  let v179 : BitVec 32 := Scalar.addi v173 v172
  let v180 : BitVec 32 := Scalar.select v178 v179 v173
  let c0_i32_124 : BitVec 32 := 0#32
  let c0_i32_125 : BitVec 32 := 0#32
  ![v180.toNat, 0, 0]
def k0_off33 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_132 : BitVec 32 := 256#32
  let v207 : BitVec 32 := Scalar.muli arg22 c256_i32_132
  let c0_i32_139 : BitVec 32 := 0#32
  ![v207.toNat, 0]
def k0_off34 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_126 : BitVec 32 := 2#32
  let c0_i32_127 : BitVec 32 := 0#32
  let v197 : BitVec 1 := Scalar.cmpi .eq c2_i32_126 c0_i32_127
  let c1_i32_128 : BitVec 32 := 1#32
  let v198 : BitVec 32 := Scalar.select v197 c1_i32_128 c2_i32_126
  let v199 : BitVec 32 := Scalar.remsi arg22 v198
  let c0_i32_130 : BitVec 32 := 0#32
  let v201 : BitVec 1 := Scalar.cmpi .slt v199 c0_i32_130
  let c0_i32_131 : BitVec 32 := 0#32
  let v202 : BitVec 1 := Scalar.cmpi .slt v198 c0_i32_131
  let v203 : BitVec 1 := Scalar.xori v201 v202
  let c0_i32_129 : BitVec 32 := 0#32
  let v200 : BitVec 1 := Scalar.cmpi .ne v199 c0_i32_129
  let v204 : BitVec 1 := Scalar.andi v203 v200
  let v205 : BitVec 32 := Scalar.addi v199 v198
  let v206 : BitVec 32 := Scalar.select v204 v205 v199
  let c0_i32_140 : BitVec 32 := 0#32
  let c0_i32_141 : BitVec 32 := 0#32
  ![v206.toNat, 0, 0]
def k0_cond8 (k0_t1 : Fin k0_t1_loop.trips) : BitVec 1 :=
  let c0_i32_8 : BitVec 32 := 0#32
  let c1_i32 : BitVec 32 := 1#32
  let arg22 : BitVec 32 := Scf.iv c0_i32_8 c1_i32 k0_t1
  let c16_i32_108 : BitVec 32 := 16#32
  let v168 : BitVec 1 := Scalar.cmpi .eq arg22 c16_i32_108
  let v169 : BitVec 32 := Scalar.extui v168
  let c0_i32_109 : BitVec 32 := 0#32
  let v170 : BitVec 1 := Scalar.cmpi .ne v169 c0_i32_109
  v170

def k0_off35 (k0_t1 : Fin k0_t1_loop.trips) : Fin 1 → Nat :=
  let c0_i32_8 : BitVec 32 := 0#32
  let c1_i32 : BitVec 32 := 1#32
  let arg22 : BitVec 32 := Scf.iv c0_i32_8 c1_i32 k0_t1
  let c2_i32_117 : BitVec 32 := 2#32
  let c0_i32_118 : BitVec 32 := 0#32
  let v182 : BitVec 1 := Scalar.cmpi .eq c2_i32_117 c0_i32_118
  let c1_i32_119 : BitVec 32 := 1#32
  let v183 : BitVec 32 := Scalar.select v182 c1_i32_119 c2_i32_117
  let v184 : BitVec 32 := Scalar.remsi arg22 v183
  let c0_i32_121 : BitVec 32 := 0#32
  let v186 : BitVec 1 := Scalar.cmpi .slt v184 c0_i32_121
  let c0_i32_122 : BitVec 32 := 0#32
  let v187 : BitVec 1 := Scalar.cmpi .slt v183 c0_i32_122
  let v188 : BitVec 1 := Scalar.xori v186 v187
  let c0_i32_120 : BitVec 32 := 0#32
  let v185 : BitVec 1 := Scalar.cmpi .ne v184 c0_i32_120
  let v189 : BitVec 1 := Scalar.andi v188 v185
  let v190 : BitVec 32 := Scalar.addi v184 v183
  let v191 : BitVec 32 := Scalar.select v189 v190 v184
  ![v191.toNat]
def k0_off36 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_116 : BitVec 32 := 256#32
  let v181 : BitVec 32 := Scalar.muli arg22 c256_i32_116
  let c0_i32_123 : BitVec 32 := 0#32
  ![v181.toNat, 0]
def k0_off37 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_110 : BitVec 32 := 2#32
  let c0_i32_111 : BitVec 32 := 0#32
  let v171 : BitVec 1 := Scalar.cmpi .eq c2_i32_110 c0_i32_111
  let c1_i32_112 : BitVec 32 := 1#32
  let v172 : BitVec 32 := Scalar.select v171 c1_i32_112 c2_i32_110
  let v173 : BitVec 32 := Scalar.remsi arg22 v172
  let c0_i32_114 : BitVec 32 := 0#32
  let v175 : BitVec 1 := Scalar.cmpi .slt v173 c0_i32_114
  let c0_i32_115 : BitVec 32 := 0#32
  let v176 : BitVec 1 := Scalar.cmpi .slt v172 c0_i32_115
  let v177 : BitVec 1 := Scalar.xori v175 v176
  let c0_i32_113 : BitVec 32 := 0#32
  let v174 : BitVec 1 := Scalar.cmpi .ne v173 c0_i32_113
  let v178 : BitVec 1 := Scalar.andi v177 v174
  let v179 : BitVec 32 := Scalar.addi v173 v172
  let v180 : BitVec 32 := Scalar.select v178 v179 v173
  let c0_i32_124 : BitVec 32 := 0#32
  let c0_i32_125 : BitVec 32 := 0#32
  ![v180.toNat, 0, 0]
def k0_off38 (k0_t1 : Fin k0_t1_loop.trips) : Fin 2 → Nat :=
  let c0_i32_8 : BitVec 32 := 0#32
  let c1_i32 : BitVec 32 := 1#32
  let arg22 : BitVec 32 := Scf.iv c0_i32_8 c1_i32 k0_t1
  let c256_i32_132 : BitVec 32 := 256#32
  let v207 : BitVec 32 := Scalar.muli arg22 c256_i32_132
  let c0_i32_133 : BitVec 32 := 0#32
  ![v207.toNat, 0]
def k0_off39 (k0_t1 : Fin k0_t1_loop.trips) : Fin 3 → Nat :=
  let c0_i32_8 : BitVec 32 := 0#32
  let c1_i32 : BitVec 32 := 1#32
  let arg22 : BitVec 32 := Scf.iv c0_i32_8 c1_i32 k0_t1
  let c2_i32_126 : BitVec 32 := 2#32
  let c0_i32_127 : BitVec 32 := 0#32
  let v197 : BitVec 1 := Scalar.cmpi .eq c2_i32_126 c0_i32_127
  let c1_i32_128 : BitVec 32 := 1#32
  let v198 : BitVec 32 := Scalar.select v197 c1_i32_128 c2_i32_126
  let v199 : BitVec 32 := Scalar.remsi arg22 v198
  let c0_i32_130 : BitVec 32 := 0#32
  let v201 : BitVec 1 := Scalar.cmpi .slt v199 c0_i32_130
  let c0_i32_131 : BitVec 32 := 0#32
  let v202 : BitVec 1 := Scalar.cmpi .slt v198 c0_i32_131
  let v203 : BitVec 1 := Scalar.xori v201 v202
  let c0_i32_129 : BitVec 32 := 0#32
  let v200 : BitVec 1 := Scalar.cmpi .ne v199 c0_i32_129
  let v204 : BitVec 1 := Scalar.andi v203 v200
  let v205 : BitVec 32 := Scalar.addi v199 v198
  let v206 : BitVec 32 := Scalar.select v204 v205 v199
  let c0_i32_134 : BitVec 32 := 0#32
  let c0_i32_135 : BitVec 32 := 0#32
  ![v206.toNat, 0, 0]
abbrev stage0_0 : Fin 1 → Memref sig .tc .vmem S34x1632x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1536x4304 : Shape := ⟨2, ![1536, 4304]⟩
abbrev S96x4304 : Shape := ⟨2, ![96, 4304]⟩
abbrev S1536x1152 : Shape := ⟨2, ![1536, 1152]⟩
abbrev S1x1 : Shape := ⟨2, ![1, 1]⟩
abbrev S1152x4304 : Shape := ⟨2, ![1152, 4304]⟩
abbrev S768x4304 : Shape := ⟨2, ![768, 4304]⟩
abbrev S96x16x4304 : Shape := ⟨3, ![96, 16, 4304]⟩
abbrev S96x1x4304 : Shape := ⟨3, ![96, 1, 4304]⟩
abbrev S768x2x4304 : Shape := ⟨3, ![768, 2, 4304]⟩
abbrev S768x1x4304 : Shape := ⟨3, ![768, 1, 4304]⟩

abbrev nBuf : Space → Nat
  | .hbm => 9
  | .vmem => 9
  | .smem => 0
  | _ => 0

abbrev bufTy : (tb : Table) → Fin (tcTables nBuf tb) → BufTy
  | .hbm, ⟨0, _⟩ => ⟨S1536x4304, .f32⟩
  | .hbm, ⟨1, _⟩ => ⟨S96x4304, .f32⟩
  | .hbm, ⟨2, _⟩ => ⟨S1536x1152, .bf16⟩
  | .hbm, ⟨3, _⟩ => ⟨S1x1, .f32⟩
  | .hbm, ⟨4, _⟩ => ⟨S1x1, .f32⟩
  | .hbm, ⟨5, _⟩ => ⟨S1152x4304, .f32⟩
  | .hbm, ⟨6, _⟩ => ⟨S1152x4304, .f32⟩
  | .hbm, ⟨7, _⟩ => ⟨S768x4304, .i8⟩
  | .hbm, ⟨8, _⟩ => ⟨S96x4304, .fp8e4m3⟩
  | .local _ .vmem, ⟨0, _⟩ => ⟨S1536x4304, .f32⟩
  | .local _ .vmem, ⟨1, _⟩ => ⟨S96x4304, .f32⟩
  | .local _ .vmem, ⟨2, _⟩ => ⟨S1536x1152, .bf16⟩
  | .local _ .vmem, ⟨3, _⟩ => ⟨S1x1, .f32⟩
  | .local _ .vmem, ⟨4, _⟩ => ⟨S1x1, .f32⟩
  | .local _ .vmem, ⟨5, _⟩ => ⟨S1152x4304, .f32⟩
  | .local _ .vmem, ⟨6, _⟩ => ⟨S1152x4304, .f32⟩
  | .local _ .vmem, ⟨7, _⟩ => ⟨S768x4304, .i8⟩
  | .local _ .vmem, ⟨8, _⟩ => ⟨S96x4304, .fp8e4m3⟩
  | _, _ => ⟨S1536x4304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x4304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x4304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x4304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x4304 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x4304 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Names.lean ====
/-
  Canonical names for what the kernel's copies move: the two slots of each ring, the row blocks of the arrays in HBM,
  and the semaphores of the rings, with the equations that read the program's slices as these names.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers and arrays -/

abbrev mgH : Memref sig .tc .hbm S4304x1152 .f32 := Memref.whole main_v6
abbrev outH : Memref sig .tc .hbm S4304x1152 .f32 := Memref.whole main_v7_0
abbrev codH : Memref sig .tc .hbm S4304x768 .i8 := Memref.whole main_v7_1
abbrev sbH : Memref sig .tc .hbm S96x4304 .fp8e4m3 := Memref.whole main_v7_2
abbrev invB : Memref sig .tc .vmem S2x96x128 .f32 := Memref.whole cc0_scratch0
abbrev sbwB : Memref sig .tc .vmem S2x96x128 .f32 := Memref.whole cc0_scratch1
abbrev sbB : Memref sig .tc .vmem S96x4352 .fp8e4m3 := Memref.whole cc0_scratch2
abbrev ctB : Memref sig .tc .vmem S768x128 .i8 := Memref.whole cc0_scratch3
abbrev codB : Memref sig .tc .vmem S2x256x768 .i8 := Memref.whole cc0_scratch4
abbrev dqB : Memref sig .tc .vmem S1536x256 .bf16 := Memref.whole cc0_scratch5
abbrev mgB : Memref sig .tc .vmem S2x256x1152 .f32 := Memref.whole cc0_scratch6
abbrev outB : Memref sig .tc .vmem S2x256x1152 .f32 := Memref.whole cc0_scratch7

/-! ## Offsets -/

abbrev slotOff (s : Fin 2) : Fin 3 → Nat := ![s.val, 0, 0]
abbrev semOff (s : Fin 2) : Fin 1 → Nat := ![s.val]
abbrev blkOff (b : Fin 16) : Fin 2 → Nat := ![256 * b.val, 0]

theorem slotOff_inb (s : Fin 2) : ∀ a, slotOff s a + S1x256x1152.size a ≤ S2x256x1152.size a := by revert s; decide
theorem slotOff_inbT (s : Fin 2) : ∀ a, slotOff s a + S1x208x1152.size a ≤ S2x256x1152.size a := by revert s; decide
theorem cslotOff_inb (s : Fin 2) : ∀ a, slotOff s a + S1x256x768.size a ≤ S2x256x768.size a := by revert s; decide
theorem cslotOff_inbT (s : Fin 2) : ∀ a, slotOff s a + S1x208x768.size a ≤ S2x256x768.size a := by revert s; decide
theorem semOff_inb (s : Fin 2) : ∀ a, semOff s a + S1.size a ≤ S2.size a := by revert s; decide
theorem blkOff_inb (b : Fin 16) : ∀ a, blkOff b a + S256x1152.size a ≤ S4304x1152.size a := by revert b; decide
theorem cblkOff_inb (b : Fin 16) : ∀ a, blkOff b a + S256x768.size a ≤ S4304x768.size a := by revert b; decide
theorem tailOff_inb : ∀ a, (![4096, 0] : Fin 2 → Nat) a + S208x1152.size a ≤ S4304x1152.size a := by decide
theorem ctailOff_inb : ∀ a, (![4096, 0] : Fin 2 → Nat) a + S208x768.size a ≤ S4304x768.size a := by decide

instance (s : Fin 2) : ClosedOff (slotOff s) := ⟨slotOff s, rfl⟩
instance (b : Fin 16) : ClosedOff (blkOff b) := ⟨blkOff b, rfl⟩

/-! ## Slots, blocks, cells -/

/-- Slot `s` of the main gradient's ring. -/
def mslot (s : Fin 2) : Memref sig .tc .vmem S256x1152 .f32 :=
  (mgB.slice (Rect.unit (s := S2x256x1152) (slotOff s) S1x256x1152.size (slotOff_inb s)) (fun _ => rfl)).squeeze S256x1152 squeezes_S1x256x1152_S256x1152
/-- Its first 208 rows, for the last tile. -/
def mslotT (s : Fin 2) : Memref sig .tc .vmem S208x1152 .f32 :=
  (mgB.slice (Rect.unit (s := S2x256x1152) (slotOff s) S1x208x1152.size (slotOff_inbT s)) (fun _ => rfl)).squeeze S208x1152 squeezes_S1x208x1152_S208x1152
/-- Block `b` of the main gradient: rows `256 b` to `256 b + 255`. -/
def mblk (b : Fin 16) : Memref sig .tc .hbm S256x1152 .f32 :=
  mgH.slice (Rect.unit (s := S4304x1152) (blkOff b) S256x1152.size (blkOff_inb b)) (fun _ => rfl)
/-- Its last 208 rows. -/
def mblkT : Memref sig .tc .hbm S208x1152 .f32 :=
  mgH.slice (Rect.unit (s := S4304x1152) ![4096, 0] S208x1152.size tailOff_inb) (fun _ => rfl)
/-- Slot `s` of the result's ring. -/
def oslot (s : Fin 2) : Memref sig .tc .vmem S256x1152 .f32 :=
  (outB.slice (Rect.unit (s := S2x256x1152) (slotOff s) S1x256x1152.size (slotOff_inb s)) (fun _ => rfl)).squeeze S256x1152 squeezes_S1x256x1152_S256x1152
def oslotT (s : Fin 2) : Memref sig .tc .vmem S208x1152 .f32 :=
  (outB.slice (Rect.unit (s := S2x256x1152) (slotOff s) S1x208x1152.size (slotOff_inbT s)) (fun _ => rfl)).squeeze S208x1152 squeezes_S1x208x1152_S208x1152
def oblk (b : Fin 16) : Memref sig .tc .hbm S256x1152 .f32 :=
  outH.slice (Rect.unit (s := S4304x1152) (blkOff b) S256x1152.size (blkOff_inb b)) (fun _ => rfl)
def oblkT : Memref sig .tc .hbm S208x1152 .f32 :=
  outH.slice (Rect.unit (s := S4304x1152) ![4096, 0] S208x1152.size tailOff_inb) (fun _ => rfl)
/-- Slot `s` of the codes' ring. -/
def cslot (s : Fin 2) : Memref sig .tc .vmem S256x768 .i8 :=
  (codB.slice (Rect.unit (s := S2x256x768) (slotOff s) S1x256x768.size (cslotOff_inb s)) (fun _ => rfl)).squeeze S256x768 squeezes_S1x256x768_S256x768
def cslotT (s : Fin 2) : Memref sig .tc .vmem S208x768 .i8 :=
  (codB.slice (Rect.unit (s := S2x256x768) (slotOff s) S1x208x768.size (cslotOff_inbT s)) (fun _ => rfl)).squeeze S208x768 squeezes_S1x208x768_S208x768
def cblk (b : Fin 16) : Memref sig .tc .hbm S256x768 .i8 :=
  codH.slice (Rect.unit (s := S4304x768) (blkOff b) S256x768.size (cblkOff_inb b)) (fun _ => rfl)
def cblkT : Memref sig .tc .hbm S208x768 .i8 :=
  codH.slice (Rect.unit (s := S4304x768) ![4096, 0] S208x768.size ctailOff_inb) (fun _ => rfl)

/-- The semaphores of the three rings. -/
def msem (s : Fin 2) : DmaSems sig S_ := (cc0_scratch8.slice (Rect.unit (s := S2) (semOff s) S1.size (semOff_inb s))).squeeze S_ squeezes_S1_S_
def osem (s : Fin 2) : DmaSems sig S_ := (cc0_scratch9.slice (Rect.unit (s := S2) (semOff s) S1.size (semOff_inb s))).squeeze S_ squeezes_S1_S_
def csem (s : Fin 2) : DmaSems sig S_ := (cc0_scratch10.slice (Rect.unit (s := S2) (semOff s) S1.size (semOff_inb s))).squeeze S_ squeezes_S1_S_

/-! ## The program's offsets in closed form -/

theorem trips_eq : k0_t1_loop.trips = 17 := by decide

section Offsets
variable (k : Fin k0_t1_loop.trips)

theorem off1_eq : k0_off1 k = semOff (Ring.sl 2 (k.val + 1)) := by revert k; decide +kernel
theorem off2_eq : k0_off2 k = slotOff (Ring.sl 2 (k.val + 1)) := by revert k; decide +kernel
theorem off3_eq (h : k.val + 1 < 16) : k0_off3 k = blkOff (Ring.bk 16 (k.val + 1)) := by revert k; decide +kernel
theorem off4_eq : k0_off4 k = semOff (Ring.sl 2 (k.val + 1)) := by revert k; decide +kernel
theorem off5_eq : k0_off5 k = slotOff (Ring.sl 2 (k.val + 1)) := by revert k; decide +kernel
theorem off6_eq (h : k.val = 15) : k0_off6 k = ![4096, 0] := by revert k; decide +kernel
theorem off7_eq : k0_off7 k = semOff (Ring.sl 2 k.val) := by revert k; decide +kernel
theorem off8_eq (h : 2 ≤ k.val) : k0_off8 k = blkOff (Ring.bk 16 (k.val - 2)) := by revert k; decide +kernel
theorem off9_eq : k0_off9 k = slotOff (Ring.sl 2 k.val) := by revert k; decide +kernel
theorem off10_eq (h : 2 ≤ k.val) : k0_off10 k = blkOff (Ring.bk 16 (k.val - 2)) := by revert k; decide +kernel
theorem off11_eq : k0_off11 k = slotOff (Ring.sl 2 k.val) := by revert k; decide +kernel
theorem off12_eq0 : k0_off12 k 0#32 = ![0, 256 * k.val] := by revert k; decide +kernel
theorem off12_eq1 : k0_off12 k 128#32 = ![0, 256 * k.val + 128] := by revert k; decide +kernel
theorem off17_eq : k0_off17 k = ![(Ring.sl 2 k.val).val, 0, 0] := by revert k; decide +kernel
theorem off22_eq : k0_off22 k = ![(Ring.sl 2 k.val).val, 128, 0] := by revert k; decide +kernel
theorem off23_eq : k0_off23 k = semOff (Ring.sl 2 k.val) := by revert k; decide +kernel
theorem off24_eq : k0_off24 k = slotOff (Ring.sl 2 k.val) := by revert k; decide +kernel
theorem off25_eq (h : k.val < 16) : k0_off25 k = blkOff (Ring.bk 16 k.val) := by revert k; decide +kernel
theorem off26_eq : k0_off26 k = semOff (Ring.sl 2 k.val) := by revert k; decide +kernel
theorem off27_eq : k0_off27 k = slotOff (Ring.sl 2 k.val) := by revert k; decide +kernel
theorem off28_eq (h : k.val = 16) : k0_off28 k = ![4096, 0] := by revert k; decide +kernel
theorem off29_eq : k0_off29 k = slotOff (Ring.sl 2 k.val) := by revert k; decide +kernel
theorem off30_eq : k0_off30 k = semOff (Ring.sl 2 k.val) := by revert k; decide +kernel
theorem off31_eq (h : k.val < 16) : k0_off31 k = blkOff (Ring.bk 16 k.val) := by revert k; decide +kernel
theorem off32_eq : k0_off32 k = slotOff (Ring.sl 2 k.val) := by revert k; decide +kernel
theorem off33_eq (h : k.val < 16) : k0_off33 k = blkOff (Ring.bk 16 k.val) := by revert k; decide +kernel
theorem off34_eq : k0_off34 k = slotOff (Ring.sl 2 k.val) := by revert k; decide +kernel
theorem off35_eq : k0_off35 k = semOff (Ring.sl 2 k.val) := by revert k; decide +kernel
theorem off36_eq (h : k.val = 16) : k0_off36 k = ![4096, 0] := by revert k; decide +kernel
theorem off37_eq : k0_off37 k = slotOff (Ring.sl 2 k.val) := by revert k; decide +kernel
theorem off38_eq (h : k.val = 16) : k0_off38 k = ![4096, 0] := by revert k; decide +kernel
theorem off39_eq : k0_off39 k = slotOff (Ring.sl 2 k.val) := by revert k; decide +kernel

instance : ClosedOff (k0_off17 k) := ⟨_, off17_eq k⟩
instance : ClosedOff (k0_off22 k) := ⟨_, off22_eq k⟩
instance : ClosedOff (k0_off29 k) := ⟨_, off29_eq k⟩

/-! ## The conditions of the trip -/

theorem cond1_pos (h : k.val < 16) : k0_cond1 k = 1#1 := by revert k; decide +kernel
theorem cond1_neg (h : k.val = 16) : ¬ k0_cond1 k = 1#1 := by revert k; decide +kernel
theorem cond2_pos (h : k.val < 15) : k0_cond2 k = 1#1 := by revert k; decide +kernel
theorem cond2_neg (h : k.val = 15) : ¬ k0_cond2 k = 1#1 := by revert k; decide +kernel
theorem cond3_pos (h : k.val = 15) : k0_cond3 k = 1#1 := by revert k; decide +kernel
theorem cond3_neg (h : k.val < 15) : ¬ k0_cond3 k = 1#1 := by revert k; decide +kernel
theorem cond4_pos (h : 2 ≤ k.val) : k0_cond4 k = 1#1 := by revert k; decide +kernel
theorem cond4_neg (h : k.val < 2) : ¬ k0_cond4 k = 1#1 := by revert k; decide +kernel
theorem cond5_pos (h : k.val < 16) : k0_cond5 k = 1#1 := by revert k; decide +kernel
theorem cond5_neg (h : k.val = 16) : ¬ k0_cond5 k = 1#1 := by revert k; decide +kernel
theorem cond6_pos (h : k.val = 16) : k0_cond6 k = 1#1 := by revert k; decide +kernel
theorem cond6_neg (h : k.val < 16) : ¬ k0_cond6 k = 1#1 := by revert k; decide +kernel
theorem cond7_pos (h : k.val < 16) : k0_cond7 k = 1#1 := by revert k; decide +kernel
theorem cond7_neg (h : k.val = 16) : ¬ k0_cond7 k = 1#1 := by revert k; decide +kernel
theorem cond8_pos (h : k.val = 16) : k0_cond8 k = 1#1 := by revert k; decide +kernel
theorem cond8_neg (h : k.val < 16) : ¬ k0_cond8 k = 1#1 := by revert k; decide +kernel

end Offsets

/-! ## The program's slices under their names -/

section Canon
variable (k : Fin k0_t1_loop.trips)

private theorem msem_congr {off : Fin 1 → Nat} {s : Fin 2} (e : off = semOff s) (hh) :
    (cc0_scratch8.slice (Rect.unit (s := S2) off S1.size hh)).squeeze S_ squeezes_S1_S_ = msem s :=
  congrArg (fun A : DmaSems sig S1 => A.squeeze S_ squeezes_S1_S_) (SemArray.slice_unit_congr _ e _ _)
private theorem osem_congr {off : Fin 1 → Nat} {s : Fin 2} (e : off = semOff s) (hh) :
    (cc0_scratch9.slice (Rect.unit (s := S2) off S1.size hh)).squeeze S_ squeezes_S1_S_ = osem s :=
  congrArg (fun A : DmaSems sig S1 => A.squeeze S_ squeezes_S1_S_) (SemArray.slice_unit_congr _ e _ _)
private theorem csem_congr {off : Fin 1 → Nat} {s : Fin 2} (e : off = semOff s) (hh) :
    (cc0_scratch10.slice (Rect.unit (s := S2) off S1.size hh)).squeeze S_ squeezes_S1_S_ = csem s :=
  congrArg (fun A : DmaSems sig S1 => A.squeeze S_ squeezes_S1_S_) (SemArray.slice_unit_congr _ e _ _)
private theorem mslot_congr {off : Fin 3 → Nat} {s : Fin 2} (e : off = slotOff s) (hh hs) :
    (mgB.slice (Rect.unit (s := S2x256x1152) off S1x256x1152.size hh) hs).squeeze S256x1152 squeezes_S1x256x1152_S256x1152 = mslot s :=
  congrArg (fun M : Memref sig .tc .vmem S1x256x1152 .f32 => M.squeeze S256x1152 squeezes_S1x256x1152_S256x1152) (Memref.slice_unit_congr _ e _ _ _ _)
private theorem mslotT_congr {off : Fin 3 → Nat} {s : Fin 2} (e : off = slotOff s) (hh hs) :
    (mgB.slice (Rect.unit (s := S2x256x1152) off S1x208x1152.size hh) hs).squeeze S208x1152 squeezes_S1x208x1152_S208x1152 = mslotT s :=
  congrArg (fun M : Memref sig .tc .vmem S1x208x1152 .f32 => M.squeeze S208x1152 squeezes_S1x208x1152_S208x1152) (Memref.slice_unit_congr _ e _ _ _ _)
private theorem oslot_congr {off : Fin 3 → Nat} {s : Fin 2} (e : off = slotOff s) (hh hs) :
    (outB.slice (Rect.unit (s := S2x256x1152) off S1x256x1152.size hh) hs).squeeze S256x1152 squeezes_S1x256x1152_S256x1152 = oslot s :=
  congrArg (fun M : Memref sig .tc .vmem S1x256x1152 .f32 => M.squeeze S256x1152 squeezes_S1x256x1152_S256x1152) (Memref.slice_unit_congr _ e _ _ _ _)
private theorem oslotT_congr {off : Fin 3 → Nat} {s : Fin 2} (e : off = slotOff s) (hh hs) :
    (outB.slice (Rect.unit (s := S2x256x1152) off S1x208x1152.size hh) hs).squeeze S208x1152 squeezes_S1x208x1152_S208x1152 = oslotT s :=
  congrArg (fun M : Memref sig .tc .vmem S1x208x1152 .f32 => M.squeeze S208x1152 squeezes_S1x208x1152_S208x1152) (Memref.slice_unit_congr _ e _ _ _ _)
private theorem cslot_congr {off : Fin 3 → Nat} {s : Fin 2} (e : off = slotOff s) (hh hs) :
    (codB.slice (Rect.unit (s := S2x256x768) off S1x256x768.size hh) hs).squeeze S256x768 squeezes_S1x256x768_S256x768 = cslot s :=
  congrArg (fun M : Memref sig .tc .vmem S1x256x768 .i8 => M.squeeze S256x768 squeezes_S1x256x768_S256x768) (Memref.slice_unit_congr _ e _ _ _ _)
private theorem cslotT_congr {off : Fin 3 → Nat} {s : Fin 2} (e : off = slotOff s) (hh hs) :
    (codB.slice (Rect.unit (s := S2x256x768) off S1x208x768.size hh) hs).squeeze S208x768 squeezes_S1x208x768_S208x768 = cslotT s :=
  congrArg (fun M : Memref sig .tc .vmem S1x208x768 .i8 => M.squeeze S208x768 squeezes_S1x208x768_S208x768) (Memref.slice_unit_congr _ e _ _ _ _)
private theorem mblk_congr {off : Fin 2 → Nat} {b : Fin 16} (e : off = blkOff b) (hh hs) :
    mgH.slice (Rect.unit (s := S4304x1152) off S256x1152.size hh) hs = mblk b := Memref.slice_unit_congr _ e _ _ _ (fun _ => rfl)
private theorem mblkT_congr {off : Fin 2 → Nat} (e : off = ![4096, 0]) (hh hs) :
    mgH.slice (Rect.unit (s := S4304x1152) off S208x1152.size hh) hs = mblkT := Memref.slice_unit_congr _ e _ _ _ (fun _ => rfl)
private theorem oblk_congr {off : Fin 2 → Nat} {b : Fin 16} (e : off = blkOff b) (hh hs) :
    outH.slice (Rect.unit (s := S4304x1152) off S256x1152.size hh) hs = oblk b := Memref.slice_unit_congr _ e _ _ _ (fun _ => rfl)
private theorem oblkT_congr {off : Fin 2 → Nat} (e : off = ![4096, 0]) (hh hs) :
    outH.slice (Rect.unit (s := S4304x1152) off S208x1152.size hh) hs = oblkT := Memref.slice_unit_congr _ e _ _ _ (fun _ => rfl)
private theorem cblk_congr {off : Fin 2 → Nat} {b : Fin 16} (e : off = blkOff b) (hh hs) :
    codH.slice (Rect.unit (s := S4304x768) off S256x768.size hh) hs = cblk b := Memref.slice_unit_congr _ e _ _ _ (fun _ => rfl)
private theorem cblkT_congr {off : Fin 2 → Nat} (e : off = ![4096, 0]) (hh hs) :
    codH.slice (Rect.unit (s := S4304x768) off S208x768.size hh) hs = cblkT := Memref.slice_unit_congr _ e _ _ _ (fun _ => rfl)

-- the main gradient's ring
@[sl_canon] theorem canon_off1 (hh) : (cc0_scratch8.slice (Rect.unit (s := S2) (k0_off1 k) S1.size hh)).squeeze S_ squeezes_S1_S_ = msem (Ring.sl 2 (k.val + 1)) := msem_congr (off1_eq k) _
@[sl_canon] theorem canon_off2 (hh hs) : (mgB.slice (Rect.unit (s := S2x256x1152) (k0_off2 k) S1x256x1152.size hh) hs).squeeze S256x1152 squeezes_S1x256x1152_S256x1152 = mslot (Ring.sl 2 (k.val + 1)) := mslot_congr (off2_eq k) _ _
@[sl_canon] theorem canon_off3 (h : k.val + 1 < 16) (hh hs) : mgH.slice (Rect.unit (s := S4304x1152) (k0_off3 k) S256x1152.size hh) hs = mblk (Ring.bk 16 (k.val + 1)) := mblk_congr (off3_eq k h) _ _
@[sl_canon] theorem canon_off4 (hh) : (cc0_scratch8.slice (Rect.unit (s := S2) (k0_off4 k) S1.size hh)).squeeze S_ squeezes_S1_S_ = msem (Ring.sl 2 (k.val + 1)) := msem_congr (off4_eq k) _
@[sl_canon] theorem canon_off5 (hh hs) : (mgB.slice (Rect.unit (s := S2x256x1152) (k0_off5 k) S1x208x1152.size hh) hs).squeeze S208x1152 squeezes_S1x208x1152_S208x1152 = mslotT (Ring.sl 2 (k.val + 1)) := mslotT_congr (off5_eq k) _ _
@[sl_canon] theorem canon_off6 (h : k.val = 15) (hh hs) : mgH.slice (Rect.unit (s := S4304x1152) (k0_off6 k) S208x1152.size hh) hs = mblkT := mblkT_congr (off6_eq k h) _ _
@[sl_canon] theorem canon_off23 (hh) : (cc0_scratch8.slice (Rect.unit (s := S2) (k0_off23 k) S1.size hh)).squeeze S_ squeezes_S1_S_ = msem (Ring.sl 2 k.val) := msem_congr (off23_eq k) _
@[sl_canon] theorem canon_off24 (hh hs) : (mgB.slice (Rect.unit (s := S2x256x1152) (k0_off24 k) S1x256x1152.size hh) hs).squeeze S256x1152 squeezes_S1x256x1152_S256x1152 = mslot (Ring.sl 2 k.val) := mslot_congr (off24_eq k) _ _
@[sl_canon] theorem canon_off25 (h : k.val < 16) (hh hs) : mgH.slice (Rect.unit (s := S4304x1152) (k0_off25 k) S256x1152.size hh) hs = mblk (Ring.bk 16 k.val) := mblk_congr (off25_eq k h) _ _
@[sl_canon] theorem canon_off26 (hh) : (cc0_scratch8.slice (Rect.unit (s := S2) (k0_off26 k) S1.size hh)).squeeze S_ squeezes_S1_S_ = msem (Ring.sl 2 k.val) := msem_congr (off26_eq k) _
@[sl_canon] theorem canon_off27 (hh hs) : (mgB.slice (Rect.unit (s := S2x256x1152) (k0_off27 k) S1x208x1152.size hh) hs).squeeze S208x1152 squeezes_S1x208x1152_S208x1152 = mslotT (Ring.sl 2 k.val) := mslotT_congr (off27_eq k) _ _
@[sl_canon] theorem canon_off28 (h : k.val = 16) (hh hs) : mgH.slice (Rect.unit (s := S4304x1152) (k0_off28 k) S208x1152.size hh) hs = mblkT := mblkT_congr (off28_eq k h) _ _
-- the result's ring
@[sl_canon] theorem canon_off7o (hh) : (cc0_scratch9.slice (Rect.unit (s := S2) (k0_off7 k) S1.size hh)).squeeze S_ squeezes_S1_S_ = osem (Ring.sl 2 k.val) := osem_congr (off7_eq k) _
@[sl_canon] theorem canon_off8 (h : 2 ≤ k.val) (hh hs) : outH.slice (Rect.unit (s := S4304x1152) (k0_off8 k) S256x1152.size hh) hs = oblk (Ring.bk 16 (k.val - 2)) := oblk_congr (off8_eq k h) _ _
@[sl_canon] theorem canon_off9 (hh hs) : (outB.slice (Rect.unit (s := S2x256x1152) (k0_off9 k) S1x256x1152.size hh) hs).squeeze S256x1152 squeezes_S1x256x1152_S256x1152 = oslot (Ring.sl 2 k.val) := oslot_congr (off9_eq k) _ _
@[sl_canon] theorem canon_off30o (hh) : (cc0_scratch9.slice (Rect.unit (s := S2) (k0_off30 k) S1.size hh)).squeeze S_ squeezes_S1_S_ = osem (Ring.sl 2 k.val) := osem_congr (off30_eq k) _
@[sl_canon] theorem canon_off31 (h : k.val < 16) (hh hs) : outH.slice (Rect.unit (s := S4304x1152) (k0_off31 k) S256x1152.size hh) hs = oblk (Ring.bk 16 k.val) := oblk_congr (off31_eq k h) _ _
@[sl_canon] theorem canon_off32 (hh hs) : (outB.slice (Rect.unit (s := S2x256x1152) (k0_off32 k) S1x256x1152.size hh) hs).squeeze S256x1152 squeezes_S1x256x1152_S256x1152 = oslot (Ring.sl 2 k.val) := oslot_congr (off32_eq k) _ _
@[sl_canon] theorem canon_off35 (hh) : (cc0_scratch9.slice (Rect.unit (s := S2) (k0_off35 k) S1.size hh)).squeeze S_ squeezes_S1_S_ = osem (Ring.sl 2 k.val) := osem_congr (off35_eq k) _
@[sl_canon] theorem canon_off36 (h : k.val = 16) (hh hs) : outH.slice (Rect.unit (s := S4304x1152) (k0_off36 k) S208x1152.size hh) hs = oblkT := oblkT_congr (off36_eq k h) _ _
@[sl_canon] theorem canon_off37 (hh hs) : (outB.slice (Rect.unit (s := S2x256x1152) (k0_off37 k) S1x208x1152.size hh) hs).squeeze S208x1152 squeezes_S1x208x1152_S208x1152 = oslotT (Ring.sl 2 k.val) := oslotT_congr (off37_eq k) _ _
-- the codes' ring
@[sl_canon] theorem canon_off7c (hh) : (cc0_scratch10.slice (Rect.unit (s := S2) (k0_off7 k) S1.size hh)).squeeze S_ squeezes_S1_S_ = csem (Ring.sl 2 k.val) := csem_congr (off7_eq k) _
@[sl_canon] theorem canon_off10 (h : 2 ≤ k.val) (hh hs) : codH.slice (Rect.unit (s := S4304x768) (k0_off10 k) S256x768.size hh) hs = cblk (Ring.bk 16 (k.val - 2)) := cblk_congr (off10_eq k h) _ _
@[sl_canon] theorem canon_off11 (hh hs) : (codB.slice (Rect.unit (s := S2x256x768) (k0_off11 k) S1x256x768.size hh) hs).squeeze S256x768 squeezes_S1x256x768_S256x768 = cslot (Ring.sl 2 k.val) := cslot_congr (off11_eq k) _ _
@[sl_canon] theorem canon_off30c (hh) : (cc0_scratch10.slice (Rect.unit (s := S2) (k0_off30 k) S1.size hh)).squeeze S_ squeezes_S1_S_ = csem (Ring.sl 2 k.val) := csem_congr (off30_eq k) _
@[sl_canon] theorem canon_off33 (h : k.val < 16) (hh hs) : codH.slice (Rect.unit (s := S4304x768) (k0_off33 k) S256x768.size hh) hs = cblk (Ring.bk 16 k.val) := cblk_congr (off33_eq k h) _ _
@[sl_canon] theorem canon_off34 (hh hs) : (codB.slice (Rect.unit (s := S2x256x768) (k0_off34 k) S1x256x768.size hh) hs).squeeze S256x768 squeezes_S1x256x768_S256x768 = cslot (Ring.sl 2 k.val) := cslot_congr (off34_eq k) _ _
@[sl_canon] theorem canon_off38 (h : k.val = 16) (hh hs) : codH.slice (Rect.unit (s := S4304x768) (k0_off38 k) S208x768.size hh) hs = cblkT := cblkT_congr (off38_eq k h) _ _
@[sl_canon] theorem canon_off39 (hh hs) : (codB.slice (Rect.unit (s := S2x256x768) (k0_off39 k) S1x208x768.size hh) hs).squeeze S208x768 squeezes_S1x208x768_S208x768 = cslotT (Ring.sl 2 k.val) := cslotT_congr (off39_eq k) _ _

-- the literal slices before and after the loop
@[sl_canon] theorem canonL_m (hh) : (cc0_scratch8.slice (Rect.unit (s := S2) ![0] S1.size hh)).squeeze S_ squeezes_S1_S_ = msem 0 := msem_congr (by decide) _
@[sl_canon] theorem canonL_ms (hh hs) : (mgB.slice (Rect.unit (s := S2x256x1152) ![0, 0, 0] S1x256x1152.size hh) hs).squeeze S256x1152 squeezes_S1x256x1152_S256x1152 = mslot 0 := mslot_congr (by decide) _ _
@[sl_canon] theorem canonL_mb (hh hs) : mgH.slice (Rect.unit (s := S4304x1152) ![0, 0] S256x1152.size hh) hs = mblk 0 := mblk_congr (by decide) _ _
@[sl_canon] theorem canonL_o0 (hh) : (cc0_scratch9.slice (Rect.unit (s := S2) ![0] S1.size hh)).squeeze S_ squeezes_S1_S_ = osem 0 := osem_congr (by decide) _
@[sl_canon] theorem canonL_o1 (hh) : (cc0_scratch9.slice (Rect.unit (s := S2) ![1] S1.size hh)).squeeze S_ squeezes_S1_S_ = osem 1 := osem_congr (by decide) _
@[sl_canon] theorem canonL_c1 (hh) : (cc0_scratch10.slice (Rect.unit (s := S2) ![1] S1.size hh)).squeeze S_ squeezes_S1_S_ = csem 1 := csem_congr (by decide) _
@[sl_canon] theorem canonL_ob (hh hs) : outH.slice (Rect.unit (s := S4304x1152) ![3840, 0] S256x1152.size hh) hs = oblk 15 := oblk_congr (by decide) _ _
@[sl_canon] theorem canonL_os (hh hs) : (outB.slice (Rect.unit (s := S2x256x1152) ![1, 0, 0] S1x256x1152.size hh) hs).squeeze S256x1152 squeezes_S1x256x1152_S256x1152 = oslot 1 := oslot_congr (by decide) _ _
@[sl_canon] theorem canonL_cb (hh hs) : codH.slice (Rect.unit (s := S4304x768) ![3840, 0] S256x768.size hh) hs = cblk 15 := cblk_congr (by decide) _ _
@[sl_canon] theorem canonL_cs (hh hs) : (codB.slice (Rect.unit (s := S2x256x768) ![1, 0, 0] S1x256x768.size hh) hs).squeeze S256x768 squeezes_S1x256x768_S256x768 = cslot 1 := cslot_congr (by decide) _ _
@[sl_canon] theorem canonL_obT (hh hs) : outH.slice (Rect.unit (s := S4304x1152) ![4096, 0] S208x1152.size hh) hs = oblkT := oblkT_congr rfl _ _
@[sl_canon] theorem canonL_osT (hh hs) : (outB.slice (Rect.unit (s := S2x256x1152) ![0, 0, 0] S1x208x1152.size hh) hs).squeeze S208x1152 squeezes_S1x208x1152_S208x1152 = oslotT 0 := oslotT_congr (by decide) _ _
@[sl_canon] theorem canonL_cbT (hh hs) : codH.slice (Rect.unit (s := S4304x768) ![4096, 0] S208x768.size hh) hs = cblkT := cblkT_congr rfl _ _
@[sl_canon] theorem canonL_csT (hh hs) : (codB.slice (Rect.unit (s := S2x256x768) ![0, 0, 0] S1x208x768.size hh) hs).squeeze S208x768 squeezes_S1x208x768_S208x768 = cslotT 0 := cslotT_congr (by decide) _ _

end Canon

end Cert.Kernel.Run

end
-- ==== Proof.Kernel.Vals.lean ====
/-
  What the kernel computes, as functions of its operands: the block scales, the four-bit codes and the dequantised
  values of a group of four blocks, the tiles assembled from them, and the three results.
-/
module

public import proofs.«01_k».proof.Defs
public import proofs.«01_k».proof.Proof.Gen.Kernel.Skeleton
public import Idealize.ShloMosaic.Lib.ValueIdxCoords
public import Idealize.ShloMosaic.Lib.Pipeline.Value

@[expose] public section

set_option maxRecDepth 16384

noncomputable section

namespace Cert.Kernel.Run

open Cert.Kernel Cert.Kernel.Gen
open Idealize.ShloMosaic Idealize.ShloMosaic.ValueIdx

variable {F : FTy → Type} [FloatOps F]

/-! ## One group of four blocks -/

/-- The scaled and clipped values of four blocks of sixteen rows, from the reciprocal scales `iv` of the blocks and
their rows `rt`, eight at a time. -/
def wV (iv : Fin 4 → Vec F S1x1x128 .f32) (rt : Fin 4 → Fin 2 → Vec F S1x8x128 .f32) : FVec F S64x128 .f32 :=
  k0_pay10 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- Their magnitudes. -/
def mV (iv : Fin 4 → Vec F S1x1x128 .f32) (rt : Fin 4 → Fin 2 → Vec F S1x8x128 .f32) : FVec F S64x128 .f32 :=
  k0_pay11 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- Where the magnitude is below two. -/
def lV (iv : Fin 4 → Vec F S1x1x128 .f32) (rt : Fin 4 → Fin 2 → Vec F S1x8x128 .f32) : IVec S64x128 1 :=
  k0_pay12 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- The packed codes of the group: two four-bit codes to a byte. -/
def cdV (iv : Fin 4 → Vec F S1x1x128 .f32) (rt : Fin 4 → Fin 2 → Vec F S1x8x128 .f32) : IVec S32x128 8 :=
  k0_pay20 (k0_pay17 (k0_pay14 (wV iv rt) (mV iv rt) (lV iv rt)) (k0_pay15 (wV iv rt) (mV iv rt) (lV iv rt))
    (k0_pay16 (wV iv rt) (mV iv rt) (lV iv rt)))
/-- The dequantised values of the group, `sb` the block scales. -/
def dqV (iv : Fin 4 → Vec F S1x1x128 .f32) (rt : Fin 4 → Fin 2 → Vec F S1x8x128 .f32) (sb : Fin 4 → Vec F S1x1x128 .f32) :
    FVec F S64x128 .bf16 :=
  k0_pay21 (k0_pay18 (wV iv rt) (k0_pay13 (mV iv rt) (lV iv rt))) (k0_pay19 (sb 0)) (sb 1) (sb 2) (sb 3)

/-- Row `4 n + i` of plane `s` of a buffer of block scales. -/
def rowAt (f : S2x96x128.Idx → Elt F .f32) (s : Fin 2) (n : Fin 24) (i : Fin 4) : Vec F S1x1x128 .f32 :=
  fun x => f (ix3 s ⟨4 * n.val + i.val, by omega⟩ (x 2))
/-- Rows `68 n + 17 i + 8 a` to `+ 7` of plane `h` of the rotated gradient. -/
def rtAt (R : S34x1632x128.Idx → Elt F .f32) (h : Fin 34) (n : Fin 24) (i : Fin 4) (a : Fin 2) : Vec F S1x8x128 .f32 :=
  fun x => R (ix3 h ⟨68 * n.val + 17 * i.val + 8 * a.val + (x 1).val, by have : (x 1).val < 8 := (x 1).isLt; omega⟩ (x 2))

/-- Replace `g` by `v` where the step `P` of an element comes before `n`. -/
def mix {I α : Type} (P : I → ℕ) (v : I → α) : ℕ → (I → α) → (I → α)
  | 0, g => g
  | n + 1, g => fun i => if P i = n then v i else mix P v n g i

theorem mix_apply {I α : Type} (P : I → ℕ) (v : I → α) (n : ℕ) (g : I → α) (i : I) :
    mix P v n g i = if P i < n then v i else g i := by
  induction n with
  | zero => simp [mix]
  | succ n ih =>
    show (if P i = n then v i else mix P v n g i) = _
    rw [ih]
    rcases Nat.lt_trichotomy (P i) n with h | h | h
    · simp [h, Nat.ne_of_lt h, Nat.lt_succ_of_lt h]
    · simp [h]
    · simp [Nat.not_lt.mpr (Nat.le_of_lt h), (Nat.ne_of_lt h).symm, Nat.not_lt.mpr h]

/-- The codes of half tile `h`, transposed: 768 bytes of each of 128 columns, from the reciprocal scales in plane `s`. -/
def ctOf (R : S34x1632x128.Idx → Elt F .f32) (f9 : S2x96x128.Idx → Elt F .f32) (h : Fin 34) (s : Fin 2) : S768x128.Idx → BitVec 8 :=
  fun i => have h0 : (i 0).val < 768 := (i 0).isLt
    cdV (rowAt f9 s ⟨(i 0).val / 32, by omega⟩) (rtAt R h ⟨(i 0).val / 32, by omega⟩) (ix2 ⟨(i 0).val % 32, by omega⟩ (i 1))
/-- The dequantised values of half tile `h`, from the reciprocal scales and the scales in plane `s`. -/
def dqOf (R : S34x1632x128.Idx → Elt F .f32) (f9 f10 : S2x96x128.Idx → Elt F .f32) (h : Fin 34) (s : Fin 2) : S1536x256.Idx → Elt F .bf16 :=
  fun i => have h0 : (i 0).val < 1536 := (i 0).isLt
    dqV (rowAt f9 s ⟨(i 0).val / 64, by omega⟩) (rtAt R h ⟨(i 0).val / 64, by omega⟩) (rowAt f10 s ⟨(i 0).val / 64, by omega⟩)
      (ix2 ⟨(i 0).val % 64, by omega⟩ ⟨(i 1).val % 128, by omega⟩)
/-- The step of the inner loop over plane `s` that writes an element of the dequantised tile; no step, of the other plane. -/
def dqStep (s : Fin 2) : S1536x256.Idx → ℕ := fun i => if (i 1).val / 128 = s.val then (i 0).val / 64 else 24

/-! ## The tiles and the results -/

section
variable (R : S34x1632x128.Idx → Elt F .f32) (A : S96x4352.Idx → Elt F .f32) (XQ : S1152x1536.Idx → Elt F .bf16)
  (v0 v1 : Vec F S1x1 .f32) (MG : S4304x1152.Idx → Elt F .f32)

/-- The block maxima of half tile `h`. -/
def amOf (h : Fin 34) : Vec F S96x128 .f32 := fun i => A (ix2 (i 0) ⟨128 * h.val + (i 1).val, by have : (i 1).val < 128 := (i 1).isLt; omega⟩)
/-- The reciprocal scales of half tile `h`. -/
def invOf (h : Fin 34) : FVec F S1x96x128 .f32 := k0_pay47 (k0_pay45 v0 (amOf A h)) k0_pay46
/-- The block scales of half tile `h`. -/
def sbwOf (h : Fin 34) : FVec F S1x96x128 .f32 := k0_pay48 (k0_pay44 v0 (amOf A h))
/-- The quantised block scales of half tile `h`. -/
def sbOf (h : Fin 34) : FVec F S96x128 .fp8e4m3 := k0_pay43 v0 (amOf A h)
/-- The two planes of reciprocal scales of tile `k`. -/
def inv2 (k : Fin 17) : S2x96x128.Idx → Elt F .f32 := fun i => invOf A v0 ⟨2 * k.val + (i 0).val, by have : (i 0).val < 2 := (i 0).isLt; omega⟩ (ix3 0 (i 1) (i 2))
/-- The two planes of scales of tile `k`. -/
def sbw2 (k : Fin 17) : S2x96x128.Idx → Elt F .f32 := fun i => sbwOf A v0 ⟨2 * k.val + (i 0).val, by have : (i 0).val < 2 := (i 0).isLt; omega⟩ (ix3 0 (i 1) (i 2))
/-- The dequantised tile `k`. -/
def DQ (k : Fin 17) : S1536x256.Idx → Elt F .bf16 := fun i =>
  dqOf R (inv2 A v0 k) (sbw2 A v0 k) ⟨2 * k.val + (i 1).val / 128, by have : (i 1).val < 256 := (i 1).isLt; omega⟩
    ⟨(i 1).val / 128, by have : (i 1).val < 256 := (i 1).isLt; omega⟩ i
/-- The codes of tile `k`: 256 columns of 768 bytes. -/
def COD (k : Fin 17) : S256x768.Idx → BitVec 8 := fun i =>
  have h0 : (i 0).val < 256 := (i 0).isLt
  ctOf R (inv2 A v0 k) ⟨2 * k.val + (i 0).val / 128, by omega⟩ ⟨(i 0).val / 128, by omega⟩ (ix2 (i 1) ⟨(i 0).val % 128, by omega⟩)
/-- Tile `k` of the result, `m` the main gradient's tile. -/
def OUT (k : Fin 17) (m : Vec F S1x256x1152 .f32) : FVec F S1x256x1152 .f32 := k0_pay58 (k0_pay59 v0 v1) XQ (DQ R A v0 k) m
/-- Tile `k` of the main gradient (its last row repeated past the end). -/
def mgOf (k : Fin 17) : Vec F S1x256x1152 .f32 := fun i => MG (ix2 ⟨min (256 * k.val + (i 1).val) 4303, by omega⟩ (i 2))

/-- The updated main gradient. -/
def Gout : S4304x1152.Idx → Elt F .f32 := fun i =>
  have h0 : (i 0).val < 4304 := (i 0).isLt
  OUT R A XQ v0 v1 ⟨(i 0).val / 256, by omega⟩ (mgOf MG ⟨(i 0).val / 256, by omega⟩) (ix3 0 ⟨(i 0).val % 256, by omega⟩ (i 1))
/-- The packed codes. -/
def Gcod : S4304x768.Idx → BitVec 8 := fun i =>
  have h0 : (i 0).val < 4304 := (i 0).isLt
  COD R A v0 ⟨(i 0).val / 256, by omega⟩ (ix2 ⟨(i 0).val % 256, by omega⟩ (i 1))
/-- The quantised block scales, all tiles. -/
def Gsb : S96x4352.Idx → Elt F .fp8e4m3 := fun i =>
  have h1 : (i 1).val < 4352 := (i 1).isLt
  sbOf A v0 ⟨(i 1).val / 128, by omega⟩ (ix2 (i 0) ⟨(i 1).val % 128, by omega⟩)
/-- The quantised block scales of the 4304 columns. -/
def GsbH : S96x4304.Idx → Elt F .fp8e4m3 := fun i =>
  have h1 : (i 1).val < 4304 := (i 1).isLt
  Gsb A v0 (ix2 (i 0) ⟨(i 1).val, by omega⟩)

/-- A tile of the result at an element depends on the main gradient's tile at that element only. -/
theorem OUT_congr (k : Fin 17) (m m' : Vec F S1x256x1152 .f32) (i : S1x256x1152.Idx) (h : m i = m' i) :
    OUT R A XQ v0 v1 k m i = OUT R A XQ v0 v1 k m' i := by
  have e (m : Vec F S1x256x1152 .f32) : OUT R A XQ v0 v1 k m i
      = addf (s := S1x256x1152) (φ := .f32) (fun _ => m i) (fun _ => (mulf (broadcastTo S256x1152 (k0_pay59 v0 v1) broadcasts_S1x1_S256x1152)
            (transpose S256x1152 [1, 0] (matmul dot_S1152x1536_S1536x256_S1152x256_1_0_0_1_n_n none (shapeCast S1152x1536 XQ shapeCasts_S1152x1536_S1152x1536)
              (DQ R A v0 k) (constant S1152x256 .f32 0x00000000#32)) transposes_S1152x256_p1_0_S256x1152))
            (Shape.reshapeEquiv shapeCasts_S256x1152_S1x256x1152 i)) i := by
    have e2 : m i = shapeCast S1x256x1152 (shapeCast S256x1152 m shapeCasts_S1x256x1152_S256x1152) shapeCasts_S256x1152_S1x256x1152 i := by
      rw [shapeCast_shapeCast]
    rw [e2]; rfl
  rw [e m, e m', h]
end

/-- The second half tile's payloads are the first's. -/
theorem pay54_eq (v0 : Vec F S1x1 .f32) (a : Vec F S96x128 .f32) :
    k0_pay54 v0 (k0_pay51 a) (Scalar.ofBits .f32 0x3F800800#32) = k0_pay47 (k0_pay45 v0 a) k0_pay46 := rfl
theorem pay55_eq (v0 : Vec F S1x1 .f32) (a : Vec F S96x128 .f32) :
    k0_pay55 v0 (k0_pay51 a) (Scalar.ofBits .f32 0x3F800800#32) = k0_pay48 (k0_pay44 v0 a) := rfl
theorem pay56_eq (v0 : Vec F S1x1 .f32) (a : Vec F S96x128 .f32) :
    k0_pay56 v0 (k0_pay51 a) (Scalar.ofBits .f32 0x3F800800#32) = k0_pay43 v0 a :=
  shapeCast_self (k0_pay43 v0 a) _
theorem pay49_eq (v : FVec F S96x128 .fp8e4m3) : k0_pay49 v = v := shapeCast_self v _
end Cert.Kernel.Run
end
-- ==== Proof.Kernel.Inner.lean ====
/-
  The two inner loops of a trip, over the 24 groups of four blocks: what each leaves in the code buffer and in the
  dequantised tile, stated element by element.
-/
module

public import proofs.«01_k».proof.Proof.Kernel.Names
public import proofs.«01_k».proof.Proof.Kernel.Vals
public import Idealize.ShloMosaic.Lib.WritesUnit
public import Idealize.ShloMosaic.Lib.WholeRead

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The run's resource algebra: the rounds of the frame kit and the counters of the copies. -/
abbrev 𝕄 (F : FTy → Type) := MT nD τ sig Unit (Elt F) ℕ (Pipeline.UD sig nD τ) ℕ

/-! ## Loads and stores of a group -/

theorem hk17 (k : Fin k0_t1_loop.trips) : k.val < 17 := Nat.lt_of_lt_of_eq k.isLt trips_eq

/-- A row of plane `s` of the reciprocal scales, as loaded. -/
theorem load_inv (f : S2x96x128.Idx → Elt F .f32) (s : Fin 2) (n : Fin 24) (i : Fin 4) {off : Fin 3 → ℕ}
    (e : off = ![s.val, 4 * n.val + i.val, 0]) (hh) :
    invB.view.readAt (Elt F) (Rect.unit (s := S2x96x128) off S1x1x128.size hh).toLoadRect f = rowAt f s n i := by
  subst e
  funext x
  refine congrArg f (funext fun a => Fin.ext ?_)
  have h0 : (x 0).val < 1 := (x 0).isLt
  have h1 : (x 1).val < 1 := (x 1).isLt
  fin_cases a
  · show s.val + 1 * (x 0).val = s.val; omega
  · show 4 * n.val + i.val + 1 * (x 1).val = 4 * n.val + i.val; omega
  · show 0 + 1 * (x 2).val = (x 2).val; omega

/-- A row of plane `s` of the scales, as loaded. -/
theorem load_sbw (f : S2x96x128.Idx → Elt F .f32) (s : Fin 2) (n : Fin 24) (i : Fin 4) {off : Fin 3 → ℕ}
    (e : off = ![s.val, 4 * n.val + i.val, 0]) (hh) :
    sbwB.view.readAt (Elt F) (Rect.unit (s := S2x96x128) off S1x1x128.size hh).toLoadRect f = rowAt f s n i := load_inv f s n i e hh

/-- Eight rows of the rotated gradient, as loaded. -/
theorem load_rot {arg0 : Memref sig .tc .vmem S34x1632x128 .f32} (harg0 : arg0.IsWhole) (R : S34x1632x128.Idx → Elt F .f32)
    (h : Fin 34) (n : Fin 24) (i : Fin 4) (a : Fin 2) {off : Fin 3 → ℕ}
    (e : off = ![h.val, 68 * n.val + 17 * i.val + 8 * a.val, 0]) (hh) :
    arg0.view.readAt (Elt F) (Rect.unit (s := S34x1632x128) off S1x8x128.size hh).toLoadRect (harg0.unread R) = rtAt R h n i a := by
  subst e
  funext x
  rw [harg0.readAt_unread]
  refine congrArg R (funext fun b => Fin.ext ?_)
  have h0 : (x 0).val < 1 := (x 0).isLt
  fin_cases b
  · show h.val + 1 * (x 0).val = h.val; omega
  · show 68 * n.val + 17 * i.val + 8 * a.val + 1 * (x 1).val = 68 * n.val + 17 * i.val + 8 * a.val + (x 1).val; omega
  · show 0 + 1 * (x 2).val = (x 2).val; omega

/-- Storing a group's codes: rows `32 n` to `32 n + 31`. -/
theorem store_ct (f : S768x128.Idx → Elt F .i8) (n : Fin 24) {off : Fin 2 → ℕ} (e : off = ![32 * n.val, 0]) (hh)
    (p : S32x128.Idx → Elt F .i8) (v : S768x128.Idx → Elt F .i8)
    (hv : ∀ i : S768x128.Idx, (i 0).val / 32 = n.val → v i = p (ix2 ⟨(i 0).val % 32, Nat.mod_lt _ (by decide)⟩ (i 1))) :
    ctB.view.writes (Elt F) f [⟨Rect.unit (s := S768x128) off S32x128.size hh, p⟩] = fun i => if (i 0).val / 32 = n.val then v i else f i := by
  funext i
  by_cases h : (i 0).val / 32 = n.val
  · refine Eq.trans ?_ ((if_pos h).trans (hv i h)).symm
    refine View.read_writes_cons_unit_of_mem ctB.view f hh p [] i (ix2 ⟨(i 0).val % 32, Nat.mod_lt _ (by decide)⟩ (i 1)) e fun a => ?_
    fin_cases a
    · show (i 0).val = 32 * n.val + (i 0).val % 32; omega
    · show (i 1).val = 0 + (i 1).val; omega
  · refine Eq.trans ?_ (if_neg h).symm
    refine View.read_writes_cons_unit_of_not_mem ctB.view f hh p [] i e 0 ?_
    show (i 0).val < 32 * n.val ∨ 32 * n.val + 32 ≤ (i 0).val
    omega

/-- Storing a group's dequantised values: rows `64 n` to `64 n + 63` of the columns of half tile `s`. -/
theorem store_dq (f : S1536x256.Idx → Elt F .bf16) (s : Fin 2) (n : Fin 24) {off : Fin 2 → ℕ} (e : off = ![64 * n.val, 128 * s.val]) (hh)
    (p : S64x128.Idx → Elt F .bf16) (v : S1536x256.Idx → Elt F .bf16)
    (hv : ∀ i : S1536x256.Idx, (i 0).val / 64 = n.val → v i = p (ix2 ⟨(i 0).val % 64, Nat.mod_lt _ (by decide)⟩ ⟨(i 1).val % 128, Nat.mod_lt _ (by decide)⟩)) :
    dqB.view.writes (Elt F) f [⟨Rect.unit (s := S1536x256) off S64x128.size hh, p⟩] = fun i => if dqStep s i = n.val then v i else f i := by
  funext i
  show dqB.view.read (Elt F) (dqB.view.writes (Elt F) f [⟨Rect.unit (s := S1536x256) off S64x128.size hh, p⟩]) i = _
  have h1 : (i 1).val < 256 := (i 1).isLt
  by_cases h : dqStep s i = n.val
  · rw [if_pos h]
    unfold dqStep at h
    split at h
    · rename_i hs
      rw [hv i h]
      refine View.read_writes_cons_unit_of_mem _ _ hh p [] i (ix2 ⟨(i 0).val % 64, Nat.mod_lt _ (by decide)⟩ ⟨(i 1).val % 128, Nat.mod_lt _ (by decide)⟩) e fun a => ?_
      fin_cases a
      · show (i 0).val = 64 * n.val + (i 0).val % 64; omega
      · show (i 1).val = 128 * s.val + (i 1).val % 128; omega
    · omega
  · rw [if_neg h]
    unfold dqStep at h
    split at h
    · refine View.read_writes_cons_unit_of_not_mem _ _ hh p [] i e 0 ?_
      show (i 0).val < 64 * n.val ∨ 64 * n.val + 64 ≤ (i 0).val
      omega
    · refine View.read_writes_cons_unit_of_not_mem _ _ hh p [] i e 1 ?_
      show (i 1).val < 128 * s.val ∨ 128 * s.val + 128 ≤ (i 1).val
      omega

/-! ## The loops' offsets -/

abbrev hOf (k : Fin k0_t1_loop.trips) (s : Fin 2) : Fin 34 := ⟨2 * k.val + s.val, by have := hk17 k; omega⟩

theorem off13_eq (n : Fin k0_t2_loop.trips) (i : Fin 4) : k0_off13 n (BitVec.ofNat 32 i.val) = ![(0 : Fin 2).val, 4 * n.val + i.val, 0] := by
  revert n i; decide +kernel
theorem off18_eq (n : Fin k0_t3_loop.trips) (i : Fin 4) : k0_off18 n (BitVec.ofNat 32 i.val) = ![(1 : Fin 2).val, 4 * n.val + i.val, 0] := by
  revert n i; decide +kernel
theorem off14_eq (k : Fin k0_t1_loop.trips) (n : Fin k0_t2_loop.trips) (i : Fin 4) (a : Fin 2) :
    k0_off14 k n (BitVec.ofNat 32 (17 * i.val)) (BitVec.ofNat 32 (8 * a.val)) = ![2 * k.val + (0 : Fin 2).val, 68 * n.val + 17 * i.val + 8 * a.val, 0] := by
  revert k n i a; decide +kernel
theorem off19_eq (k : Fin k0_t1_loop.trips) (n : Fin k0_t3_loop.trips) (i : Fin 4) (a : Fin 2) :
    k0_off19 k n (BitVec.ofNat 32 (17 * i.val)) (BitVec.ofNat 32 (8 * a.val)) = ![2 * k.val + (1 : Fin 2).val, 68 * n.val + 17 * i.val + 8 * a.val, 0] := by
  revert k n i a; decide +kernel
theorem off15_eq (n : Fin k0_t2_loop.trips) : k0_off15 n = ![32 * n.val, 0] := by revert n; decide +kernel
theorem off20_eq (n : Fin k0_t3_loop.trips) : k0_off20 n = ![32 * n.val, 0] := by revert n; decide +kernel
theorem off16_eq (n : Fin k0_t2_loop.trips) : k0_off16 n = ![64 * n.val, 128 * (0 : Fin 2).val] := by revert n; decide +kernel
theorem off21_eq (n : Fin k0_t3_loop.trips) : k0_off21 n = ![64 * n.val, 128 * (1 : Fin 2).val] := by revert n; decide +kernel

section
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)

/-! ## Half tile 0 -/

/-- Before trip `n`: what the loop reads, unchanged; the code buffer and the dequantised tile hold the groups before `n`. -/
abbrev tinv2 (R : S34x1632x128.Idx → Elt F .f32) (f9 f10 : S2x96x128.Idx → Elt F .f32) (g12 : S768x128.Idx → Elt F .i8)
    (g14 : S1536x256.Idx → Elt F .bf16) (k : Fin k0_t1_loop.trips) (n : ℕ) : sProp (𝕄 F) :=
  iprop((arg0.view.loc (c : Thread nD τ) ↦[arg0.view.set]{fullShare} harg0.unread R)
    ∗ (invB.view.loc (c : Thread nD τ) ↦[invB.view.set]{fullShare} f9) ∗ (sbwB.view.loc (c : Thread nD τ) ↦[sbwB.view.set]{fullShare} f10)
    ∗ (∃ f : Buf (Elt F) (ctB.view.loc (c : Thread nD τ)), (ctB.view.loc (c : Thread nD τ) ↦[ctB.view.set]{fullShare} f)
        ∗ ⌜f = mix (I := S768x128.Idx) (fun i => (i 0).val / 32) (ctOf R f9 (hOf k 0) 0) n g12⌝)
    ∗ (∃ f : Buf (Elt F) (dqB.view.loc (c : Thread nD τ)), (dqB.view.loc (c : Thread nD τ) ↦[dqB.view.set]{fullShare} f)
        ∗ ⌜f = mix (I := S1536x256.Idx) (dqStep 0) (dqOf R f9 f10 (hOf k 0) 0) n g14⌝))

set_option warn.classDefReducibility false in
set_option maxHeartbeats 4000000 in
/-- The inner loop over half tile 0. -/
@[sl_loop] def loopInv_t2 (𝒱 : Variants) (bd : Option 𝒱.V) (E : Set ℕ) (R : S34x1632x128.Idx → Elt F .f32) (f9 f10 : S2x96x128.Idx → Elt F .f32)
    (g12 : S768x128.Idx → Elt F .i8) (g14 : S1536x256.Idx → Elt F .bf16) (k : Fin k0_t1_loop.trips) (arg22 v42 v52 : BitVec 32) (v66 : FVec F S96x128 .fp8e4m3) (v67 v69 v70 : FVec F S96x128 .f32) :
    LoopInv (M := 𝕄 F) frame (wpE (defs₀ (F := F)) 𝒱 (c : Thread nD τ) bd) E k0_t2_loop.lb k0_t2_loop.ub k0_t2_loop.st k0_t2_ok ()
      (k0_t2_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    k arg22 v42 v52 v66 v67 v69 v70) where
  inv n _ := tinv2 c arg0 harg0 R f9 f10 g12 g14 k n
  step n acc := by
    have hn : n.val < 24 := Nat.lt_of_lt_of_le n.isLt k0_t2_abs.2.1
    have eiv (i : Fin 4) (hh) : invB.view.readAt (Elt F) (Rect.unit (s := S2x96x128) (k0_off13 n (BitVec.ofNat 32 i.val)) S1x1x128.size hh).toLoadRect f9
        = rowAt f9 0 ⟨n.val, hn⟩ i := load_inv f9 0 ⟨n.val, hn⟩ i (off13_eq n i) hh
    have esb (i : Fin 4) (hh) : sbwB.view.readAt (Elt F) (Rect.unit (s := S2x96x128) (k0_off13 n (BitVec.ofNat 32 i.val)) S1x1x128.size hh).toLoadRect f10
        = rowAt f10 0 ⟨n.val, hn⟩ i := load_sbw f10 0 ⟨n.val, hn⟩ i (off13_eq n i) hh
    have ert (i : Fin 4) (a : Fin 2) (hh) : arg0.view.readAt (Elt F) (Rect.unit (s := S34x1632x128)
          (k0_off14 k n (BitVec.ofNat 32 (17 * i.val)) (BitVec.ofNat 32 (8 * a.val))) S1x8x128.size hh).toLoadRect (harg0.unread R)
        = rtAt R (hOf k 0) ⟨n.val, hn⟩ i a := load_rot harg0 R (hOf k 0) ⟨n.val, hn⟩ i a (off14_eq k n i a) hh
    iintro ⟨H0, H9, H10, ⟨%f12, H12, %h12⟩, ⟨%f14, H14, %h14⟩⟩
    unfold k0_t2_body
    sl_exec
    sl_step
    isplitl [H0]; · iexact H0
    isplitl [H9]; · iexact H9
    isplitl [H10]; · iexact H10
    isplitl [H12]
    · iexists _
      isplitl [H12]; · iexact H12
      ipureintro
      rw [h12]
      refine (store_ct _ ⟨n.val, hn⟩ (off15_eq n) _ _ (ctOf R f9 (hOf k 0) 0) ?_).trans rfl
      intro i hi
      have h0 : (i 0).val < 768 := (i 0).isLt
      have e : (⟨(i 0).val / 32, by omega⟩ : Fin 24) = ⟨n.val, hn⟩ := Fin.ext hi
      show cdV (rowAt f9 0 ⟨(i 0).val / 32, by omega⟩) (rtAt R (hOf k 0) ⟨(i 0).val / 32, by omega⟩) _ = _
      rw [e, (funext fun i => (eiv i (k0_off13_inb n i)).symm : rowAt f9 0 ⟨n.val, hn⟩ = _),
        (funext fun i => funext fun a => (ert i a (k0_off14_inb k n i a)).symm : rtAt R (hOf k 0) ⟨n.val, hn⟩ = _)]
      rfl
    · iexists _
      isplitl [H14]; · iexact H14
      ipureintro
      rw [h14]
      refine (store_dq _ 0 ⟨n.val, hn⟩ (off16_eq n) _ _ (dqOf R f9 f10 (hOf k 0) 0) ?_).trans rfl
      intro i hi
      have h0 : (i 0).val < 1536 := (i 0).isLt
      have e : (⟨(i 0).val / 64, by omega⟩ : Fin 24) = ⟨n.val, hn⟩ := Fin.ext hi
      show dqV (rowAt f9 0 ⟨(i 0).val / 64, by omega⟩) (rtAt R (hOf k 0) ⟨(i 0).val / 64, by omega⟩) (rowAt f10 0 ⟨(i 0).val / 64, by omega⟩) _ = _
      rw [e, (funext fun i => (eiv i (k0_off13_inb n i)).symm : rowAt f9 0 ⟨n.val, hn⟩ = _),
        (funext fun i => funext fun a => (ert i a (k0_off14_inb k n i a)).symm : rtAt R (hOf k 0) ⟨n.val, hn⟩ = _),
        (funext fun i => (esb i (k0_off13_inb n i)).symm : rowAt f10 0 ⟨n.val, hn⟩ = _)]
      rfl

/-! ## Half tile 1 -/

/-- Before trip `n`: what the loop reads, unchanged; the code buffer and the dequantised tile hold the groups before `n`. -/
abbrev tinv3 (R : S34x1632x128.Idx → Elt F .f32) (f9 f10 : S2x96x128.Idx → Elt F .f32) (g12 : S768x128.Idx → Elt F .i8)
    (g14 : S1536x256.Idx → Elt F .bf16) (k : Fin k0_t1_loop.trips) (n : ℕ) : sProp (𝕄 F) :=
  iprop((arg0.view.loc (c : Thread nD τ) ↦[arg0.view.set]{fullShare} harg0.unread R)
    ∗ (invB.view.loc (c : Thread nD τ) ↦[invB.view.set]{fullShare} f9) ∗ (sbwB.view.loc (c : Thread nD τ) ↦[sbwB.view.set]{fullShare} f10)
    ∗ (∃ f : Buf (Elt F) (ctB.view.loc (c : Thread nD τ)), (ctB.view.loc (c : Thread nD τ) ↦[ctB.view.set]{fullShare} f)
        ∗ ⌜f = mix (I := S768x128.Idx) (fun i => (i 0).val / 32) (ctOf R f9 (hOf k 1) 1) n g12⌝)
    ∗ (∃ f : Buf (Elt F) (dqB.view.loc (c : Thread nD τ)), (dqB.view.loc (c : Thread nD τ) ↦[dqB.view.set]{fullShare} f)
        ∗ ⌜f = mix (I := S1536x256.Idx) (dqStep 1) (dqOf R f9 f10 (hOf k 1) 1) n g14⌝))

set_option warn.classDefReducibility false in
set_option maxHeartbeats 4000000 in
/-- The inner loop over half tile 1. -/
@[sl_loop] def loopInv_t3 (𝒱 : Variants) (bd : Option 𝒱.V) (E : Set ℕ) (R : S34x1632x128.Idx → Elt F .f32) (f9 f10 : S2x96x128.Idx → Elt F .f32)
    (g12 : S768x128.Idx → Elt F .i8) (g14 : S1536x256.Idx → Elt F .bf16) (k : Fin k0_t1_loop.trips) (v0 : Vec F S1x1 .f32) (arg22 v99 : BitVec 32) (v102 : FVec F S96x128 .f32) (cst_72 : F .f32) :
    LoopInv (M := 𝕄 F) frame (wpE (defs₀ (F := F)) 𝒱 (c : Thread nD τ) bd) E k0_t3_loop.lb k0_t3_loop.ub k0_t3_loop.st k0_t3_ok ()
      (k0_t3_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 k arg22 v99 v102 cst_72) where
  inv n _ := tinv3 c arg0 harg0 R f9 f10 g12 g14 k n
  step n acc := by
    have hn : n.val < 24 := Nat.lt_of_lt_of_le n.isLt k0_t3_abs.2.1
    have eiv (i : Fin 4) (hh) : invB.view.readAt (Elt F) (Rect.unit (s := S2x96x128) (k0_off18 n (BitVec.ofNat 32 i.val)) S1x1x128.size hh).toLoadRect f9
        = rowAt f9 1 ⟨n.val, hn⟩ i := load_inv f9 1 ⟨n.val, hn⟩ i (off18_eq n i) hh
    have esb (i : Fin 4) (hh) : sbwB.view.readAt (Elt F) (Rect.unit (s := S2x96x128) (k0_off18 n (BitVec.ofNat 32 i.val)) S1x1x128.size hh).toLoadRect f10
        = rowAt f10 1 ⟨n.val, hn⟩ i := load_sbw f10 1 ⟨n.val, hn⟩ i (off18_eq n i) hh
    have ert (i : Fin 4) (a : Fin 2) (hh) : arg0.view.readAt (Elt F) (Rect.unit (s := S34x1632x128)
          (k0_off19 k n (BitVec.ofNat 32 (17 * i.val)) (BitVec.ofNat 32 (8 * a.val))) S1x8x128.size hh).toLoadRect (harg0.unread R)
        = rtAt R (hOf k 1) ⟨n.val, hn⟩ i a := load_rot harg0 R (hOf k 1) ⟨n.val, hn⟩ i a (off19_eq k n i a) hh
    iintro ⟨H0, H9, H10, ⟨%f12, H12, %h12⟩, ⟨%f14, H14, %h14⟩⟩
    unfold k0_t3_body
    sl_exec
    sl_step
    isplitl [H0]; · iexact H0
    isplitl [H9]; · iexact H9
    isplitl [H10]; · iexact H10
    isplitl [H12]
    · iexists _
      isplitl [H12]; · iexact H12
      ipureintro
      rw [h12]
      refine (store_ct _ ⟨n.val, hn⟩ (off20_eq n) _ _ (ctOf R f9 (hOf k 1) 1) ?_).trans rfl
      intro i hi
      have h0 : (i 0).val < 768 := (i 0).isLt
      have e : (⟨(i 0).val / 32, by omega⟩ : Fin 24) = ⟨n.val, hn⟩ := Fin.ext hi
      show cdV (rowAt f9 1 ⟨(i 0).val / 32, by omega⟩) (rtAt R (hOf k 1) ⟨(i 0).val / 32, by omega⟩) _ = _
      rw [e, (funext fun i => (eiv i (k0_off18_inb n i)).symm : rowAt f9 1 ⟨n.val, hn⟩ = _),
        (funext fun i => funext fun a => (ert i a (k0_off19_inb k n i a)).symm : rtAt R (hOf k 1) ⟨n.val, hn⟩ = _)]
      rfl
    · iexists _
      isplitl [H14]; · iexact H14
      ipureintro
      rw [h14]
      refine (store_dq _ 1 ⟨n.val, hn⟩ (off21_eq n) _ _ (dqOf R f9 f10 (hOf k 1) 1) ?_).trans rfl
      intro i hi
      have h0 : (i 0).val < 1536 := (i 0).isLt
      have e : (⟨(i 0).val / 64, by omega⟩ : Fin 24) = ⟨n.val, hn⟩ := Fin.ext hi
      show dqV (rowAt f9 1 ⟨(i 0).val / 64, by omega⟩) (rtAt R (hOf k 1) ⟨(i 0).val / 64, by omega⟩) (rowAt f10 1 ⟨(i 0).val / 64, by omega⟩) _ = _
      rw [e, (funext fun i => (eiv i (k0_off18_inb n i)).symm : rowAt f9 1 ⟨n.val, hn⟩ = _),
        (funext fun i => funext fun a => (ert i a (k0_off19_inb k n i a)).symm : rtAt R (hOf k 1) ⟨n.val, hn⟩ = _),
        (funext fun i => (esb i (k0_off18_inb n i)).symm : rowAt f10 1 ⟨n.val, hn⟩ = _)]
      rfl

end
end Cert.Kernel.Run
end
-- ==== Proof.Kernel.Tiles.lean ====
/-
  What the loads, stores and copies of one trip read and leave, element by element: the block scales' planes, the
  assembled tiles in the slots of the rings, and the tiles that the copies land in the arrays.
-/
module

public import proofs.«01_k».proof.Proof.Kernel.Inner
public import Idealize.ShloMosaic.Lib.ViewIndex

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Stores of a rectangle -/

theorem inv_read (f : invB.view.ty.Contents (Elt F)) (y : S2x96x128.Idx) : invB.view.read (Elt F) f y = f y := rfl
theorem inv_hit_read (f : invB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    invB.view.read (Elt F) (invB.view.writes (Elt F) f (⟨Rect.unit (s := S2x96x128) off S1x96x128.size hh, p⟩ :: L)) y = p x :=
  View.read_writes_cons_unit_of_mem invB.view f hh p L y x e hx
theorem inv_hit (f : invB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    invB.view.writes (Elt F) f (⟨Rect.unit (s := S2x96x128) off S1x96x128.size hh, p⟩ :: L) y = p x :=
  (inv_read _ y).symm.trans (inv_hit_read f hh p L y x e hx)
theorem inv_miss_read (f : invB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    invB.view.read (Elt F) (invB.view.writes (Elt F) f (⟨Rect.unit (s := S2x96x128) off S1x96x128.size hh, p⟩ :: L)) y = invB.view.read (Elt F) (invB.view.writes (Elt F) f L) y :=
  View.read_writes_cons_unit_of_not_mem invB.view f hh p L y e a hx
theorem inv_miss (f : invB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    invB.view.writes (Elt F) f (⟨Rect.unit (s := S2x96x128) off S1x96x128.size hh, p⟩ :: L) y = invB.view.writes (Elt F) f L y :=
  (inv_read _ y).symm.trans ((inv_miss_read f hh p L y e a hx).trans (inv_read _ y))
theorem cod_read (f : codB.view.ty.Contents (Elt F)) (y : S2x256x768.Idx) : codB.view.read (Elt F) f y = f y := rfl
theorem cod_hit_read (f : codB.view.ty.Contents (Elt F)) {off off' : Fin S2x256x768.rank → ℕ} (hh) (p : S1x128x768.Idx → Elt F .i8) (L : List (View.Piece (Elt F) S2x256x768 .i8)) (y : S2x256x768.Idx)
    (x : S1x128x768.Idx) (e : off = off') (hx : ∀ a, (y a).val = off' a + (x a).val) :
    codB.view.read (Elt F) (codB.view.writes (Elt F) f (⟨Rect.unit (s := S2x256x768) off S1x128x768.size hh, p⟩ :: L)) y = p x :=
  View.read_writes_cons_unit_of_mem codB.view f hh p L y x e hx
theorem cod_hit (f : codB.view.ty.Contents (Elt F)) {off off' : Fin S2x256x768.rank → ℕ} (hh) (p : S1x128x768.Idx → Elt F .i8) (L : List (View.Piece (Elt F) S2x256x768 .i8)) (y : S2x256x768.Idx)
    (x : S1x128x768.Idx) (e : off = off') (hx : ∀ a, (y a).val = off' a + (x a).val) :
    codB.view.writes (Elt F) f (⟨Rect.unit (s := S2x256x768) off S1x128x768.size hh, p⟩ :: L) y = p x :=
  (cod_read _ y).symm.trans (cod_hit_read f hh p L y x e hx)
theorem cod_miss_read (f : codB.view.ty.Contents (Elt F)) {off off' : Fin S2x256x768.rank → ℕ} (hh) (p : S1x128x768.Idx → Elt F .i8) (L : List (View.Piece (Elt F) S2x256x768 .i8)) (y : S2x256x768.Idx)
    (e : off = off') (a : Fin S2x256x768.rank) (hx : (y a).val < off' a ∨ off' a + S1x128x768.size a ≤ (y a).val) :
    codB.view.read (Elt F) (codB.view.writes (Elt F) f (⟨Rect.unit (s := S2x256x768) off S1x128x768.size hh, p⟩ :: L)) y = codB.view.read (Elt F) (codB.view.writes (Elt F) f L) y :=
  View.read_writes_cons_unit_of_not_mem codB.view f hh p L y e a hx
theorem cod_miss (f : codB.view.ty.Contents (Elt F)) {off off' : Fin S2x256x768.rank → ℕ} (hh) (p : S1x128x768.Idx → Elt F .i8) (L : List (View.Piece (Elt F) S2x256x768 .i8)) (y : S2x256x768.Idx)
    (e : off = off') (a : Fin S2x256x768.rank) (hx : (y a).val < off' a ∨ off' a + S1x128x768.size a ≤ (y a).val) :
    codB.view.writes (Elt F) f (⟨Rect.unit (s := S2x256x768) off S1x128x768.size hh, p⟩ :: L) y = codB.view.writes (Elt F) f L y :=
  (cod_read _ y).symm.trans ((cod_miss_read f hh p L y e a hx).trans (cod_read _ y))
theorem out_read (f : outB.view.ty.Contents (Elt F)) (y : S2x256x1152.Idx) : outB.view.read (Elt F) f y = f y := rfl
theorem out_hit_read (f : outB.view.ty.Contents (Elt F)) {off off' : Fin S2x256x1152.rank → ℕ} (hh) (p : S1x256x1152.Idx → Elt F .f32) (L : List (View.Piece (Elt F) S2x256x1152 .f32)) (y : S2x256x1152.Idx)
    (x : S1x256x1152.Idx) (e : off = off') (hx : ∀ a, (y a).val = off' a + (x a).val) :
    outB.view.read (Elt F) (outB.view.writes (Elt F) f (⟨Rect.unit (s := S2x256x1152) off S1x256x1152.size hh, p⟩ :: L)) y = p x :=
  View.read_writes_cons_unit_of_mem outB.view f hh p L y x e hx
theorem out_hit (f : outB.view.ty.Contents (Elt F)) {off off' : Fin S2x256x1152.rank → ℕ} (hh) (p : S1x256x1152.Idx → Elt F .f32) (L : List (View.Piece (Elt F) S2x256x1152 .f32)) (y : S2x256x1152.Idx)
    (x : S1x256x1152.Idx) (e : off = off') (hx : ∀ a, (y a).val = off' a + (x a).val) :
    outB.view.writes (Elt F) f (⟨Rect.unit (s := S2x256x1152) off S1x256x1152.size hh, p⟩ :: L) y = p x :=
  (out_read _ y).symm.trans (out_hit_read f hh p L y x e hx)
theorem out_miss_read (f : outB.view.ty.Contents (Elt F)) {off off' : Fin S2x256x1152.rank → ℕ} (hh) (p : S1x256x1152.Idx → Elt F .f32) (L : List (View.Piece (Elt F) S2x256x1152 .f32)) (y : S2x256x1152.Idx)
    (e : off = off') (a : Fin S2x256x1152.rank) (hx : (y a).val < off' a ∨ off' a + S1x256x1152.size a ≤ (y a).val) :
    outB.view.read (Elt F) (outB.view.writes (Elt F) f (⟨Rect.unit (s := S2x256x1152) off S1x256x1152.size hh, p⟩ :: L)) y = outB.view.read (Elt F) (outB.view.writes (Elt F) f L) y :=
  View.read_writes_cons_unit_of_not_mem outB.view f hh p L y e a hx
theorem out_miss (f : outB.view.ty.Contents (Elt F)) {off off' : Fin S2x256x1152.rank → ℕ} (hh) (p : S1x256x1152.Idx → Elt F .f32) (L : List (View.Piece (Elt F) S2x256x1152 .f32)) (y : S2x256x1152.Idx)
    (e : off = off') (a : Fin S2x256x1152.rank) (hx : (y a).val < off' a ∨ off' a + S1x256x1152.size a ≤ (y a).val) :
    outB.view.writes (Elt F) f (⟨Rect.unit (s := S2x256x1152) off S1x256x1152.size hh, p⟩ :: L) y = outB.view.writes (Elt F) f L y :=
  (out_read _ y).symm.trans ((out_miss_read f hh p L y e a hx).trans (out_read _ y))
theorem sb_read (f : sbB.view.ty.Contents (Elt F)) (y : S96x4352.Idx) : sbB.view.read (Elt F) f y = f y := rfl
theorem sb_hit_read (f : sbB.view.ty.Contents (Elt F)) {off off' : Fin S96x4352.rank → ℕ} (hh) (p : S96x128.Idx → Elt F .fp8e4m3) (L : List (View.Piece (Elt F) S96x4352 .fp8e4m3)) (y : S96x4352.Idx)
    (x : S96x128.Idx) (e : off = off') (hx : ∀ a, (y a).val = off' a + (x a).val) :
    sbB.view.read (Elt F) (sbB.view.writes (Elt F) f (⟨Rect.unit (s := S96x4352) off S96x128.size hh, p⟩ :: L)) y = p x :=
  View.read_writes_cons_unit_of_mem sbB.view f hh p L y x e hx
theorem sb_hit (f : sbB.view.ty.Contents (Elt F)) {off off' : Fin S96x4352.rank → ℕ} (hh) (p : S96x128.Idx → Elt F .fp8e4m3) (L : List (View.Piece (Elt F) S96x4352 .fp8e4m3)) (y : S96x4352.Idx)
    (x : S96x128.Idx) (e : off = off') (hx : ∀ a, (y a).val = off' a + (x a).val) :
    sbB.view.writes (Elt F) f (⟨Rect.unit (s := S96x4352) off S96x128.size hh, p⟩ :: L) y = p x :=
  (sb_read _ y).symm.trans (sb_hit_read f hh p L y x e hx)
theorem sb_miss_read (f : sbB.view.ty.Contents (Elt F)) {off off' : Fin S96x4352.rank → ℕ} (hh) (p : S96x128.Idx → Elt F .fp8e4m3) (L : List (View.Piece (Elt F) S96x4352 .fp8e4m3)) (y : S96x4352.Idx)
    (e : off = off') (a : Fin S96x4352.rank) (hx : (y a).val < off' a ∨ off' a + S96x128.size a ≤ (y a).val) :
    sbB.view.read (Elt F) (sbB.view.writes (Elt F) f (⟨Rect.unit (s := S96x4352) off S96x128.size hh, p⟩ :: L)) y = sbB.view.read (Elt F) (sbB.view.writes (Elt F) f L) y :=
  View.read_writes_cons_unit_of_not_mem sbB.view f hh p L y e a hx
theorem sb_miss (f : sbB.view.ty.Contents (Elt F)) {off off' : Fin S96x4352.rank → ℕ} (hh) (p : S96x128.Idx → Elt F .fp8e4m3) (L : List (View.Piece (Elt F) S96x4352 .fp8e4m3)) (y : S96x4352.Idx)
    (e : off = off') (a : Fin S96x4352.rank) (hx : (y a).val < off' a ∨ off' a + S96x128.size a ≤ (y a).val) :
    sbB.view.writes (Elt F) f (⟨Rect.unit (s := S96x4352) off S96x128.size hh, p⟩ :: L) y = sbB.view.writes (Elt F) f L y :=
  (sb_read _ y).symm.trans ((sb_miss_read f hh p L y e a hx).trans (sb_read _ y))

theorem sbw_read (f : sbwB.view.ty.Contents (Elt F)) (y : S2x96x128.Idx) : sbwB.view.read (Elt F) f y = f y := rfl
theorem sbw_hit_read (f : sbwB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    sbwB.view.read (Elt F) (sbwB.view.writes (Elt F) f (⟨Rect.unit (s := S2x96x128) off S1x96x128.size hh, p⟩ :: L)) y = p x :=
  View.read_writes_cons_unit_of_mem sbwB.view f hh p L y x e hx
theorem sbw_hit (f : sbwB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    sbwB.view.writes (Elt F) f (⟨Rect.unit (s := S2x96x128) off S1x96x128.size hh, p⟩ :: L) y = p x :=
  (sbw_read _ y).symm.trans (sbw_hit_read f hh p L y x e hx)
theorem sbw_miss_read (f : sbwB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    sbwB.view.read (Elt F) (sbwB.view.writes (Elt F) f (⟨Rect.unit (s := S2x96x128) off S1x96x128.size hh, p⟩ :: L)) y = sbwB.view.read (Elt F) (sbwB.view.writes (Elt F) f L) y :=
  View.read_writes_cons_unit_of_not_mem sbwB.view f hh p L y e a hx
theorem sbw_miss (f : sbwB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    sbwB.view.writes (Elt F) f (⟨Rect.unit (s := S2x96x128) off S1x96x128.size hh, p⟩ :: L) y = sbwB.view.writes (Elt F) f L y :=
  (sbw_read _ y).symm.trans ((sbw_miss_read f hh p L y e a hx).trans (sbw_read _ y))

/-! ## The block scales -/

/-- The block maxima of half tile `h`, as loaded. -/
theorem load_am {arg1 : Memref sig .tc .vmem S96x4352 .f32} (harg1 : arg1.IsWhole) (A : S96x4352.Idx → Elt F .f32) (h : Fin 34)
    {off : Fin 2 → ℕ} (e : off = ![0, 128 * h.val]) (hh) :
    arg1.view.readAt (Elt F) (Rect.unit (s := S96x4352) off S96x128.size hh).toLoadRect (harg1.unread A) = amOf A h := by
  subst e
  funext x
  rw [harg1.readAt_unread]
  refine congrArg A (funext fun b => Fin.ext ?_)
  fin_cases b
  · show 0 + 1 * (x 0).val = (x 0).val; omega
  · show 128 * h.val + 1 * (x 1).val = 128 * h.val + (x 1).val; omega

theorem off12h (k : Fin k0_t1_loop.trips) (s : Fin 2) : k0_off12 k (BitVec.ofNat 32 (128 * s.val)) = ![0, 128 * (hOf k s).val] := by
  revert k s; decide +kernel

theorem ix3_eta {d0 d1 d2 : ℕ} (i : (⟨3, ![d0, d1, d2]⟩ : Shape).Idx) : ix3 (i 0) (i 1) (i 2) = i := (eq_ix3 i).symm
theorem ix2_eta {d0 d1 : ℕ} (i : (⟨2, ![d0, d1]⟩ : Shape).Idx) : ix2 (i 0) (i 1) = i := (eq_ix2 i).symm

/-- Contents equal on both planes are equal. -/
theorem planes_ext (g v : S2x96x128.Idx → Elt F .f32) (h0 : ∀ r l, g (ix3 0 r l) = v (ix3 0 r l)) (h1 : ∀ r l, g (ix3 1 r l) = v (ix3 1 r l)) :
    g = v := by
  refine funext fun (i : S2x96x128.Idx) => ?_
  have hi : (i 0).val < 2 := (i 0).isLt
  by_cases h : (i 0).val = 1
  · have e : i = ix3 1 (i 1) (i 2) := funext fun b => Fin.ext (by fin_cases b; exact h; rfl; rfl)
    exact (congrArg g e).trans ((h1 _ _).trans (congrArg v e).symm)
  · have h' : (i 0).val = 0 := by omega
    have e : i = ix3 0 (i 1) (i 2) := funext fun b => Fin.ext (by fin_cases b; exact h'; rfl; rfl)
    exact (congrArg g e).trans ((h0 _ _).trans (congrArg v e).symm)
theorem plane_pos (s : Fin 2) (r : Fin 96) (l : Fin 128) (a : Fin S2x96x128.rank) :
    ((ix3 s r l : S2x96x128.Idx) a).val = (![s.val, 0, 0] : Fin 3 → ℕ) a + ((ix3 0 r l : S1x96x128.Idx) a).val := by
  fin_cases a
  · show s.val = s.val + 0; omega
  · show r.val = 0 + r.val; omega
  · show l.val = 0 + l.val; omega
/-- Both planes stored: the buffer's contents; and plane 0 alone. -/
theorem inv_planes (f : S2x96x128.Idx → Elt F .f32) (p0 p1 : S1x96x128.Idx → Elt F .f32) (hh0 hh1) (v : S2x96x128.Idx → Elt F .f32)
    (h0 : ∀ r l, v (ix3 0 r l) = p0 (ix3 0 r l)) (h1 : ∀ r l, v (ix3 1 r l) = p1 (ix3 0 r l)) :
    invB.view.writes (Elt F) f [⟨Rect.unit (s := S2x96x128) ![1, 0, 0] S1x96x128.size hh1, p1⟩,
      ⟨Rect.unit (s := S2x96x128) ![0, 0, 0] S1x96x128.size hh0, p0⟩] = v :=
  planes_ext _ v
    (fun r l => ((inv_miss f hh1 p1 _ (ix3 0 r l) rfl 0 (Or.inl Nat.one_pos)).trans (inv_hit f hh0 p0 _ (ix3 0 r l) (ix3 0 r l) rfl (plane_pos 0 r l))).trans (h0 r l).symm)
    (fun r l => (inv_hit f hh1 p1 _ (ix3 1 r l) (ix3 0 r l) rfl (plane_pos 1 r l)).trans (h1 r l).symm)
theorem inv_plane (f : S2x96x128.Idx → Elt F .f32) (p0 : S1x96x128.Idx → Elt F .f32) (hh0) (r : Fin 96) (l : Fin 128) :
    invB.view.writes (Elt F) f [⟨Rect.unit (s := S2x96x128) ![0, 0, 0] S1x96x128.size hh0, p0⟩] (ix3 0 r l) = p0 (ix3 0 r l) :=
  inv_hit f hh0 p0 [] (ix3 0 r l) (ix3 0 r l) rfl (plane_pos 0 r l)
theorem sbw_planes (f : S2x96x128.Idx → Elt F .f32) (p0 p1 : S1x96x128.Idx → Elt F .f32) (hh0 hh1) (v : S2x96x128.Idx → Elt F .f32)
    (h0 : ∀ r l, v (ix3 0 r l) = p0 (ix3 0 r l)) (h1 : ∀ r l, v (ix3 1 r l) = p1 (ix3 0 r l)) :
    sbwB.view.writes (Elt F) f [⟨Rect.unit (s := S2x96x128) ![1, 0, 0] S1x96x128.size hh1, p1⟩,
      ⟨Rect.unit (s := S2x96x128) ![0, 0, 0] S1x96x128.size hh0, p0⟩] = v :=
  planes_ext _ v
    (fun r l => ((sbw_miss f hh1 p1 _ (ix3 0 r l) rfl 0 (Or.inl Nat.one_pos)).trans (sbw_hit f hh0 p0 _ (ix3 0 r l) (ix3 0 r l) rfl (plane_pos 0 r l))).trans (h0 r l).symm)
    (fun r l => (sbw_hit f hh1 p1 _ (ix3 1 r l) (ix3 0 r l) rfl (plane_pos 1 r l)).trans (h1 r l).symm)
theorem sbw_plane (f : S2x96x128.Idx → Elt F .f32) (p0 : S1x96x128.Idx → Elt F .f32) (hh0) (r : Fin 96) (l : Fin 128) :
    sbwB.view.writes (Elt F) f [⟨Rect.unit (s := S2x96x128) ![0, 0, 0] S1x96x128.size hh0, p0⟩] (ix3 0 r l) = p0 (ix3 0 r l) :=
  sbw_hit f hh0 p0 [] (ix3 0 r l) (ix3 0 r l) rfl (plane_pos 0 r l)

theorem rowAt_congr {f f' : S2x96x128.Idx → Elt F .f32} {s : Fin 2} (h : ∀ r l, f (ix3 s r l) = f' (ix3 s r l)) (n : Fin 24) :
    rowAt f s n = rowAt f' s n := funext fun i => funext fun x => h _ _

theorem ctOf_congr (R : S34x1632x128.Idx → Elt F .f32) {f f' : S2x96x128.Idx → Elt F .f32} (h : Fin 34) {s : Fin 2}
    (e : ∀ r l, f (ix3 s r l) = f' (ix3 s r l)) : ctOf R f h s = ctOf R f' h s := by
  funext i
  show cdV (rowAt f s _) _ _ = cdV (rowAt f' s _) _ _
  rw [rowAt_congr e]

theorem dqOf_congr (R : S34x1632x128.Idx → Elt F .f32) {f f' g g' : S2x96x128.Idx → Elt F .f32} (h : Fin 34) {s : Fin 2}
    (e : ∀ r l, f (ix3 s r l) = f' (ix3 s r l)) (e' : ∀ r l, g (ix3 s r l) = g' (ix3 s r l)) :
    dqOf R f g h s = dqOf R f' g' h s := by
  funext i
  show dqV (rowAt f s _) _ (rowAt g s _) _ = dqV (rowAt f' s _) _ (rowAt g' s _) _
  rw [rowAt_congr e, rowAt_congr e']

/-! ## The tiles -/

/-- The 24 groups done, the code buffer holds the half tile. -/
theorem ct_done (v g : S768x128.Idx → Elt F .i8) (N : ℕ) (hN : N = 24) :
    mix (I := S768x128.Idx) (fun i => (i 0).val / 32) v N g = v := by
  funext i
  have h0 : (i 0).val < 768 := (i 0).isLt
  rw [mix_apply, if_pos (by omega)]

section
variable (R : S34x1632x128.Idx → Elt F .f32) (A : S96x4352.Idx → Elt F .f32) (XQ : S1152x1536.Idx → Elt F .bf16)
  (v0 v1 : Vec F S1x1 .f32) (MG : S4304x1152.Idx → Elt F .f32)

/-- Both half tiles done, the dequantised tile is complete. -/
theorem dq_done (k : Fin k0_t1_loop.trips) (f14 : S1536x256.Idx → Elt F .bf16) (N N' : ℕ) (hN : N = 24) (hN' : N' = 24)
    (v : S1536x256.Idx → Elt F .bf16) (hv : v = dqOf R (inv2 A v0 ⟨k.val, hk17 k⟩) (sbw2 A v0 ⟨k.val, hk17 k⟩) (hOf k 0) 0) :
    mix (I := S1536x256.Idx) (dqStep 1) (dqOf R (inv2 A v0 ⟨k.val, hk17 k⟩) (sbw2 A v0 ⟨k.val, hk17 k⟩) (hOf k 1) 1) N'
        (mix (I := S1536x256.Idx) (dqStep 0) v N f14)
      = DQ R A v0 ⟨k.val, hk17 k⟩ := by
  subst hN hN' hv
  funext i
  have h0 : (i 0).val < 1536 := (i 0).isLt
  have h1 : (i 1).val < 256 := (i 1).isLt
  rw [mix_apply]
  by_cases h : (i 1).val / 128 = 1
  · rw [if_pos (lt_of_eq_of_lt (show dqStep 1 i = (i 0).val / 64 from if_pos h) (by omega))]
    unfold DQ
    have ea : (⟨2 * k.val + (i 1).val / 128, by have := hk17 k; omega⟩ : Fin 34) = hOf k 1 := Fin.ext (by show _ = 2 * k.val + 1; simp only []; omega)
    have eb : (⟨(i 1).val / 128, by omega⟩ : Fin 2) = 1 := Fin.ext h
    show _ = dqOf R _ _ (⟨2 * k.val + (i 1).val / 128, _⟩ : Fin 34) (⟨(i 1).val / 128, _⟩ : Fin 2) i
    rw [ea, eb]
  · rw [if_neg (by rw [show dqStep 1 i = 24 from if_neg h]; omega), mix_apply]
    have h' : (i 1).val / 128 = 0 := by omega
    rw [if_pos (lt_of_eq_of_lt (show dqStep 0 i = (i 0).val / 64 from if_pos h') (by omega))]
    unfold DQ
    have ea : (⟨2 * k.val + (i 1).val / 128, by have := hk17 k; omega⟩ : Fin 34) = hOf k 0 := Fin.ext (by show _ = 2 * k.val + 0; simp only []; omega)
    have eb : (⟨(i 1).val / 128, by omega⟩ : Fin 2) = 0 := Fin.ext h'
    show _ = dqOf R _ _ (⟨2 * k.val + (i 1).val / 128, _⟩ : Fin 34) (⟨(i 1).val / 128, _⟩ : Fin 2) i
    rw [ea, eb]

/-- The transposed half tile of codes. -/
theorem pay50_apply (v : Vec F S768x128 .i8) (r : Fin 128) (j : Fin 768) : k0_pay50 v (ix3 0 r j) = v (ix2 j r) := by
  show shapeCast S1x128x768 (transpose S128x768 [1, 0] v transposes_S768x128_p1_0_S128x768) shapeCasts_S128x768_S1x128x768 (ix3 0 r j) = _
  refine (shapeCast_addUnit_apply ![128, 768] _ _ _).trans ?_
  refine transpose_apply _ _ _ _ _ fun b => ?_
  fin_cases b <;> rfl
theorem pay57_eq (v : Vec F S768x128 .i8) : k0_pay57 v = k0_pay50 v := rfl

/-- A slot of the codes' ring after both half tiles are stored. -/
theorem cod_slot (T : S256x768.Idx → Elt F .i8) (f : S2x256x768.Idx → Elt F .i8) (s : Fin 2) (p0 p1 : S1x128x768.Idx → Elt F .i8) {o17 o22 : Fin 3 → ℕ}
    (e17 : o17 = ![s.val, 0, 0]) (e22 : o22 = ![s.val, 128, 0]) (hh17 hh22)
    (h0 : ∀ (r : Fin 128) j, p0 (ix3 0 r j) = T (ix2 ⟨r.val, by omega⟩ j))
    (h1 : ∀ (r : Fin 128) j, p1 (ix3 0 r j) = T (ix2 ⟨r.val + 128, by omega⟩ j)) (r : Fin 256) (j : Fin 768) :
    codB.view.writes (Elt F) f [⟨Rect.unit (s := S2x256x768) o22 S1x128x768.size hh22, p1⟩,
      ⟨Rect.unit (s := S2x256x768) o17 S1x128x768.size hh17, p0⟩] (ix3 s r j) = T (ix2 r j) := by
  by_cases h : r.val < 128
  · refine Eq.trans ?_ (h0 ⟨r.val, h⟩ j)
    refine Eq.trans (cod_miss f hh22 p1 _ (ix3 s r j) e22 1 (Or.inl (by show r.val < 128; omega))) ?_
    refine cod_hit f hh17 p0 _ (ix3 s r j) (ix3 0 ⟨r.val, h⟩ j) e17 fun a => ?_
    fin_cases a
    · show s.val = s.val + 0; omega
    · show r.val = 0 + r.val; omega
    · show j.val = 0 + j.val; omega
  · refine Eq.trans ?_ ((h1 ⟨r.val - 128, by omega⟩ j).trans (congrArg (fun r => T (ix2 r j)) (Fin.ext (by show r.val - 128 + 128 = r.val; omega))))
    refine cod_hit f hh22 p1 _ (ix3 s r j) (ix3 0 ⟨r.val - 128, by omega⟩ j) e22 fun a => ?_
    fin_cases a
    · show s.val = s.val + 0; omega
    · show r.val = 128 + (r.val - 128); omega
    · show j.val = 0 + j.val; omega

theorem COD_lo (k : Fin k0_t1_loop.trips) (r : Fin 128) (j : Fin 768) :
    COD R A v0 ⟨k.val, hk17 k⟩ (ix2 ⟨r.val, by omega⟩ j) = ctOf R (inv2 A v0 ⟨k.val, hk17 k⟩) (hOf k 0) 0 (ix2 j r) := by
  have ea : (⟨2 * k.val + r.val / 128, by have := hk17 k; omega⟩ : Fin 34) = hOf k 0 := Fin.ext (by show 2 * k.val + r.val / 128 = 2 * k.val + 0; omega)
  have eb : (⟨r.val / 128, by omega⟩ : Fin 2) = 0 := Fin.ext (by show r.val / 128 = 0; omega)
  have ec : (⟨r.val % 128, by omega⟩ : Fin 128) = r := Fin.ext (by show r.val % 128 = r.val; omega)
  show ctOf R _ (⟨2 * k.val + r.val / 128, _⟩ : Fin 34) (⟨r.val / 128, _⟩ : Fin 2) (ix2 j ⟨r.val % 128, _⟩) = _
  rw [ea, eb, ec]
theorem COD_hi (k : Fin k0_t1_loop.trips) (r : Fin 128) (j : Fin 768) :
    COD R A v0 ⟨k.val, hk17 k⟩ (ix2 ⟨r.val + 128, by omega⟩ j) = ctOf R (inv2 A v0 ⟨k.val, hk17 k⟩) (hOf k 1) 1 (ix2 j r) := by
  have ea : (⟨2 * k.val + (r.val + 128) / 128, by have := hk17 k; omega⟩ : Fin 34) = hOf k 1 := Fin.ext (by show 2 * k.val + (r.val + 128) / 128 = 2 * k.val + 1; omega)
  have eb : (⟨(r.val + 128) / 128, by omega⟩ : Fin 2) = 1 := Fin.ext (by show (r.val + 128) / 128 = 1; omega)
  have ec : (⟨(r.val + 128) % 128, by omega⟩ : Fin 128) = r := Fin.ext (by show (r.val + 128) % 128 = r.val; omega)
  show ctOf R _ (⟨2 * k.val + (r.val + 128) / 128, _⟩ : Fin 34) (⟨(r.val + 128) / 128, _⟩ : Fin 2) (ix2 j ⟨(r.val + 128) % 128, _⟩) = _
  rw [ea, eb, ec]

/-- Slot contents that hold tile `p` of the main gradient, as far as its rows reach. -/
def MGAt (p : ℕ) (f : S2x256x1152.Idx → Elt F .f32) : Prop :=
  ∀ (r : Fin 256) (j : Fin 1152) (h : 256 * p + r.val < 4304), f (ix3 (Ring.sl 2 p) r j) = MG (ix2 ⟨256 * p + r.val, h⟩ j)
/-- Slot contents that hold tile `p` of the codes. -/
def CodAt (p : ℕ) (f : S2x256x768.Idx → Elt F .i8) : Prop :=
  ∀ (r : Fin 256) (j : Fin 768) (h : 256 * p + r.val < 4304), f (ix3 (Ring.sl 2 p) r j) = Gcod R A v0 (ix2 ⟨256 * p + r.val, h⟩ j)

/-- A slot of the result's ring after its tile is stored. -/
theorem out_writes (f : S2x256x1152.Idx → Elt F .f32) (p : S1x256x1152.Idx → Elt F .f32) (s : Fin 2) {off : Fin 3 → ℕ} (e : off = slotOff s) (hh)
    (r : Fin 256) (j : Fin 1152) :
    outB.view.writes (Elt F) f [⟨Rect.unit (s := S2x256x1152) off S1x256x1152.size hh, p⟩] (ix3 s r j) = p (ix3 0 r j) := by
  refine out_hit f hh p [] (ix3 s r j) (ix3 0 r j) e fun a => ?_
  fin_cases a
  · show s.val = s.val + 0; omega
  · show r.val = 0 + r.val; omega
  · show j.val = 0 + j.val; omega
/-- The load of a slot of the main gradient's ring. -/
theorem mg_read (m : S2x256x1152.Idx → Elt F .f32) (s : Fin 2) {off : Fin 3 → ℕ} (e : off = slotOff s) (hh)
    (r : Fin 256) (j : Fin 1152) :
    mgB.view.readAt (Elt F) (Rect.unit (s := S2x256x1152) off S1x256x1152.size hh).toLoadRect m (ix3 0 r j) = m (ix3 s r j) := by
  subst e
  refine congrArg m (funext fun b => Fin.ext ?_)
  fin_cases b
  · show s.val + 1 * 0 = s.val; omega
  · show 0 + 1 * r.val = r.val; omega
  · show 0 + 1 * j.val = j.val; omega
/-- The result at a row of tile `k`. -/
theorem Gout_eq (k : Fin 17) (r : Fin 256) (j : Fin 1152) (hr : 256 * k.val + r.val < 4304) :
    Gout R A XQ v0 v1 MG (ix2 ⟨256 * k.val + r.val, hr⟩ j) = OUT R A XQ v0 v1 k (mgOf MG k) (ix3 0 r j) := by
  have ea : (⟨(256 * k.val + r.val) / 256, by omega⟩ : Fin 17) = k := Fin.ext (by show (256 * k.val + r.val) / 256 = k.val; omega)
  have eb : (⟨(256 * k.val + r.val) % 256, by omega⟩ : Fin 256) = r := Fin.ext (by show (256 * k.val + r.val) % 256 = r.val; omega)
  show OUT R A XQ v0 v1 (⟨(256 * k.val + r.val) / 256, _⟩ : Fin 17) (mgOf MG ⟨(256 * k.val + r.val) / 256, _⟩) (ix3 0 (⟨(256 * k.val + r.val) % 256, _⟩ : Fin 256) j) = _
  rw [ea, eb]
/-- The codes at a row of tile `k`. -/
theorem Gcod_eq (k : Fin 17) (r : Fin 256) (j : Fin 768) (hr : 256 * k.val + r.val < 4304) :
    Gcod R A v0 (ix2 ⟨256 * k.val + r.val, hr⟩ j) = COD R A v0 k (ix2 r j) := by
  have ea : (⟨(256 * k.val + r.val) / 256, by omega⟩ : Fin 17) = k := Fin.ext (by show (256 * k.val + r.val) / 256 = k.val; omega)
  have eb : (⟨(256 * k.val + r.val) % 256, by omega⟩ : Fin 256) = r := Fin.ext (by show (256 * k.val + r.val) % 256 = r.val; omega)
  show COD R A v0 (⟨(256 * k.val + r.val) / 256, _⟩ : Fin 17) (ix2 (⟨(256 * k.val + r.val) % 256, _⟩ : Fin 256) j) = _
  rw [ea, eb]
theorem codAt_of (k : Fin k0_t1_loop.trips) (f : S2x256x768.Idx → Elt F .i8)
    (h : ∀ r j, f (ix3 (Ring.sl 2 k.val) r j) = COD R A v0 ⟨k.val, hk17 k⟩ (ix2 r j)) : CodAt R A v0 k.val f :=
  fun r j hr => (h r j).trans (Gcod_eq R A v0 ⟨k.val, hk17 k⟩ r j hr).symm

/-- The result's slot after tile `k`. -/
theorem out_slot (k : Fin k0_t1_loop.trips) (f m : S2x256x1152.Idx → Elt F .f32) (xq : Vec F S1152x1536 .bf16) (dq : Vec F S1536x256 .bf16)
    (hx : xq = XQ) (hd : dq = DQ R A v0 ⟨k.val, hk17 k⟩) (hm : MGAt MG k.val m) {off off' : Fin 3 → ℕ} (e : off = slotOff (Ring.sl 2 k.val)) (e' : off' = slotOff (Ring.sl 2 k.val)) (hh hh') :
    MGAt (Gout R A XQ v0 v1 MG) k.val (outB.view.writes (Elt F) f [⟨Rect.unit (s := S2x256x1152) off S1x256x1152.size hh,
      k0_pay58 (k0_pay59 v0 v1) xq dq (mgB.view.readAt (Elt F) (Rect.unit (s := S2x256x1152) off' S1x256x1152.size hh').toLoadRect m)⟩]) := by
  subst hx hd
  intro r j hr
  refine (out_writes f _ _ e hh r j).trans (Eq.trans ?_ (Gout_eq R A xq v0 v1 MG ⟨k.val, hk17 k⟩ r j hr).symm)
  refine OUT_congr R A xq v0 v1 ⟨k.val, hk17 k⟩ _ _ (ix3 0 r j) ?_
  refine (mg_read m _ e' hh' r j).trans ((hm r j hr).trans (congrArg (fun q => MG (ix2 q j)) (Fin.ext ?_)))
  show 256 * k.val + r.val = min (256 * k.val + r.val) 4303
  omega

/-- The quantised block scales after tile `k`'s two stores. -/
theorem sb_slot (k : Fin k0_t1_loop.trips) (f : S96x4352.Idx → Elt F .fp8e4m3) (p0 p1 : S96x128.Idx → Elt F .fp8e4m3)
    (h0 : p0 = sbOf A v0 (hOf k 0)) (h1 : p1 = sbOf A v0 (hOf k 1)) {oa ob : Fin 2 → ℕ} (ea : oa = ![0, 256 * k.val]) (eb : ob = ![0, 256 * k.val + 128]) (ha hb)
    (hf : ∀ i : S96x4352.Idx, (i 1).val < 256 * k.val → f i = Gsb A v0 i) (i : S96x4352.Idx) (hi : (i 1).val < 256 * (k.val + 1)) :
    sbB.view.writes (Elt F) f [⟨Rect.unit (s := S96x4352) ob S96x128.size hb, p1⟩, ⟨Rect.unit (s := S96x4352) oa S96x128.size ha, p0⟩] i
      = Gsb A v0 i := by
  subst h0 h1
  have hk := hk17 k
  have hG : ∀ s : Fin 2, (i 1).val / 128 = 2 * k.val + s.val →
      Gsb A v0 i = sbOf A v0 (hOf k s) (ix2 (i 0) ⟨(i 1).val % 128, Nat.mod_lt _ (by decide)⟩) := fun s hs => by
    have e : (⟨(i 1).val / 128, by omega⟩ : Fin 34) = hOf k s := Fin.ext hs
    show sbOf A v0 (⟨(i 1).val / 128, _⟩ : Fin 34) _ = _
    rw [e]
  by_cases c1 : 256 * k.val + 128 ≤ (i 1).val
  · refine Eq.trans ?_ (hG 1 (by show _ = 2 * k.val + 1; omega)).symm
    refine sb_hit f hb _ _ i (ix2 (i 0) ⟨(i 1).val % 128, Nat.mod_lt _ (by decide)⟩) eb fun a => ?_
    fin_cases a
    · show (i 0).val = 0 + (i 0).val; omega
    · show (i 1).val = 256 * k.val + 128 + (i 1).val % 128; omega
  · refine Eq.trans (sb_miss f hb _ _ i eb 1 (Or.inl (by show (i 1).val < 256 * k.val + 128; omega))) ?_
    by_cases c0 : 256 * k.val ≤ (i 1).val
    · refine Eq.trans ?_ (hG 0 (by show _ = 2 * k.val + 0; omega)).symm
      refine sb_hit f ha _ _ i (ix2 (i 0) ⟨(i 1).val % 128, Nat.mod_lt _ (by decide)⟩) ea fun a => ?_
      fin_cases a
      · show (i 0).val = 0 + (i 0).val; omega
      · show (i 1).val = 256 * k.val + (i 1).val % 128; omega
    · refine Eq.trans (sb_miss f ha _ _ i ea 1 (Or.inl (by show (i 1).val < 256 * k.val; omega))) ?_
      exact hf i (by omega)

end

/-! ## The slots and blocks read as tiles -/

theorem read_mslot (s : Fin 2) (f : S2x256x1152.Idx → Elt F .f32) (x : S256x1152.Idx) :
    (mslot s).view.read (Elt F) f x = f (ix3 s (x 0) (x 1)) := by
  refine (shapeCast_dropUnit_apply ![256, 1152] (fun i : S1x256x1152.Idx => f ((Rect.unit (s := S2x256x1152) (slotOff s) S1x256x1152.size (slotOff_inb s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_oslot (s : Fin 2) (f : S2x256x1152.Idx → Elt F .f32) (x : S256x1152.Idx) :
    (oslot s).view.read (Elt F) f x = f (ix3 s (x 0) (x 1)) := read_mslot s f x
theorem read_mslotT (s : Fin 2) (f : S2x256x1152.Idx → Elt F .f32) (x : S208x1152.Idx) :
    (mslotT s).view.read (Elt F) f x = f (ix3 s ⟨(x 0).val, Nat.lt_trans (x 0).isLt (by decide)⟩ (x 1)) := by
  refine (shapeCast_dropUnit_apply ![208, 1152] (fun i : S1x208x1152.Idx => f ((Rect.unit (s := S2x256x1152) (slotOff s) S1x208x1152.size (slotOff_inbT s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_oslotT (s : Fin 2) (f : S2x256x1152.Idx → Elt F .f32) (x : S208x1152.Idx) :
    (oslotT s).view.read (Elt F) f x = f (ix3 s ⟨(x 0).val, Nat.lt_trans (x 0).isLt (by decide)⟩ (x 1)) := read_mslotT s f x
theorem read_cslot (s : Fin 2) (f : S2x256x768.Idx → Elt F .i8) (x : S256x768.Idx) :
    (cslot s).view.read (Elt F) f x = f (ix3 s (x 0) (x 1)) := by
  refine (shapeCast_dropUnit_apply ![256, 768] (fun i : S1x256x768.Idx => f ((Rect.unit (s := S2x256x768) (slotOff s) S1x256x768.size (cslotOff_inb s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_cslotT (s : Fin 2) (f : S2x256x768.Idx → Elt F .i8) (x : S208x768.Idx) :
    (cslotT s).view.read (Elt F) f x = f (ix3 s ⟨(x 0).val, Nat.lt_trans (x 0).isLt (by decide)⟩ (x 1)) := by
  refine (shapeCast_dropUnit_apply ![208, 768] (fun i : S1x208x768.Idx => f ((Rect.unit (s := S2x256x768) (slotOff s) S1x208x768.size (cslotOff_inbT s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem blk_lt (b : Fin 16) (r : ℕ) (h : r < 256) : 256 * b.val + r < 4304 := by omega
theorem read_mblk (b : Fin 16) (f : S4304x1152.Idx → Elt F .f32) (x : S256x1152.Idx) :
    (mblk b).view.read (Elt F) f x = f (ix2 ⟨256 * b.val + (x 0).val, blk_lt b _ (x 0).isLt⟩ (x 1)) := by
  refine congrArg f (funext fun a => Fin.ext ?_)
  fin_cases a
  · show 256 * b.val + 1 * (x 0).val = 256 * b.val + (x 0).val; omega
  · show 0 + 1 * (x 1).val = (x 1).val; omega
theorem read_oblk (b : Fin 16) (f : S4304x1152.Idx → Elt F .f32) (x : S256x1152.Idx) :
    (oblk b).view.read (Elt F) f x = f (ix2 ⟨256 * b.val + (x 0).val, blk_lt b _ (x 0).isLt⟩ (x 1)) := read_mblk b f x
theorem read_mblkT (f : S4304x1152.Idx → Elt F .f32) (x : S208x1152.Idx) :
    mblkT.view.read (Elt F) f x = f (ix2 ⟨256 * 16 + (x 0).val, by have : (x 0).val < 208 := (x 0).isLt; omega⟩ (x 1)) := by
  refine congrArg f (funext fun a => Fin.ext ?_)
  fin_cases a
  · show 4096 + 1 * (x 0).val = 256 * 16 + (x 0).val; omega
  · show 0 + 1 * (x 1).val = (x 1).val; omega
theorem read_oblkT (f : S4304x1152.Idx → Elt F .f32) (x : S208x1152.Idx) :
    oblkT.view.read (Elt F) f x = f (ix2 ⟨256 * 16 + (x 0).val, by have : (x 0).val < 208 := (x 0).isLt; omega⟩ (x 1)) := read_mblkT f x
theorem read_cblk (b : Fin 16) (f : S4304x768.Idx → Elt F .i8) (x : S256x768.Idx) :
    (cblk b).view.read (Elt F) f x = f (ix2 ⟨256 * b.val + (x 0).val, blk_lt b _ (x 0).isLt⟩ (x 1)) := by
  refine congrArg f (funext fun a => Fin.ext ?_)
  fin_cases a
  · show 256 * b.val + 1 * (x 0).val = 256 * b.val + (x 0).val; omega
  · show 0 + 1 * (x 1).val = (x 1).val; omega
theorem read_cblkT (f : S4304x768.Idx → Elt F .i8) (x : S208x768.Idx) :
    cblkT.view.read (Elt F) f x = f (ix2 ⟨256 * 16 + (x 0).val, by have : (x 0).val < 208 := (x 0).isLt; omega⟩ (x 1)) := by
  refine congrArg f (funext fun a => Fin.ext ?_)
  fin_cases a
  · show 4096 + 1 * (x 0).val = 256 * 16 + (x 0).val; omega
  · show 0 + 1 * (x 1).val = (x 1).val; omega

/-! ## Loads of whole buffers, and what a trip's halves leave -/

theorem load_ct (f : S768x128.Idx → Elt F .i8) (hh) :
    ctB.view.readAt (Elt F) (Rect.unit (s := S768x128) ![0, 0] S768x128.size hh).toLoadRect f = f := by
  funext x
  refine congrArg f (funext fun b => Fin.ext ?_)
  fin_cases b
  · show 0 + 1 * (x 0).val = (x 0).val; omega
  · show 0 + 1 * (x 1).val = (x 1).val; omega
theorem load_dq (f : S1536x256.Idx → Elt F .bf16) (hh) :
    dqB.view.readAt (Elt F) (Rect.unit (s := S1536x256) ![0, 0] S1536x256.size hh).toLoadRect f = f := by
  funext x
  refine congrArg f (funext fun b => Fin.ext ?_)
  fin_cases b
  · show 0 + 1 * (x 0).val = (x 0).val; omega
  · show 0 + 1 * (x 1).val = (x 1).val; omega
theorem load_xq {arg2 : Memref sig .tc .vmem S1152x1536 .bf16} (harg2 : arg2.IsWhole) (XQ : S1152x1536.Idx → Elt F .bf16) (hh) :
    arg2.view.readAt (Elt F) (Rect.unit (s := S1152x1536) ![0, 0] S1152x1536.size hh).toLoadRect (harg2.unread XQ) = XQ := by
  funext x
  rw [harg2.readAt_unread]
  refine congrArg XQ (funext fun b => Fin.ext ?_)
  fin_cases b
  · show 0 + 1 * (x 0).val = (x 0).val; omega
  · show 0 + 1 * (x 1).val = (x 1).val; omega

theorem off12_0 (k : Fin k0_t1_loop.trips) : k0_off12 k 0#32 = ![0, 128 * (hOf k 0).val] := off12h k 0
theorem off12_1 (k : Fin k0_t1_loop.trips) : k0_off12 k 128#32 = ![0, 128 * (hOf k 1).val] := off12h k 1

section
variable {arg1 : Memref sig .tc .vmem S96x4352 .f32} (harg1 : arg1.IsWhole) (A : S96x4352.Idx → Elt F .f32) (v0 : Vec F S1x1 .f32)
  (k : Fin k0_t1_loop.trips)

/-- Plane 0 of the reciprocal scales after the first half's stores. -/
theorem inv_first (f : S2x96x128.Idx → Elt F .f32) (hh hh0) (r : Fin 96) (l : Fin 128) :
    invB.view.writes (Elt F) f [⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩] (ix3 0 r l)
      = inv2 A v0 ⟨k.val, hk17 k⟩ (ix3 0 r l) := by
  refine (inv_plane f _ hh0 r l).trans ?_
  rw [load_am harg1 A (hOf k 0) (off12_0 k) hh]
  rfl
theorem sbw_first (f : S2x96x128.Idx → Elt F .f32) (hh hh0) (r : Fin 96) (l : Fin 128) :
    sbwB.view.writes (Elt F) f [⟨Rect.unit (s := S2x96x128) ![0, 0, 0] S1x96x128.size hh0,
        k0_pay48 (k0_pay44 v0 (arg1.view.readAt (Elt F) (Rect.unit (s := S96x4352) (k0_off12 k 0#32) S96x128.size hh).toLoadRect (harg1.unread A)))⟩] (ix3 0 r l)
      = sbw2 A v0 ⟨k.val, hk17 k⟩ (ix3 0 r l) := by
  refine (sbw_plane f _ hh0 r l).trans ?_
  rw [load_am harg1 A (hOf k 0) (off12_0 k) hh]
  rfl
/-- Both planes after the second half's. -/
theorem inv_both (f : S2x96x128.Idx → Elt F .f32) (hh hh' hh0 hh1) :
    invB.view.writes (Elt F) f [⟨Rect.unit (s := S2x96x128) ![1, 0, 0] S1x96x128.size hh1,
        k0_pay54 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩]
      = inv2 A v0 ⟨k.val, hk17 k⟩ := by
  rw [load_am harg1 A (hOf k 0) (off12_0 k) hh, load_am harg1 A (hOf k 1) (off12_1 k) hh', pay54_eq]
  exact inv_planes f _ _ hh0 hh1 _ (fun _ _ => rfl) (fun _ _ => rfl)
theorem sbw_both (f : S2x96x128.Idx → Elt F .f32) (hh hh' hh0 hh1) :
    sbwB.view.writes (Elt F) f [⟨Rect.unit (s := S2x96x128) ![1, 0, 0] S1x96x128.size hh1,
        k0_pay55 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S2x96x128) ![0, 0, 0] S1x96x128.size hh0,
        k0_pay48 (k0_pay44 v0 (arg1.view.readAt (Elt F) (Rect.unit (s := S96x4352) (k0_off12 k 0#32) S96x128.size hh).toLoadRect (harg1.unread A)))⟩]
      = sbw2 A v0 ⟨k.val, hk17 k⟩ := by
  rw [load_am harg1 A (hOf k 0) (off12_0 k) hh, load_am harg1 A (hOf k 1) (off12_1 k) hh', pay55_eq]
  exact sbw_planes f _ _ hh0 hh1 _ (fun _ _ => rfl) (fun _ _ => rfl)
/-- The quantised scales' buffer after a trip. -/
theorem sb_both (f : S96x4352.Idx → Elt F .fp8e4m3) (hh hh' ha hb)
    (hf : ∀ i : S96x4352.Idx, (i 1).val < 256 * k.val → f i = Gsb A v0 i) (i : S96x4352.Idx) (hi : (i 1).val < 256 * (k.val + 1)) :
    sbB.view.writes (Elt F) f [⟨Rect.unit (s := S96x4352) (k0_off12 k 128#32) S96x128.size hb,
        k0_pay56 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S96x4352) (k0_off12 k 0#32) S96x128.size ha,
        k0_pay49 (k0_pay43 v0 (arg1.view.readAt (Elt F) (Rect.unit (s := S96x4352) (k0_off12 k 0#32) S96x128.size hh).toLoadRect (harg1.unread A)))⟩] i
      = Gsb A v0 i := by
  refine sb_slot A v0 k f _ _ ?_ ?_ (off12_eq0 k) (off12_eq1 k) ha hb hf i hi
  · rw [pay49_eq, load_am harg1 A (hOf k 0) (off12_0 k) hh]; rfl
  · rw [pay56_eq, load_am harg1 A (hOf k 1) (off12_1 k) hh']; rfl

/-- The codes' slot after a trip. -/
theorem cod_both (R : S34x1632x128.Idx → Elt F .f32) (f : S2x256x768.Idx → Elt F .i8) (hh17 hh22) (v91 v138 : Vec F S768x128 .i8)
    (h0 : v91 = ctOf R (inv2 A v0 ⟨k.val, hk17 k⟩) (hOf k 0) 0) (h1 : v138 = ctOf R (inv2 A v0 ⟨k.val, hk17 k⟩) (hOf k 1) 1) :
    CodAt R A v0 k.val (codB.view.writes (Elt F) f [⟨Rect.unit (s := S2x256x768) (k0_off22 k) S1x128x768.size hh22, k0_pay57 v138⟩,
      ⟨Rect.unit (s := S2x256x768) (k0_off17 k) S1x128x768.size hh17, k0_pay50 v91⟩]) := by
  subst h0 h1
  refine codAt_of R A v0 k _ fun r j => cod_slot _ f _ _ _ (off17_eq k) (off22_eq k) hh17 hh22 (fun r j => ?_) (fun r j => ?_) r j
  · rw [pay50_apply]; exact (COD_lo R A v0 k r j).symm
  · rw [pay57_eq, pay50_apply]; exact (COD_hi R A v0 k r j).symm
end

/-- What a copy of tile `p` of the result's ring carries. -/
theorem oslot_tile (p : Fin 16) (q : ℕ) (hq : Ring.sl 2 q = Ring.sl 2 p.val) (G : S4304x1152.Idx → Elt F .f32) (o : S2x256x1152.Idx → Elt F .f32) (h : MGAt G p.val o) (x : S256x1152.Idx) :
    (oslot (Ring.sl 2 q)).view.read (Elt F) o x = (oblk p).view.read (Elt F) G x := by
  rw [read_oslot, read_oblk, hq]; exact h (x 0) (x 1) _
theorem cslot_tile (p : Fin 16) (q : ℕ) (hq : Ring.sl 2 q = Ring.sl 2 p.val) (R : S34x1632x128.Idx → Elt F .f32) (A : S96x4352.Idx → Elt F .f32) (v0 : Vec F S1x1 .f32)
    (o : S2x256x768.Idx → Elt F .i8) (h : CodAt R A v0 p.val o) (x : S256x768.Idx) :
    (cslot (Ring.sl 2 q)).view.read (Elt F) o x = (cblk p).view.read (Elt F) (Gcod R A v0) x := by
  rw [read_cslot, read_cblk, hq]; exact h (x 0) (x 1) _
theorem oslotT_tile (q : ℕ) (hq : Ring.sl 2 q = Ring.sl 2 16) (G : S4304x1152.Idx → Elt F .f32) (o : S2x256x1152.Idx → Elt F .f32) (h : MGAt G 16 o) (x : S208x1152.Idx) :
    (oslotT (Ring.sl 2 q)).view.read (Elt F) o x = oblkT.view.read (Elt F) G x := by
  have h0 : (x 0).val < 208 := (x 0).isLt
  have e := h ⟨(x 0).val, by omega⟩ (x 1) (by show 256 * 16 + (x 0).val < 4304; omega)
  rw [hq]
  exact (read_oslotT _ o x).trans (e.trans (read_oblkT G x).symm)
theorem cslotT_tile (q : ℕ) (hq : Ring.sl 2 q = Ring.sl 2 16) (R : S34x1632x128.Idx → Elt F .f32) (A : S96x4352.Idx → Elt F .f32) (v0 : Vec F S1x1 .f32)
    (o : S2x256x768.Idx → Elt F .i8) (h : CodAt R A v0 16 o) (x : S208x768.Idx) :
    (cslotT (Ring.sl 2 q)).view.read (Elt F) o x = cblkT.view.read (Elt F) (Gcod R A v0) x := by
  have h0 : (x 0).val < 208 := (x 0).isLt
  have e := h ⟨(x 0).val, by omega⟩ (x 1) (by show 256 * 16 + (x 0).val < 4304; omega)
  rw [hq]
  exact (read_cslotT _ o x).trans (e.trans (read_cblkT (Gcod R A v0) x).symm)
/-- What the copy of tile `p` of the main gradient lands. -/
theorem mgAt_of (p : Fin 16) (MG : S4304x1152.Idx → Elt F .f32) (g : S2x256x1152.Idx → Elt F .f32)
    (hg : ∀ x, (mslot (Ring.sl 2 p.val)).view.read (Elt F) g x = (mblk p).view.read (Elt F) MG x) : MGAt MG p.val g :=
  fun r j h => (read_mslot _ g (ix2 r j)).symm.trans ((hg _).trans (read_mblk p MG (ix2 r j)))
theorem mslot_tile (p : Fin 16) (MG : S4304x1152.Idx → Elt F .f32) (f : S2x256x1152.Idx → Elt F .f32) :
    MGAt MG p.val ((mslot (Ring.sl 2 p.val)).view.writes (Elt F) f [⟨Rect.whole S256x1152, ReadAs.same.apply ((mblk p).view.read (Elt F) MG)⟩]) :=
  mgAt_of p MG _ fun x => congrFun (View.read_writes_whole (mslot (Ring.sl 2 p.val)).view f _) x
theorem mgAtT_of (MG : S4304x1152.Idx → Elt F .f32) (g : S2x256x1152.Idx → Elt F .f32)
    (hg : ∀ x, (mslotT (Ring.sl 2 16)).view.read (Elt F) g x = mblkT.view.read (Elt F) MG x) : MGAt MG 16 g := fun r j h => by
  have hr : r.val < 208 := by omega
  exact (read_mslotT _ g (ix2 ⟨r.val, hr⟩ j)).symm.trans ((hg _).trans (read_mblkT MG (ix2 ⟨r.val, hr⟩ j)))
theorem mslotT_tile (MG : S4304x1152.Idx → Elt F .f32) (f : S2x256x1152.Idx → Elt F .f32) :
    MGAt MG 16 ((mslotT (Ring.sl 2 16)).view.writes (Elt F) f [⟨Rect.whole S208x1152, ReadAs.same.apply (mblkT.view.read (Elt F) MG)⟩]) :=
  mgAtT_of MG _ fun x => congrFun (View.read_writes_whole (mslotT (Ring.sl 2 16)).view f _) x

/-- The same at a trip's number. -/
theorem oslot_tile_at (k : ℕ) (hk : k < 16) (G : S4304x1152.Idx → Elt F .f32) (o : S2x256x1152.Idx → Elt F .f32) (h : MGAt G k o) (x : S256x1152.Idx) :
    (oslot (Ring.sl 2 k)).view.read (Elt F) o x = (oblk (Ring.bk 16 k)).view.read (Elt F) G x := by
  have e : (Ring.bk 16 k).val = k := Nat.mod_eq_of_lt hk
  exact oslot_tile (Ring.bk 16 k) k (by rw [e]) G o (by rw [e]; exact h) x
theorem cslot_tile_at (k : ℕ) (hk : k < 16) (R : S34x1632x128.Idx → Elt F .f32) (A : S96x4352.Idx → Elt F .f32) (v0 : Vec F S1x1 .f32)
    (o : S2x256x768.Idx → Elt F .i8) (h : CodAt R A v0 k o) (x : S256x768.Idx) :
    (cslot (Ring.sl 2 k)).view.read (Elt F) o x = (cblk (Ring.bk 16 k)).view.read (Elt F) (Gcod R A v0) x := by
  have e : (Ring.bk 16 k).val = k := Nat.mod_eq_of_lt hk
  exact cslot_tile (Ring.bk 16 k) k (by rw [e]) R A v0 o (by rw [e]; exact h) x
theorem mslot_tile_at (k : ℕ) (hk : k < 16) (MG : S4304x1152.Idx → Elt F .f32) (f : S2x256x1152.Idx → Elt F .f32) :
    MGAt MG k ((mslot (Ring.sl 2 k)).view.writes (Elt F) f [⟨Rect.whole S256x1152, ReadAs.same.apply ((mblk (Ring.bk 16 k)).view.read (Elt F) MG)⟩]) := by
  have e : (Ring.bk 16 k).val = k := Nat.mod_eq_of_lt hk
  have h := mslot_tile (Ring.bk 16 k) MG f
  rwa [e] at h

/-! ## Stores as single writes -/

theorem cod_write (g : codB.view.ty.Contents (Elt F)) (r : Rect S2x256x768) (p : r.shape.Idx → Elt F .i8) :
    View.write (Elt F) (codB.access r) g p Finset.univ = codB.view.writes (Elt F) g [⟨r, p⟩] := rfl
theorem cod_writes (g : codB.view.ty.Contents (Elt F)) (q q' : View.Piece (Elt F) S2x256x768 .i8) :
    codB.view.writes (Elt F) (codB.view.writes (Elt F) g [q]) [q'] = codB.view.writes (Elt F) g [q', q] := rfl
theorem out_write (g : outB.view.ty.Contents (Elt F)) (r : Rect S2x256x1152) (p : r.shape.Idx → Elt F .f32) :
    View.write (Elt F) (outB.access r) g p Finset.univ = outB.view.writes (Elt F) g [⟨r, p⟩] := rfl
/-- The codes' slot after a trip, as stored. -/
theorem cod_stored (k : Fin k0_t1_loop.trips) (R : S34x1632x128.Idx → Elt F .f32) (A : S96x4352.Idx → Elt F .f32) (v0 : Vec F S1x1 .f32)
    (f : S2x256x768.Idx → Elt F .i8) (hh17 hh22) (v91 v138 : Vec F S768x128 .i8)
    (h0 : v91 = ctOf R (inv2 A v0 ⟨k.val, hk17 k⟩) (hOf k 0) 0) (h1 : v138 = ctOf R (inv2 A v0 ⟨k.val, hk17 k⟩) (hOf k 1) 1) :
    CodAt R A v0 k.val (View.write (Elt F) (codB.access (Rect.unit (s := S2x256x768) (k0_off22 k) S1x128x768.size hh22))
      (View.write (Elt F) (codB.access (Rect.unit (s := S2x256x768) (k0_off17 k) S1x128x768.size hh17)) f (k0_pay50 v91) Finset.univ) (k0_pay57 v138) Finset.univ) := by
  have e := cod_both A v0 k R f hh17 hh22 v91 v138 h0 h1
  generalize k0_pay57 v138 = p1 at e ⊢
  generalize k0_pay50 v91 = p0 at e ⊢
  rw [cod_write, cod_write, cod_writes]
  exact e
/-- The result's slot after a trip, as stored. -/
theorem out_stored (k : Fin k0_t1_loop.trips) (R : S34x1632x128.Idx → Elt F .f32) (A : S96x4352.Idx → Elt F .f32) (XQ : S1152x1536.Idx → Elt F .bf16)
    (v0 v1 : Vec F S1x1 .f32) (MG : S4304x1152.Idx → Elt F .f32) (f m : S2x256x1152.Idx → Elt F .f32) (xq : Vec F S1152x1536 .bf16) (dq : Vec F S1536x256 .bf16)
    (hx : xq = XQ) (hd : dq = DQ R A v0 ⟨k.val, hk17 k⟩) (hm : MGAt MG k.val m) (hh hh') :
    MGAt (Gout R A XQ v0 v1 MG) k.val (View.write (Elt F) (outB.access (Rect.unit (s := S2x256x1152) (k0_off29 k) S1x256x1152.size hh)) f
      (k0_pay58 (k0_pay59 v0 v1) xq dq (mgB.view.readAt (Elt F) (Rect.unit (s := S2x256x1152) (k0_off29 k) S1x256x1152.size hh').toLoadRect m)) Finset.univ) := by
  have e := out_slot R A XQ v0 v1 MG k f m xq dq hx hd hm (off29_eq k) (off29_eq k) hh hh'
  generalize k0_pay58 (k0_pay59 v0 v1) xq dq (mgB.view.readAt (Elt F) (Rect.unit (s := S2x256x1152) (k0_off29 k) S1x256x1152.size hh').toLoadRect m) = p at e ⊢
  rw [out_write]
  exact e
/-- The codes of the first half tile, as loaded. -/
theorem ct_first (k : Fin k0_t1_loop.trips) (R : S34x1632x128.Idx → Elt F .f32) {arg1 : Memref sig .tc .vmem S96x4352 .f32} (harg1 : arg1.IsWhole) (A : S96x4352.Idx → Elt F .f32) (v0 : Vec F S1x1 .f32)
    (f9 : S2x96x128.Idx → Elt F .f32) (f12 : S768x128.Idx → Elt F .i8) (hh hh0 hl) :
    ctB.view.readAt (Elt F) (Rect.unit (s := S768x128) ![0, 0] S768x128.size hl).toLoadRect
      (mix (I := S768x128.Idx) (fun i => (i 0).val / 32) (ctOf R (invB.view.writes (Elt F) f9 [⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩]) (hOf k 0) 0)
        (Scf.trips k0_t2_loop.lb k0_t2_loop.ub k0_t2_loop.st) f12)
      = ctOf R (inv2 A v0 ⟨k.val, hk17 k⟩) (hOf k 0) 0 := by
  rw [load_ct, ct_done _ _ _ (by decide)]
  exact ctOf_congr R (hOf k 0) (inv_first harg1 A v0 k f9 hh hh0)
/-- The codes of the second. -/
theorem ct_second (v g : S768x128.Idx → Elt F .i8) (hl) :
    ctB.view.readAt (Elt F) (Rect.unit (s := S768x128) ![0, 0] S768x128.size hl).toLoadRect
      (mix (I := S768x128.Idx) (fun i => (i 0).val / 32) v (Scf.trips k0_t3_loop.lb k0_t3_loop.ub k0_t3_loop.st) g) = v := by
  rw [load_ct, ct_done _ _ _ (by decide)]
/-- The dequantised tile, as loaded. -/
theorem dq_both (k : Fin k0_t1_loop.trips) (R : S34x1632x128.Idx → Elt F .f32) (A : S96x4352.Idx → Elt F .f32) (v0 : Vec F S1x1 .f32)
    (f14 g14 : S1536x256.Idx → Elt F .bf16) (hl)
    (e : mix (I := S1536x256.Idx) (dqStep 0) (dqOf R (inv2 A v0 ⟨k.val, hk17 k⟩) (sbw2 A v0 ⟨k.val, hk17 k⟩) (hOf k 0) 0) 24 f14 = g14) :
    dqB.view.readAt (Elt F) (Rect.unit (s := S1536x256) ![0, 0] S1536x256.size hl).toLoadRect
      (mix (I := S1536x256.Idx) (dqStep 1) (dqOf R (inv2 A v0 ⟨k.val, hk17 k⟩) (sbw2 A v0 ⟨k.val, hk17 k⟩) (hOf k 1) 1) (Scf.trips k0_t3_loop.lb k0_t3_loop.ub k0_t3_loop.st) g14)
      = DQ R A v0 ⟨k.val, hk17 k⟩ := by
  subst e
  rw [load_dq]
  exact dq_done R A v0 k f14 24 (Scf.trips k0_t3_loop.lb k0_t3_loop.ub k0_t3_loop.st) rfl (by decide) _ rfl

/-! ## Held memrefs -/

section Pieces
variable (c : Dev nD)

/-- A memref's elements, held at contents `f`. -/
abbrev hold {sp : Space} {s : Shape} {e : EltTy} (M : Memref sig .tc sp s e) (f : Buf (Elt F) (M.view.loc (c : Thread nD τ))) : sProp (𝕄 F) :=
  M.view.loc (c : Thread nD τ) ↦[M.view.set]{fullShare} f
/-- A memref's elements, held at some contents. -/
abbrev any {sp : Space} {s : Shape} {e : EltTy} (M : Memref sig .tc sp s e) : sProp (𝕄 F) := iprop(∃ f, hold c M f)
/-- A copy's semaphore at zero. -/
abbrev cell0 (σ : DmaSems sig S_) : sProp (𝕄 F) := semVal ((c : Thread nD τ), SemLoc.dma σ.sem) 0
/-- A copy in flight, delivering `P` on its semaphore. -/
abbrev fly (σ : DmaSems sig S_) (n : ℕ) (P : sProp (𝕄 F)) : sProp (𝕄 F) :=
  Transfers.Flight countersEmb (c : Thread nD τ) (SemLoc.dma σ.sem) () n P

/-- Contents that a memref reads alike hold alike. -/
theorem hold_congr {sp : Space} {s : Shape} {e : EltTy} (M : Memref sig .tc sp s e) (f g : Buf (Elt F) (M.view.loc (c : Thread nD τ)))
    (h : ∀ x, M.view.read (Elt F) f x = M.view.read (Elt F) g x) : (hold c M f : sProp (𝕄 F)) = hold c M g := by
  refine pointsTo_congr fun i hi => ?_
  obtain ⟨x, rfl⟩ := View.exists_emb_of_mem_set M.view hi
  exact Idealize.ShloMosaic.View.eq_of_read_eq (h x)

/-- What a copy lands: its source's tile. -/
theorem hold_landed {sp : Space} {s : Shape} {e : EltTy} (M : Memref sig .tc sp s e) (f g : Buf (Elt F) (M.view.loc (c : Thread nD τ)))
    (p : s.Idx → Elt F e) (h : ∀ x, p x = M.view.read (Elt F) g x) :
    (hold c M (M.view.writes (Elt F) f [⟨Rect.whole s, p⟩]) : sProp (𝕄 F)) = hold c M g :=
  hold_congr c M _ g fun x => (congrFun (View.read_writes_whole M.view f p) x).trans (h x)

end Pieces

end Cert.Kernel.Run
end
-- ==== Proof.Kernel.Packs.lean ====
/-
  What one trip of the main loop holds: the slots and copies of its three rings, the scratch buffers, the windows.
-/
module

public import proofs.«01_k».proof.Proof.Kernel.Tiles

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

/-! ## The slots' elements -/

theorem mslot_set (s : Fin 2) : (mslot s).view.set = (Rect.unit (s := S2x256x1152) (slotOff s) S1x256x1152.size (slotOff_inb s)).set :=
  (View.set_reshape _ _).trans (View.set_slice_whole _ _)
theorem mslotT_set (s : Fin 2) : (mslotT s).view.set = (Rect.unit (s := S2x256x1152) (slotOff s) S1x208x1152.size (slotOff_inbT s)).set :=
  (View.set_reshape _ _).trans (View.set_slice_whole _ _)
theorem oslot_set (s : Fin 2) : (oslot s).view.set = (Rect.unit (s := S2x256x1152) (slotOff s) S1x256x1152.size (slotOff_inb s)).set :=
  (View.set_reshape _ _).trans (View.set_slice_whole _ _)
theorem oslotT_set (s : Fin 2) : (oslotT s).view.set = (Rect.unit (s := S2x256x1152) (slotOff s) S1x208x1152.size (slotOff_inbT s)).set :=
  (View.set_reshape _ _).trans (View.set_slice_whole _ _)
theorem cslot_set (s : Fin 2) : (cslot s).view.set = (Rect.unit (s := S2x256x768) (slotOff s) S1x256x768.size (cslotOff_inb s)).set :=
  (View.set_reshape _ _).trans (View.set_slice_whole _ _)
theorem cslotT_set (s : Fin 2) : (cslotT s).view.set = (Rect.unit (s := S2x256x768) (slotOff s) S1x208x768.size (cslotOff_inbT s)).set :=
  (View.set_reshape _ _).trans (View.set_slice_whole _ _)

theorem mem_slot (s : Fin 2) (i : S2x256x1152.Idx) :
    i ∈ (Rect.unit (s := S2x256x1152) (slotOff s) S1x256x1152.size (slotOff_inb s)).set ↔ (i 0).val = s.val := by
  have h1 : (i 1).val < 256 := (i 1).isLt
  have h2 : (i 2).val < 1152 := (i 2).isLt
  rw [Rect.mem_set_unit]
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 256; omega
    · show 0 ≤ (i 2).val ∧ (i 2).val < 0 + 1152; omega
theorem mem_slotT (s : Fin 2) (i : S2x256x1152.Idx) :
    i ∈ (Rect.unit (s := S2x256x1152) (slotOff s) S1x208x1152.size (slotOff_inbT s)).set ↔ (i 0).val = s.val ∧ (i 1).val < 208 := by
  have h2 : (i 2).val < 1152 := (i 2).isLt
  rw [Rect.mem_set_unit]
  constructor
  · intro H
    have a0 : s.val ≤ (i 0).val ∧ (i 0).val < s.val + 1 := H 0
    have a1 : 0 ≤ (i 1).val ∧ (i 1).val < 0 + 208 := H 1
    omega
  · intro H a; fin_cases a
    · show s.val ≤ (i 0).val ∧ (i 0).val < s.val + 1; omega
    · show 0 ≤ (i 1).val ∧ (i 1).val < 0 + 208; omega
    · show 0 ≤ (i 2).val ∧ (i 2).val < 0 + 1152; omega
theorem mem_cslot (s : Fin 2) (i : S2x256x768.Idx) :
    i ∈ (Rect.unit (s := S2x256x768) (slotOff s) S1x256x768.size (cslotOff_inb s)).set ↔ (i 0).val = s.val := by
  have h1 : (i 1).val < 256 := (i 1).isLt
  have h2 : (i 2).val < 768 := (i 2).isLt
  rw [Rect.mem_set_unit]
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 256; omega
    · show 0 ≤ (i 2).val ∧ (i 2).val < 0 + 768; omega
theorem mem_cslotT (s : Fin 2) (i : S2x256x768.Idx) :
    i ∈ (Rect.unit (s := S2x256x768) (slotOff s) S1x208x768.size (cslotOff_inbT s)).set ↔ (i 0).val = s.val ∧ (i 1).val < 208 := by
  have h2 : (i 2).val < 768 := (i 2).isLt
  rw [Rect.mem_set_unit]
  constructor
  · intro H
    have a0 : s.val ≤ (i 0).val ∧ (i 0).val < s.val + 1 := H 0
    have a1 : 0 ≤ (i 1).val ∧ (i 1).val < 0 + 208 := H 1
    omega
  · intro H a; fin_cases a
    · show s.val ≤ (i 0).val ∧ (i 0).val < s.val + 1; omega
    · show 0 ≤ (i 1).val ∧ (i 1).val < 0 + 208; omega
    · show 0 ≤ (i 2).val ∧ (i 2).val < 0 + 768; omega

theorem mem_mslot_view (s : Fin 2) (i : S2x256x1152.Idx) : i ∈ (mslot s).view.set ↔ (i 0).val = s.val := by
  rw [mslot_set]; exact mem_slot s i
theorem mem_mslotT_view (s : Fin 2) (i : S2x256x1152.Idx) : i ∈ (mslotT s).view.set ↔ (i 0).val = s.val ∧ (i 1).val < 208 := by
  rw [mslotT_set]; exact mem_slotT s i
theorem mslotT_sub (s : Fin 2) : (mslotT s).view.set ⊆ (mslot s).view.set := fun i hi =>
  (mem_mslot_view s i).2 ((mem_mslotT_view s i).1 hi).1
theorem mem_oslot_view (s : Fin 2) (i : S2x256x1152.Idx) : i ∈ (oslot s).view.set ↔ (i 0).val = s.val := by
  rw [oslot_set]; exact mem_slot s i
theorem mem_oslotT_view (s : Fin 2) (i : S2x256x1152.Idx) : i ∈ (oslotT s).view.set ↔ (i 0).val = s.val ∧ (i 1).val < 208 := by
  rw [oslotT_set]; exact mem_slotT s i
theorem oslotT_sub (s : Fin 2) : (oslotT s).view.set ⊆ (oslot s).view.set := fun i hi =>
  (mem_oslot_view s i).2 ((mem_oslotT_view s i).1 hi).1
theorem mem_cslot_view (s : Fin 2) (i : S2x256x768.Idx) : i ∈ (cslot s).view.set ↔ (i 0).val = s.val := by
  rw [cslot_set]; exact mem_cslot s i
theorem mem_cslotT_view (s : Fin 2) (i : S2x256x768.Idx) : i ∈ (cslotT s).view.set ↔ (i 0).val = s.val ∧ (i 1).val < 208 := by
  rw [cslotT_set]; exact mem_cslotT s i
theorem cslotT_sub (s : Fin 2) : (cslotT s).view.set ⊆ (cslot s).view.set := fun i hi =>
  (mem_cslot_view s i).2 ((mem_cslotT_view s i).1 hi).1
/-- A piecewise function on its first part, the decision procedure whatever it is. -/
theorem piecewise_on {ι : Type} {π : ι → Type} (s : Finset ι) (f g : ∀ i, π i) (d : ∀ j, Decidable (j ∈ s)) {i : ι} (hi : i ∈ s) :
    @Finset.piecewise ι π s f g d i = f i := Finset.piecewise_eq_of_mem _ _ _ hi
/-- A slot whose first 208 rows landed, made whole, holds the tile there. -/
theorem mslot_join (c : Dev nD) (MG : S4304x1152.Idx → Elt F .f32) (q : ℕ) (hq : Ring.sl 2 q = Ring.sl 2 16) (m f : S2x256x1152.Idx → Elt F .f32) (h : MGAt MG 16 m) :
    (iprop(hold c (mslotT (Ring.sl 2 q)) m ∗ (mslot (Ring.sl 2 q)).view.loc (c : Thread nD τ) ↦[(mslot (Ring.sl 2 q)).view.set \ (mslotT (Ring.sl 2 q)).view.set]{fullShare} f) : sProp (𝕄 F))
      ⊢ iprop(∃ g : S2x256x1152.Idx → Elt F .f32, ⌜MGAt MG 16 g⌝ ∗ hold c (mslot (Ring.sl 2 q)) g) := by
  iintro H
  iexists _; isplitr; swap
  · iapply (pointsTo_join_subset (mslotT_sub (Ring.sl 2 q))); iexact H
  · ipureintro
    intro r j hr
    have hm : ix3 (Ring.sl 2 16) r j ∈ (mslotT (Ring.sl 2 q)).view.set := by
      rw [hq]; exact (mem_mslotT_view _ _).2 ⟨rfl, by show r.val < 208; omega⟩
    exact (piecewise_on _ _ _ _ hm).trans (h r j hr)
/-- The first 208 rows of a slot, apart from the rest. -/
theorem oslot_cut (c : Dev nD) (q : ℕ) (o : S2x256x1152.Idx → Elt F .f32) :
    (hold c (oslot (Ring.sl 2 q)) o : sProp (𝕄 F)) ⊢ iprop(hold c (oslotT (Ring.sl 2 q)) o
      ∗ (oslot (Ring.sl 2 q)).view.loc (c : Thread nD τ) ↦[(oslot (Ring.sl 2 q)).view.set \ (oslotT (Ring.sl 2 q)).view.set]{fullShare} o) :=
  (pointsTo_split_subset (oslotT_sub (Ring.sl 2 q))).1
theorem cslot_cut (c : Dev nD) (q : ℕ) (o : S2x256x768.Idx → Elt F .i8) :
    (hold c (cslot (Ring.sl 2 q)) o : sProp (𝕄 F)) ⊢ iprop(hold c (cslotT (Ring.sl 2 q)) o
      ∗ (cslot (Ring.sl 2 q)).view.loc (c : Thread nD τ) ↦[(cslot (Ring.sl 2 q)).view.set \ (cslotT (Ring.sl 2 q)).view.set]{fullShare} o) :=
  (pointsTo_split_subset (cslotT_sub (Ring.sl 2 q))).1
theorem mslot_cut (c : Dev nD) (q : ℕ) (o : S2x256x1152.Idx → Elt F .f32) :
    (hold c (mslot (Ring.sl 2 q)) o : sProp (𝕄 F)) ⊢ iprop(hold c (mslotT (Ring.sl 2 q)) o
      ∗ (mslot (Ring.sl 2 q)).view.loc (c : Thread nD τ) ↦[(mslot (Ring.sl 2 q)).view.set \ (mslotT (Ring.sl 2 q)).view.set]{fullShare} o) :=
  (pointsTo_split_subset (mslotT_sub (Ring.sl 2 q))).1
/-- and back. -/
theorem oslot_join (c : Dev nD) (q : ℕ) :
    (iprop((∃ o : S2x256x1152.Idx → Elt F .f32, hold c (oslotT (Ring.sl 2 q)) o)
      ∗ ∃ o : S2x256x1152.Idx → Elt F .f32, (oslot (Ring.sl 2 q)).view.loc (c : Thread nD τ) ↦[(oslot (Ring.sl 2 q)).view.set \ (oslotT (Ring.sl 2 q)).view.set]{fullShare} o) : sProp (𝕄 F))
      ⊢ iprop(∃ o : S2x256x1152.Idx → Elt F .f32, hold c (oslot (Ring.sl 2 q)) o) := by
  iintro ⟨⟨%o, H⟩, ⟨%o', H'⟩⟩
  iexists _
  iapply (pointsTo_join_subset (oslotT_sub (Ring.sl 2 q)))
  isplitl [H]; · iexact H
  iexact H'
theorem cslot_join (c : Dev nD) (q : ℕ) :
    (iprop((∃ o : S2x256x768.Idx → Elt F .i8, hold c (cslotT (Ring.sl 2 q)) o)
      ∗ ∃ o : S2x256x768.Idx → Elt F .i8, (cslot (Ring.sl 2 q)).view.loc (c : Thread nD τ) ↦[(cslot (Ring.sl 2 q)).view.set \ (cslotT (Ring.sl 2 q)).view.set]{fullShare} o) : sProp (𝕄 F))
      ⊢ iprop(∃ o : S2x256x768.Idx → Elt F .i8, hold c (cslot (Ring.sl 2 q)) o) := by
  iintro ⟨⟨%o, H⟩, ⟨%o', H'⟩⟩
  iexists _
  iapply (pointsTo_join_subset (cslotT_sub (Ring.sl 2 q)))
  isplitl [H]; · iexact H
  iexact H'

section Packs
variable (c : Dev nD) (MG G : S4304x1152.Idx → Elt F .f32) (GC : S4304x768.Idx → Elt F .i8)

/-- Tile `p` of the main gradient in flight. -/
abbrev mgFly (p : ℕ) : sProp (𝕄 F) := iprop(∃ m : S2x256x1152.Idx → Elt F .f32, ⌜MGAt MG p m⌝ ∗ fly c (msem (Ring.sl 2 p)) 36864 iprop(hold c (mslot (Ring.sl 2 p)) m ∗ hold c (mblk (Ring.bk 16 p)) MG))
/-- The last one, of 208 rows. -/
abbrev mgFlyT (p : ℕ) : sProp (𝕄 F) := iprop(∃ m : S2x256x1152.Idx → Elt F .f32, ⌜MGAt MG 16 m⌝ ∗ fly c (msem (Ring.sl 2 p)) 29952 iprop(hold c (mslotT (Ring.sl 2 p)) m ∗ hold c mblkT MG))
/-- What is left of a slot beside its first 208 rows. -/
abbrev mrest (s : Fin 2) : sProp (𝕄 F) := iprop(∃ f, (mslot s).view.loc (c : Thread nD τ) ↦[(mslot s).view.set \ (mslotT s).view.set]{fullShare} f)
abbrev orest (s : Fin 2) : sProp (𝕄 F) := iprop(∃ f, (oslot s).view.loc (c : Thread nD τ) ↦[(oslot s).view.set \ (oslotT s).view.set]{fullShare} f)
abbrev crest (s : Fin 2) : sProp (𝕄 F) := iprop(∃ f, (cslot s).view.loc (c : Thread nD τ) ↦[(cslot s).view.set \ (cslotT s).view.set]{fullShare} f)
/-- Slot `s` of the main gradient's ring, free. -/
abbrev mgFree (s : Fin 2) : sProp (𝕄 F) := iprop((∃ f : S2x256x1152.Idx → Elt F .f32, hold c (mslot s) f) ∗ cell0 c (msem s))
/-- Tile `t` of the result in flight from slot `s`. -/
abbrev outFly (s : Fin 2) (t : ℕ) : sProp (𝕄 F) := iprop(∃ o : S2x256x1152.Idx → Elt F .f32, fly c (osem s) 36864 iprop(hold c (oblk (Ring.bk 16 t)) G ∗ hold c (oslot s) o))
abbrev outFlyT (s : Fin 2) : sProp (𝕄 F) := iprop(∃ o : S2x256x1152.Idx → Elt F .f32, fly c (osem s) 29952 iprop(hold c oblkT G ∗ hold c (oslotT s) o))
abbrev outFree (s : Fin 2) : sProp (𝕄 F) := iprop((∃ f : S2x256x1152.Idx → Elt F .f32, hold c (oslot s) f) ∗ cell0 c (osem s))
/-- Tile `t` of the codes in flight from slot `s`. -/
abbrev codFly (s : Fin 2) (t : ℕ) : sProp (𝕄 F) := iprop(∃ o : S2x256x768.Idx → Elt F .i8, fly c (csem s) 6144 iprop(hold c (cblk (Ring.bk 16 t)) GC ∗ hold c (cslot s) o))
abbrev codFlyT (s : Fin 2) : sProp (𝕄 F) := iprop(∃ o : S2x256x768.Idx → Elt F .i8, fly c cc0_scratch11 5376 iprop(hold c cblkT GC ∗ hold c (cslotT s) o))
abbrev codFree (s : Fin 2) : sProp (𝕄 F) := iprop((∃ f : S2x256x768.Idx → Elt F .i8, hold c (cslot s) f) ∗ cell0 c (csem s))
/-- The scratch buffers that a trip overwrites. -/
abbrev scr : sProp (𝕄 F) := iprop((∃ f : S2x96x128.Idx → Elt F .f32, hold c invB f) ∗ (∃ f : S2x96x128.Idx → Elt F .f32, hold c sbwB f)
    ∗ (∃ f : S768x128.Idx → Elt F .i8, hold c ctB f) ∗ (∃ f : S1536x256.Idx → Elt F .bf16, hold c dqB f))
/-- The quantised scales, done up to tile `k`. -/
abbrev sbTo (A : S96x4352.Idx → Elt F .f32) (v0 : Vec F S1x1 .f32) (k : ℕ) : sProp (𝕄 F) :=
  iprop(∃ f : S96x4352.Idx → Elt F .fp8e4m3, ⌜∀ i : S96x4352.Idx, (i 1).val < 256 * k → f i = Gsb A v0 i⌝ ∗ hold c sbB f)
/-- The core's record of waits. -/
abbrev waits : sProp (𝕄 F) := iprop(∃ W, owes (c : Thread nD τ) 0 W)

end Packs

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

/-- The whole windows, as every trip reads them. -/
abbrev wins : sProp (𝕄 F) := iprop(hold c arg0 (harg0.unread R) ∗ hold c arg1 (harg1.unread A) ∗ hold c arg2 (harg2.unread XQ))

/-- Trip `k` of the main loop. -/
abbrev tripB (k : Fin k0_t1_loop.trips) :=
  k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k ()

end Trip
end Cert.Kernel.Run
end
-- ==== Proof.Kernel.TripFirst.lean ====
/-
  A trip of the main loop at the start, tiles 0 and 1: the slots of the result's and the codes' rings are free.
-/
module

public import proofs.«01_k».proof.Proof.Kernel.Packs

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- A trip at the start: the rings' slots are still free. -/
theorem trip_first (k : Fin k0_t1_loop.trips) (h2 : k.val < 2)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ mgFree c (Ring.sl 2 (k.val + 1)) ∗ hold c (mblk (Ring.bk 16 (k.val + 1))) MG
      ∗ outFree c (Ring.sl 2 k.val) ∗ codFree c (Ring.sl 2 k.val)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFly c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨⟨%m1, HMs⟩, HMc⟩, HMb, ⟨⟨%o0, HO_src⟩, HO⟩, ⟨⟨%c0, HC_src⟩, HC⟩, HOb, HCb, ⟨%W, HW⟩⟩
  have c1 := cond1_pos k (by omega)
  have c2 := cond2_pos k (by omega)
  have c3 := cond3_neg k (by omega)
  have c4 := cond4_neg k h2
  have c5 := cond5_pos k (by omega)
  have c6 := cond6_neg k (by omega)
  have c7 := cond7_pos k (by omega)
  have c8 := cond8_neg k (by omega)
  have hk16 : k.val < 16 := by omega
  have hk15 : k.val + 1 < 16 := by omega
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_first.sl.H9_2 arg1 harg1 A v0 k) = inv2 A v0 ⟨k.val, hk17 k⟩ := inv_both harg1 A v0 k _ _ _ _ _
  rw [e9]
  have e10 : sbwB.view.writes (Elt F) sbwB.view.junk (trip_first.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_first.sl.v91 arg1 harg1 R A v0 k f9 f12 = ctOf R (inv2 A v0 ⟨k.val, hk17 k⟩) (hOf k 0) 0 := by
    delta trip_first.sl.v91 trip_first.sl.r_2
    exact ct_first k R harg1 A v0 f9 f12 _ _ _
  have h138 : trip_first.sl.v138 R A v0 k = ctOf R (inv2 A v0 ⟨k.val, hk17 k⟩) (hOf k 1) 1 := by
    delta trip_first.sl.v138
    exact ct_second _ _ _
  have h146 : trip_first.sl.v146 R A v0 k g14 = DQ R A v0 ⟨k.val, hk17 k⟩ := by
    delta trip_first.sl.v146
    exact dq_both k R A v0 f14 g14 _ e14'
  have hO : MGAt (Gout R A XQ v0 v1 MG) k.val (trip_first.sl.HO_src_w2 arg2 harg2 R A XQ v0 v1 k m0 o0 g14) := by
    delta trip_first.sl.HO_src_w2
    exact out_stored k R A XQ v0 v1 MG o0 m0 _ _ (load_xq harg2 XQ _) h146 hm0 _ _
  have hC : CodAt R A v0 k.val (trip_first.sl.HC_src_w1_1 arg1 harg1 R A v0 k f9 f12 c0) := by
    delta trip_first.sl.HC_src_w1_1 trip_first.sl.HC_src_w1
    exact cod_stored k R A v0 c0 _ _ _ _ h91 h138
  have hOl : (hold c (oblk (Ring.bk 16 k.val)) ((oblk (Ring.bk 16 k.val)).view.writes (Elt F) go [⟨Rect.whole S256x1152, trip_first.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_first.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslot_tile_at (k.val + 1) hk15 MG m1
  isplitl [HM_dst HM]
  · isplitl [HM_dst]; · iexists _; iexact HM_dst
    iexact HM
  isplitl [HM_src]; · iexact HM_src
  isplitl [HO]
  · iexists (trip_first.sl.HO_src_w2 arg2 harg2 R A XQ v0 v1 k m0 o0 g14)
    first | irw [← hOl] | exact fail_irwO
    first | iexact HO | exact fail_exO
  isplitl [HC]
  · iexists (trip_first.sl.HC_src_w1_1 arg1 harg1 R A v0 k f9 f12 c0)
    first | irw [← hCl] | exact fail_irwC
    first | iexact HC | exact fail_exC
  iexists _; iexact HW

end Trip
end Cert.Kernel.Run
end
-- ==== Proof.Kernel.TripMid.lean ====
/-
  A trip of the main loop in the middle, tiles 2 to 14: both slots of every ring in use.
-/
module

public import proofs.«01_k».proof.Proof.Kernel.Packs

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- A trip in the middle: both rings run full. -/
theorem trip_mid (k : Fin k0_t1_loop.trips) (h2 : 2 ≤ k.val) (h15 : k.val < 15)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ mgFree c (Ring.sl 2 (k.val + 1)) ∗ hold c (mblk (Ring.bk 16 (k.val + 1))) MG
      ∗ outFly c (Gout R A XQ v0 v1 MG) (Ring.sl 2 k.val) (k.val - 2) ∗ codFly c (Gcod R A v0) (Ring.sl 2 k.val) (k.val - 2)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFly c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨⟨%m1, HMs⟩, HMc⟩, HMb, ⟨%o0, HO⟩, ⟨%c0, HC⟩, HOb, HCb, ⟨%W, HW⟩⟩
  have c1 := cond1_pos k (by omega)
  have c2 := cond2_pos k h15
  have c3 := cond3_neg k h15
  have c4 := cond4_pos k h2
  have c5 := cond5_pos k (by omega)
  have c6 := cond6_neg k (by omega)
  have c7 := cond7_pos k (by omega)
  have c8 := cond8_neg k (by omega)
  have hk16 : k.val < 16 := by omega
  have hk15 : k.val + 1 < 16 := by omega
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_mid.sl.H9_2 arg1 harg1 A v0 k) = inv2 A v0 ⟨k.val, hk17 k⟩ := inv_both harg1 A v0 k _ _ _ _ _
  rw [e9]
  have e10 : sbwB.view.writes (Elt F) sbwB.view.junk (trip_mid.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_mid.sl.v91 arg1 harg1 R A v0 k f9 f12 = ctOf R (inv2 A v0 ⟨k.val, hk17 k⟩) (hOf k 0) 0 := by
    delta trip_mid.sl.v91 trip_mid.sl.r_2
    exact ct_first k R harg1 A v0 f9 f12 _ _ _
  have h138 : trip_mid.sl.v138 R A v0 k = ctOf R (inv2 A v0 ⟨k.val, hk17 k⟩) (hOf k 1) 1 := by
    delta trip_mid.sl.v138
    exact ct_second _ _ _
  have h146 : trip_mid.sl.v146 R A v0 k g14 = DQ R A v0 ⟨k.val, hk17 k⟩ := by
    delta trip_mid.sl.v146
    exact dq_both k R A v0 f14 g14 _ e14'
  have hO : MGAt (Gout R A XQ v0 v1 MG) k.val (trip_mid.sl.HO_src_w2 arg2 harg2 R A XQ v0 v1 k m0 o0 g14) := by
    delta trip_mid.sl.HO_src_w2
    exact out_stored k R A XQ v0 v1 MG o0 m0 _ _ (load_xq harg2 XQ _) h146 hm0 _ _
  have hC : CodAt R A v0 k.val (trip_mid.sl.HC_src_w1_1 arg1 harg1 R A v0 k f9 f12 c0) := by
    delta trip_mid.sl.HC_src_w1_1 trip_mid.sl.HC_src_w1
    exact cod_stored k R A v0 c0 _ _ _ _ h91 h138
  have hOl : (hold c (oblk (Ring.bk 16 k.val)) ((oblk (Ring.bk 16 k.val)).view.writes (Elt F) go [⟨Rect.whole S256x1152, trip_mid.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_mid.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslot_tile_at (k.val + 1) hk15 MG m1
  isplitl [HM_dst HM]
  · isplitl [HM_dst]; · iexists _; iexact HM_dst
    iexact HM
  isplitl [HM_src]; · iexact HM_src
  isplitl [HO]
  · iexists (trip_mid.sl.HO_src_w2 arg2 harg2 R A XQ v0 v1 k m0 o0 g14)
    first | irw [← hOl] | exact fail_irwO
    first | iexact HO | exact fail_exO
  isplitl [HC]
  · iexists (trip_mid.sl.HC_src_w1_1 arg1 harg1 R A v0 k f9 f12 c0)
    first | irw [← hCl] | exact fail_irwC
    first | iexact HC | exact fail_exC
  isplitl [HO_dst]; · iexact HO_dst
  isplitl [HC_dst]; · iexact HC_dst
  iexists _; iexact HW

end Trip
end Cert.Kernel.Run
end
-- ==== Proof.Kernel.TripPen.lean ====
/-
  The trip of tile 15: it sends for the last tile of the main gradient, which has 208 rows.
-/
module

public import proofs.«01_k».proof.Proof.Kernel.Packs

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

theorem mslotT_tile_at (q : ℕ) (hq : Ring.sl 2 q = Ring.sl 2 16) (MG : S4304x1152.Idx → Elt F .f32) (f : S2x256x1152.Idx → Elt F .f32) :
    MGAt MG 16 ((mslotT (Ring.sl 2 q)).view.writes (Elt F) f [⟨Rect.whole S208x1152, ReadAs.same.apply (mblkT.view.read (Elt F) MG)⟩]) := by
  rw [hq]; exact mslotT_tile MG f

set_option maxHeartbeats 4000000 in
/-- The last trip but one: the last tile's 208 rows are sent for. -/
theorem trip_pen (k : Fin k0_t1_loop.trips) (h15 : k.val = 15)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ (∃ f : S2x256x1152.Idx → Elt F .f32, hold c (mslotT (Ring.sl 2 (k.val + 1))) f) ∗ cell0 c (msem (Ring.sl 2 (k.val + 1))) ∗ hold c mblkT MG
      ∗ outFly c (Gout R A XQ v0 v1 MG) (Ring.sl 2 k.val) (k.val - 2) ∗ codFly c (Gcod R A v0) (Ring.sl 2 k.val) (k.val - 2)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFlyT c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨%m1, HMs⟩, HMc, HMb, ⟨%o0, HO⟩, ⟨%c0, HC⟩, HOb, HCb, ⟨%W, HW⟩⟩
  have c1 := cond1_pos k (by omega)
  have c2 := cond2_neg k h15
  have c3 := cond3_pos k h15
  have c4 := cond4_pos k (by omega)
  have c5 := cond5_pos k (by omega)
  have c6 := cond6_neg k (by omega)
  have c7 := cond7_pos k (by omega)
  have c8 := cond8_neg k (by omega)
  have hk16 : k.val < 16 := by omega
  have hk15 : Ring.sl 2 (k.val + 1) = Ring.sl 2 16 := by rw [h15]
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_pen.sl.H9_2 arg1 harg1 A v0 k) = inv2 A v0 ⟨k.val, hk17 k⟩ := inv_both harg1 A v0 k _ _ _ _ _
  rw [e9]
  have e10 : sbwB.view.writes (Elt F) sbwB.view.junk (trip_pen.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_pen.sl.v91 arg1 harg1 R A v0 k f9 f12 = ctOf R (inv2 A v0 ⟨k.val, hk17 k⟩) (hOf k 0) 0 := by
    delta trip_pen.sl.v91 trip_pen.sl.r_2
    exact ct_first k R harg1 A v0 f9 f12 _ _ _
  have h138 : trip_pen.sl.v138 R A v0 k = ctOf R (inv2 A v0 ⟨k.val, hk17 k⟩) (hOf k 1) 1 := by
    delta trip_pen.sl.v138
    exact ct_second _ _ _
  have h146 : trip_pen.sl.v146 R A v0 k g14 = DQ R A v0 ⟨k.val, hk17 k⟩ := by
    delta trip_pen.sl.v146
    exact dq_both k R A v0 f14 g14 _ e14'
  have hO : MGAt (Gout R A XQ v0 v1 MG) k.val (trip_pen.sl.HO_src_w2 arg2 harg2 R A XQ v0 v1 k m0 o0 g14) := by
    delta trip_pen.sl.HO_src_w2
    exact out_stored k R A XQ v0 v1 MG o0 m0 _ _ (load_xq harg2 XQ _) h146 hm0 _ _
  have hC : CodAt R A v0 k.val (trip_pen.sl.HC_src_w1_1 arg1 harg1 R A v0 k f9 f12 c0) := by
    delta trip_pen.sl.HC_src_w1_1 trip_pen.sl.HC_src_w1
    exact cod_stored k R A v0 c0 _ _ _ _ h91 h138
  have hOl : (hold c (oblk (Ring.bk 16 k.val)) ((oblk (Ring.bk 16 k.val)).view.writes (Elt F) go [⟨Rect.whole S256x1152, trip_pen.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_pen.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslotT_tile_at (k.val + 1) hk15 MG m1
  isplitl [HM_dst HM]
  · isplitl [HM_dst]; · iexists _; iexact HM_dst
    iexact HM
  isplitl [HM_src]; · iexact HM_src
  isplitl [HO]
  · iexists (trip_pen.sl.HO_src_w2 arg2 harg2 R A XQ v0 v1 k m0 o0 g14)
    first | irw [← hOl] | exact fail_irwO
    first | iexact HO | exact fail_exO
  isplitl [HC]
  · iexists (trip_pen.sl.HC_src_w1_1 arg1 harg1 R A v0 k f9 f12 c0)
    first | irw [← hCl] | exact fail_irwC
    first | iexact HC | exact fail_exC
  isplitl [HO_dst]; · iexact HO_dst
  isplitl [HC_dst]; · iexact HC_dst
  iexists _; iexact HW

end Trip
end Cert.Kernel.Run
end
-- ==== Proof.Kernel.TripLast.lean ====
/-
  The trip of the last tile, 16, which has 208 rows.
-/
module

public import proofs.«01_k».proof.Proof.Kernel.Packs

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- The last trip: a tile of 208 rows. -/
theorem trip_last (k : Fin k0_t1_loop.trips) (h16 : k.val = 16)
    (go : S4304x1152.Idx → Elt F .f32) (gc : S4304x768.Idx → Elt F .i8) :
    iprop(wins c arg0 harg0 arg1 harg1 arg2 harg2 R A XQ ∗ scr c ∗ sbTo c A v0 k.val ∗ mgFlyT c MG k.val ∗ mrest c (Ring.sl 2 k.val)
      ∗ outFly c (Gout R A XQ v0 v1 MG) (Ring.sl 2 k.val) (k.val - 2) ∗ codFly c (Gcod R A v0) (Ring.sl 2 k.val) (k.val - 2)
      ∗ hold c oblkT go ∗ hold c cblkT gc ∗ cell0 c cc0_scratch11 ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFree c (Ring.sl 2 k.val) ∗ hold c mblkT MG
        ∗ outFlyT c (Gout R A XQ v0 v1 MG) (Ring.sl 2 k.val) ∗ orest c (Ring.sl 2 k.val) ∗ codFlyT c (Gcod R A v0) (Ring.sl 2 k.val) ∗ crest c (Ring.sl 2 k.val) ∗ cell0 c (csem (Ring.sl 2 k.val))
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨%m1, HMr⟩, ⟨%o0, HO⟩, ⟨%c0, HC⟩, HOb, HCb, HCt, ⟨%W, HW⟩⟩
  have c1 := cond1_neg k h16
  have c4 := cond4_pos k (by omega)
  have c5 := cond5_neg k h16
  have c6 := cond6_pos k h16
  have c7 := cond7_neg k h16
  have c8 := cond8_pos k h16
  have hq : Ring.sl 2 k.val = Ring.sl 2 16 := by rw [h16]
  unfold tripB k0_t1_body
  set_option sl_exec.matchHeartbeats 200 in
  sl_exec (disch := first | sl_exact c1  | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_last.sl.H9_2 arg1 harg1 A v0 k) = inv2 A v0 ⟨k.val, hk17 k⟩ := inv_both harg1 A v0 k _ _ _ _ _
  rw [e9]
  have e10 : sbwB.view.writes (Elt F) sbwB.view.junk (trip_last.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1  | sl_exact c4 | sl_exact c5 | sl_exact c6 | sl_exact c7 | sl_exact c8)
  ihave HMj := (mslot_join c MG k.val hq m0 m1 hm0) $$ [HM_dst HMr]
  · isplitl [HM_dst]; · iexact HM_dst
    iexact HMr
  icases HMj with ⟨%m2, %hm2, HMs⟩
  sl_exec (disch := first | sl_exact c1  | sl_exact c4 | sl_exact c5 | sl_exact c6 | sl_exact c7 | sl_exact c8)
  have h91 : trip_last.sl.v91 arg1 harg1 R A v0 k f9 f12 = ctOf R (inv2 A v0 ⟨k.val, hk17 k⟩) (hOf k 0) 0 := by
    delta trip_last.sl.v91 trip_last.sl.r_2
    exact ct_first k R harg1 A v0 f9 f12 _ _ _
  have h138 : trip_last.sl.v138 R A v0 k = ctOf R (inv2 A v0 ⟨k.val, hk17 k⟩) (hOf k 1) 1 := by
    delta trip_last.sl.v138
    exact ct_second _ _ _
  have h146 : trip_last.sl.v146 R A v0 k g14 = DQ R A v0 ⟨k.val, hk17 k⟩ := by
    delta trip_last.sl.v146
    exact dq_both k R A v0 f14 g14 _ e14'
  have hm2' : MGAt MG k.val m2 := by rw [h16]; exact hm2
  have hO : MGAt (Gout R A XQ v0 v1 MG) k.val (trip_last.sl.HO_src_w1 arg2 harg2 R A XQ v0 v1 k o0 g14 m2) := by
    delta trip_last.sl.HO_src_w1
    exact out_stored k R A XQ v0 v1 MG o0 m2 _ _ (load_xq harg2 XQ _) h146 hm2' _ _
  have hC : CodAt R A v0 k.val (trip_last.sl.HC_src_w1_1 arg1 harg1 R A v0 k f9 f12 c0) := by
    delta trip_last.sl.HC_src_w1_1 trip_last.sl.HC_src_w1
    exact cod_stored k R A v0 c0 _ _ _ _ h91 h138
  generalize trip_last.sl.HO_src_w1 arg2 harg2 R A XQ v0 v1 k o0 g14 m2 = o2 at hO ⊢
  generalize trip_last.sl.HC_src_w1_1 arg1 harg1 R A v0 k f9 f12 c0 = c2 at hC ⊢
  ihave HOx := (oslot_cut c k.val o2) $$ HO_src
  icases HOx with ⟨HOt, HOr⟩
  ihave HCx := (cslot_cut c k.val c2) $$ HC_src
  icases HCx with ⟨HCs, HCr⟩
  sl_exec (disch := first | sl_exact c1  | sl_exact c4 | sl_exact c5 | sl_exact c6 | sl_exact c7 | sl_exact c8)
  sl_step
  have hOl : (hold c oblkT (oblkT.view.writes (Elt F) go [⟨Rect.whole S208x1152, trip_last.sl.dma0 k o2⟩]) : sProp (𝕄 F))
      = hold c oblkT (Gout R A XQ v0 v1 MG) := hold_landed c _ _ _ _ (oslotT_tile k.val hq _ _ (by rw [← h16]; exact hO))
  have hCl : (hold c cblkT (cblkT.view.writes (Elt F) gc [⟨Rect.whole S208x768, trip_last.sl.dma0_1 k c2⟩]) : sProp (𝕄 F))
      = hold c cblkT (Gcod R A v0) := hold_landed c _ _ _ _ (cslotT_tile k.val hq _ _ _ _ (by rw [← h16]; exact hC))
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMs HM]
  · isplitl [HMs]; · iexists _; iexact HMs
    iexact HM
  isplitl [HM_src]; · iexact HM_src
  isplitl [HO]
  · iexists o2
    irw [← hOl]
    iexact HO
  isplitl [HOr]; · iexists _; iexact HOr
  isplitl [HCt]
  · iexists c2
    irw [← hCl]
    iexact HCt
  isplitl [HCr]; · iexists _; iexact HCr
  isplitl [HC]; · iexact HC
  isplitl [HO_dst]; · iexact HO_dst
  isplitl [HC_dst]; · iexact HC_dst
  iexists _; iexact HW

end Trip
end Cert.Kernel.Run
end
-- ==== Proof.Kernel.Loop.lean ====
/-
  The main loop: what it holds before each trip, and that a trip carries it on.
-/
module

public import proofs.«01_k».proof.Proof.Kernel.TripFirst
public import proofs.«01_k».proof.Proof.Kernel.TripMid
public import proofs.«01_k».proof.Proof.Kernel.TripPen
public import proofs.«01_k».proof.Proof.Kernel.TripLast

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Families
variable (P : ℕ → sProp (𝕄 F))

/-- Every tile but `k`. -/
def allBut (k : ℕ) : sProp (𝕄 F) := bigSep ((Finset.range 17).erase k) P
/-- Every tile but `k` and `k + 1`. -/
def allBut2 (k : ℕ) : sProp (𝕄 F) := bigSep (((Finset.range 17).erase k).erase (k + 1)) P
/-- The tiles from `k` on. -/
def ahead (k : ℕ) : sProp (𝕄 F) := bigSep (Finset.Ico k 17) P
/-- The tiles waited for before trip `k`: those below `k - 2`. -/
def behind (k : ℕ) : sProp (𝕄 F) := bigSep (Finset.range (k - 2)) P

theorem allBut_open (k : ℕ) (h : k < 16) : allBut P k = iprop(P (k + 1) ∗ allBut2 P k) := by
  unfold allBut allBut2
  have e : (Finset.range 17).erase k = insert (k + 1) (((Finset.range 17).erase k).erase (k + 1)) := by
    ext t; simp only [Finset.mem_insert, Finset.mem_erase, Finset.mem_range]; omega
  exact (congrArg (fun S => bigSep S P) e).trans (bigSep_insert (by simp only [Finset.mem_erase]; omega))
theorem allBut_close (k : ℕ) (h : k < 16) : allBut P (k + 1) = iprop(P k ∗ allBut2 P k) := by
  unfold allBut allBut2
  have e : (Finset.range 17).erase (k + 1) = insert k (((Finset.range 17).erase k).erase (k + 1)) := by
    ext t; simp only [Finset.mem_insert, Finset.mem_erase, Finset.mem_range]; omega
  exact (congrArg (fun S => bigSep S P) e).trans (bigSep_insert (by simp only [Finset.mem_erase]; omega))
theorem allBut_last (k : ℕ) (h : k = 16) : allBut P (k + 1) = iprop(P k ∗ allBut P k) := by
  subst h; unfold allBut
  have e : (Finset.range 17).erase (16 + 1) = insert 16 ((Finset.range 17).erase 16) := by
    ext t; simp only [Finset.mem_insert, Finset.mem_erase, Finset.mem_range]; omega
  exact (congrArg (fun S => bigSep S P) e).trans (bigSep_insert (by simp only [Finset.mem_erase]; omega))
theorem ahead_open (k : ℕ) (h : k < 17) : ahead P k = iprop(P k ∗ ahead P (k + 1)) := by
  unfold ahead
  have e : Finset.Ico k 17 = insert k (Finset.Ico (k + 1) 17) := by
    ext t; simp only [Finset.mem_insert, Finset.mem_Ico]; omega
  exact (congrArg (fun S => bigSep S P) e).trans (bigSep_insert (by simp only [Finset.mem_Ico]; omega))
theorem behind_close (k : ℕ) (h : 2 ≤ k) : behind P (k + 1) = iprop(P (k - 2) ∗ behind P k) := by
  unfold behind
  have e : Finset.range (k + 1 - 2) = insert (k - 2) (Finset.range (k - 2)) := by
    ext t; simp only [Finset.mem_insert, Finset.mem_range]; omega
  exact (congrArg (fun S => bigSep S P) e).trans (bigSep_insert (by simp only [Finset.mem_range]; omega))
theorem behind_boot (k : ℕ) (h : k < 2) : behind P (k + 1) = behind P k := by
  unfold behind
  exact congrArg (fun n => bigSep (Finset.range n) P) (show k + 1 - 2 = k - 2 by omega)
end Families

section Rings
variable (c : Dev nD) (MG G : S4304x1152.Idx → Elt F .f32) (GC : S4304x768.Idx → Elt F .i8)

/-- Tile `t` of the main gradient, at home. -/
def mHome (t : ℕ) : sProp (𝕄 F) := if t < 16 then hold c (mblk (Ring.bk 16 t)) MG else hold c mblkT MG
/-- Tile `t` of the result, at home. -/
def oHome (t : ℕ) : sProp (𝕄 F) := if t < 16 then hold c (oblk (Ring.bk 16 t)) G else hold c oblkT G
/-- Tile `t` of the codes, at home. -/
def cHome (t : ℕ) : sProp (𝕄 F) := if t < 16 then hold c (cblk (Ring.bk 16 t)) GC else hold c cblkT GC
/-- The slot of trip `k` in the main gradient's ring, before it. -/
def mSt (k : ℕ) : sProp (𝕄 F) :=
  if k < 16 then mgFly c MG k else if k = 16 then iprop(mgFlyT c MG k ∗ mrest c (Ring.sl 2 k)) else mgFree c (Ring.sl 2 k)
/-- The slot of trip `p` in the result's ring, before it. -/
def oSt (p : ℕ) : sProp (𝕄 F) :=
  if p < 2 then outFree c (Ring.sl 2 p) else if p < 18 then outFly c G (Ring.sl 2 p) (p - 2) else iprop(outFlyT c G (Ring.sl 2 p) ∗ orest c (Ring.sl 2 p))
/-- The slot of trip `p` in the codes' ring, before it. -/
def cSt (p : ℕ) : sProp (𝕄 F) :=
  if p < 2 then codFree c (Ring.sl 2 p) else if p < 18 then codFly c GC (Ring.sl 2 p) (p - 2)
  else iprop(codFlyT c GC (Ring.sl 2 p) ∗ crest c (Ring.sl 2 p) ∗ cell0 c (csem (Ring.sl 2 p)))
/-- The semaphore of the last tile's codes, before trip `k`. -/
def ctSt (k : ℕ) : sProp (𝕄 F) := if k < 17 then cell0 c cc0_scratch11 else iprop(emp)

theorem sl_two (k : ℕ) : Ring.sl 2 (k + 1 + 1) = Ring.sl 2 k := Ring.sl_add 2 k
theorem mHome_lt (t : ℕ) (h : t < 16) : mHome c MG t = hold c (mblk (Ring.bk 16 t)) MG := if_pos h
theorem mHome_last (t : ℕ) (h : t = 16) : mHome c MG t = hold c mblkT MG := if_neg (by omega)
theorem oHome_lt (t : ℕ) (h : t < 16) : oHome c G t = hold c (oblk (Ring.bk 16 t)) G := if_pos h
theorem oHome_last (t : ℕ) (h : t = 16) : oHome c G t = hold c oblkT G := if_neg (by omega)
theorem cHome_lt (t : ℕ) (h : t < 16) : cHome c GC t = hold c (cblk (Ring.bk 16 t)) GC := if_pos h
theorem cHome_last (t : ℕ) (h : t = 16) : cHome c GC t = hold c cblkT GC := if_neg (by omega)
theorem mSt_lt (k : ℕ) (h : k < 16) : mSt c MG k = mgFly c MG k := if_pos h
theorem mSt_last (k : ℕ) (h : k = 16) : mSt c MG k = iprop(mgFlyT c MG k ∗ mrest c (Ring.sl 2 k)) := (if_neg (by omega)).trans (if_pos h)
theorem mSt_end (k : ℕ) (h : 16 < k) : mSt c MG k = mgFree c (Ring.sl 2 k) := (if_neg (by omega)).trans (if_neg (by omega))
theorem oSt_boot (p : ℕ) (h : p < 2) : oSt c G p = outFree c (Ring.sl 2 p) := if_pos h
theorem oSt_mid (p : ℕ) (h : 2 ≤ p) (h' : p < 18) : oSt c G p = outFly c G (Ring.sl 2 p) (p - 2) := (if_neg (by omega)).trans (if_pos h')
theorem oSt_next (k : ℕ) (h : k < 16) : oSt c G (k + 1 + 1) = outFly c G (Ring.sl 2 k) k := by
  rw [oSt_mid c G (k + 1 + 1) (by omega) (by omega), sl_two, show k + 1 + 1 - 2 = k by omega]
theorem oSt_end (k : ℕ) (h : k = 16) : oSt c G (k + 1 + 1) = iprop(outFlyT c G (Ring.sl 2 k) ∗ orest c (Ring.sl 2 k)) := by
  rw [← sl_two k]; exact (if_neg (by omega)).trans (if_neg (by omega))
theorem cSt_boot (p : ℕ) (h : p < 2) : cSt c GC p = codFree c (Ring.sl 2 p) := if_pos h
theorem cSt_mid (p : ℕ) (h : 2 ≤ p) (h' : p < 18) : cSt c GC p = codFly c GC (Ring.sl 2 p) (p - 2) := (if_neg (by omega)).trans (if_pos h')
theorem cSt_next (k : ℕ) (h : k < 16) : cSt c GC (k + 1 + 1) = codFly c GC (Ring.sl 2 k) k := by
  rw [cSt_mid c GC (k + 1 + 1) (by omega) (by omega), sl_two, show k + 1 + 1 - 2 = k by omega]
theorem cSt_end (k : ℕ) (h : k = 16) : cSt c GC (k + 1 + 1) = iprop(codFlyT c GC (Ring.sl 2 k) ∗ crest c (Ring.sl 2 k) ∗ cell0 c (csem (Ring.sl 2 k))) := by
  rw [← sl_two k]; exact (if_neg (by omega)).trans (if_neg (by omega))
theorem ctSt_lt (k : ℕ) (h : k < 17) : (ctSt c k : sProp (𝕄 F)) = cell0 c cc0_scratch11 := if_pos h
theorem ctSt_end (k : ℕ) (h : 17 ≤ k) : (ctSt c k : sProp (𝕄 F)) = iprop(emp) := if_neg (by omega)
end Rings

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

variable (GO : S4304x1152.Idx → Elt F .f32) (GC : S4304x768.Idx → Elt F .i8)

/-- What the main loop holds before trip `k`; `GO` and `GC` are the results' contents at the launch. -/
def mainInv (k : ℕ) : sProp (𝕄 F) :=
  iprop(wins c arg0 harg0 arg1 harg1 arg2 harg2 R A XQ ∗ scr c ∗ sbTo c A v0 k
    ∗ mSt c MG k ∗ mgFree c (Ring.sl 2 (k + 1)) ∗ allBut (mHome c MG) k
    ∗ oSt c (Gout R A XQ v0 v1 MG) k ∗ oSt c (Gout R A XQ v0 v1 MG) (k + 1) ∗ ahead (oHome c GO) k ∗ behind (oHome c (Gout R A XQ v0 v1 MG)) k
    ∗ cSt c (Gcod R A v0) k ∗ cSt c (Gcod R A v0) (k + 1) ∗ ahead (cHome c GC) k ∗ behind (cHome c (Gcod R A v0)) k
    ∗ ctSt c k ∗ waits c)

/-- Trips 0 and 1. -/
theorem step_first (k : Fin k0_t1_loop.trips) (h : k.val < 2) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_lt c MG (k.val + 1) (by omega), sl_two, allBut_open _ k.val (by omega), allBut_close _ k.val (by omega), mHome_lt c MG k.val (by omega), mHome_lt c MG (k.val + 1) (by omega), oSt_boot c (Gout R A XQ v0 v1 MG) k.val h, cSt_boot c (Gcod R A v0) k.val h, oSt_next c (Gout R A XQ v0 v1 MG) k.val (by omega), cSt_next c (Gcod R A v0) k.val (by omega), ahead_open (oHome c GO) k.val (by omega), ahead_open (cHome c GC) k.val (by omega), oHome_lt c GO k.val (by omega), cHome_lt c GC k.val (by omega), behind_boot _ k.val h, behind_boot _ k.val h, ctSt_lt c k.val (by omega), ctSt_lt c (k.val + 1) (by omega)]
  iintro ⟨W, S, B, M, MF, ⟨Mb, Mr⟩, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MF Mb O C Oa Ca HW]
  · iapply (trip_first c arg0 harg0 arg1 harg1 arg2 harg2 arg3 harg3 arg4 harg4 R A XQ v0 v1 MG 𝒱 k h GO GC)
    isplitl [W]; · iexact W
    isplitl [S]; · iexact S
    isplitl [B]; · iexact B
    isplitl [M]; · iexact M
    isplitl [MF]; · iexact MF
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, HW⟩
    isplitl [W]; · iexact W
    isplitl [S]; · iexact S
    isplitl [B]; · iexact B
    isplitl [M]; · iexact M
    isplitl [MF]; · iexact MF
    isplitl [Mb Mr]
    · isplitl [Mb]; · iexact Mb
      iexact Mr
    isplitl [O']; · iexact O'
    isplitl [O]; · iexact O
    isplitl [OA]; · iexact OA
    isplitl [OB]; · iexact OB
    isplitl [C']; · iexact C'
    isplitl [C]; · iexact C
    isplitl [CA]; · iexact CA
    isplitl [CB]; · iexact CB
    isplitl [CT]; · iexact CT
    iexact HW

/-- Trips 2 to 14. -/
theorem step_mid (k : Fin k0_t1_loop.trips) (h : 2 ≤ k.val) (h15 : k.val < 15) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_lt c MG (k.val + 1) (by omega), sl_two, allBut_open _ k.val (by omega), allBut_close _ k.val (by omega), mHome_lt c MG k.val (by omega), mHome_lt c MG (k.val + 1) (by omega), oSt_next c (Gout R A XQ v0 v1 MG) k.val (by omega), cSt_next c (Gcod R A v0) k.val (by omega), oSt_mid c (Gout R A XQ v0 v1 MG) k.val (by omega) (by omega), cSt_mid c (Gcod R A v0) k.val (by omega) (by omega), ahead_open (oHome c GO) k.val (by omega), ahead_open (cHome c GC) k.val (by omega), oHome_lt c GO k.val (by omega), cHome_lt c GC k.val (by omega), behind_close _ k.val h, behind_close _ k.val h, oHome_lt c (Gout R A XQ v0 v1 MG) (k.val - 2) (by omega), cHome_lt c (Gcod R A v0) (k.val - 2) (by omega), ctSt_lt c k.val (by omega), ctSt_lt c (k.val + 1) (by omega)]
  iintro ⟨W, S, B, M, MF, ⟨Mb, Mr⟩, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MF Mb O C Oa Ca HW]
  · iapply (trip_mid c arg0 harg0 arg1 harg1 arg2 harg2 arg3 harg3 arg4 harg4 R A XQ v0 v1 MG 𝒱 k h h15 GO GC)
    isplitl [W]; · iexact W
    isplitl [S]; · iexact S
    isplitl [B]; · iexact B
    isplitl [M]; · iexact M
    isplitl [MF]; · iexact MF
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, Ob, Cb, HW⟩
    isplitl [W]; · iexact W
    isplitl [S]; · iexact S
    isplitl [B]; · iexact B
    isplitl [M]; · iexact M
    isplitl [MF]; · iexact MF
    isplitl [Mb Mr]
    · isplitl [Mb]; · iexact Mb
      iexact Mr
    isplitl [O']; · iexact O'
    isplitl [O]; · iexact O
    isplitl [OA]; · iexact OA
    isplitl [Ob OB]
    · isplitl [Ob]; · iexact Ob
      iexact OB
    isplitl [C']; · iexact C'
    isplitl [C]; · iexact C
    isplitl [CA]; · iexact CA
    isplitl [Cb CB]
    · isplitl [Cb]; · iexact Cb
      iexact CB
    isplitl [CT]; · iexact CT
    iexact HW

/-- Trip 15. -/
theorem step_pen (k : Fin k0_t1_loop.trips) (h15 : k.val = 15) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_last c MG (k.val + 1) (by omega), sl_two, allBut_open _ k.val (by omega), allBut_close _ k.val (by omega), mHome_lt c MG k.val (by omega), mHome_last c MG (k.val + 1) (by omega), oSt_next c (Gout R A XQ v0 v1 MG) k.val (by omega), cSt_next c (Gcod R A v0) k.val (by omega), oSt_mid c (Gout R A XQ v0 v1 MG) k.val (by omega) (by omega), cSt_mid c (Gcod R A v0) k.val (by omega) (by omega), ahead_open (oHome c GO) k.val (by omega), ahead_open (cHome c GC) k.val (by omega), oHome_lt c GO k.val (by omega), cHome_lt c GC k.val (by omega), behind_close _ k.val (by omega), behind_close _ k.val (by omega), oHome_lt c (Gout R A XQ v0 v1 MG) (k.val - 2) (by omega), cHome_lt c (Gcod R A v0) (k.val - 2) (by omega), ctSt_lt c k.val (by omega), ctSt_lt c (k.val + 1) (by omega)]
  iintro ⟨W, S, B, M, ⟨⟨%mf, MF⟩, MC⟩, ⟨Mb, Mr⟩, O, O', ⟨Oa, OA⟩, OB, C, C', ⟨Ca, CA⟩, CB, CT, HW⟩
  ihave MX := (mslot_cut c (k.val + 1) mf) $$ MF
  icases MX with ⟨MT, MR⟩
  iapply (wp_wand_r Idealize.ShloMosaic.frame (wpE (defs₀ (F := F)) 𝒱 (c : Thread nD τ) none) Set.univ)
  isplitl [W S B M MT MC Mb O C Oa Ca HW]
  · iapply (trip_pen c arg0 harg0 arg1 harg1 arg2 harg2 arg3 harg3 arg4 harg4 R A XQ v0 v1 MG 𝒱 k h15 GO GC)
    isplitl [W]; · iexact W
    isplitl [S]; · iexact S
    isplitl [B]; · iexact B
    isplitl [M]; · iexact M
    isplitl [MT]; · iexists mf; iexact MT
    isplitl [MC]; · iexact MC
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, Ob, Cb, HW⟩
    isplitl [W]; · iexact W
    isplitl [S]; · iexact S
    isplitl [B]; · iexact B
    isplitl [M MR]
    · isplitl [M]; · iexact M
      iexists mf; iexact MR
    isplitl [MF]; · iexact MF
    isplitl [Mb Mr]
    · isplitl [Mb]; · iexact Mb
      iexact Mr
    isplitl [O']; · iexact O'
    isplitl [O]; · iexact O
    isplitl [OA]; · iexact OA
    isplitl [Ob OB]
    · isplitl [Ob]; · iexact Ob
      iexact OB
    isplitl [C']; · iexact C'
    isplitl [C]; · iexact C
    isplitl [CA]; · iexact CA
    isplitl [Cb CB]
    · isplitl [Cb]; · iexact Cb
      iexact CB
    isplitl [CT]; · iexact CT
    iexact HW

/-- Trip 16. -/
theorem step_last (k : Fin k0_t1_loop.trips) (h16 : k.val = 16) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_last c MG k.val h16, mSt_end c MG (k.val + 1) (by omega), sl_two, allBut_last _ k.val h16, mHome_last c MG k.val h16, oSt_end c (Gout R A XQ v0 v1 MG) k.val h16, cSt_end c (Gcod R A v0) k.val h16, oSt_mid c (Gout R A XQ v0 v1 MG) k.val (by omega) (by omega), cSt_mid c (Gcod R A v0) k.val (by omega) (by omega), ahead_open (oHome c GO) k.val (by omega), ahead_open (cHome c GC) k.val (by omega), oHome_last c GO k.val h16, cHome_last c GC k.val h16, behind_close _ k.val (by omega), behind_close _ k.val (by omega), oHome_lt c (Gout R A XQ v0 v1 MG) (k.val - 2) (by omega), cHome_lt c (Gcod R A v0) (k.val - 2) (by omega), ctSt_lt c k.val (by omega), ctSt_end c (k.val + 1) (by omega)]
  iintro ⟨W, S, B, ⟨M, MR⟩, MF, Mr, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MR O C Oa Ca CT HW]
  · iapply (trip_last c arg0 harg0 arg1 harg1 arg2 harg2 arg3 harg3 arg4 harg4 R A XQ v0 v1 MG 𝒱 k h16 GO GC)
    isplitl [W]; · iexact W
    isplitl [S]; · iexact S
    isplitl [B]; · iexact B
    isplitl [M]; · iexact M
    isplitl [MR]; · iexact MR
    isplitl [O]; · iexact O
    isplitl [C]; · iexact C
    isplitl [Oa]; · iexact Oa
    isplitl [Ca]; · iexact Ca
    isplitl [CT]; · iexact CT
    iexact HW
  · iintro %_ ⟨W, S, B, MF2, Mb, O, OR, C, CR, CC, Ob, Cb, HW⟩
    isplitl [W]; · iexact W
    isplitl [S]; · iexact S
    isplitl [B]; · iexact B
    isplitl [MF]; · iexact MF
    isplitl [MF2]; · iexact MF2
    isplitl [Mb Mr]
    · isplitl [Mb]; · iexact Mb
      iexact Mr
    isplitl [O']; · iexact O'
    isplitl [O OR]
    · isplitl [O]; · iexact O
      iexact OR
    isplitl [OA]; · iexact OA
    isplitl [Ob OB]
    · isplitl [Ob]; · iexact Ob
      iexact OB
    isplitl [C']; · iexact C'
    isplitl [C CR CC]
    · isplitl [C]; · iexact C
      isplitl [CR]; · iexact CR
      iexact CC
    isplitl [CA]; · iexact CA
    isplitl [Cb CB]
    · isplitl [Cb]; · iexact Cb
      iexact CB
    isplitr; · iempintro
    iexact HW

set_option maxHeartbeats 4000000 in
/-- One trip, whichever. -/
theorem step_any (k : Fin k0_t1_loop.trips) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  have hk := hk17 k
  rcases Nat.lt_or_ge k.val 2 with h | h
  · exact step_first c arg0 harg0 arg1 harg1 arg2 harg2 arg3 harg3 arg4 harg4 R A XQ v0 v1 MG 𝒱 GO GC k h
  rcases Nat.lt_or_ge k.val 15 with h' | h'
  · exact step_mid c arg0 harg0 arg1 harg1 arg2 harg2 arg3 harg3 arg4 harg4 R A XQ v0 v1 MG 𝒱 GO GC k h h'
  rcases Nat.lt_or_ge k.val 16 with h'' | h''
  · exact step_pen c arg0 harg0 arg1 harg1 arg2 harg2 arg3 harg3 arg4 harg4 R A XQ v0 v1 MG 𝒱 GO GC k (by omega)
  · exact step_last c arg0 harg0 arg1 harg1 arg2 harg2 arg3 harg3 arg4 harg4 R A XQ v0 v1 MG 𝒱 GO GC k (by omega)

set_option maxHeartbeats 4000000 in
/-- The loop with its invariant. -/
def mainLoop : Gen.LoopInvTy_k0_t1 (F := F) Unit ℕ (Pipeline.UD sig nD τ) ℕ 𝒱 c none Set.univ arg0 harg0 arg1 harg1 arg2 harg2 arg3 harg3 arg4 harg4
    mgH (Memref.isWhole_whole _) outH (Memref.isWhole_whole _) codH (Memref.isWhole_whole _) sbH (Memref.isWhole_whole _)
    invB (Memref.isWhole_whole _) sbwB (Memref.isWhole_whole _) sbB (Memref.isWhole_whole _) ctB (Memref.isWhole_whole _) codB (Memref.isWhole_whole _)
    dqB (Memref.isWhole_whole _) mgB (Memref.isWhole_whole _) outB (Memref.isWhole_whole _)
    cc0_scratch8 cc0_scratch9 cc0_scratch10 cc0_scratch11 cc0_scratch12 v0 v1 where
  inv k _ := mainInv c arg0 harg0 arg1 harg1 arg2 harg2 R A XQ v0 v1 MG GO GC k
  step k _ := step_any c arg0 harg0 arg1 harg1 arg2 harg2 arg3 harg3 arg4 harg4 R A XQ v0 v1 MG 𝒱 GO GC k

end Trip
end Cert.Kernel.Run
end
-- ==== Proof.Kernel.Parts.lean ====
/-
  The arrays cut into their tiles and the rings into their slots, and put together again.
-/
module

public import proofs.«01_k».proof.Proof.Kernel.Loop

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays cut into tiles -/

/-- The rows of tile `t` in an array of 4304 rows of 1152. -/
def rowsO (t : ℕ) : Finset S4304x1152.Idx :=
  if t < 16 then (Rect.unit (s := S4304x1152) (blkOff (Ring.bk 16 t)) S256x1152.size (blkOff_inb (Ring.bk 16 t))).set
  else (Rect.unit (s := S4304x1152) ![4096, 0] S208x1152.size tailOff_inb).set
/-- The rows of tile `t` in an array of 4304 rows of 768. -/
def rowsC (t : ℕ) : Finset S4304x768.Idx :=
  if t < 16 then (Rect.unit (s := S4304x768) (blkOff (Ring.bk 16 t)) S256x768.size (cblkOff_inb (Ring.bk 16 t))).set
  else (Rect.unit (s := S4304x768) ![4096, 0] S208x768.size ctailOff_inb).set

theorem mem_rowsO (t : ℕ) (ht : t < 17) (i : S4304x1152.Idx) : i ∈ rowsO t ↔ (i 0).val / 256 = t := by
  have h0 : (i 0).val < 4304 := (i 0).isLt
  have h1 : (i 1).val < 1152 := (i 1).isLt
  unfold rowsO
  split
  · rename_i h
    have hb : (Ring.bk 16 t).val = t := Ring.bk_val h
    rw [Rect.mem_set_unit]
    constructor
    · intro H
      have a := H 0
      change 256 * (Ring.bk 16 t).val ≤ (i 0).val ∧ (i 0).val < 256 * (Ring.bk 16 t).val + 256 at a
      omega
    · intro e a
      fin_cases a
      · change 256 * (Ring.bk 16 t).val ≤ (i 0).val ∧ (i 0).val < 256 * (Ring.bk 16 t).val + 256
        omega
      · change 0 ≤ (i 1).val ∧ (i 1).val < 0 + 1152
        omega
  · rw [Rect.mem_set_unit]
    constructor
    · intro H
      have a := H 0
      change 4096 ≤ (i 0).val ∧ (i 0).val < 4096 + 208 at a
      omega
    · intro e a
      fin_cases a
      · change 4096 ≤ (i 0).val ∧ (i 0).val < 4096 + 208
        omega
      · change 0 ≤ (i 1).val ∧ (i 1).val < 0 + 1152
        omega
theorem mem_rowsC (t : ℕ) (ht : t < 17) (i : S4304x768.Idx) : i ∈ rowsC t ↔ (i 0).val / 256 = t := by
  have h0 : (i 0).val < 4304 := (i 0).isLt
  have h1 : (i 1).val < 768 := (i 1).isLt
  unfold rowsC
  split
  · rename_i h
    have hb : (Ring.bk 16 t).val = t := Ring.bk_val h
    rw [Rect.mem_set_unit]
    constructor
    · intro H
      have a := H 0
      change 256 * (Ring.bk 16 t).val ≤ (i 0).val ∧ (i 0).val < 256 * (Ring.bk 16 t).val + 256 at a
      omega
    · intro e a
      fin_cases a
      · change 256 * (Ring.bk 16 t).val ≤ (i 0).val ∧ (i 0).val < 256 * (Ring.bk 16 t).val + 256
        omega
      · change 0 ≤ (i 1).val ∧ (i 1).val < 0 + 768
        omega
  · rw [Rect.mem_set_unit]
    constructor
    · intro H
      have a := H 0
      change 4096 ≤ (i 0).val ∧ (i 0).val < 4096 + 208 at a
      omega
    · intro e a
      fin_cases a
      · change 4096 ≤ (i 0).val ∧ (i 0).val < 4096 + 208
        omega
      · change 0 ≤ (i 1).val ∧ (i 1).val < 0 + 768
        omega

theorem rowsO_cover : (Finset.range 17).biUnion rowsO = Finset.univ := by
  refine Finset.eq_univ_of_forall fun i => ?_
  have h0 : (i 0).val < 4304 := (i 0).isLt
  exact Finset.mem_biUnion.2 ⟨(i 0).val / 256, Finset.mem_range.2 (by omega), (mem_rowsO _ (by omega) i).2 rfl⟩
theorem rowsC_cover : (Finset.range 17).biUnion rowsC = Finset.univ := by
  refine Finset.eq_univ_of_forall fun i => ?_
  have h0 : (i 0).val < 4304 := (i 0).isLt
  exact Finset.mem_biUnion.2 ⟨(i 0).val / 256, Finset.mem_range.2 (by omega), (mem_rowsC _ (by omega) i).2 rfl⟩
theorem rowsO_disj (t : ℕ) (ht : t ∈ Finset.range 17) (t' : ℕ) (ht' : t' ∈ Finset.range 17) (h : t ≠ t') : Disjoint (rowsO t) (rowsO t') :=
  Finset.disjoint_left.2 fun i hi hi' => h (((mem_rowsO t (Finset.mem_range.1 ht) i).1 hi).symm.trans ((mem_rowsO t' (Finset.mem_range.1 ht') i).1 hi'))
theorem rowsC_disj (t : ℕ) (ht : t ∈ Finset.range 17) (t' : ℕ) (ht' : t' ∈ Finset.range 17) (h : t ≠ t') : Disjoint (rowsC t) (rowsC t') :=
  Finset.disjoint_left.2 fun i hi hi' => h (((mem_rowsC t (Finset.mem_range.1 ht) i).1 hi).symm.trans ((mem_rowsC t' (Finset.mem_range.1 ht') i).1 hi'))

theorem mblk_set (b : Fin 16) : (mblk b).view.set = (Rect.unit (s := S4304x1152) (blkOff b) S256x1152.size (blkOff_inb b)).set := View.set_slice_whole _ _
theorem mblkT_set : mblkT.view.set = (Rect.unit (s := S4304x1152) ![4096, 0] S208x1152.size tailOff_inb).set := View.set_slice_whole _ _
theorem oblk_set (b : Fin 16) : (oblk b).view.set = (Rect.unit (s := S4304x1152) (blkOff b) S256x1152.size (blkOff_inb b)).set := View.set_slice_whole _ _
theorem oblkT_set : oblkT.view.set = (Rect.unit (s := S4304x1152) ![4096, 0] S208x1152.size tailOff_inb).set := View.set_slice_whole _ _
theorem cblk_set (b : Fin 16) : (cblk b).view.set = (Rect.unit (s := S4304x768) (blkOff b) S256x768.size (cblkOff_inb b)).set := View.set_slice_whole _ _
theorem cblkT_set : cblkT.view.set = (Rect.unit (s := S4304x768) ![4096, 0] S208x768.size ctailOff_inb).set := View.set_slice_whole _ _

section
variable (c : Dev nD) (G : S4304x1152.Idx → Elt F .f32) (GC : S4304x768.Idx → Elt F .i8)

theorem mHome_rows (t : ℕ) : mHome c G t = (iprop(mgH.view.loc (c : Thread nD τ) ↦[rowsO t]{fullShare} G) : sProp (𝕄 F)) := by
  unfold mHome rowsO
  split
  · exact congrArg (fun S => (iprop(mgH.view.loc (c : Thread nD τ) ↦[S]{fullShare} G) : sProp (𝕄 F))) (mblk_set (Ring.bk 16 t))
  · exact congrArg (fun S => (iprop(mgH.view.loc (c : Thread nD τ) ↦[S]{fullShare} G) : sProp (𝕄 F))) mblkT_set
theorem oHome_rows (t : ℕ) : oHome c G t = (iprop(outH.view.loc (c : Thread nD τ) ↦[rowsO t]{fullShare} G) : sProp (𝕄 F)) := by
  unfold oHome rowsO
  split
  · exact congrArg (fun S => (iprop(outH.view.loc (c : Thread nD τ) ↦[S]{fullShare} G) : sProp (𝕄 F))) (oblk_set (Ring.bk 16 t))
  · exact congrArg (fun S => (iprop(outH.view.loc (c : Thread nD τ) ↦[S]{fullShare} G) : sProp (𝕄 F))) oblkT_set
theorem cHome_rows (t : ℕ) : cHome c GC t = (iprop(codH.view.loc (c : Thread nD τ) ↦[rowsC t]{fullShare} GC) : sProp (𝕄 F)) := by
  unfold cHome rowsC
  split
  · exact congrArg (fun S => (iprop(codH.view.loc (c : Thread nD τ) ↦[S]{fullShare} GC) : sProp (𝕄 F))) (cblk_set (Ring.bk 16 t))
  · exact congrArg (fun S => (iprop(codH.view.loc (c : Thread nD τ) ↦[S]{fullShare} GC) : sProp (𝕄 F))) cblkT_set

/-- The main gradient, held whole, is its seventeen tiles. -/
theorem mg_tiles : (iprop(mgH.view.loc (c : Thread nD τ) ↦[Finset.univ]{fullShare} G) : sProp (𝕄 F)) = bigSep (Finset.range 17) (mHome c G) := by
  rw [show mHome c G = fun t => (iprop(mgH.view.loc (c : Thread nD τ) ↦[rowsO t]{fullShare} G) : sProp (𝕄 F)) from funext fun t => mHome_rows c G t]
  rw [← rowsO_cover]
  exact pointsTo_biUnion (ℓ := mgH.view.loc (c : Thread nD τ)) (Finset.range 17) rowsO (fun t ht t' ht' h => rowsO_disj t ht t' ht' h)
/-- The result likewise, -/
theorem out_tiles : (iprop(outH.view.loc (c : Thread nD τ) ↦[Finset.univ]{fullShare} G) : sProp (𝕄 F)) = bigSep (Finset.range 17) (oHome c G) := by
  rw [show oHome c G = fun t => (iprop(outH.view.loc (c : Thread nD τ) ↦[rowsO t]{fullShare} G) : sProp (𝕄 F)) from funext fun t => oHome_rows c G t]
  rw [← rowsO_cover]
  exact pointsTo_biUnion (ℓ := outH.view.loc (c : Thread nD τ)) (Finset.range 17) rowsO (fun t ht t' ht' h => rowsO_disj t ht t' ht' h)
/-- and the codes. -/
theorem cod_tiles : (iprop(codH.view.loc (c : Thread nD τ) ↦[Finset.univ]{fullShare} GC) : sProp (𝕄 F)) = bigSep (Finset.range 17) (cHome c GC) := by
  rw [show cHome c GC = fun t => (iprop(codH.view.loc (c : Thread nD τ) ↦[rowsC t]{fullShare} GC) : sProp (𝕄 F)) from funext fun t => cHome_rows c GC t]
  rw [← rowsC_cover]
  exact pointsTo_biUnion (ℓ := codH.view.loc (c : Thread nD τ)) (Finset.range 17) rowsC (fun t ht t' ht' h => rowsC_disj t ht t' ht' h)
end

section
variable (P : ℕ → sProp (𝕄 F))
/-- All seventeen tiles: the first and the rest; -/
theorem all_first : bigSep (Finset.range 17) P = iprop(P 0 ∗ allBut P 0) := by
  unfold allBut
  exact (congrArg (fun S => bigSep S P) (by decide : Finset.range 17 = insert 0 ((Finset.range 17).erase 0))).trans (bigSep_insert (by decide))
theorem all_ahead : ahead P 0 = bigSep (Finset.range 17) P := by
  unfold ahead; exact congrArg (fun S => bigSep S P) (by decide : Finset.Ico 0 17 = Finset.range 17)
theorem behind_none : behind P 0 = iprop(emp) := by
  unfold behind; exact (congrArg (fun S => bigSep S P) (by decide : Finset.range (0 - 2) = ∅)).trans bigSep_empty
/-- at the end of the loop all are at home, -/
theorem allBut_end : allBut P 17 = bigSep (Finset.range 17) P := by
  unfold allBut; exact congrArg (fun S => bigSep S P) (by decide : (Finset.range 17).erase 17 = Finset.range 17)
/-- or all but the last two. -/
theorem all_last : bigSep (Finset.range 17) P = iprop(P 16 ∗ P 15 ∗ behind P 17) := by
  unfold behind
  have e1 : bigSep (insert 15 (Finset.range (17 - 2))) P = iprop(P 15 ∗ bigSep (Finset.range (17 - 2)) P) := bigSep_insert (by decide)
  have e2 : bigSep (insert 16 (insert 15 (Finset.range (17 - 2)))) P = iprop(P 16 ∗ bigSep (insert 15 (Finset.range (17 - 2))) P) := bigSep_insert (by decide)
  rw [← e1, ← e2]
  exact congrArg (fun S => bigSep S P) (by decide : Finset.range 17 = insert 16 (insert 15 (Finset.range (17 - 2))))
end

/-! ## The rings cut into their two slots -/

theorem mslot_cover : Finset.biUnion (β := S2x256x1152.Idx) (Finset.univ : Finset (Fin 2)) (fun s => (mslot s).view.set) = Finset.univ := by
  refine Finset.eq_univ_of_forall fun (i : S2x256x1152.Idx) => ?_
  exact Finset.mem_biUnion.2 ⟨i 0, Finset.mem_univ _, (mem_mslot_view (i 0) i).2 rfl⟩
theorem oslot_cover : Finset.biUnion (β := S2x256x1152.Idx) (Finset.univ : Finset (Fin 2)) (fun s => (oslot s).view.set) = Finset.univ := by
  refine Finset.eq_univ_of_forall fun (i : S2x256x1152.Idx) => ?_
  exact Finset.mem_biUnion.2 ⟨i 0, Finset.mem_univ _, (mem_oslot_view (i 0) i).2 rfl⟩
theorem cslot_cover : Finset.biUnion (β := S2x256x768.Idx) (Finset.univ : Finset (Fin 2)) (fun s => (cslot s).view.set) = Finset.univ := by
  refine Finset.eq_univ_of_forall fun (i : S2x256x768.Idx) => ?_
  exact Finset.mem_biUnion.2 ⟨i 0, Finset.mem_univ _, (mem_cslot_view (i 0) i).2 rfl⟩
theorem mslot_disj (s s' : Fin 2) (h : s ≠ s') : Disjoint (mslot s).view.set (mslot s').view.set :=
  Finset.disjoint_left.2 fun (i : S2x256x1152.Idx) hi hi' => h (Fin.ext (((mem_mslot_view s i).1 hi).symm.trans ((mem_mslot_view s' i).1 hi')))
theorem oslot_disj (s s' : Fin 2) (h : s ≠ s') : Disjoint (oslot s).view.set (oslot s').view.set :=
  Finset.disjoint_left.2 fun (i : S2x256x1152.Idx) hi hi' => h (Fin.ext (((mem_oslot_view s i).1 hi).symm.trans ((mem_oslot_view s' i).1 hi')))
theorem cslot_disj (s s' : Fin 2) (h : s ≠ s') : Disjoint (cslot s).view.set (cslot s').view.set :=
  Finset.disjoint_left.2 fun (i : S2x256x768.Idx) hi hi' => h (Fin.ext (((mem_cslot_view s i).1 hi).symm.trans ((mem_cslot_view s' i).1 hi')))

theorem two_sep (P : Fin 2 → sProp (𝕄 F)) : bigSep Finset.univ P = iprop(P 0 ∗ P 1) := by
  rw [show (Finset.univ : Finset (Fin 2)) = insert 0 {1} from by decide, bigSep_insert (by decide), bigSep_singleton]
  rfl

section
variable (c : Dev nD)

theorem mg_slots (f : S2x256x1152.Idx → Elt F .f32) : (iprop(mgB.view.loc (c : Thread nD τ) ↦[Finset.univ]{fullShare} f) : sProp (𝕄 F)) ⊢ iprop(hold c (mslot 0) f ∗ hold c (mslot 1) f) := by
  have e := Ring.pointsTo_blocks (Ix := Unit) (Val := Elt F) (Name := ℕ) (U := Pipeline.UD sig nD τ) (Lvl := ℕ) (ℓ := mgB.view.loc (c : Thread nD τ)) (fun s : Fin 2 => (mslot s).view.set) mslot_disj mslot_cover (q := fullShare) f
  rw [two_sep] at e
  exact Entails.of_eq e
theorem out_slots (f : S2x256x1152.Idx → Elt F .f32) : (iprop(outB.view.loc (c : Thread nD τ) ↦[Finset.univ]{fullShare} f) : sProp (𝕄 F)) ⊢ iprop(hold c (oslot 0) f ∗ hold c (oslot 1) f) := by
  have e := Ring.pointsTo_blocks (Ix := Unit) (Val := Elt F) (Name := ℕ) (U := Pipeline.UD sig nD τ) (Lvl := ℕ) (ℓ := outB.view.loc (c : Thread nD τ)) (fun s : Fin 2 => (oslot s).view.set) oslot_disj oslot_cover (q := fullShare) f
  rw [two_sep] at e
  exact Entails.of_eq e
theorem cod_slots (g : S2x256x768.Idx → Elt F .i8) : (iprop(codB.view.loc (c : Thread nD τ) ↦[Finset.univ]{fullShare} g) : sProp (𝕄 F)) ⊢ iprop(hold c (cslot 0) g ∗ hold c (cslot 1) g) := by
  have e := Ring.pointsTo_blocks (Ix := Unit) (Val := Elt F) (Name := ℕ) (U := Pipeline.UD sig nD τ) (Lvl := ℕ) (ℓ := codB.view.loc (c : Thread nD τ)) (fun s : Fin 2 => (cslot s).view.set) cslot_disj cslot_cover (q := fullShare) g
  rw [two_sep] at e
  exact Entails.of_eq e
theorem mg_whole (f : S2x256x1152.Idx → Elt F .f32) : (iprop((∃ f : S2x256x1152.Idx → Elt F .f32, hold c (mslot 0) f) ∗ ∃ f : S2x256x1152.Idx → Elt F .f32, hold c (mslot 1) f) : sProp (𝕄 F))
    ⊢ iprop(∃ f, mgB.view.loc (c : Thread nD τ) ↦[Finset.univ]{fullShare} f) := by
  have e := Ring.pointsTo_blocks_join_exists (Ix := Unit) (Val := Elt F) (Name := ℕ) (U := Pipeline.UD sig nD τ) (Lvl := ℕ) (ℓ := mgB.view.loc (c : Thread nD τ)) (fun s : Fin 2 => (mslot s).view.set) mslot_disj mslot_cover (q := fullShare) f
  rw [two_sep] at e
  exact e
theorem out_whole (f : S2x256x1152.Idx → Elt F .f32) : (iprop((∃ f : S2x256x1152.Idx → Elt F .f32, hold c (oslot 0) f) ∗ ∃ f : S2x256x1152.Idx → Elt F .f32, hold c (oslot 1) f) : sProp (𝕄 F))
    ⊢ iprop(∃ f, outB.view.loc (c : Thread nD τ) ↦[Finset.univ]{fullShare} f) := by
  have e := Ring.pointsTo_blocks_join_exists (Ix := Unit) (Val := Elt F) (Name := ℕ) (U := Pipeline.UD sig nD τ) (Lvl := ℕ) (ℓ := outB.view.loc (c : Thread nD τ)) (fun s : Fin 2 => (oslot s).view.set) oslot_disj oslot_cover (q := fullShare) f
  rw [two_sep] at e
  exact e
theorem cod_whole (g : S2x256x768.Idx → Elt F .i8) : (iprop((∃ f : S2x256x768.Idx → Elt F .i8, hold c (cslot 0) f) ∗ ∃ f : S2x256x768.Idx → Elt F .i8, hold c (cslot 1) f) : sProp (𝕄 F))
    ⊢ iprop(∃ f, codB.view.loc (c : Thread nD τ) ↦[Finset.univ]{fullShare} f) := by
  have e := Ring.pointsTo_blocks_join_exists (Ix := Unit) (Val := Elt F) (Name := ℕ) (U := Pipeline.UD sig nD τ) (Lvl := ℕ) (ℓ := codB.view.loc (c : Thread nD τ)) (fun s : Fin 2 => (cslot s).view.set) cslot_disj cslot_cover (q := fullShare) g
  rw [two_sep] at e
  exact e
end
end Cert.Kernel.Run
end
-- ==== Proof.Kernel.Body.lean ====
/-
  The run of the kernel: what it holds before and after.
-/
module

public import proofs.«01_k».proof.Proof.Kernel.Parts

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The semaphore of the block scales' copy. -/
abbrev xsem : DmaSems sig S_ := (cc0_scratch12.slice (Rect.unit (s := S8) ![7] S1.size inb_S8_S1_7)).squeeze S_ squeezes_S1_S_

section
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : S1x1.Idx → Elt F .f32) (MG : S4304x1152.Idx → Elt F .f32) (𝒱 : Variants)
  (GO : S4304x1152.Idx → Elt F .f32) (GC : S4304x768.Idx → Elt F .i8)

/-- The semaphores, all at zero. -/
abbrev cells : sProp (𝕄 F) := iprop(cell0 c (msem 0) ∗ cell0 c (msem 1) ∗ cell0 c (osem 0) ∗ cell0 c (osem 1) ∗ cell0 c (csem 0) ∗ cell0 c (csem 1)
  ∗ cell0 c cc0_scratch11 ∗ cell0 c xsem)
/-- The windows. -/
abbrev wins5 : sProp (𝕄 F) := iprop(wins c arg0 harg0 arg1 harg1 arg2 harg2 R A XQ ∗ hold c arg3 (harg3.unread v1) ∗ hold c arg4 (harg4.unread v0))
/-- The scratch buffers, at some contents. -/
abbrev scratch : sProp (𝕄 F) := iprop(scr c ∗ (∃ f : S96x4352.Idx → Elt F .fp8e4m3, hold c sbB f)
  ∗ (∃ f : S2x256x1152.Idx → Elt F .f32, mgB.view.loc (c : Thread nD τ) ↦[Finset.univ]{fullShare} f)
  ∗ (∃ f : S2x256x1152.Idx → Elt F .f32, outB.view.loc (c : Thread nD τ) ↦[Finset.univ]{fullShare} f)
  ∗ (∃ f : S2x256x768.Idx → Elt F .i8, codB.view.loc (c : Thread nD τ) ↦[Finset.univ]{fullShare} f))

/-- The kernel. -/
abbrev wholeB := cc0_nvfp4_wgrad (F := F) arg0 harg0 arg1 harg1 arg2 harg2 arg3 harg3 arg4 harg4
    mgH (Memref.isWhole_whole _) outH (Memref.isWhole_whole _) codH (Memref.isWhole_whole _) sbH (Memref.isWhole_whole _)
    invB (Memref.isWhole_whole _) sbwB (Memref.isWhole_whole _) sbB (Memref.isWhole_whole _) ctB (Memref.isWhole_whole _) codB (Memref.isWhole_whole _)
    dqB (Memref.isWhole_whole _) mgB (Memref.isWhole_whole _) outB (Memref.isWhole_whole _)
    cc0_scratch8 cc0_scratch9 cc0_scratch10 cc0_scratch11 cc0_scratch12

/-- The loop, run to its end, before the rest of the program. -/
theorem loopRun (kk : PUnit → Prog (TpuEff nD τ sig (Elt F) Λ₀ .tc) PUnit) (Q : PUnit → sProp (𝕄 F)) :
    mainInv c arg0 harg0 arg1 harg1 arg2 harg2 R A XQ v0 v1 MG GO GC 0
    ⊢ iprop((mainInv c arg0 harg0 arg1 harg1 arg2 harg2 R A XQ v0 v1 MG GO GC 17 -∗ wp frame (wpE (defs₀ (F := F)) 𝒱 (c : Thread nD τ) none) Set.univ (kk ⟨⟩) Q)
      -∗ wp frame (wpE (defs₀ (F := F)) 𝒱 (c : Thread nD τ) none) Set.univ
        (k0_t1_loop.for k0_t1_ok PUnit.unit (fun k acc => k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k acc) >>= kk) Q) := by
  have H := Scf.wp_for_bind (Idealize.ShloMosaic.frame (nD := nD) (τ := τ) (sig := sig)) (wpE (defs₀ (F := F)) 𝒱 (c : Thread nD τ) none) Set.univ _ _ _ k0_t1_ok PUnit.unit
    (fun k acc => k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k acc)
    (fun k _ => mainInv c arg0 harg0 arg1 harg1 arg2 harg2 R A XQ v0 v1 MG GO GC k)
    (fun k _ => step_any c arg0 harg0 arg1 harg1 arg2 harg2 arg3 harg3 arg4 harg4 R A XQ v0 v1 MG 𝒱 GO GC k) (kk := kk) (Q := Q)
  refine H.trans ?_
  iintro H H1
  iapply H
  iintro %acc HI
  iapply H1
  iexact HI

/-- A window's one number, as loaded. -/
theorem load_one {M : Memref sig .tc .vmem S1x1 .f32} (hM : M.IsWhole) (v : S1x1.Idx → Elt F .f32) :
    View.readAt (Elt F) M.view (Rect.unit (s := S1x1) ![0, 0] S1x1.size inb_S1x1_S1x1_0_0).toLoadRect (hM.unread v) = v := by
  funext x
  refine (Memref.IsWhole.readAt_unread hM v _ x).trans (congrArg v ?_)
  funext a
  have h : ∀ n : Fin 1, n = 0 := by decide
  fin_cases a
  · exact (h _).trans (h _).symm
  · exact (h _).trans (h _).symm

/-- What the loop ends with. -/
theorem mainInv_end : mainInv c arg0 harg0 arg1 harg1 arg2 harg2 R A XQ v0 v1 MG GO GC 17
    = iprop(wins c arg0 harg0 arg1 harg1 arg2 harg2 R A XQ ∗ scr c ∗ sbTo c A v0 17 ∗ mgFree c 1 ∗ mgFree c 0 ∗ bigSep (Finset.range 17) (mHome c MG)
      ∗ (∃ o : S2x256x1152.Idx → Elt F .f32, fly c (osem 1) 36864 iprop(hold c (oblk 15) (Gout R A XQ v0 v1 MG) ∗ hold c (oslot 1) o))
      ∗ ((∃ o : S2x256x1152.Idx → Elt F .f32, fly c (osem 0) 29952 iprop(hold c oblkT (Gout R A XQ v0 v1 MG) ∗ hold c (oslotT 0) o)) ∗ orest c 0)
      ∗ ahead (oHome c GO) 17 ∗ behind (oHome c (Gout R A XQ v0 v1 MG)) 17
      ∗ (∃ o : S2x256x768.Idx → Elt F .i8, fly c (csem 1) 6144 iprop(hold c (cblk 15) (Gcod R A v0) ∗ hold c (cslot 1) o))
      ∗ ((∃ o : S2x256x768.Idx → Elt F .i8, fly c cc0_scratch11 5376 iprop(hold c cblkT (Gcod R A v0) ∗ hold c (cslotT 0) o)) ∗ crest c 0 ∗ cell0 c (csem 0))
      ∗ ahead (cHome c GC) 17 ∗ behind (cHome c (Gcod R A v0)) 17 ∗ ctSt c 17 ∗ waits c) := by
  unfold mainInv
  rw [mSt_end c MG 17 (by omega), allBut_end, oSt_mid c (Gout R A XQ v0 v1 MG) 17 (by omega) (by omega), oSt_end c (Gout R A XQ v0 v1 MG) 16 rfl,
    cSt_mid c (Gcod R A v0) 17 (by omega) (by omega), cSt_end c (Gcod R A v0) 16 rfl]
  rfl

/-- What the loop starts with. -/
theorem mainInv_start : iprop(wins c arg0 harg0 arg1 harg1 arg2 harg2 R A XQ ∗ scr c ∗ (∃ f : S96x4352.Idx → Elt F .fp8e4m3, hold c sbB f)
      ∗ mgFly c MG 0 ∗ mgFree c 1 ∗ allBut (mHome c MG) 0 ∗ outFree c 0 ∗ outFree c 1 ∗ bigSep (Finset.range 17) (oHome c GO)
      ∗ codFree c 0 ∗ codFree c 1 ∗ bigSep (Finset.range 17) (cHome c GC) ∗ cell0 c cc0_scratch11 ∗ waits c)
    ⊢ mainInv c arg0 harg0 arg1 harg1 arg2 harg2 R A XQ v0 v1 MG GO GC 0 := by
  unfold mainInv
  rw [mSt_lt c MG 0 (by omega), oSt_boot c (Gout R A XQ v0 v1 MG) 0 (by omega), oSt_boot c (Gout R A XQ v0 v1 MG) (0 + 1) (by omega),
    cSt_boot c (Gcod R A v0) 0 (by omega), cSt_boot c (Gcod R A v0) (0 + 1) (by omega), all_ahead, all_ahead, behind_none, behind_none, ctSt_lt c 0 (by omega)]
  iintro ⟨W, S, ⟨%f, B⟩, M, MF, Mr, O, O', OA, C, C', CA, CT, HW⟩
  isplitl [W]; · iexact W
  isplitl [S]; · iexact S
  isplitl [B]
  · iexists f; isplitr; swap; · iexact B
    ipureintro; intro i h; omega
  isplitl [M]; · iexact M
  isplitl [MF]; · iexact MF
  isplitl [Mr]; · iexact Mr
  isplitl [O]; · iexact O
  isplitl [O']; · iexact O'
  isplitl [OA]; · iexact OA
  isplitr; · iempintro
  isplitl [C]; · iexact C
  isplitl [C']; · iexact C'
  isplitl [CA]; · iexact CA
  isplitr; · iempintro
  isplitl [CT]; · iexact CT
  iexact HW

/-- The result's tiles, all written, are the whole result. -/
theorem out_back (G : S4304x1152.Idx → Elt F .f32) : iprop(hold c oblkT G ∗ hold c (oblk 15) G ∗ behind (oHome c G) 17)
    ⊢ (outH.view.loc (c : Thread nD τ) ↦[Finset.univ]{fullShare} G : sProp (𝕄 F)) := by
  rw [out_tiles, all_last, oHome_last c G 16 rfl, oHome_lt c G 15 (by omega)]
  exact .rfl
/-- The codes' tiles, all written, are the whole array of codes. -/
theorem cod_back (G : S4304x768.Idx → Elt F .i8) : iprop(hold c cblkT G ∗ hold c (cblk 15) G ∗ behind (cHome c G) 17)
    ⊢ (codH.view.loc (c : Thread nD τ) ↦[Finset.univ]{fullShare} G : sProp (𝕄 F)) := by
  rw [cod_tiles, all_last, cHome_last c G 16 rfl, cHome_lt c G 15 (by omega)]
  exact .rfl
/-- What the last copy leaves in the array of block scales. -/
theorem sb_back (fb : S96x4352.Idx → Elt F .fp8e4m3) (fs : S96x4304.Idx → Elt F .fp8e4m3)
    (h : ∀ i : S96x4352.Idx, (i 1).val < 256 * 17 → fb i = Gsb A v0 i) (p : S96x4304.Idx → Elt F .fp8e4m3)
    (hp : ∀ i : S96x4304.Idx, p i = fb (ix2 (i 0) ⟨(i 1).val, by have h1 : (i 1).val < 4304 := (i 1).isLt; omega⟩)) :
    (sbH.view.loc (c : Thread nD τ) ↦[sbH.view.set]{fullShare} sbH.view.writes (Elt F) fs [⟨Rect.whole S96x4304, p⟩] : sProp (𝕄 F))
      = hold c sbH (GsbH A v0) :=
  hold_landed c sbH fs (GsbH A v0) p fun x => by
    rw [hp, h _ (by have h1 : (x 1).val < 4304 := (x 1).isLt; show (x 1).val < 4352; omega)]
    rfl

set_option maxHeartbeats 4000000 in
/-- A run of the kernel. -/
theorem bodyRun (Q : PUnit → sProp (𝕄 F)) :
    iprop((wins5 c arg0 harg0 arg1 harg1 arg2 harg2 arg3 harg3 arg4 harg4 R A XQ v0 v1 ∗ scratch c ∗ cells c
      ∗ (mgH.view.loc (c : Thread nD τ) ↦[Finset.univ]{fullShare} MG) ∗ (outH.view.loc (c : Thread nD τ) ↦[Finset.univ]{fullShare} GO)
      ∗ (codH.view.loc (c : Thread nD τ) ↦[Finset.univ]{fullShare} GC) ∗ (∃ f : S96x4304.Idx → Elt F .fp8e4m3, hold c sbH f) ∗ waits c)
      ∗ (iprop(wins5 c arg0 harg0 arg1 harg1 arg2 harg2 arg3 harg3 arg4 harg4 R A XQ v0 v1 ∗ scratch c ∗ cells c
        ∗ (mgH.view.loc (c : Thread nD τ) ↦[Finset.univ]{fullShare} MG) ∗ (outH.view.loc (c : Thread nD τ) ↦[Finset.univ]{fullShare} Gout R A XQ v0 v1 MG)
        ∗ (codH.view.loc (c : Thread nD τ) ↦[Finset.univ]{fullShare} Gcod R A v0) ∗ hold c sbH (GsbH A v0) ∗ waits c) -∗ Q ⟨⟩))
    ⊢ wp frame (wpE (defs₀ (F := F)) 𝒱 (c : Thread nD τ) none) Set.univ (wholeB arg0 harg0 arg1 harg1 arg2 harg2 arg3 harg3 arg4 harg4) Q := by
  unfold wholeB
  iintro ⟨⟨⟨W, H3, H4⟩, ⟨S, SB, ⟨%fm, MB⟩, ⟨%fo, OB⟩, ⟨%fc, CB⟩⟩, ⟨M0, M1, O0, O1, C0, C1, CT, X⟩, MH, OH, CH, ⟨%fs, SH⟩, ⟨%W0, HW⟩⟩, Hk⟩
  ihave MH2 := (show (mgH.view.loc (c : Thread nD τ) ↦[Finset.univ]{fullShare} MG : sProp (𝕄 F)) ⊢ iprop(hold c (mblk 0) MG ∗ allBut (mHome c MG) 0) from by
    rw [mg_tiles c MG, all_first, mHome_lt c MG 0 (by omega)]; exact .rfl) $$ MH
  icases MH2 with ⟨Mb, Mr⟩
  ihave MX := (mg_slots c fm) $$ MB
  icases MX with ⟨MS0, MS1⟩
  ihave OX := (out_slots c fo) $$ OB
  icases OX with ⟨OS0, OS1⟩
  ihave CX := (cod_slots c fc) $$ CB
  icases CX with ⟨CS0, CS1⟩
  sl_exec
  sl_rw [load_one harg4 v0, load_one harg3 v1]
  ihave OT := (Entails.of_eq (out_tiles c GO)) $$ OH
  ihave CTL := (Entails.of_eq (cod_tiles c GC)) $$ CH
  ihave I0 := (mainInv_start c arg0 harg0 arg1 harg1 arg2 harg2 R A XQ v0 v1 MG GO GC) $$ [W S SB M0 MS1 M1 Mr OS0 O0 OS1 O1 OT CS0 C0 CS1 C1 CTL CT HW]
  · isplitl [W]; · iexact W
    isplitl [S]; · iexact S
    isplitl [SB]; · iexact SB
    isplitl [M0]
    · iexists _; isplitr; swap; · iexact M0
      ipureintro; exact mslot_tile_at 0 (by omega) MG fm
    isplitl [MS1 M1]
    · isplitl [MS1]; · iexists fm; iexact MS1
      iexact M1
    isplitl [Mr]; · iexact Mr
    isplitl [OS0 O0]
    · isplitl [OS0]; · iexists fo; iexact OS0
      iexact O0
    isplitl [OS1 O1]
    · isplitl [OS1]; · iexists fo; iexact OS1
      iexact O1
    isplitl [OT]; · iexact OT
    isplitl [CS0 C0]
    · isplitl [CS0]; · iexists fc; iexact CS0
      iexact C0
    isplitl [CS1 C1]
    · isplitl [CS1]; · iexists fc; iexact CS1
      iexact C1
    isplitl [CTL]; · iexact CTL
    isplitl [CT]; · iexact CT
    iexists _; iexact HW
  iapply (loopRun c arg0 harg0 arg1 harg1 arg2 harg2 arg3 harg3 arg4 harg4 R A XQ v0 v1 MG 𝒱 GO GC) $$ I0
  rw [mainInv_end]
  iintro ⟨W, S, ⟨%fb, %hfb, SB⟩, ⟨MS1, M1⟩, ⟨MS0, M0⟩, MH, ⟨%o1, O1⟩, ⟨⟨%o0, O0⟩, OR⟩, -, OB, ⟨%c1, C1⟩, ⟨⟨%c0, CT⟩, CR, C0⟩, -, CB, -, ⟨%W1, HW⟩⟩
  sl_exec
  have hsb := sb_back c A v0 fb fs hfb (bodyRun.sl.dma0 fb) (by
    intro i
    delta bodyRun.sl.dma0
    refine congrArg fb ?_
    funext a
    apply Fin.ext
    fin_cases a
    · show 0 + 1 * (i 0).val = (i 0).val
      omega
    · show 0 + 1 * (i 1).val = (i 1).val
      omega)
  ihave OH := (out_back c (Gout R A XQ v0 v1 MG)) $$ [O0_dst O1_dst OB]
  · isplitl [O0_dst]; · iexact O0_dst
    isplitl [O1_dst]; · iexact O1_dst
    iexact OB
  ihave CH := (cod_back c (Gcod R A v0)) $$ [CT_dst C1_dst CB]
  · isplitl [CT_dst]; · iexact CT_dst
    isplitl [C1_dst]; · iexact C1_dst
    iexact CB
  ihave MT := (Entails.of_eq (mg_tiles c MG).symm) $$ MH
  ihave OS0 := (oslot_join c 16) $$ [O0_src OR]
  · isplitl [O0_src]; · iexists o0; iexact O0_src
    iexact OR
  ihave CS0 := (cslot_join c 16) $$ [CT_src CR]
  · isplitl [CT_src]; · iexists c0; iexact CT_src
    iexact CR
  ihave OW := (out_whole c fo) $$ [OS0 O1_src]
  · isplitl [OS0]; · iexact OS0
    iexists o1; iexact O1_src
  ihave CW := (cod_whole c fc) $$ [CS0 C1_src]
  · isplitl [CS0]; · iexact CS0
    iexists c1; iexact C1_src
  ihave MW := (mg_whole c fm) $$ [MS0 MS1]
  · isplitl [MS0]; · iexact MS0
    iexact MS1
  ihave SHH := (Entails.of_eq hsb) $$ SH
  sl_step
  iapply Hk
  isplitl [W H3 H4]
  · isplitl [W]; · iexact W
    isplitl [H3]; · iexact H3
    iexact H4
  isplitl [S SB MW OW CW]
  · isplitl [S]; · iexact S
    isplitl [SB]; · iexists fb; iexact SB
    isplitl [MW]; · iexact MW
    isplitl [OW]; · iexact OW
    iexact CW
  isplitl [M0 M1 O0 O1 C0 C1 CT X]
  · isplitl [M0]; · iexact M0
    isplitl [M1]; · iexact M1
    isplitl [O0]; · iexact O0
    isplitl [O1]; · iexact O1
    isplitl [C0]; · iexact C0
    isplitl [C1]; · iexact C1
    isplitl [CT]; · iexact CT
    iexact X
  isplitl [MT]; · iexact MT
  isplitl [OH]; · iexact OH
  isplitl [CH]; · iexact CH
  isplitl [SHH]; · iexact SHH
  iexists _; iexact HW
end
end Cert.Kernel.Run
end
-- ==== Proof.Kernel.Launch.lean ====
/-
  The launch: the kernel's run at its one grid point, within @main.
-/
module

public import proofs.«01_k».proof.Proof.Gen.Kernel.Frame
public import proofs.«01_k».proof.Proof.Kernel.Body
public import Idealize.ShloMosaic.Lib.Pipeline.FrameBody
public import Idealize.ShloMosaic.Lib.Pipeline.FrameSuffixV

@[expose] public section

set_option maxRecDepth 16384

noncomputable section

namespace Cert.Kernel.Run

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 800000 in
/-- `@main` around the kernel: the host lines before it, and after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the kernel is given and what it leaves -/

/-- The rotated gradient, as staged. -/
abbrev inR (c : Dev nD) (t : Fin cfg0.N) : S34x1632x128.Idx → Elt F .f32 := iblk m c 0 t
/-- Its block maxima, as staged. -/
abbrev inA (c : Dev nD) (t : Fin cfg0.N) : S96x4352.Idx → Elt F .f32 := iblk m c 1 t
/-- The quantised activations, as staged. -/
abbrev inX (c : Dev nD) (t : Fin cfg0.N) : S1152x1536.Idx → Elt F .bf16 := iblk m c 2 t
/-- The activations' global scale, as staged. -/
abbrev inG1 (c : Dev nD) (t : Fin cfg0.N) : S1x1.Idx → Elt F .f32 := iblk m c 3 t
/-- The gradient's global scale, as staged. -/
abbrev inG0 (c : Dev nD) (t : Fin cfg0.N) : S1x1.Idx → Elt F .f32 := iblk m c 4 t
/-- The main gradient. -/
abbrev inM (c : Dev nD) : S4304x1152.Idx → Elt F .f32 := V m c main_v6

/-- What the kernel leaves in its three results; every other buffer as it was. -/
def Gres (c : Dev nD) : (b : Ref sig .tc) → Buf (Elt F) ((c.tc : Thread nD τ).loc b) :=
  Function.update (Function.update (Function.update (V m c)
    main_v7_0 (show S4304x1152.Idx → Elt F .f32 from Gout (inR m c t0_0) (inA m c t0_0) (inX m c t0_0) (inG0 m c t0_0) (inG1 m c t0_0) (inM m c)))
    main_v7_1 (show S4304x768.Idx → Elt F .i8 from Gcod (inR m c t0_0) (inA m c t0_0) (inG0 m c t0_0)))
    main_v7_2 (show S96x4304.Idx → Elt F .fp8e4m3 from GsbH (inA m c t0_0) (inG0 m c t0_0))

theorem Gres_0 (c : Dev nD) : Gres m c main_v7_0 = Gout (inR m c t0_0) (inA m c t0_0) (inX m c t0_0) (inG0 m c t0_0) (inG1 m c t0_0) (inM m c) := by
  unfold Gres
  rw [Function.update_of_ne (by decide), Function.update_of_ne (by decide), Function.update_self]
theorem Gres_1 (c : Dev nD) : Gres m c main_v7_1 = Gcod (inR m c t0_0) (inA m c t0_0) (inG0 m c t0_0) := by
  unfold Gres
  rw [Function.update_of_ne (by decide), Function.update_self]
theorem Gres_2 (c : Dev nD) : Gres m c main_v7_2 = GsbH (inA m c t0_0) (inG0 m c t0_0) := by
  unfold Gres
  rw [Function.update_self]

/-! ## What the pipeline holds beside the windows -/

/-- The kernel's own semaphores. -/
abbrev osem0 : Fin 15 → SemLoc sig := fun j => (![SemLoc.dma 5, SemLoc.dma 6, SemLoc.dma 7, SemLoc.dma 8, SemLoc.dma 9, SemLoc.dma 10, SemLoc.dma 11, SemLoc.dma 12,
  SemLoc.dma 13, SemLoc.dma 14, SemLoc.dma 15, SemLoc.dma 16, SemLoc.dma 17, SemLoc.dma 18, SemLoc.dma 19] : Fin 15 → SemLoc sig) j
theorem ownSemFacts0 : Pipeline.OwnSemFacts spec0 osem0 := by decide
/-- The array the kernel only reads by its own copies. -/
abbrev H0 : Finset (Ref sig .tc) := {main_v6}
/-- The arrays it writes by its own copies. -/
abbrev R0 : Finset (Ref sig .tc) := {main_v7_0, main_v7_1, main_v7_2}
theorem H0_sub : H0 ⊆ Pipeline.restRefs sig spec0 := by decide
theorem R0_sub : R0 ⊆ Pipeline.restRefs sig spec0 \ H0 := by decide

theorem ownSems0_list (c : Dev nD) :
    (Pipeline.ownSems0 (Ix := Unit) (Name := ℕ) (U := Pipeline.UD sig nD τ) (Lvl := ℕ) (Val := Elt F) (τ := τ) osem0 c : sProp (𝕄 F))
      = iprop(cell0 c (msem 0) ∗ cell0 c (msem 1) ∗ cell0 c (osem 0) ∗ cell0 c (osem 1) ∗ cell0 c (csem 0) ∗ cell0 c (csem 1)
        ∗ cell0 c cc0_scratch11 ∗ semVal ((c : Thread nD τ), osem0 7) 0 ∗ semVal ((c : Thread nD τ), osem0 8) 0 ∗ semVal ((c : Thread nD τ), osem0 9) 0
        ∗ semVal ((c : Thread nD τ), osem0 10) 0 ∗ semVal ((c : Thread nD τ), osem0 11) 0 ∗ semVal ((c : Thread nD τ), osem0 12) 0
        ∗ semVal ((c : Thread nD τ), osem0 13) 0 ∗ cell0 c xsem) := by
  rw [Pipeline.ownSems0_eq_of_list c osem0 [0, 1, 2, 3, 4, 5, 6, 7, 8, 9, 10, 11, 12, 13, 14] (by decide) (by decide)]; rfl

theorem H0_list (c : Dev nD) (Y : (b : Ref sig .tc) → Buf (Elt F) ((c.tc : Thread nD τ).loc b)) :
    (bigSep H0 (fun b => ((c.tc : Thread nD τ).loc b) ↦{fullShare} Y b) : sProp (𝕄 F))
      = iprop(mgH.view.loc (c : Thread nD τ) ↦[Finset.univ]{fullShare} Y main_v6) := by
  rw [BI.bigSep_eq_bigSepL_of_eq [main_v6] (by decide) (by decide)]; rfl
theorem R0_list (c : Dev nD) (Y : (b : Ref sig .tc) → Buf (Elt F) ((c.tc : Thread nD τ).loc b)) :
    (bigSep R0 (fun b => ((c.tc : Thread nD τ).loc b) ↦{fullShare} Y b) : sProp (𝕄 F))
      = iprop((outH.view.loc (c : Thread nD τ) ↦[Finset.univ]{fullShare} Y main_v7_0) ∗ (codH.view.loc (c : Thread nD τ) ↦[Finset.univ]{fullShare} Y main_v7_1)
        ∗ (sbH.view.loc (c : Thread nD τ) ↦[Finset.univ]{fullShare} Y main_v7_2)) := by
  rw [BI.bigSep_eq_bigSepL_of_eq [main_v7_0, main_v7_1, main_v7_2] (by decide) (by decide)]; rfl

/-- A whole buffer, held, is its reference's points-to. -/
theorem hold_whole (c : Dev nD) {sp : Space} {s : Shape} {e : EltTy} (M : Memref sig .tc sp s e) (hM : M.IsWhole) (f : Buf (Elt F) (M.view.loc (c : Thread nD τ))) :
    (hold c M f : sProp (𝕄 F)) = iprop(M.view.loc (c : Thread nD τ) ↦[Finset.univ]{fullShare} f) := by
  exact congrArg (fun S => (iprop(M.view.loc (c : Thread nD τ) ↦[S]{fullShare} f) : sProp (𝕄 F))) hM.set_eq_univ

/-- What the kernel holds beside the windows and waits, its own arrays at contents `Y`. -/
theorem rest_eq (c : Dev nD) (Y : (c : Dev nD) → (b : Ref sig .tc) → Buf (Elt F) ((c.tc : Thread nD τ).loc b)) :
    (Pipeline.ΦDRV osem0 spec0 H0 R0 (V m) Y c : sProp (𝕄 F))
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
        ∗ (cell0 c (msem 0) ∗ cell0 c (msem 1) ∗ cell0 c (osem 0) ∗ cell0 c (osem 1) ∗ cell0 c (csem 0) ∗ cell0 c (csem 1)
        ∗ cell0 c cc0_scratch11 ∗ semVal ((c : Thread nD τ), osem0 7) 0 ∗ semVal ((c : Thread nD τ), osem0 8) 0 ∗ semVal ((c : Thread nD τ), osem0 9) 0
        ∗ semVal ((c : Thread nD τ), osem0 10) 0 ∗ semVal ((c : Thread nD τ), osem0 11) 0 ∗ semVal ((c : Thread nD τ), osem0 12) 0
        ∗ semVal ((c : Thread nD τ), osem0 13) 0 ∗ cell0 c xsem)
        ∗ (mgH.view.loc (c : Thread nD τ) ↦[Finset.univ]{fullShare} V m c main_v6)
        ∗ ((outH.view.loc (c : Thread nD τ) ↦[Finset.univ]{fullShare} Y c main_v7_0) ∗ (codH.view.loc (c : Thread nD τ) ↦[Finset.univ]{fullShare} Y c main_v7_1)
        ∗ (sbH.view.loc (c : Thread nD τ) ↦[Finset.univ]{fullShare} Y c main_v7_2))) := by
  unfold Pipeline.ΦDRV
  rw [scopedRest0_eq, ownSems0_list, H0_list, R0_list]

/-- A scratch buffer held whole, as its memref's elements. -/
theorem any_whole (c : Dev nD) {sp : Space} {s : Shape} {e : EltTy} (M : Memref sig .tc sp s e) (hM : M.IsWhole) :
    (iprop(∃ f : Buf (Elt F) (M.view.loc (c : Thread nD τ)), hold c M f) : sProp (𝕄 F)) = iprop(∃ f : Buf (Elt F) (M.view.loc (c : Thread nD τ)), M.view.loc (c : Thread nD τ) ↦[Finset.univ]{fullShare} f) := by
  exact congrArg (fun S => (iprop(∃ f : Buf (Elt F) (M.view.loc (c : Thread nD τ)), M.view.loc (c : Thread nD τ) ↦[S]{fullShare} f) : sProp (𝕄 F))) hM.set_eq_univ

/-- The kernel's own arrays at a time: before the one grid point, and after it. -/
def Yat (t : ℕ) : (c : Dev nD) → (b : Ref sig .tc) → Buf (Elt F) ((c.tc : Thread nD τ).loc b) := if t = 0 then V m else Gres m

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRV osem0 spec0 H0 R0 (V m) (Yat m t.val) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body is given. -/
def bodyPre (c : Dev nD) (t : Fin cfg0.N) : sProp (𝕄 F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
/-- What the body leaves. -/
def bodyPost (c : Dev nD) (t : Fin cfg0.N) : sProp (𝕄 F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- A window held whole at contents `X`. -/
theorem owns_unread (c : Dev nD) {sp : Space} {s : Shape} {e : EltTy} (M : Memref sig .tc sp s e) (hM : M.IsWhole) (X : s.Idx → Elt F e) :
    (owns (c : Thread nD τ) M fullShare X : sProp (𝕄 F)) ⊢ hold c M (hM.unread X) := by
  unfold owns
  iintro ⟨%f, %h, H⟩
  iapply (Entails.of_eq (hold_congr c M f (hM.unread X) (fun x => (congrFun h x).trans (congrFun (hM.read_unread X) x).symm)))
  iexact H
theorem unread_owns (c : Dev nD) {sp : Space} {s : Shape} {e : EltTy} (M : Memref sig .tc sp s e) (hM : M.IsWhole) (X : s.Idx → Elt F e) :
    (hold c M (hM.unread X) : sProp (𝕄 F)) ⊢ owns (c : Thread nD τ) M fullShare X := by
  unfold owns
  iintro H
  iexists _; isplitr; swap; · iexact H
  ipureintro; exact hM.read_unread X

/-- Window 0, before the body, held at its block. -/
theorem beforeH0 (c : Dev nD) (d) : (owns (c : Thread nD τ) (win0_0.stage (cfg0.slots t0_0 0)) fullShare ((dats m 0 c).before 0 t0_0 d) : sProp (𝕄 F))
    ⊢ hold c (win0_0.stage (cfg0.slots t0_0 0)) ((hstage0_0 0).unread (inR m c t0_0)) := by
  rw [before0]
  exact owns_unread c _ (hstage0_0 0) (inR m c t0_0)
/-- Window 1, before the body, held at its block. -/
theorem beforeH1 (c : Dev nD) (d) : (owns (c : Thread nD τ) (win0_1.stage (cfg0.slots t0_0 1)) fullShare ((dats m 0 c).before 1 t0_0 d) : sProp (𝕄 F))
    ⊢ hold c (win0_1.stage (cfg0.slots t0_0 1)) ((hstage0_1 0).unread (inA m c t0_0)) := by
  rw [before1]
  exact owns_unread c _ (hstage0_1 0) (inA m c t0_0)
/-- Window 2, before the body, held at its block. -/
theorem beforeH2 (c : Dev nD) (d) : (owns (c : Thread nD τ) (win0_2.stage (cfg0.slots t0_0 2)) fullShare ((dats m 0 c).before 2 t0_0 d) : sProp (𝕄 F))
    ⊢ hold c (win0_2.stage (cfg0.slots t0_0 2)) ((hstage0_2 0).unread (inX m c t0_0)) := by
  rw [before2]
  exact owns_unread c _ (hstage0_2 0) (inX m c t0_0)
/-- Window 3, before the body, held at its block. -/
theorem beforeH3 (c : Dev nD) (d) : (owns (c : Thread nD τ) (win0_3.stage (cfg0.slots t0_0 3)) fullShare ((dats m 0 c).before 3 t0_0 d) : sProp (𝕄 F))
    ⊢ hold c (win0_3.stage (cfg0.slots t0_0 3)) ((hstage0_3 0).unread (inG1 m c t0_0)) := by
  rw [before3]
  exact owns_unread c _ (hstage0_3 0) (inG1 m c t0_0)
/-- Window 4, before the body, held at its block. -/
theorem beforeH4 (c : Dev nD) (d) : (owns (c : Thread nD τ) (win0_4.stage (cfg0.slots t0_0 4)) fullShare ((dats m 0 c).before 4 t0_0 d) : sProp (𝕄 F))
    ⊢ hold c (win0_4.stage (cfg0.slots t0_0 4)) ((hstage0_4 0).unread (inG0 m c t0_0)) := by
  rw [before4]
  exact owns_unread c _ (hstage0_4 0) (inG0 m c t0_0)

set_option maxHeartbeats 4000000 in
/-- The body at the grid point. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0 m c t0_0, after1 m c t0_0, after2 m c t0_0, after3 m c t0_0, after4 m c t0_0]
  rw [show (dats m 0 c).Φ t0_0.castSucc = Pipeline.ΦDRV osem0 spec0 H0 R0 (V m) (V m) c from rfl,
    show (dats m 0 c).Φ t0_0.succ = Pipeline.ΦDRV osem0 spec0 H0 R0 (V m) (Gres m) c from rfl, rest_eq, rest_eq, Gres_0, Gres_1, Gres_2]
  unfold Dat.owesAt Pipeline.owesWithin
  rw [show (dats m 0 c).owed t0_0.castSucc = 0 from rfl, show (dats m 0 c).owed t0_0.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, ⟨Q0, Q1, Q2, Q3, Q4, Q5, Q6, U0, U1, U2, U3, U4, U5, U6, Q7⟩, MH, ⟨OH, CH, SH⟩⟩, ⟨%W, -, HW⟩,
    ⟨%d0, W0⟩, ⟨%d1, W1⟩, ⟨%d2, W2⟩, ⟨%d3, W3⟩, ⟨%d4, W4⟩⟩
  ihave W0 := (beforeH0 m c d0) $$ W0
  ihave W1 := (beforeH1 m c d1) $$ W1
  ihave W2 := (beforeH2 m c d2) $$ W2
  ihave W3 := (beforeH3 m c d3) $$ W3
  ihave W4 := (beforeH4 m c d4) $$ W4
  iapply (bodyRun c _ _ _ _ _ _ _ _ _ _ (inR m c t0_0) (inA m c t0_0) (inX m c t0_0) (inG0 m c t0_0) (inG1 m c t0_0) (inM m c) Variants.none (V m c main_v7_0) (V m c main_v7_1) _)
  isplitl [S0 S1 S2 S3 S4 S5 S6 S7 Q0 Q1 Q2 Q3 Q4 Q5 Q6 Q7 MH OH CH SH HW W0 W1 W2 W3 W4]
  · isplitl [W0 W1 W2 W3 W4]
    · isplitl [W0 W1 W2]
      · isplitl [W0]; · iexact W0
        isplitl [W1]; · iexact W1
        iexact W2
      isplitl [W3]; · iexact W3
      iexact W4
    isplitl [S0 S1 S2 S3 S4 S5 S6 S7]
    · isplitl [S0 S1 S3 S5]
      · isplitl [S0]; · iexists s0; iapply (Entails.of_eq (hold_whole c invB (Memref.isWhole_whole _) s0).symm); iexact S0
        isplitl [S1]; · iexists s1; iapply (Entails.of_eq (hold_whole c sbwB (Memref.isWhole_whole _) s1).symm); iexact S1
        isplitl [S3]; · iexists s3; iapply (Entails.of_eq (hold_whole c ctB (Memref.isWhole_whole _) s3).symm); iexact S3
        iexists s5; iapply (Entails.of_eq (hold_whole c dqB (Memref.isWhole_whole _) s5).symm); iexact S5
      isplitl [S2]; · iexists s2; iapply (Entails.of_eq (hold_whole c sbB (Memref.isWhole_whole _) s2).symm); iexact S2
      isplitl [S6]; · iexists s6; iexact S6
      isplitl [S7]; · iexists s7; iexact S7
      iexists s4; iexact S4
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [MH]; · iexact MH
    isplitl [OH]; · iexact OH
    isplitl [CH]; · iexact CH
    isplitl [SH]; · iexists (V m c main_v7_2); iapply (Entails.of_eq (hold_whole c sbH (Memref.isWhole_whole _) (V m c main_v7_2)).symm); iexact SH
    iexists W; iexact HW
  iintro ⟨⟨⟨W0, W1, W2⟩, W3, W4⟩, ⟨⟨S0, S1, S3, S5⟩, S2, S6, S7, S4⟩, ⟨Q0, Q1, Q2, Q3, Q4, Q5, Q6, Q7⟩, MH, OH, CH, SH, ⟨%W', HW'⟩⟩
  isplitl [S0 S1 S2 S3 S4 S5 S6 S7 Q0 Q1 Q2 Q3 Q4 Q5 Q6 Q7 MH OH CH SH U0 U1 U2 U3 U4 U5 U6]
  · isplitl [S0 S1 S2 S3 S4 S5 S6 S7]
    · isplitl [S0]; · iapply (Entails.of_eq (any_whole c invB (Memref.isWhole_whole _))); iexact S0
      isplitl [S1]; · iapply (Entails.of_eq (any_whole c sbwB (Memref.isWhole_whole _))); iexact S1
      isplitl [S2]; · iapply (Entails.of_eq (any_whole c sbB (Memref.isWhole_whole _))); iexact S2
      isplitl [S3]; · iapply (Entails.of_eq (any_whole c ctB (Memref.isWhole_whole _))); iexact S3
      isplitl [S4]; · iexact S4
      isplitl [S5]; · iapply (Entails.of_eq (any_whole c dqB (Memref.isWhole_whole _))); iexact S5
      isplitl [S6]; · iexact S6
      iexact S7
    isplitl [Q0 Q1 Q2 Q3 Q4 Q5 Q6 Q7 U0 U1 U2 U3 U4 U5 U6]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [U0]; · iexact U0
      isplitl [U1]; · iexact U1
      isplitl [U2]; · iexact U2
      isplitl [U3]; · iexact U3
      isplitl [U4]; · iexact U4
      isplitl [U5]; · iexact U5
      isplitl [U6]; · iexact U6
      iexact Q7
    isplitl [MH]; · iexact MH
    isplitl [OH]; · iexact OH
    isplitl [CH]; · iexact CH
    iapply (Entails.of_eq (hold_whole c sbH (Memref.isWhole_whole _) (GsbH (inA m c t0_0) (inG0 m c t0_0)))); iexact SH
  isplitl [HW']
  · iexists W'; isplitr; · ipureintro; exact fun _ _ => Or.inl trivial
    iexact HW'
  isplitl [W0]; · iapply (unread_owns c _ (hstage0_0 0) (inR m c t0_0)); iexact W0
  isplitl [W1]; · iapply (unread_owns c _ (hstage0_1 0) (inA m c t0_0)); iexact W1
  isplitl [W2]; · iapply (unread_owns c _ (hstage0_2 0) (inX m c t0_0)); iexact W2
  isplitl [W3]; · iapply (unread_owns c _ (hstage0_3 0) (inG1 m c t0_0)); iexact W3
  iapply (unread_owns c _ (hstage0_4 0) (inG0 m c t0_0)); iexact W4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What every buffer that is no window's array holds when `@main` ends. -/
abbrev Vend (c : Dev nD) : Valuation τ sig (Elt F) :=
  StableHlo.after ([hostOps1] : List (List (HloOp τ sig (Elt F)))).flatten (Pipeline.withArrays spec0 c (Pipeline.withR (V0 m c) R0 c (Gres m c)) fun w => (dats m 0 c).arrAt w (cfgs 0).N)

set_option backward.isDefEq.respectTransparency.types false in
theorem run_main : θ_run defs (onTc (τ := τ) (main (F := F))) (s₀ m ρ) (fun r => (∀ c : Dev nD, (∀ w, r.2.mem ((spec0 w).arr.view.loc (c.tc : Thread nD τ)) = (dats m 0 c).arrAt w (cfgs 0).N)
      ∧ ∀ b ∈ Pipeline.restRefs sig spec0, r.2.mem ((c.tc : Thread nD τ).loc b) = Vend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gres m) (hmain := hmainD m Variants.none) (hA := A_eq m)
    (hin := fun _ => .rfl) (hout := fun _ => .rfl) (hQ' := fun _ h => ⟨fun c => ⟨(h.1 c).1, (h.1 c).2⟩, h.2⟩)

/-- A buffer that neither the kernel nor the lines after it write ends as the kernel found it. -/
theorem Vend_keep (c : Dev nD) (b : Ref sig .tc) (h : (hostOps1 : List (HloOp τ sig (Elt F))).Forall fun op => Proc.devRef .tc b ∉ op.writes)
    (hw : ∀ w, Pipeline.arrRef spec0 w ≠ b) (hr : b ∉ R0) : Vend m c (Proc.devRef .tc b) = V m c b := by
  unfold Vend
  rw [StableHlo.after_of_forall_not_mem (b := Proc.devRef .tc b) _ _ (List.forall_iff_forall_mem.mp (by simpa only [List.flatten_cons, List.flatten_nil, List.append_nil] using h)),
    Pipeline.withArrays_of_ne _ c _ _ b hw, Pipeline.withR_of_not_mem _ _ _ _ _ hr]
theorem end_arg0 (c : Dev nD) : Vend m c (Proc.devRef .tc main_arg0) = m ((c : Thread nD τ).loc main_arg0) :=
  (Vend_keep m c main_arg0 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg0)) (by decide)).trans (V_main_arg0 m c)
theorem end_arg1 (c : Dev nD) : Vend m c (Proc.devRef .tc main_arg1) = m ((c : Thread nD τ).loc main_arg1) :=
  (Vend_keep m c main_arg1 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg1)) (by decide)).trans (V_main_arg1 m c)
theorem end_arg2 (c : Dev nD) : Vend m c (Proc.devRef .tc main_arg2) = m ((c : Thread nD τ).loc main_arg2) :=
  (Vend_keep m c main_arg2 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg2)) (by decide)).trans (V_main_arg2 m c)
theorem end_arg5 (c : Dev nD) : Vend m c (Proc.devRef .tc main_arg5) = m ((c : Thread nD τ).loc main_arg5) :=
  (Vend_keep m c main_arg5 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg5)) (by decide)).trans (V_main_arg5 m c)

/-- THE FRAME: `@main` runs, its arguments end unchanged, every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (end_arg0 m c),
    ((h.1 c).2 main_arg1 (Pipeline.mem_restRefs_of main_arg1 (by decide) (by decide))).trans (end_arg1 m c),
    ((h.1 c).2 main_arg2 (Pipeline.mem_restRefs_of main_arg2 (by decide) (by decide))).trans (end_arg2 m c),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).2 main_arg5 (Pipeline.mem_restRefs_of main_arg5 (by decide) (by decide))).trans (end_arg5 m c)⟩, h.2⟩) (run_main m ρ)

end Cert.Kernel.Run
end
-- ==== Proof.KernelIdeal.Names.lean ====
/-
  Canonical names for what the kernel's copies move: the two slots of each ring, the row blocks of the arrays in HBM,
  and the semaphores of the rings, with the equations that read the program's slices as these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers and arrays -/

abbrev mgH : Memref sig .tc .hbm S4304x1152 .f32 := Memref.whole main_v6
abbrev outH : Memref sig .tc .hbm S4304x1152 .f32 := Memref.whole main_v7_0
abbrev codH : Memref sig .tc .hbm S4304x768 .i8 := Memref.whole main_v7_1
abbrev sbH : Memref sig .tc .hbm S96x4304 .fp8e4m3 := Memref.whole main_v7_2
abbrev invB : Memref sig .tc .vmem S2x96x128 .f32 := Memref.whole cc0_scratch0
abbrev sbwB : Memref sig .tc .vmem S2x96x128 .f32 := Memref.whole cc0_scratch1
abbrev sbB : Memref sig .tc .vmem S96x4352 .fp8e4m3 := Memref.whole cc0_scratch2
abbrev ctB : Memref sig .tc .vmem S768x128 .i8 := Memref.whole cc0_scratch3
abbrev codB : Memref sig .tc .vmem S2x256x768 .i8 := Memref.whole cc0_scratch4
abbrev dqB : Memref sig .tc .vmem S1536x256 .bf16 := Memref.whole cc0_scratch5
abbrev mgB : Memref sig .tc .vmem S2x256x1152 .f32 := Memref.whole cc0_scratch6
abbrev outB : Memref sig .tc .vmem S2x256x1152 .f32 := Memref.whole cc0_scratch7

/-! ## Offsets -/

abbrev slotOff (s : Fin 2) : Fin 3 → Nat := ![s.val, 0, 0]
abbrev semOff (s : Fin 2) : Fin 1 → Nat := ![s.val]
abbrev blkOff (b : Fin 16) : Fin 2 → Nat := ![256 * b.val, 0]

theorem slotOff_inb (s : Fin 2) : ∀ a, slotOff s a + S1x256x1152.size a ≤ S2x256x1152.size a := by revert s; decide
theorem slotOff_inbT (s : Fin 2) : ∀ a, slotOff s a + S1x208x1152.size a ≤ S2x256x1152.size a := by revert s; decide
theorem cslotOff_inb (s : Fin 2) : ∀ a, slotOff s a + S1x256x768.size a ≤ S2x256x768.size a := by revert s; decide
theorem cslotOff_inbT (s : Fin 2) : ∀ a, slotOff s a + S1x208x768.size a ≤ S2x256x768.size a := by revert s; decide
theorem semOff_inb (s : Fin 2) : ∀ a, semOff s a + S1.size a ≤ S2.size a := by revert s; decide
theorem blkOff_inb (b : Fin 16) : ∀ a, blkOff b a + S256x1152.size a ≤ S4304x1152.size a := by revert b; decide
theorem cblkOff_inb (b : Fin 16) : ∀ a, blkOff b a + S256x768.size a ≤ S4304x768.size a := by revert b; decide
theorem tailOff_inb : ∀ a, (![4096, 0] : Fin 2 → Nat) a + S208x1152.size a ≤ S4304x1152.size a := by decide
theorem ctailOff_inb : ∀ a, (![4096, 0] : Fin 2 → Nat) a + S208x768.size a ≤ S4304x768.size a := by decide

instance (s : Fin 2) : ClosedOff (slotOff s) := ⟨slotOff s, rfl⟩
instance (b : Fin 16) : ClosedOff (blkOff b) := ⟨blkOff b, rfl⟩

/-! ## Slots, blocks, cells -/

/-- Slot `s` of the main gradient's ring. -/
def mslot (s : Fin 2) : Memref sig .tc .vmem S256x1152 .f32 :=
  (mgB.slice (Rect.unit (s := S2x256x1152) (slotOff s) S1x256x1152.size (slotOff_inb s)) (fun _ => rfl)).squeeze S256x1152 squeezes_S1x256x1152_S256x1152
/-- Its first 208 rows, for the last tile. -/
def mslotT (s : Fin 2) : Memref sig .tc .vmem S208x1152 .f32 :=
  (mgB.slice (Rect.unit (s := S2x256x1152) (slotOff s) S1x208x1152.size (slotOff_inbT s)) (fun _ => rfl)).squeeze S208x1152 squeezes_S1x208x1152_S208x1152
/-- Block `b` of the main gradient: rows `256 b` to `256 b + 255`. -/
def mblk (b : Fin 16) : Memref sig .tc .hbm S256x1152 .f32 :=
  mgH.slice (Rect.unit (s := S4304x1152) (blkOff b) S256x1152.size (blkOff_inb b)) (fun _ => rfl)
/-- Its last 208 rows. -/
def mblkT : Memref sig .tc .hbm S208x1152 .f32 :=
  mgH.slice (Rect.unit (s := S4304x1152) ![4096, 0] S208x1152.size tailOff_inb) (fun _ => rfl)
/-- Slot `s` of the result's ring. -/
def oslot (s : Fin 2) : Memref sig .tc .vmem S256x1152 .f32 :=
  (outB.slice (Rect.unit (s := S2x256x1152) (slotOff s) S1x256x1152.size (slotOff_inb s)) (fun _ => rfl)).squeeze S256x1152 squeezes_S1x256x1152_S256x1152
def oslotT (s : Fin 2) : Memref sig .tc .vmem S208x1152 .f32 :=
  (outB.slice (Rect.unit (s := S2x256x1152) (slotOff s) S1x208x1152.size (slotOff_inbT s)) (fun _ => rfl)).squeeze S208x1152 squeezes_S1x208x1152_S208x1152
def oblk (b : Fin 16) : Memref sig .tc .hbm S256x1152 .f32 :=
  outH.slice (Rect.unit (s := S4304x1152) (blkOff b) S256x1152.size (blkOff_inb b)) (fun _ => rfl)
def oblkT : Memref sig .tc .hbm S208x1152 .f32 :=
  outH.slice (Rect.unit (s := S4304x1152) ![4096, 0] S208x1152.size tailOff_inb) (fun _ => rfl)
/-- Slot `s` of the codes' ring. -/
def cslot (s : Fin 2) : Memref sig .tc .vmem S256x768 .i8 :=
  (codB.slice (Rect.unit (s := S2x256x768) (slotOff s) S1x256x768.size (cslotOff_inb s)) (fun _ => rfl)).squeeze S256x768 squeezes_S1x256x768_S256x768
def cslotT (s : Fin 2) : Memref sig .tc .vmem S208x768 .i8 :=
  (codB.slice (Rect.unit (s := S2x256x768) (slotOff s) S1x208x768.size (cslotOff_inbT s)) (fun _ => rfl)).squeeze S208x768 squeezes_S1x208x768_S208x768
def cblk (b : Fin 16) : Memref sig .tc .hbm S256x768 .i8 :=
  codH.slice (Rect.unit (s := S4304x768) (blkOff b) S256x768.size (cblkOff_inb b)) (fun _ => rfl)
def cblkT : Memref sig .tc .hbm S208x768 .i8 :=
  codH.slice (Rect.unit (s := S4304x768) ![4096, 0] S208x768.size ctailOff_inb) (fun _ => rfl)

/-- The semaphores of the three rings. -/
def msem (s : Fin 2) : DmaSems sig S_ := (cc0_scratch8.slice (Rect.unit (s := S2) (semOff s) S1.size (semOff_inb s))).squeeze S_ squeezes_S1_S_
def osem (s : Fin 2) : DmaSems sig S_ := (cc0_scratch9.slice (Rect.unit (s := S2) (semOff s) S1.size (semOff_inb s))).squeeze S_ squeezes_S1_S_
def csem (s : Fin 2) : DmaSems sig S_ := (cc0_scratch10.slice (Rect.unit (s := S2) (semOff s) S1.size (semOff_inb s))).squeeze S_ squeezes_S1_S_

/-! ## The program's offsets in closed form -/

theorem trips_eq : k0_t1_loop.trips = 17 := by decide

section Offsets
variable (k : Fin k0_t1_loop.trips)

theorem off1_eq : k0_off1 k = semOff (Ring.sl 2 (k.val + 1)) := by revert k; decide +kernel
theorem off2_eq : k0_off2 k = slotOff (Ring.sl 2 (k.val + 1)) := by revert k; decide +kernel
theorem off3_eq (h : k.val + 1 < 16) : k0_off3 k = blkOff (Ring.bk 16 (k.val + 1)) := by revert k; decide +kernel
theorem off4_eq : k0_off4 k = semOff (Ring.sl 2 (k.val + 1)) := by revert k; decide +kernel
theorem off5_eq : k0_off5 k = slotOff (Ring.sl 2 (k.val + 1)) := by revert k; decide +kernel
theorem off6_eq (h : k.val = 15) : k0_off6 k = ![4096, 0] := by revert k; decide +kernel
theorem off7_eq : k0_off7 k = semOff (Ring.sl 2 k.val) := by revert k; decide +kernel
theorem off8_eq (h : 2 ≤ k.val) : k0_off8 k = blkOff (Ring.bk 16 (k.val - 2)) := by revert k; decide +kernel
theorem off9_eq : k0_off9 k = slotOff (Ring.sl 2 k.val) := by revert k; decide +kernel
theorem off10_eq (h : 2 ≤ k.val) : k0_off10 k = blkOff (Ring.bk 16 (k.val - 2)) := by revert k; decide +kernel
theorem off11_eq : k0_off11 k = slotOff (Ring.sl 2 k.val) := by revert k; decide +kernel
theorem off12_eq0 : k0_off12 k 0#32 = ![0, 256 * k.val] := by revert k; decide +kernel
theorem off12_eq1 : k0_off12 k 128#32 = ![0, 256 * k.val + 128] := by revert k; decide +kernel
theorem off17_eq : k0_off17 k = ![(Ring.sl 2 k.val).val, 0, 0] := by revert k; decide +kernel
theorem off22_eq : k0_off22 k = ![(Ring.sl 2 k.val).val, 128, 0] := by revert k; decide +kernel
theorem off23_eq : k0_off23 k = semOff (Ring.sl 2 k.val) := by revert k; decide +kernel
theorem off24_eq : k0_off24 k = slotOff (Ring.sl 2 k.val) := by revert k; decide +kernel
theorem off25_eq (h : k.val < 16) : k0_off25 k = blkOff (Ring.bk 16 k.val) := by revert k; decide +kernel
theorem off26_eq : k0_off26 k = semOff (Ring.sl 2 k.val) := by revert k; decide +kernel
theorem off27_eq : k0_off27 k = slotOff (Ring.sl 2 k.val) := by revert k; decide +kernel
theorem off28_eq (h : k.val = 16) : k0_off28 k = ![4096, 0] := by revert k; decide +kernel
theorem off29_eq : k0_off29 k = slotOff (Ring.sl 2 k.val) := by revert k; decide +kernel
theorem off30_eq : k0_off30 k = semOff (Ring.sl 2 k.val) := by revert k; decide +kernel
theorem off31_eq (h : k.val < 16) : k0_off31 k = blkOff (Ring.bk 16 k.val) := by revert k; decide +kernel
theorem off32_eq : k0_off32 k = slotOff (Ring.sl 2 k.val) := by revert k; decide +kernel
theorem off33_eq (h : k.val < 16) : k0_off33 k = blkOff (Ring.bk 16 k.val) := by revert k; decide +kernel
theorem off34_eq : k0_off34 k = slotOff (Ring.sl 2 k.val) := by revert k; decide +kernel
theorem off35_eq : k0_off35 k = semOff (Ring.sl 2 k.val) := by revert k; decide +kernel
theorem off36_eq (h : k.val = 16) : k0_off36 k = ![4096, 0] := by revert k; decide +kernel
theorem off37_eq : k0_off37 k = slotOff (Ring.sl 2 k.val) := by revert k; decide +kernel
theorem off38_eq (h : k.val = 16) : k0_off38 k = ![4096, 0] := by revert k; decide +kernel
theorem off39_eq : k0_off39 k = slotOff (Ring.sl 2 k.val) := by revert k; decide +kernel

instance : ClosedOff (k0_off17 k) := ⟨_, off17_eq k⟩
instance : ClosedOff (k0_off22 k) := ⟨_, off22_eq k⟩
instance : ClosedOff (k0_off29 k) := ⟨_, off29_eq k⟩

/-! ## The conditions of the trip -/

theorem cond1_pos (h : k.val < 16) : k0_cond1 k = 1#1 := by revert k; decide +kernel
theorem cond1_neg (h : k.val = 16) : ¬ k0_cond1 k = 1#1 := by revert k; decide +kernel
theorem cond2_pos (h : k.val < 15) : k0_cond2 k = 1#1 := by revert k; decide +kernel
theorem cond2_neg (h : k.val = 15) : ¬ k0_cond2 k = 1#1 := by revert k; decide +kernel
theorem cond3_pos (h : k.val = 15) : k0_cond3 k = 1#1 := by revert k; decide +kernel
theorem cond3_neg (h : k.val < 15) : ¬ k0_cond3 k = 1#1 := by revert k; decide +kernel
theorem cond4_pos (h : 2 ≤ k.val) : k0_cond4 k = 1#1 := by revert k; decide +kernel
theorem cond4_neg (h : k.val < 2) : ¬ k0_cond4 k = 1#1 := by revert k; decide +kernel
theorem cond5_pos (h : k.val < 16) : k0_cond5 k = 1#1 := by revert k; decide +kernel
theorem cond5_neg (h : k.val = 16) : ¬ k0_cond5 k = 1#1 := by revert k; decide +kernel
theorem cond6_pos (h : k.val = 16) : k0_cond6 k = 1#1 := by revert k; decide +kernel
theorem cond6_neg (h : k.val < 16) : ¬ k0_cond6 k = 1#1 := by revert k; decide +kernel
theorem cond7_pos (h : k.val < 16) : k0_cond7 k = 1#1 := by revert k; decide +kernel
theorem cond7_neg (h : k.val = 16) : ¬ k0_cond7 k = 1#1 := by revert k; decide +kernel
theorem cond8_pos (h : k.val = 16) : k0_cond8 k = 1#1 := by revert k; decide +kernel
theorem cond8_neg (h : k.val < 16) : ¬ k0_cond8 k = 1#1 := by revert k; decide +kernel

end Offsets

/-! ## The program's slices under their names -/

section Canon
variable (k : Fin k0_t1_loop.trips)

private theorem msem_congr {off : Fin 1 → Nat} {s : Fin 2} (e : off = semOff s) (hh) :
    (cc0_scratch8.slice (Rect.unit (s := S2) off S1.size hh)).squeeze S_ squeezes_S1_S_ = msem s :=
  congrArg (fun A : DmaSems sig S1 => A.squeeze S_ squeezes_S1_S_) (SemArray.slice_unit_congr _ e _ _)
private theorem osem_congr {off : Fin 1 → Nat} {s : Fin 2} (e : off = semOff s) (hh) :
    (cc0_scratch9.slice (Rect.unit (s := S2) off S1.size hh)).squeeze S_ squeezes_S1_S_ = osem s :=
  congrArg (fun A : DmaSems sig S1 => A.squeeze S_ squeezes_S1_S_) (SemArray.slice_unit_congr _ e _ _)
private theorem csem_congr {off : Fin 1 → Nat} {s : Fin 2} (e : off = semOff s) (hh) :
    (cc0_scratch10.slice (Rect.unit (s := S2) off S1.size hh)).squeeze S_ squeezes_S1_S_ = csem s :=
  congrArg (fun A : DmaSems sig S1 => A.squeeze S_ squeezes_S1_S_) (SemArray.slice_unit_congr _ e _ _)
private theorem mslot_congr {off : Fin 3 → Nat} {s : Fin 2} (e : off = slotOff s) (hh hs) :
    (mgB.slice (Rect.unit (s := S2x256x1152) off S1x256x1152.size hh) hs).squeeze S256x1152 squeezes_S1x256x1152_S256x1152 = mslot s :=
  congrArg (fun M : Memref sig .tc .vmem S1x256x1152 .f32 => M.squeeze S256x1152 squeezes_S1x256x1152_S256x1152) (Memref.slice_unit_congr _ e _ _ _ _)
private theorem mslotT_congr {off : Fin 3 → Nat} {s : Fin 2} (e : off = slotOff s) (hh hs) :
    (mgB.slice (Rect.unit (s := S2x256x1152) off S1x208x1152.size hh) hs).squeeze S208x1152 squeezes_S1x208x1152_S208x1152 = mslotT s :=
  congrArg (fun M : Memref sig .tc .vmem S1x208x1152 .f32 => M.squeeze S208x1152 squeezes_S1x208x1152_S208x1152) (Memref.slice_unit_congr _ e _ _ _ _)
private theorem oslot_congr {off : Fin 3 → Nat} {s : Fin 2} (e : off = slotOff s) (hh hs) :
    (outB.slice (Rect.unit (s := S2x256x1152) off S1x256x1152.size hh) hs).squeeze S256x1152 squeezes_S1x256x1152_S256x1152 = oslot s :=
  congrArg (fun M : Memref sig .tc .vmem S1x256x1152 .f32 => M.squeeze S256x1152 squeezes_S1x256x1152_S256x1152) (Memref.slice_unit_congr _ e _ _ _ _)
private theorem oslotT_congr {off : Fin 3 → Nat} {s : Fin 2} (e : off = slotOff s) (hh hs) :
    (outB.slice (Rect.unit (s := S2x256x1152) off S1x208x1152.size hh) hs).squeeze S208x1152 squeezes_S1x208x1152_S208x1152 = oslotT s :=
  congrArg (fun M : Memref sig .tc .vmem S1x208x1152 .f32 => M.squeeze S208x1152 squeezes_S1x208x1152_S208x1152) (Memref.slice_unit_congr _ e _ _ _ _)
private theorem cslot_congr {off : Fin 3 → Nat} {s : Fin 2} (e : off = slotOff s) (hh hs) :
    (codB.slice (Rect.unit (s := S2x256x768) off S1x256x768.size hh) hs).squeeze S256x768 squeezes_S1x256x768_S256x768 = cslot s :=
  congrArg (fun M : Memref sig .tc .vmem S1x256x768 .i8 => M.squeeze S256x768 squeezes_S1x256x768_S256x768) (Memref.slice_unit_congr _ e _ _ _ _)
private theorem cslotT_congr {off : Fin 3 → Nat} {s : Fin 2} (e : off = slotOff s) (hh hs) :
    (codB.slice (Rect.unit (s := S2x256x768) off S1x208x768.size hh) hs).squeeze S208x768 squeezes_S1x208x768_S208x768 = cslotT s :=
  congrArg (fun M : Memref sig .tc .vmem S1x208x768 .i8 => M.squeeze S208x768 squeezes_S1x208x768_S208x768) (Memref.slice_unit_congr _ e _ _ _ _)
private theorem mblk_congr {off : Fin 2 → Nat} {b : Fin 16} (e : off = blkOff b) (hh hs) :
    mgH.slice (Rect.unit (s := S4304x1152) off S256x1152.size hh) hs = mblk b := Memref.slice_unit_congr _ e _ _ _ (fun _ => rfl)
private theorem mblkT_congr {off : Fin 2 → Nat} (e : off = ![4096, 0]) (hh hs) :
    mgH.slice (Rect.unit (s := S4304x1152) off S208x1152.size hh) hs = mblkT := Memref.slice_unit_congr _ e _ _ _ (fun _ => rfl)
private theorem oblk_congr {off : Fin 2 → Nat} {b : Fin 16} (e : off = blkOff b) (hh hs) :
    outH.slice (Rect.unit (s := S4304x1152) off S256x1152.size hh) hs = oblk b := Memref.slice_unit_congr _ e _ _ _ (fun _ => rfl)
private theorem oblkT_congr {off : Fin 2 → Nat} (e : off = ![4096, 0]) (hh hs) :
    outH.slice (Rect.unit (s := S4304x1152) off S208x1152.size hh) hs = oblkT := Memref.slice_unit_congr _ e _ _ _ (fun _ => rfl)
private theorem cblk_congr {off : Fin 2 → Nat} {b : Fin 16} (e : off = blkOff b) (hh hs) :
    codH.slice (Rect.unit (s := S4304x768) off S256x768.size hh) hs = cblk b := Memref.slice_unit_congr _ e _ _ _ (fun _ => rfl)
private theorem cblkT_congr {off : Fin 2 → Nat} (e : off = ![4096, 0]) (hh hs) :
    codH.slice (Rect.unit (s := S4304x768) off S208x768.size hh) hs = cblkT := Memref.slice_unit_congr _ e _ _ _ (fun _ => rfl)

-- the main gradient's ring
@[sl_canon] theorem canon_off1 (hh) : (cc0_scratch8.slice (Rect.unit (s := S2) (k0_off1 k) S1.size hh)).squeeze S_ squeezes_S1_S_ = msem (Ring.sl 2 (k.val + 1)) := msem_congr (off1_eq k) _
@[sl_canon] theorem canon_off2 (hh hs) : (mgB.slice (Rect.unit (s := S2x256x1152) (k0_off2 k) S1x256x1152.size hh) hs).squeeze S256x1152 squeezes_S1x256x1152_S256x1152 = mslot (Ring.sl 2 (k.val + 1)) := mslot_congr (off2_eq k) _ _
@[sl_canon] theorem canon_off3 (h : k.val + 1 < 16) (hh hs) : mgH.slice (Rect.unit (s := S4304x1152) (k0_off3 k) S256x1152.size hh) hs = mblk (Ring.bk 16 (k.val + 1)) := mblk_congr (off3_eq k h) _ _
@[sl_canon] theorem canon_off4 (hh) : (cc0_scratch8.slice (Rect.unit (s := S2) (k0_off4 k) S1.size hh)).squeeze S_ squeezes_S1_S_ = msem (Ring.sl 2 (k.val + 1)) := msem_congr (off4_eq k) _
@[sl_canon] theorem canon_off5 (hh hs) : (mgB.slice (Rect.unit (s := S2x256x1152) (k0_off5 k) S1x208x1152.size hh) hs).squeeze S208x1152 squeezes_S1x208x1152_S208x1152 = mslotT (Ring.sl 2 (k.val + 1)) := mslotT_congr (off5_eq k) _ _
@[sl_canon] theorem canon_off6 (h : k.val = 15) (hh hs) : mgH.slice (Rect.unit (s := S4304x1152) (k0_off6 k) S208x1152.size hh) hs = mblkT := mblkT_congr (off6_eq k h) _ _
@[sl_canon] theorem canon_off23 (hh) : (cc0_scratch8.slice (Rect.unit (s := S2) (k0_off23 k) S1.size hh)).squeeze S_ squeezes_S1_S_ = msem (Ring.sl 2 k.val) := msem_congr (off23_eq k) _
@[sl_canon] theorem canon_off24 (hh hs) : (mgB.slice (Rect.unit (s := S2x256x1152) (k0_off24 k) S1x256x1152.size hh) hs).squeeze S256x1152 squeezes_S1x256x1152_S256x1152 = mslot (Ring.sl 2 k.val) := mslot_congr (off24_eq k) _ _
@[sl_canon] theorem canon_off25 (h : k.val < 16) (hh hs) : mgH.slice (Rect.unit (s := S4304x1152) (k0_off25 k) S256x1152.size hh) hs = mblk (Ring.bk 16 k.val) := mblk_congr (off25_eq k h) _ _
@[sl_canon] theorem canon_off26 (hh) : (cc0_scratch8.slice (Rect.unit (s := S2) (k0_off26 k) S1.size hh)).squeeze S_ squeezes_S1_S_ = msem (Ring.sl 2 k.val) := msem_congr (off26_eq k) _
@[sl_canon] theorem canon_off27 (hh hs) : (mgB.slice (Rect.unit (s := S2x256x1152) (k0_off27 k) S1x208x1152.size hh) hs).squeeze S208x1152 squeezes_S1x208x1152_S208x1152 = mslotT (Ring.sl 2 k.val) := mslotT_congr (off27_eq k) _ _
@[sl_canon] theorem canon_off28 (h : k.val = 16) (hh hs) : mgH.slice (Rect.unit (s := S4304x1152) (k0_off28 k) S208x1152.size hh) hs = mblkT := mblkT_congr (off28_eq k h) _ _
-- the result's ring
@[sl_canon] theorem canon_off7o (hh) : (cc0_scratch9.slice (Rect.unit (s := S2) (k0_off7 k) S1.size hh)).squeeze S_ squeezes_S1_S_ = osem (Ring.sl 2 k.val) := osem_congr (off7_eq k) _
@[sl_canon] theorem canon_off8 (h : 2 ≤ k.val) (hh hs) : outH.slice (Rect.unit (s := S4304x1152) (k0_off8 k) S256x1152.size hh) hs = oblk (Ring.bk 16 (k.val - 2)) := oblk_congr (off8_eq k h) _ _
@[sl_canon] theorem canon_off9 (hh hs) : (outB.slice (Rect.unit (s := S2x256x1152) (k0_off9 k) S1x256x1152.size hh) hs).squeeze S256x1152 squeezes_S1x256x1152_S256x1152 = oslot (Ring.sl 2 k.val) := oslot_congr (off9_eq k) _ _
@[sl_canon] theorem canon_off30o (hh) : (cc0_scratch9.slice (Rect.unit (s := S2) (k0_off30 k) S1.size hh)).squeeze S_ squeezes_S1_S_ = osem (Ring.sl 2 k.val) := osem_congr (off30_eq k) _
@[sl_canon] theorem canon_off31 (h : k.val < 16) (hh hs) : outH.slice (Rect.unit (s := S4304x1152) (k0_off31 k) S256x1152.size hh) hs = oblk (Ring.bk 16 k.val) := oblk_congr (off31_eq k h) _ _
@[sl_canon] theorem canon_off32 (hh hs) : (outB.slice (Rect.unit (s := S2x256x1152) (k0_off32 k) S1x256x1152.size hh) hs).squeeze S256x1152 squeezes_S1x256x1152_S256x1152 = oslot (Ring.sl 2 k.val) := oslot_congr (off32_eq k) _ _
@[sl_canon] theorem canon_off35 (hh) : (cc0_scratch9.slice (Rect.unit (s := S2) (k0_off35 k) S1.size hh)).squeeze S_ squeezes_S1_S_ = osem (Ring.sl 2 k.val) := osem_congr (off35_eq k) _
@[sl_canon] theorem canon_off36 (h : k.val = 16) (hh hs) : outH.slice (Rect.unit (s := S4304x1152) (k0_off36 k) S208x1152.size hh) hs = oblkT := oblkT_congr (off36_eq k h) _ _
@[sl_canon] theorem canon_off37 (hh hs) : (outB.slice (Rect.unit (s := S2x256x1152) (k0_off37 k) S1x208x1152.size hh) hs).squeeze S208x1152 squeezes_S1x208x1152_S208x1152 = oslotT (Ring.sl 2 k.val) := oslotT_congr (off37_eq k) _ _
-- the codes' ring
@[sl_canon] theorem canon_off7c (hh) : (cc0_scratch10.slice (Rect.unit (s := S2) (k0_off7 k) S1.size hh)).squeeze S_ squeezes_S1_S_ = csem (Ring.sl 2 k.val) := csem_congr (off7_eq k) _
@[sl_canon] theorem canon_off10 (h : 2 ≤ k.val) (hh hs) : codH.slice (Rect.unit (s := S4304x768) (k0_off10 k) S256x768.size hh) hs = cblk (Ring.bk 16 (k.val - 2)) := cblk_congr (off10_eq k h) _ _
@[sl_canon] theorem canon_off11 (hh hs) : (codB.slice (Rect.unit (s := S2x256x768) (k0_off11 k) S1x256x768.size hh) hs).squeeze S256x768 squeezes_S1x256x768_S256x768 = cslot (Ring.sl 2 k.val) := cslot_congr (off11_eq k) _ _
@[sl_canon] theorem canon_off30c (hh) : (cc0_scratch10.slice (Rect.unit (s := S2) (k0_off30 k) S1.size hh)).squeeze S_ squeezes_S1_S_ = csem (Ring.sl 2 k.val) := csem_congr (off30_eq k) _
@[sl_canon] theorem canon_off33 (h : k.val < 16) (hh hs) : codH.slice (Rect.unit (s := S4304x768) (k0_off33 k) S256x768.size hh) hs = cblk (Ring.bk 16 k.val) := cblk_congr (off33_eq k h) _ _
@[sl_canon] theorem canon_off34 (hh hs) : (codB.slice (Rect.unit (s := S2x256x768) (k0_off34 k) S1x256x768.size hh) hs).squeeze S256x768 squeezes_S1x256x768_S256x768 = cslot (Ring.sl 2 k.val) := cslot_congr (off34_eq k) _ _
@[sl_canon] theorem canon_off38 (h : k.val = 16) (hh hs) : codH.slice (Rect.unit (s := S4304x768) (k0_off38 k) S208x768.size hh) hs = cblkT := cblkT_congr (off38_eq k h) _ _
@[sl_canon] theorem canon_off39 (hh hs) : (codB.slice (Rect.unit (s := S2x256x768) (k0_off39 k) S1x208x768.size hh) hs).squeeze S208x768 squeezes_S1x208x768_S208x768 = cslotT (Ring.sl 2 k.val) := cslotT_congr (off39_eq k) _ _

-- the literal slices before and after the loop
@[sl_canon] theorem canonL_m (hh) : (cc0_scratch8.slice (Rect.unit (s := S2) ![0] S1.size hh)).squeeze S_ squeezes_S1_S_ = msem 0 := msem_congr (by decide) _
@[sl_canon] theorem canonL_ms (hh hs) : (mgB.slice (Rect.unit (s := S2x256x1152) ![0, 0, 0] S1x256x1152.size hh) hs).squeeze S256x1152 squeezes_S1x256x1152_S256x1152 = mslot 0 := mslot_congr (by decide) _ _
@[sl_canon] theorem canonL_mb (hh hs) : mgH.slice (Rect.unit (s := S4304x1152) ![0, 0] S256x1152.size hh) hs = mblk 0 := mblk_congr (by decide) _ _
@[sl_canon] theorem canonL_o0 (hh) : (cc0_scratch9.slice (Rect.unit (s := S2) ![0] S1.size hh)).squeeze S_ squeezes_S1_S_ = osem 0 := osem_congr (by decide) _
@[sl_canon] theorem canonL_o1 (hh) : (cc0_scratch9.slice (Rect.unit (s := S2) ![1] S1.size hh)).squeeze S_ squeezes_S1_S_ = osem 1 := osem_congr (by decide) _
@[sl_canon] theorem canonL_c1 (hh) : (cc0_scratch10.slice (Rect.unit (s := S2) ![1] S1.size hh)).squeeze S_ squeezes_S1_S_ = csem 1 := csem_congr (by decide) _
@[sl_canon] theorem canonL_ob (hh hs) : outH.slice (Rect.unit (s := S4304x1152) ![3840, 0] S256x1152.size hh) hs = oblk 15 := oblk_congr (by decide) _ _
@[sl_canon] theorem canonL_os (hh hs) : (outB.slice (Rect.unit (s := S2x256x1152) ![1, 0, 0] S1x256x1152.size hh) hs).squeeze S256x1152 squeezes_S1x256x1152_S256x1152 = oslot 1 := oslot_congr (by decide) _ _
@[sl_canon] theorem canonL_cb (hh hs) : codH.slice (Rect.unit (s := S4304x768) ![3840, 0] S256x768.size hh) hs = cblk 15 := cblk_congr (by decide) _ _
@[sl_canon] theorem canonL_cs (hh hs) : (codB.slice (Rect.unit (s := S2x256x768) ![1, 0, 0] S1x256x768.size hh) hs).squeeze S256x768 squeezes_S1x256x768_S256x768 = cslot 1 := cslot_congr (by decide) _ _
@[sl_canon] theorem canonL_obT (hh hs) : outH.slice (Rect.unit (s := S4304x1152) ![4096, 0] S208x1152.size hh) hs = oblkT := oblkT_congr rfl _ _
@[sl_canon] theorem canonL_osT (hh hs) : (outB.slice (Rect.unit (s := S2x256x1152) ![0, 0, 0] S1x208x1152.size hh) hs).squeeze S208x1152 squeezes_S1x208x1152_S208x1152 = oslotT 0 := oslotT_congr (by decide) _ _
@[sl_canon] theorem canonL_cbT (hh hs) : codH.slice (Rect.unit (s := S4304x768) ![4096, 0] S208x768.size hh) hs = cblkT := cblkT_congr rfl _ _
@[sl_canon] theorem canonL_csT (hh hs) : (codB.slice (Rect.unit (s := S2x256x768) ![0, 0, 0] S1x208x768.size hh) hs).squeeze S208x768 squeezes_S1x208x768_S208x768 = cslotT 0 := cslotT_congr (by decide) _ _

end Canon

end Cert.KernelIdeal.Run

end
-- ==== Proof.KernelIdeal.Vals.lean ====
/-
  What the kernel computes, as functions of its operands: the block scales, the four-bit codes and the dequantised
  values of a group of four blocks, the tiles assembled from them, and the three results.
-/
module

public import proofs.«01_k».proof.Defs
public import proofs.«01_k».proof.Proof.Gen.KernelIdeal.Skeleton
public import Idealize.ShloMosaic.Lib.ValueIdxCoords
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.ValueIdx

variable {F : FTy → Type} [FloatOps F]

/-! ## One group of four blocks -/

/-- The scaled and clipped values of four blocks of sixteen rows, from the reciprocal scales `iv` of the blocks and
their rows `rt`, eight at a time. -/
def wV (iv : Fin 4 → Vec F S1x1x128 .f32) (rt : Fin 4 → Fin 2 → Vec F S1x8x128 .f32) : FVec F S64x128 .f32 :=
  k0_pay10 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- Their magnitudes. -/
def mV (iv : Fin 4 → Vec F S1x1x128 .f32) (rt : Fin 4 → Fin 2 → Vec F S1x8x128 .f32) : FVec F S64x128 .f32 :=
  k0_pay11 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- Where the magnitude is below two. -/
def lV (iv : Fin 4 → Vec F S1x1x128 .f32) (rt : Fin 4 → Fin 2 → Vec F S1x8x128 .f32) : IVec S64x128 1 :=
  k0_pay12 (k0_pay2 (iv 0) (rt 0 0)) (k0_pay3 (iv 0) (rt 0 1)) (k0_pay6 (k0_pay4 (iv 1)) (rt 1 0)) (k0_pay7 (k0_pay4 (iv 1)) (rt 1 1))
    (k0_pay8 (iv 2)) (k0_pay9 (iv 2) (rt 2 0)) (rt 2 1) (iv 3) (rt 3 0) (rt 3 1)
/-- The packed codes of the group: two four-bit codes to a byte. -/
def cdV (iv : Fin 4 → Vec F S1x1x128 .f32) (rt : Fin 4 → Fin 2 → Vec F S1x8x128 .f32) : IVec S32x128 8 :=
  k0_pay20 (k0_pay17 (k0_pay14 (wV iv rt) (mV iv rt) (lV iv rt)) (k0_pay15 (wV iv rt) (mV iv rt) (lV iv rt))
    (k0_pay16 (wV iv rt) (mV iv rt) (lV iv rt)))
/-- The dequantised values of the group, `sb` the block scales. -/
def dqV (iv : Fin 4 → Vec F S1x1x128 .f32) (rt : Fin 4 → Fin 2 → Vec F S1x8x128 .f32) (sb : Fin 4 → Vec F S1x1x128 .f32) :
    FVec F S64x128 .bf16 :=
  k0_pay21 (k0_pay18 (wV iv rt) (k0_pay13 (mV iv rt) (lV iv rt))) (k0_pay19 (sb 0)) (sb 1) (sb 2) (sb 3)

/-- Row `4 n + i` of plane `s` of a buffer of block scales. -/
def rowAt (f : S2x96x128.Idx → Elt F .f32) (s : Fin 2) (n : Fin 24) (i : Fin 4) : Vec F S1x1x128 .f32 :=
  fun x => f (ix3 s ⟨4 * n.val + i.val, by omega⟩ (x 2))
/-- Rows `68 n + 17 i + 8 a` to `+ 7` of plane `h` of the rotated gradient. -/
def rtAt (R : S34x1632x128.Idx → Elt F .f32) (h : Fin 34) (n : Fin 24) (i : Fin 4) (a : Fin 2) : Vec F S1x8x128 .f32 :=
  fun x => R (ix3 h ⟨68 * n.val + 17 * i.val + 8 * a.val + (x 1).val, by have : (x 1).val < 8 := (x 1).isLt; omega⟩ (x 2))

/-- Replace `g` by `v` where the step `P` of an element comes before `n`. -/
def mix {I α : Type} (P : I → ℕ) (v : I → α) : ℕ → (I → α) → (I → α)
  | 0, g => g
  | n + 1, g => fun i => if P i = n then v i else mix P v n g i

theorem mix_apply {I α : Type} (P : I → ℕ) (v : I → α) (n : ℕ) (g : I → α) (i : I) :
    mix P v n g i = if P i < n then v i else g i := by
  induction n with
  | zero => simp [mix]
  | succ n ih =>
    show (if P i = n then v i else mix P v n g i) = _
    rw [ih]
    rcases Nat.lt_trichotomy (P i) n with h | h | h
    · simp [h, Nat.ne_of_lt h, Nat.lt_succ_of_lt h]
    · simp [h]
    · simp [Nat.not_lt.mpr (Nat.le_of_lt h), (Nat.ne_of_lt h).symm, Nat.not_lt.mpr h]

/-- The codes of half tile `h`, transposed: 768 bytes of each of 128 columns, from the reciprocal scales in plane `s`. -/
def ctOf (R : S34x1632x128.Idx → Elt F .f32) (f9 : S2x96x128.Idx → Elt F .f32) (h : Fin 34) (s : Fin 2) : S768x128.Idx → BitVec 8 :=
  fun i => have h0 : (i 0).val < 768 := (i 0).isLt
    cdV (rowAt f9 s ⟨(i 0).val / 32, by omega⟩) (rtAt R h ⟨(i 0).val / 32, by omega⟩) (ix2 ⟨(i 0).val % 32, by omega⟩ (i 1))
/-- The dequantised values of half tile `h`, from the reciprocal scales and the scales in plane `s`. -/
def dqOf (R : S34x1632x128.Idx → Elt F .f32) (f9 f10 : S2x96x128.Idx → Elt F .f32) (h : Fin 34) (s : Fin 2) : S1536x256.Idx → Elt F .bf16 :=
  fun i => have h0 : (i 0).val < 1536 := (i 0).isLt
    dqV (rowAt f9 s ⟨(i 0).val / 64, by omega⟩) (rtAt R h ⟨(i 0).val / 64, by omega⟩) (rowAt f10 s ⟨(i 0).val / 64, by omega⟩)
      (ix2 ⟨(i 0).val % 64, by omega⟩ ⟨(i 1).val % 128, by omega⟩)
/-- The step of the inner loop over plane `s` that writes an element of the dequantised tile; no step, of the other plane. -/
def dqStep (s : Fin 2) : S1536x256.Idx → ℕ := fun i => if (i 1).val / 128 = s.val then (i 0).val / 64 else 24

/-! ## The tiles and the results -/

section
variable (R : S34x1632x128.Idx → Elt F .f32) (A : S96x4352.Idx → Elt F .f32) (XQ : S1152x1536.Idx → Elt F .bf16)
  (v0 v1 : Vec F S1x1 .f32) (MG : S4304x1152.Idx → Elt F .f32)

/-- The block maxima of half tile `h`. -/
def amOf (h : Fin 34) : Vec F S96x128 .f32 := fun i => A (ix2 (i 0) ⟨128 * h.val + (i 1).val, by have : (i 1).val < 128 := (i 1).isLt; omega⟩)
/-- The reciprocal scales of half tile `h`. -/
def invOf (h : Fin 34) : FVec F S1x96x128 .f32 := k0_pay47 (k0_pay45 v0 (amOf A h)) k0_pay46
/-- The block scales of half tile `h`. -/
def sbwOf (h : Fin 34) : FVec F S1x96x128 .f32 := k0_pay48 (k0_pay44 v0 (amOf A h))
/-- The quantised block scales of half tile `h`. -/
def sbOf (h : Fin 34) : FVec F S96x128 .fp8e4m3 := k0_pay43 v0 (amOf A h)
/-- The two planes of reciprocal scales of tile `k`. -/
def inv2 (k : Fin 17) : S2x96x128.Idx → Elt F .f32 := fun i => invOf A v0 ⟨2 * k.val + (i 0).val, by have : (i 0).val < 2 := (i 0).isLt; omega⟩ (ix3 0 (i 1) (i 2))
/-- The two planes of scales of tile `k`. -/
def sbw2 (k : Fin 17) : S2x96x128.Idx → Elt F .f32 := fun i => sbwOf A v0 ⟨2 * k.val + (i 0).val, by have : (i 0).val < 2 := (i 0).isLt; omega⟩ (ix3 0 (i 1) (i 2))
/-- The dequantised tile `k`. -/
def DQ (k : Fin 17) : S1536x256.Idx → Elt F .bf16 := fun i =>
  dqOf R (inv2 A v0 k) (sbw2 A v0 k) ⟨2 * k.val + (i 1).val / 128, by have : (i 1).val < 256 := (i 1).isLt; omega⟩
    ⟨(i 1).val / 128, by have : (i 1).val < 256 := (i 1).isLt; omega⟩ i
/-- The codes of tile `k`: 256 columns of 768 bytes. -/
def COD (k : Fin 17) : S256x768.Idx → BitVec 8 := fun i =>
  have h0 : (i 0).val < 256 := (i 0).isLt
  ctOf R (inv2 A v0 k) ⟨2 * k.val + (i 0).val / 128, by omega⟩ ⟨(i 0).val / 128, by omega⟩ (ix2 (i 1) ⟨(i 0).val % 128, by omega⟩)
/-- Tile `k` of the result, `m` the main gradient's tile. -/
def OUT (k : Fin 17) (m : Vec F S1x256x1152 .f32) : FVec F S1x256x1152 .f32 := k0_pay58 (k0_pay59 v0 v1) XQ (DQ R A v0 k) m
/-- Tile `k` of the main gradient (its last row repeated past the end). -/
def mgOf (k : Fin 17) : Vec F S1x256x1152 .f32 := fun i => MG (ix2 ⟨min (256 * k.val + (i 1).val) 4303, by omega⟩ (i 2))

/-- The updated main gradient. -/
def Gout : S4304x1152.Idx → Elt F .f32 := fun i =>
  have h0 : (i 0).val < 4304 := (i 0).isLt
  OUT R A XQ v0 v1 ⟨(i 0).val / 256, by omega⟩ (mgOf MG ⟨(i 0).val / 256, by omega⟩) (ix3 0 ⟨(i 0).val % 256, by omega⟩ (i 1))
/-- The packed codes. -/
def Gcod : S4304x768.Idx → BitVec 8 := fun i =>
  have h0 : (i 0).val < 4304 := (i 0).isLt
  COD R A v0 ⟨(i 0).val / 256, by omega⟩ (ix2 ⟨(i 0).val % 256, by omega⟩ (i 1))
/-- The quantised block scales, all tiles. -/
def Gsb : S96x4352.Idx → Elt F .fp8e4m3 := fun i =>
  have h1 : (i 1).val < 4352 := (i 1).isLt
  sbOf A v0 ⟨(i 1).val / 128, by omega⟩ (ix2 (i 0) ⟨(i 1).val % 128, by omega⟩)
/-- The quantised block scales of the 4304 columns. -/
def GsbH : S96x4304.Idx → Elt F .fp8e4m3 := fun i =>
  have h1 : (i 1).val < 4304 := (i 1).isLt
  Gsb A v0 (ix2 (i 0) ⟨(i 1).val, by omega⟩)

/-- A tile of the result at an element depends on the main gradient's tile at that element only. -/
theorem OUT_congr (k : Fin 17) (m m' : Vec F S1x256x1152 .f32) (i : S1x256x1152.Idx) (h : m i = m' i) :
    OUT R A XQ v0 v1 k m i = OUT R A XQ v0 v1 k m' i := by
  have e (m : Vec F S1x256x1152 .f32) : OUT R A XQ v0 v1 k m i
      = addf (s := S1x256x1152) (φ := .f32) (fun _ => m i) (fun _ => (mulf (broadcastTo S256x1152 (k0_pay59 v0 v1) broadcasts_S1x1_S256x1152)
            (transpose S256x1152 [1, 0] (matmul dot_S1152x1536_S1536x256_S1152x256_1_0_0_1_n_n none (shapeCast S1152x1536 XQ shapeCasts_S1152x1536_S1152x1536)
              (DQ R A v0 k) (constant S1152x256 .f32 0x00000000#32)) transposes_S1152x256_p1_0_S256x1152))
            (Shape.reshapeEquiv shapeCasts_S256x1152_S1x256x1152 i)) i := by
    have e2 : m i = shapeCast S1x256x1152 (shapeCast S256x1152 m shapeCasts_S1x256x1152_S256x1152) shapeCasts_S256x1152_S1x256x1152 i := by
      rw [shapeCast_shapeCast]
    rw [e2]; rfl
  rw [e m, e m', h]
end

/-- The second half tile's payloads are the first's. -/
theorem pay54_eq (v0 : Vec F S1x1 .f32) (a : Vec F S96x128 .f32) :
    k0_pay54 v0 (k0_pay51 a) (Scalar.ofBits .f32 0x3F800800#32) = k0_pay47 (k0_pay45 v0 a) k0_pay46 := rfl
theorem pay55_eq (v0 : Vec F S1x1 .f32) (a : Vec F S96x128 .f32) :
    k0_pay55 v0 (k0_pay51 a) (Scalar.ofBits .f32 0x3F800800#32) = k0_pay48 (k0_pay44 v0 a) := rfl
theorem pay56_eq (v0 : Vec F S1x1 .f32) (a : Vec F S96x128 .f32) :
    k0_pay56 v0 (k0_pay51 a) (Scalar.ofBits .f32 0x3F800800#32) = k0_pay43 v0 a :=
  shapeCast_self (k0_pay43 v0 a) _
theorem pay49_eq (v : FVec F S96x128 .fp8e4m3) : k0_pay49 v = v := shapeCast_self v _
end Cert.KernelIdeal.Run
end
-- ==== Proof.KernelIdeal.Inner.lean ====
/-
  The two inner loops of a trip, over the 24 groups of four blocks: what each leaves in the code buffer and in the
  dequantised tile, stated element by element.
-/
module

public import proofs.«01_k».proof.Proof.KernelIdeal.Names
public import proofs.«01_k».proof.Proof.KernelIdeal.Vals
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The run's resource algebra: the rounds of the frame kit and the counters of the copies. -/
abbrev 𝕄 (F : FTy → Type) := MT nD τ sig Unit (Elt F) ℕ (Pipeline.UD sig nD τ) ℕ

/-! ## Loads and stores of a group -/

theorem hk17 (k : Fin k0_t1_loop.trips) : k.val < 17 := Nat.lt_of_lt_of_eq k.isLt trips_eq

/-- A row of plane `s` of the reciprocal scales, as loaded. -/
theorem load_inv (f : S2x96x128.Idx → Elt F .f32) (s : Fin 2) (n : Fin 24) (i : Fin 4) {off : Fin 3 → ℕ}
    (e : off = ![s.val, 4 * n.val + i.val, 0]) (hh) :
    invB.view.readAt (Elt F) (Rect.unit (s := S2x96x128) off S1x1x128.size hh).toLoadRect f = rowAt f s n i := by
  subst e
  funext x
  refine congrArg f (funext fun a => Fin.ext ?_)
  have h0 : (x 0).val < 1 := (x 0).isLt
  have h1 : (x 1).val < 1 := (x 1).isLt
  fin_cases a
  · show s.val + 1 * (x 0).val = s.val; omega
  · show 4 * n.val + i.val + 1 * (x 1).val = 4 * n.val + i.val; omega
  · show 0 + 1 * (x 2).val = (x 2).val; omega

/-- A row of plane `s` of the scales, as loaded. -/
theorem load_sbw (f : S2x96x128.Idx → Elt F .f32) (s : Fin 2) (n : Fin 24) (i : Fin 4) {off : Fin 3 → ℕ}
    (e : off = ![s.val, 4 * n.val + i.val, 0]) (hh) :
    sbwB.view.readAt (Elt F) (Rect.unit (s := S2x96x128) off S1x1x128.size hh).toLoadRect f = rowAt f s n i := load_inv f s n i e hh

/-- Eight rows of the rotated gradient, as loaded. -/
theorem load_rot {arg0 : Memref sig .tc .vmem S34x1632x128 .f32} (harg0 : arg0.IsWhole) (R : S34x1632x128.Idx → Elt F .f32)
    (h : Fin 34) (n : Fin 24) (i : Fin 4) (a : Fin 2) {off : Fin 3 → ℕ}
    (e : off = ![h.val, 68 * n.val + 17 * i.val + 8 * a.val, 0]) (hh) :
    arg0.view.readAt (Elt F) (Rect.unit (s := S34x1632x128) off S1x8x128.size hh).toLoadRect (harg0.unread R) = rtAt R h n i a := by
  subst e
  funext x
  rw [harg0.readAt_unread]
  refine congrArg R (funext fun b => Fin.ext ?_)
  have h0 : (x 0).val < 1 := (x 0).isLt
  fin_cases b
  · show h.val + 1 * (x 0).val = h.val; omega
  · show 68 * n.val + 17 * i.val + 8 * a.val + 1 * (x 1).val = 68 * n.val + 17 * i.val + 8 * a.val + (x 1).val; omega
  · show 0 + 1 * (x 2).val = (x 2).val; omega

/-- Storing a group's codes: rows `32 n` to `32 n + 31`. -/
theorem store_ct (f : S768x128.Idx → Elt F .i8) (n : Fin 24) {off : Fin 2 → ℕ} (e : off = ![32 * n.val, 0]) (hh)
    (p : S32x128.Idx → Elt F .i8) (v : S768x128.Idx → Elt F .i8)
    (hv : ∀ i : S768x128.Idx, (i 0).val / 32 = n.val → v i = p (ix2 ⟨(i 0).val % 32, Nat.mod_lt _ (by decide)⟩ (i 1))) :
    ctB.view.writes (Elt F) f [⟨Rect.unit (s := S768x128) off S32x128.size hh, p⟩] = fun i => if (i 0).val / 32 = n.val then v i else f i := by
  funext i
  by_cases h : (i 0).val / 32 = n.val
  · refine Eq.trans ?_ ((if_pos h).trans (hv i h)).symm
    refine View.read_writes_cons_unit_of_mem ctB.view f hh p [] i (ix2 ⟨(i 0).val % 32, Nat.mod_lt _ (by decide)⟩ (i 1)) e fun a => ?_
    fin_cases a
    · show (i 0).val = 32 * n.val + (i 0).val % 32; omega
    · show (i 1).val = 0 + (i 1).val; omega
  · refine Eq.trans ?_ (if_neg h).symm
    refine View.read_writes_cons_unit_of_not_mem ctB.view f hh p [] i e 0 ?_
    show (i 0).val < 32 * n.val ∨ 32 * n.val + 32 ≤ (i 0).val
    omega

/-- Storing a group's dequantised values: rows `64 n` to `64 n + 63` of the columns of half tile `s`. -/
theorem store_dq (f : S1536x256.Idx → Elt F .bf16) (s : Fin 2) (n : Fin 24) {off : Fin 2 → ℕ} (e : off = ![64 * n.val, 128 * s.val]) (hh)
    (p : S64x128.Idx → Elt F .bf16) (v : S1536x256.Idx → Elt F .bf16)
    (hv : ∀ i : S1536x256.Idx, (i 0).val / 64 = n.val → v i = p (ix2 ⟨(i 0).val % 64, Nat.mod_lt _ (by decide)⟩ ⟨(i 1).val % 128, Nat.mod_lt _ (by decide)⟩)) :
    dqB.view.writes (Elt F) f [⟨Rect.unit (s := S1536x256) off S64x128.size hh, p⟩] = fun i => if dqStep s i = n.val then v i else f i := by
  funext i
  show dqB.view.read (Elt F) (dqB.view.writes (Elt F) f [⟨Rect.unit (s := S1536x256) off S64x128.size hh, p⟩]) i = _
  have h1 : (i 1).val < 256 := (i 1).isLt
  by_cases h : dqStep s i = n.val
  · rw [if_pos h]
    unfold dqStep at h
    split at h
    · rename_i hs
      rw [hv i h]
      refine View.read_writes_cons_unit_of_mem _ _ hh p [] i (ix2 ⟨(i 0).val % 64, Nat.mod_lt _ (by decide)⟩ ⟨(i 1).val % 128, Nat.mod_lt _ (by decide)⟩) e fun a => ?_
      fin_cases a
      · show (i 0).val = 64 * n.val + (i 0).val % 64; omega
      · show (i 1).val = 128 * s.val + (i 1).val % 128; omega
    · omega
  · rw [if_neg h]
    unfold dqStep at h
    split at h
    · refine View.read_writes_cons_unit_of_not_mem _ _ hh p [] i e 0 ?_
      show (i 0).val < 64 * n.val ∨ 64 * n.val + 64 ≤ (i 0).val
      omega
    · refine View.read_writes_cons_unit_of_not_mem _ _ hh p [] i e 1 ?_
      show (i 1).val < 128 * s.val ∨ 128 * s.val + 128 ≤ (i 1).val
      omega

/-! ## The loops' offsets -/

abbrev hOf (k : Fin k0_t1_loop.trips) (s : Fin 2) : Fin 34 := ⟨2 * k.val + s.val, by have := hk17 k; omega⟩

theorem off13_eq (n : Fin k0_t2_loop.trips) (i : Fin 4) : k0_off13 n (BitVec.ofNat 32 i.val) = ![(0 : Fin 2).val, 4 * n.val + i.val, 0] := by
  revert n i; decide +kernel
theorem off18_eq (n : Fin k0_t3_loop.trips) (i : Fin 4) : k0_off18 n (BitVec.ofNat 32 i.val) = ![(1 : Fin 2).val, 4 * n.val + i.val, 0] := by
  revert n i; decide +kernel
theorem off14_eq (k : Fin k0_t1_loop.trips) (n : Fin k0_t2_loop.trips) (i : Fin 4) (a : Fin 2) :
    k0_off14 k n (BitVec.ofNat 32 (17 * i.val)) (BitVec.ofNat 32 (8 * a.val)) = ![2 * k.val + (0 : Fin 2).val, 68 * n.val + 17 * i.val + 8 * a.val, 0] := by
  revert k n i a; decide +kernel
theorem off19_eq (k : Fin k0_t1_loop.trips) (n : Fin k0_t3_loop.trips) (i : Fin 4) (a : Fin 2) :
    k0_off19 k n (BitVec.ofNat 32 (17 * i.val)) (BitVec.ofNat 32 (8 * a.val)) = ![2 * k.val + (1 : Fin 2).val, 68 * n.val + 17 * i.val + 8 * a.val, 0] := by
  revert k n i a; decide +kernel
theorem off15_eq (n : Fin k0_t2_loop.trips) : k0_off15 n = ![32 * n.val, 0] := by revert n; decide +kernel
theorem off20_eq (n : Fin k0_t3_loop.trips) : k0_off20 n = ![32 * n.val, 0] := by revert n; decide +kernel
theorem off16_eq (n : Fin k0_t2_loop.trips) : k0_off16 n = ![64 * n.val, 128 * (0 : Fin 2).val] := by revert n; decide +kernel
theorem off21_eq (n : Fin k0_t3_loop.trips) : k0_off21 n = ![64 * n.val, 128 * (1 : Fin 2).val] := by revert n; decide +kernel

section
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)

/-! ## Half tile 0 -/

/-- Before trip `n`: what the loop reads, unchanged; the code buffer and the dequantised tile hold the groups before `n`. -/
abbrev tinv2 (R : S34x1632x128.Idx → Elt F .f32) (f9 f10 : S2x96x128.Idx → Elt F .f32) (g12 : S768x128.Idx → Elt F .i8)
    (g14 : S1536x256.Idx → Elt F .bf16) (k : Fin k0_t1_loop.trips) (n : ℕ) : sProp (𝕄 F) :=
  iprop((arg0.view.loc (c : Thread nD τ) ↦[arg0.view.set]{fullShare} harg0.unread R)
    ∗ (invB.view.loc (c : Thread nD τ) ↦[invB.view.set]{fullShare} f9) ∗ (sbwB.view.loc (c : Thread nD τ) ↦[sbwB.view.set]{fullShare} f10)
    ∗ (∃ f : Buf (Elt F) (ctB.view.loc (c : Thread nD τ)), (ctB.view.loc (c : Thread nD τ) ↦[ctB.view.set]{fullShare} f)
        ∗ ⌜f = mix (I := S768x128.Idx) (fun i => (i 0).val / 32) (ctOf R f9 (hOf k 0) 0) n g12⌝)
    ∗ (∃ f : Buf (Elt F) (dqB.view.loc (c : Thread nD τ)), (dqB.view.loc (c : Thread nD τ) ↦[dqB.view.set]{fullShare} f)
        ∗ ⌜f = mix (I := S1536x256.Idx) (dqStep 0) (dqOf R f9 f10 (hOf k 0) 0) n g14⌝))

set_option warn.classDefReducibility false in
set_option maxHeartbeats 4000000 in
/-- The inner loop over half tile 0. -/
@[sl_loop] def loopInv_t2 (𝒱 : Variants) (bd : Option 𝒱.V) (E : Set ℕ) (R : S34x1632x128.Idx → Elt F .f32) (f9 f10 : S2x96x128.Idx → Elt F .f32)
    (g12 : S768x128.Idx → Elt F .i8) (g14 : S1536x256.Idx → Elt F .bf16) (k : Fin k0_t1_loop.trips) (arg22 v42 v52 : BitVec 32) (v66 : FVec F S96x128 .fp8e4m3) (v67 v69 v70 : FVec F S96x128 .f32) :
    LoopInv (M := 𝕄 F) frame (wpE (defs₀ (F := F)) 𝒱 (c : Thread nD τ) bd) E k0_t2_loop.lb k0_t2_loop.ub k0_t2_loop.st k0_t2_ok ()
      (k0_t2_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    k arg22 v42 v52 v66 v67 v69 v70) where
  inv n _ := tinv2 c arg0 harg0 R f9 f10 g12 g14 k n
  step n acc := by
    have hn : n.val < 24 := Nat.lt_of_lt_of_le n.isLt k0_t2_abs.2.1
    have eiv (i : Fin 4) (hh) : invB.view.readAt (Elt F) (Rect.unit (s := S2x96x128) (k0_off13 n (BitVec.ofNat 32 i.val)) S1x1x128.size hh).toLoadRect f9
        = rowAt f9 0 ⟨n.val, hn⟩ i := load_inv f9 0 ⟨n.val, hn⟩ i (off13_eq n i) hh
    have esb (i : Fin 4) (hh) : sbwB.view.readAt (Elt F) (Rect.unit (s := S2x96x128) (k0_off13 n (BitVec.ofNat 32 i.val)) S1x1x128.size hh).toLoadRect f10
        = rowAt f10 0 ⟨n.val, hn⟩ i := load_sbw f10 0 ⟨n.val, hn⟩ i (off13_eq n i) hh
    have ert (i : Fin 4) (a : Fin 2) (hh) : arg0.view.readAt (Elt F) (Rect.unit (s := S34x1632x128)
          (k0_off14 k n (BitVec.ofNat 32 (17 * i.val)) (BitVec.ofNat 32 (8 * a.val))) S1x8x128.size hh).toLoadRect (harg0.unread R)
        = rtAt R (hOf k 0) ⟨n.val, hn⟩ i a := load_rot harg0 R (hOf k 0) ⟨n.val, hn⟩ i a (off14_eq k n i a) hh
    iintro ⟨H0, H9, H10, ⟨%f12, H12, %h12⟩, ⟨%f14, H14, %h14⟩⟩
    unfold k0_t2_body
    sl_exec
    sl_step
    isplitl [H0]; · iexact H0
    isplitl [H9]; · iexact H9
    isplitl [H10]; · iexact H10
    isplitl [H12]
    · iexists _
      isplitl [H12]; · iexact H12
      ipureintro
      rw [h12]
      refine (store_ct _ ⟨n.val, hn⟩ (off15_eq n) _ _ (ctOf R f9 (hOf k 0) 0) ?_).trans rfl
      intro i hi
      have h0 : (i 0).val < 768 := (i 0).isLt
      have e : (⟨(i 0).val / 32, by omega⟩ : Fin 24) = ⟨n.val, hn⟩ := Fin.ext hi
      show cdV (rowAt f9 0 ⟨(i 0).val / 32, by omega⟩) (rtAt R (hOf k 0) ⟨(i 0).val / 32, by omega⟩) _ = _
      rw [e, (funext fun i => (eiv i (k0_off13_inb n i)).symm : rowAt f9 0 ⟨n.val, hn⟩ = _),
        (funext fun i => funext fun a => (ert i a (k0_off14_inb k n i a)).symm : rtAt R (hOf k 0) ⟨n.val, hn⟩ = _)]
      rfl
    · iexists _
      isplitl [H14]; · iexact H14
      ipureintro
      rw [h14]
      refine (store_dq _ 0 ⟨n.val, hn⟩ (off16_eq n) _ _ (dqOf R f9 f10 (hOf k 0) 0) ?_).trans rfl
      intro i hi
      have h0 : (i 0).val < 1536 := (i 0).isLt
      have e : (⟨(i 0).val / 64, by omega⟩ : Fin 24) = ⟨n.val, hn⟩ := Fin.ext hi
      show dqV (rowAt f9 0 ⟨(i 0).val / 64, by omega⟩) (rtAt R (hOf k 0) ⟨(i 0).val / 64, by omega⟩) (rowAt f10 0 ⟨(i 0).val / 64, by omega⟩) _ = _
      rw [e, (funext fun i => (eiv i (k0_off13_inb n i)).symm : rowAt f9 0 ⟨n.val, hn⟩ = _),
        (funext fun i => funext fun a => (ert i a (k0_off14_inb k n i a)).symm : rtAt R (hOf k 0) ⟨n.val, hn⟩ = _),
        (funext fun i => (esb i (k0_off13_inb n i)).symm : rowAt f10 0 ⟨n.val, hn⟩ = _)]
      rfl

/-! ## Half tile 1 -/

/-- Before trip `n`: what the loop reads, unchanged; the code buffer and the dequantised tile hold the groups before `n`. -/
abbrev tinv3 (R : S34x1632x128.Idx → Elt F .f32) (f9 f10 : S2x96x128.Idx → Elt F .f32) (g12 : S768x128.Idx → Elt F .i8)
    (g14 : S1536x256.Idx → Elt F .bf16) (k : Fin k0_t1_loop.trips) (n : ℕ) : sProp (𝕄 F) :=
  iprop((arg0.view.loc (c : Thread nD τ) ↦[arg0.view.set]{fullShare} harg0.unread R)
    ∗ (invB.view.loc (c : Thread nD τ) ↦[invB.view.set]{fullShare} f9) ∗ (sbwB.view.loc (c : Thread nD τ) ↦[sbwB.view.set]{fullShare} f10)
    ∗ (∃ f : Buf (Elt F) (ctB.view.loc (c : Thread nD τ)), (ctB.view.loc (c : Thread nD τ) ↦[ctB.view.set]{fullShare} f)
        ∗ ⌜f = mix (I := S768x128.Idx) (fun i => (i 0).val / 32) (ctOf R f9 (hOf k 1) 1) n g12⌝)
    ∗ (∃ f : Buf (Elt F) (dqB.view.loc (c : Thread nD τ)), (dqB.view.loc (c : Thread nD τ) ↦[dqB.view.set]{fullShare} f)
        ∗ ⌜f = mix (I := S1536x256.Idx) (dqStep 1) (dqOf R f9 f10 (hOf k 1) 1) n g14⌝))

set_option warn.classDefReducibility false in
set_option maxHeartbeats 4000000 in
/-- The inner loop over half tile 1. -/
@[sl_loop] def loopInv_t3 (𝒱 : Variants) (bd : Option 𝒱.V) (E : Set ℕ) (R : S34x1632x128.Idx → Elt F .f32) (f9 f10 : S2x96x128.Idx → Elt F .f32)
    (g12 : S768x128.Idx → Elt F .i8) (g14 : S1536x256.Idx → Elt F .bf16) (k : Fin k0_t1_loop.trips) (v0 : Vec F S1x1 .f32) (arg22 v99 : BitVec 32) (v102 : FVec F S96x128 .f32) (cst_72 : F .f32) :
    LoopInv (M := 𝕄 F) frame (wpE (defs₀ (F := F)) 𝒱 (c : Thread nD τ) bd) E k0_t3_loop.lb k0_t3_loop.ub k0_t3_loop.st k0_t3_ok ()
      (k0_t3_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 k arg22 v99 v102 cst_72) where
  inv n _ := tinv3 c arg0 harg0 R f9 f10 g12 g14 k n
  step n acc := by
    have hn : n.val < 24 := Nat.lt_of_lt_of_le n.isLt k0_t3_abs.2.1
    have eiv (i : Fin 4) (hh) : invB.view.readAt (Elt F) (Rect.unit (s := S2x96x128) (k0_off18 n (BitVec.ofNat 32 i.val)) S1x1x128.size hh).toLoadRect f9
        = rowAt f9 1 ⟨n.val, hn⟩ i := load_inv f9 1 ⟨n.val, hn⟩ i (off18_eq n i) hh
    have esb (i : Fin 4) (hh) : sbwB.view.readAt (Elt F) (Rect.unit (s := S2x96x128) (k0_off18 n (BitVec.ofNat 32 i.val)) S1x1x128.size hh).toLoadRect f10
        = rowAt f10 1 ⟨n.val, hn⟩ i := load_sbw f10 1 ⟨n.val, hn⟩ i (off18_eq n i) hh
    have ert (i : Fin 4) (a : Fin 2) (hh) : arg0.view.readAt (Elt F) (Rect.unit (s := S34x1632x128)
          (k0_off19 k n (BitVec.ofNat 32 (17 * i.val)) (BitVec.ofNat 32 (8 * a.val))) S1x8x128.size hh).toLoadRect (harg0.unread R)
        = rtAt R (hOf k 1) ⟨n.val, hn⟩ i a := load_rot harg0 R (hOf k 1) ⟨n.val, hn⟩ i a (off19_eq k n i a) hh
    iintro ⟨H0, H9, H10, ⟨%f12, H12, %h12⟩, ⟨%f14, H14, %h14⟩⟩
    unfold k0_t3_body
    sl_exec
    sl_step
    isplitl [H0]; · iexact H0
    isplitl [H9]; · iexact H9
    isplitl [H10]; · iexact H10
    isplitl [H12]
    · iexists _
      isplitl [H12]; · iexact H12
      ipureintro
      rw [h12]
      refine (store_ct _ ⟨n.val, hn⟩ (off20_eq n) _ _ (ctOf R f9 (hOf k 1) 1) ?_).trans rfl
      intro i hi
      have h0 : (i 0).val < 768 := (i 0).isLt
      have e : (⟨(i 0).val / 32, by omega⟩ : Fin 24) = ⟨n.val, hn⟩ := Fin.ext hi
      show cdV (rowAt f9 1 ⟨(i 0).val / 32, by omega⟩) (rtAt R (hOf k 1) ⟨(i 0).val / 32, by omega⟩) _ = _
      rw [e, (funext fun i => (eiv i (k0_off18_inb n i)).symm : rowAt f9 1 ⟨n.val, hn⟩ = _),
        (funext fun i => funext fun a => (ert i a (k0_off19_inb k n i a)).symm : rtAt R (hOf k 1) ⟨n.val, hn⟩ = _)]
      rfl
    · iexists _
      isplitl [H14]; · iexact H14
      ipureintro
      rw [h14]
      refine (store_dq _ 1 ⟨n.val, hn⟩ (off21_eq n) _ _ (dqOf R f9 f10 (hOf k 1) 1) ?_).trans rfl
      intro i hi
      have h0 : (i 0).val < 1536 := (i 0).isLt
      have e : (⟨(i 0).val / 64, by omega⟩ : Fin 24) = ⟨n.val, hn⟩ := Fin.ext hi
      show dqV (rowAt f9 1 ⟨(i 0).val / 64, by omega⟩) (rtAt R (hOf k 1) ⟨(i 0).val / 64, by omega⟩) (rowAt f10 1 ⟨(i 0).val / 64, by omega⟩) _ = _
      rw [e, (funext fun i => (eiv i (k0_off18_inb n i)).symm : rowAt f9 1 ⟨n.val, hn⟩ = _),
        (funext fun i => funext fun a => (ert i a (k0_off19_inb k n i a)).symm : rtAt R (hOf k 1) ⟨n.val, hn⟩ = _),
        (funext fun i => (esb i (k0_off18_inb n i)).symm : rowAt f10 1 ⟨n.val, hn⟩ = _)]
      rfl

end
end Cert.KernelIdeal.Run
end
-- ==== Proof.KernelIdeal.Tiles.lean ====
/-
  What the loads, stores and copies of one trip read and leave, element by element: the block scales' planes, the
  assembled tiles in the slots of the rings, and the tiles that the copies land in the arrays.
-/
module

public import proofs.«01_k».proof.Proof.KernelIdeal.Inner
public import Idealize.ShloMosaic.Lib.ViewIndex

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Stores of a rectangle -/

theorem inv_read (f : invB.view.ty.Contents (Elt F)) (y : S2x96x128.Idx) : invB.view.read (Elt F) f y = f y := rfl
theorem inv_hit_read (f : invB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    invB.view.read (Elt F) (invB.view.writes (Elt F) f (⟨Rect.unit (s := S2x96x128) off S1x96x128.size hh, p⟩ :: L)) y = p x :=
  View.read_writes_cons_unit_of_mem invB.view f hh p L y x e hx
theorem inv_hit (f : invB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    invB.view.writes (Elt F) f (⟨Rect.unit (s := S2x96x128) off S1x96x128.size hh, p⟩ :: L) y = p x :=
  (inv_read _ y).symm.trans (inv_hit_read f hh p L y x e hx)
theorem inv_miss_read (f : invB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    invB.view.read (Elt F) (invB.view.writes (Elt F) f (⟨Rect.unit (s := S2x96x128) off S1x96x128.size hh, p⟩ :: L)) y = invB.view.read (Elt F) (invB.view.writes (Elt F) f L) y :=
  View.read_writes_cons_unit_of_not_mem invB.view f hh p L y e a hx
theorem inv_miss (f : invB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    invB.view.writes (Elt F) f (⟨Rect.unit (s := S2x96x128) off S1x96x128.size hh, p⟩ :: L) y = invB.view.writes (Elt F) f L y :=
  (inv_read _ y).symm.trans ((inv_miss_read f hh p L y e a hx).trans (inv_read _ y))
theorem cod_read (f : codB.view.ty.Contents (Elt F)) (y : S2x256x768.Idx) : codB.view.read (Elt F) f y = f y := rfl
theorem cod_hit_read (f : codB.view.ty.Contents (Elt F)) {off off' : Fin S2x256x768.rank → ℕ} (hh) (p : S1x128x768.Idx → Elt F .i8) (L : List (View.Piece (Elt F) S2x256x768 .i8)) (y : S2x256x768.Idx)
    (x : S1x128x768.Idx) (e : off = off') (hx : ∀ a, (y a).val = off' a + (x a).val) :
    codB.view.read (Elt F) (codB.view.writes (Elt F) f (⟨Rect.unit (s := S2x256x768) off S1x128x768.size hh, p⟩ :: L)) y = p x :=
  View.read_writes_cons_unit_of_mem codB.view f hh p L y x e hx
theorem cod_hit (f : codB.view.ty.Contents (Elt F)) {off off' : Fin S2x256x768.rank → ℕ} (hh) (p : S1x128x768.Idx → Elt F .i8) (L : List (View.Piece (Elt F) S2x256x768 .i8)) (y : S2x256x768.Idx)
    (x : S1x128x768.Idx) (e : off = off') (hx : ∀ a, (y a).val = off' a + (x a).val) :
    codB.view.writes (Elt F) f (⟨Rect.unit (s := S2x256x768) off S1x128x768.size hh, p⟩ :: L) y = p x :=
  (cod_read _ y).symm.trans (cod_hit_read f hh p L y x e hx)
theorem cod_miss_read (f : codB.view.ty.Contents (Elt F)) {off off' : Fin S2x256x768.rank → ℕ} (hh) (p : S1x128x768.Idx → Elt F .i8) (L : List (View.Piece (Elt F) S2x256x768 .i8)) (y : S2x256x768.Idx)
    (e : off = off') (a : Fin S2x256x768.rank) (hx : (y a).val < off' a ∨ off' a + S1x128x768.size a ≤ (y a).val) :
    codB.view.read (Elt F) (codB.view.writes (Elt F) f (⟨Rect.unit (s := S2x256x768) off S1x128x768.size hh, p⟩ :: L)) y = codB.view.read (Elt F) (codB.view.writes (Elt F) f L) y :=
  View.read_writes_cons_unit_of_not_mem codB.view f hh p L y e a hx
theorem cod_miss (f : codB.view.ty.Contents (Elt F)) {off off' : Fin S2x256x768.rank → ℕ} (hh) (p : S1x128x768.Idx → Elt F .i8) (L : List (View.Piece (Elt F) S2x256x768 .i8)) (y : S2x256x768.Idx)
    (e : off = off') (a : Fin S2x256x768.rank) (hx : (y a).val < off' a ∨ off' a + S1x128x768.size a ≤ (y a).val) :
    codB.view.writes (Elt F) f (⟨Rect.unit (s := S2x256x768) off S1x128x768.size hh, p⟩ :: L) y = codB.view.writes (Elt F) f L y :=
  (cod_read _ y).symm.trans ((cod_miss_read f hh p L y e a hx).trans (cod_read _ y))
theorem out_read (f : outB.view.ty.Contents (Elt F)) (y : S2x256x1152.Idx) : outB.view.read (Elt F) f y = f y := rfl
theorem out_hit_read (f : outB.view.ty.Contents (Elt F)) {off off' : Fin S2x256x1152.rank → ℕ} (hh) (p : S1x256x1152.Idx → Elt F .f32) (L : List (View.Piece (Elt F) S2x256x1152 .f32)) (y : S2x256x1152.Idx)
    (x : S1x256x1152.Idx) (e : off = off') (hx : ∀ a, (y a).val = off' a + (x a).val) :
    outB.view.read (Elt F) (outB.view.writes (Elt F) f (⟨Rect.unit (s := S2x256x1152) off S1x256x1152.size hh, p⟩ :: L)) y = p x :=
  View.read_writes_cons_unit_of_mem outB.view f hh p L y x e hx
theorem out_hit (f : outB.view.ty.Contents (Elt F)) {off off' : Fin S2x256x1152.rank → ℕ} (hh) (p : S1x256x1152.Idx → Elt F .f32) (L : List (View.Piece (Elt F) S2x256x1152 .f32)) (y : S2x256x1152.Idx)
    (x : S1x256x1152.Idx) (e : off = off') (hx : ∀ a, (y a).val = off' a + (x a).val) :
    outB.view.writes (Elt F) f (⟨Rect.unit (s := S2x256x1152) off S1x256x1152.size hh, p⟩ :: L) y = p x :=
  (out_read _ y).symm.trans (out_hit_read f hh p L y x e hx)
theorem out_miss_read (f : outB.view.ty.Contents (Elt F)) {off off' : Fin S2x256x1152.rank → ℕ} (hh) (p : S1x256x1152.Idx → Elt F .f32) (L : List (View.Piece (Elt F) S2x256x1152 .f32)) (y : S2x256x1152.Idx)
    (e : off = off') (a : Fin S2x256x1152.rank) (hx : (y a).val < off' a ∨ off' a + S1x256x1152.size a ≤ (y a).val) :
    outB.view.read (Elt F) (outB.view.writes (Elt F) f (⟨Rect.unit (s := S2x256x1152) off S1x256x1152.size hh, p⟩ :: L)) y = outB.view.read (Elt F) (outB.view.writes (Elt F) f L) y :=
  View.read_writes_cons_unit_of_not_mem outB.view f hh p L y e a hx
theorem out_miss (f : outB.view.ty.Contents (Elt F)) {off off' : Fin S2x256x1152.rank → ℕ} (hh) (p : S1x256x1152.Idx → Elt F .f32) (L : List (View.Piece (Elt F) S2x256x1152 .f32)) (y : S2x256x1152.Idx)
    (e : off = off') (a : Fin S2x256x1152.rank) (hx : (y a).val < off' a ∨ off' a + S1x256x1152.size a ≤ (y a).val) :
    outB.view.writes (Elt F) f (⟨Rect.unit (s := S2x256x1152) off S1x256x1152.size hh, p⟩ :: L) y = outB.view.writes (Elt F) f L y :=
  (out_read _ y).symm.trans ((out_miss_read f hh p L y e a hx).trans (out_read _ y))
theorem sb_read (f : sbB.view.ty.Contents (Elt F)) (y : S96x4352.Idx) : sbB.view.read (Elt F) f y = f y := rfl
theorem sb_hit_read (f : sbB.view.ty.Contents (Elt F)) {off off' : Fin S96x4352.rank → ℕ} (hh) (p : S96x128.Idx → Elt F .fp8e4m3) (L : List (View.Piece (Elt F) S96x4352 .fp8e4m3)) (y : S96x4352.Idx)
    (x : S96x128.Idx) (e : off = off') (hx : ∀ a, (y a).val = off' a + (x a).val) :
    sbB.view.read (Elt F) (sbB.view.writes (Elt F) f (⟨Rect.unit (s := S96x4352) off S96x128.size hh, p⟩ :: L)) y = p x :=
  View.read_writes_cons_unit_of_mem sbB.view f hh p L y x e hx
theorem sb_hit (f : sbB.view.ty.Contents (Elt F)) {off off' : Fin S96x4352.rank → ℕ} (hh) (p : S96x128.Idx → Elt F .fp8e4m3) (L : List (View.Piece (Elt F) S96x4352 .fp8e4m3)) (y : S96x4352.Idx)
    (x : S96x128.Idx) (e : off = off') (hx : ∀ a, (y a).val = off' a + (x a).val) :
    sbB.view.writes (Elt F) f (⟨Rect.unit (s := S96x4352) off S96x128.size hh, p⟩ :: L) y = p x :=
  (sb_read _ y).symm.trans (sb_hit_read f hh p L y x e hx)
theorem sb_miss_read (f : sbB.view.ty.Contents (Elt F)) {off off' : Fin S96x4352.rank → ℕ} (hh) (p : S96x128.Idx → Elt F .fp8e4m3) (L : List (View.Piece (Elt F) S96x4352 .fp8e4m3)) (y : S96x4352.Idx)
    (e : off = off') (a : Fin S96x4352.rank) (hx : (y a).val < off' a ∨ off' a + S96x128.size a ≤ (y a).val) :
    sbB.view.read (Elt F) (sbB.view.writes (Elt F) f (⟨Rect.unit (s := S96x4352) off S96x128.size hh, p⟩ :: L)) y = sbB.view.read (Elt F) (sbB.view.writes (Elt F) f L) y :=
  View.read_writes_cons_unit_of_not_mem sbB.view f hh p L y e a hx
theorem sb_miss (f : sbB.view.ty.Contents (Elt F)) {off off' : Fin S96x4352.rank → ℕ} (hh) (p : S96x128.Idx → Elt F .fp8e4m3) (L : List (View.Piece (Elt F) S96x4352 .fp8e4m3)) (y : S96x4352.Idx)
    (e : off = off') (a : Fin S96x4352.rank) (hx : (y a).val < off' a ∨ off' a + S96x128.size a ≤ (y a).val) :
    sbB.view.writes (Elt F) f (⟨Rect.unit (s := S96x4352) off S96x128.size hh, p⟩ :: L) y = sbB.view.writes (Elt F) f L y :=
  (sb_read _ y).symm.trans ((sb_miss_read f hh p L y e a hx).trans (sb_read _ y))

theorem sbw_read (f : sbwB.view.ty.Contents (Elt F)) (y : S2x96x128.Idx) : sbwB.view.read (Elt F) f y = f y := rfl
theorem sbw_hit_read (f : sbwB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    sbwB.view.read (Elt F) (sbwB.view.writes (Elt F) f (⟨Rect.unit (s := S2x96x128) off S1x96x128.size hh, p⟩ :: L)) y = p x :=
  View.read_writes_cons_unit_of_mem sbwB.view f hh p L y x e hx
theorem sbw_hit (f : sbwB.view.ty.Contents (Elt F)) {off off' : Fin S2x96x128.rank → ℕ} (hh) (p : S1x96x128.Idx → Elt F .f32) (L : List (View.Piece (Elt F) S2x96x128 .f32)) (y : S2x96x128.Idx)
    (x : S1x96x128.Idx) (e : off = off') (hx : ∀ a, (y a).val = off' a + (x a).val) :
    sbwB.view.writes (Elt F) f (⟨Rect.unit (s := S2x96x128) off S1x96x128.size hh, p⟩ :: L) y = p x :=
  (sbw_read _ y).symm.trans (sbw_hit_read f hh p L y x e hx)
theorem sbw_miss_read (f : sbwB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    sbwB.view.read (Elt F) (sbwB.view.writes (Elt F) f (⟨Rect.unit (s := S2x96x128) off S1x96x128.size hh, p⟩ :: L)) y = sbwB.view.read (Elt F) (sbwB.view.writes (Elt F) f L) y :=
  View.read_writes_cons_unit_of_not_mem sbwB.view f hh p L y e a hx
theorem sbw_miss (f : sbwB.view.ty.Contents (Elt F)) {off off' : Fin S2x96x128.rank → ℕ} (hh) (p : S1x96x128.Idx → Elt F .f32) (L : List (View.Piece (Elt F) S2x96x128 .f32)) (y : S2x96x128.Idx)
    (e : off = off') (a : Fin S2x96x128.rank) (hx : (y a).val < off' a ∨ off' a + S1x96x128.size a ≤ (y a).val) :
    sbwB.view.writes (Elt F) f (⟨Rect.unit (s := S2x96x128) off S1x96x128.size hh, p⟩ :: L) y = sbwB.view.writes (Elt F) f L y :=
  (sbw_read _ y).symm.trans ((sbw_miss_read f hh p L y e a hx).trans (sbw_read _ y))

/-! ## The block scales -/

/-- The block maxima of half tile `h`, as loaded. -/
theorem load_am {arg1 : Memref sig .tc .vmem S96x4352 .f32} (harg1 : arg1.IsWhole) (A : S96x4352.Idx → Elt F .f32) (h : Fin 34)
    {off : Fin 2 → ℕ} (e : off = ![0, 128 * h.val]) (hh) :
    arg1.view.readAt (Elt F) (Rect.unit (s := S96x4352) off S96x128.size hh).toLoadRect (harg1.unread A) = amOf A h := by
  subst e
  funext x
  rw [harg1.readAt_unread]
  refine congrArg A (funext fun b => Fin.ext ?_)
  fin_cases b
  · show 0 + 1 * (x 0).val = (x 0).val; omega
  · show 128 * h.val + 1 * (x 1).val = 128 * h.val + (x 1).val; omega

theorem off12h (k : Fin k0_t1_loop.trips) (s : Fin 2) : k0_off12 k (BitVec.ofNat 32 (128 * s.val)) = ![0, 128 * (hOf k s).val] := by
  revert k s; decide +kernel

theorem ix3_eta {d0 d1 d2 : ℕ} (i : (⟨3, ![d0, d1, d2]⟩ : Shape).Idx) : ix3 (i 0) (i 1) (i 2) = i := (eq_ix3 i).symm
theorem ix2_eta {d0 d1 : ℕ} (i : (⟨2, ![d0, d1]⟩ : Shape).Idx) : ix2 (i 0) (i 1) = i := (eq_ix2 i).symm

/-- Contents equal on both planes are equal. -/
theorem planes_ext (g v : S2x96x128.Idx → Elt F .f32) (h0 : ∀ r l, g (ix3 0 r l) = v (ix3 0 r l)) (h1 : ∀ r l, g (ix3 1 r l) = v (ix3 1 r l)) :
    g = v := by
  refine funext fun (i : S2x96x128.Idx) => ?_
  have hi : (i 0).val < 2 := (i 0).isLt
  by_cases h : (i 0).val = 1
  · have e : i = ix3 1 (i 1) (i 2) := funext fun b => Fin.ext (by fin_cases b; exact h; rfl; rfl)
    exact (congrArg g e).trans ((h1 _ _).trans (congrArg v e).symm)
  · have h' : (i 0).val = 0 := by omega
    have e : i = ix3 0 (i 1) (i 2) := funext fun b => Fin.ext (by fin_cases b; exact h'; rfl; rfl)
    exact (congrArg g e).trans ((h0 _ _).trans (congrArg v e).symm)
theorem plane_pos (s : Fin 2) (r : Fin 96) (l : Fin 128) (a : Fin S2x96x128.rank) :
    ((ix3 s r l : S2x96x128.Idx) a).val = (![s.val, 0, 0] : Fin 3 → ℕ) a + ((ix3 0 r l : S1x96x128.Idx) a).val := by
  fin_cases a
  · show s.val = s.val + 0; omega
  · show r.val = 0 + r.val; omega
  · show l.val = 0 + l.val; omega
/-- Both planes stored: the buffer's contents; and plane 0 alone. -/
theorem inv_planes (f : S2x96x128.Idx → Elt F .f32) (p0 p1 : S1x96x128.Idx → Elt F .f32) (hh0 hh1) (v : S2x96x128.Idx → Elt F .f32)
    (h0 : ∀ r l, v (ix3 0 r l) = p0 (ix3 0 r l)) (h1 : ∀ r l, v (ix3 1 r l) = p1 (ix3 0 r l)) :
    invB.view.writes (Elt F) f [⟨Rect.unit (s := S2x96x128) ![1, 0, 0] S1x96x128.size hh1, p1⟩,
      ⟨Rect.unit (s := S2x96x128) ![0, 0, 0] S1x96x128.size hh0, p0⟩] = v :=
  planes_ext _ v
    (fun r l => ((inv_miss f hh1 p1 _ (ix3 0 r l) rfl 0 (Or.inl Nat.one_pos)).trans (inv_hit f hh0 p0 _ (ix3 0 r l) (ix3 0 r l) rfl (plane_pos 0 r l))).trans (h0 r l).symm)
    (fun r l => (inv_hit f hh1 p1 _ (ix3 1 r l) (ix3 0 r l) rfl (plane_pos 1 r l)).trans (h1 r l).symm)
theorem inv_plane (f : S2x96x128.Idx → Elt F .f32) (p0 : S1x96x128.Idx → Elt F .f32) (hh0) (r : Fin 96) (l : Fin 128) :
    invB.view.writes (Elt F) f [⟨Rect.unit (s := S2x96x128) ![0, 0, 0] S1x96x128.size hh0, p0⟩] (ix3 0 r l) = p0 (ix3 0 r l) :=
  inv_hit f hh0 p0 [] (ix3 0 r l) (ix3 0 r l) rfl (plane_pos 0 r l)
theorem sbw_planes (f : S2x96x128.Idx → Elt F .f32) (p0 p1 : S1x96x128.Idx → Elt F .f32) (hh0 hh1) (v : S2x96x128.Idx → Elt F .f32)
    (h0 : ∀ r l, v (ix3 0 r l) = p0 (ix3 0 r l)) (h1 : ∀ r l, v (ix3 1 r l) = p1 (ix3 0 r l)) :
    sbwB.view.writes (Elt F) f [⟨Rect.unit (s := S2x96x128) ![1, 0, 0] S1x96x128.size hh1, p1⟩,
      ⟨Rect.unit (s := S2x96x128) ![0, 0, 0] S1x96x128.size hh0, p0⟩] = v :=
  planes_ext _ v
    (fun r l => ((sbw_miss f hh1 p1 _ (ix3 0 r l) rfl 0 (Or.inl Nat.one_pos)).trans (sbw_hit f hh0 p0 _ (ix3 0 r l) (ix3 0 r l) rfl (plane_pos 0 r l))).trans (h0 r l).symm)
    (fun r l => (sbw_hit f hh1 p1 _ (ix3 1 r l) (ix3 0 r l) rfl (plane_pos 1 r l)).trans (h1 r l).symm)
theorem sbw_plane (f : S2x96x128.Idx → Elt F .f32) (p0 : S1x96x128.Idx → Elt F .f32) (hh0) (r : Fin 96) (l : Fin 128) :
    sbwB.view.writes (Elt F) f [⟨Rect.unit (s := S2x96x128) ![0, 0, 0] S1x96x128.size hh0, p0⟩] (ix3 0 r l) = p0 (ix3 0 r l) :=
  sbw_hit f hh0 p0 [] (ix3 0 r l) (ix3 0 r l) rfl (plane_pos 0 r l)

theorem rowAt_congr {f f' : S2x96x128.Idx → Elt F .f32} {s : Fin 2} (h : ∀ r l, f (ix3 s r l) = f' (ix3 s r l)) (n : Fin 24) :
    rowAt f s n = rowAt f' s n := funext fun i => funext fun x => h _ _

theorem ctOf_congr (R : S34x1632x128.Idx → Elt F .f32) {f f' : S2x96x128.Idx → Elt F .f32} (h : Fin 34) {s : Fin 2}
    (e : ∀ r l, f (ix3 s r l) = f' (ix3 s r l)) : ctOf R f h s = ctOf R f' h s := by
  funext i
  show cdV (rowAt f s _) _ _ = cdV (rowAt f' s _) _ _
  rw [rowAt_congr e]

theorem dqOf_congr (R : S34x1632x128.Idx → Elt F .f32) {f f' g g' : S2x96x128.Idx → Elt F .f32} (h : Fin 34) {s : Fin 2}
    (e : ∀ r l, f (ix3 s r l) = f' (ix3 s r l)) (e' : ∀ r l, g (ix3 s r l) = g' (ix3 s r l)) :
    dqOf R f g h s = dqOf R f' g' h s := by
  funext i
  show dqV (rowAt f s _) _ (rowAt g s _) _ = dqV (rowAt f' s _) _ (rowAt g' s _) _
  rw [rowAt_congr e, rowAt_congr e']

/-! ## The tiles -/

/-- The 24 groups done, the code buffer holds the half tile. -/
theorem ct_done (v g : S768x128.Idx → Elt F .i8) (N : ℕ) (hN : N = 24) :
    mix (I := S768x128.Idx) (fun i => (i 0).val / 32) v N g = v := by
  funext i
  have h0 : (i 0).val < 768 := (i 0).isLt
  rw [mix_apply, if_pos (by omega)]

section
variable (R : S34x1632x128.Idx → Elt F .f32) (A : S96x4352.Idx → Elt F .f32) (XQ : S1152x1536.Idx → Elt F .bf16)
  (v0 v1 : Vec F S1x1 .f32) (MG : S4304x1152.Idx → Elt F .f32)

/-- Both half tiles done, the dequantised tile is complete. -/
theorem dq_done (k : Fin k0_t1_loop.trips) (f14 : S1536x256.Idx → Elt F .bf16) (N N' : ℕ) (hN : N = 24) (hN' : N' = 24)
    (v : S1536x256.Idx → Elt F .bf16) (hv : v = dqOf R (inv2 A v0 ⟨k.val, hk17 k⟩) (sbw2 A v0 ⟨k.val, hk17 k⟩) (hOf k 0) 0) :
    mix (I := S1536x256.Idx) (dqStep 1) (dqOf R (inv2 A v0 ⟨k.val, hk17 k⟩) (sbw2 A v0 ⟨k.val, hk17 k⟩) (hOf k 1) 1) N'
        (mix (I := S1536x256.Idx) (dqStep 0) v N f14)
      = DQ R A v0 ⟨k.val, hk17 k⟩ := by
  subst hN hN' hv
  funext i
  have h0 : (i 0).val < 1536 := (i 0).isLt
  have h1 : (i 1).val < 256 := (i 1).isLt
  rw [mix_apply]
  by_cases h : (i 1).val / 128 = 1
  · rw [if_pos (lt_of_eq_of_lt (show dqStep 1 i = (i 0).val / 64 from if_pos h) (by omega))]
    unfold DQ
    have ea : (⟨2 * k.val + (i 1).val / 128, by have := hk17 k; omega⟩ : Fin 34) = hOf k 1 := Fin.ext (by show _ = 2 * k.val + 1; simp only []; omega)
    have eb : (⟨(i 1).val / 128, by omega⟩ : Fin 2) = 1 := Fin.ext h
    show _ = dqOf R _ _ (⟨2 * k.val + (i 1).val / 128, _⟩ : Fin 34) (⟨(i 1).val / 128, _⟩ : Fin 2) i
    rw [ea, eb]
  · rw [if_neg (by rw [show dqStep 1 i = 24 from if_neg h]; omega), mix_apply]
    have h' : (i 1).val / 128 = 0 := by omega
    rw [if_pos (lt_of_eq_of_lt (show dqStep 0 i = (i 0).val / 64 from if_pos h') (by omega))]
    unfold DQ
    have ea : (⟨2 * k.val + (i 1).val / 128, by have := hk17 k; omega⟩ : Fin 34) = hOf k 0 := Fin.ext (by show _ = 2 * k.val + 0; simp only []; omega)
    have eb : (⟨(i 1).val / 128, by omega⟩ : Fin 2) = 0 := Fin.ext h'
    show _ = dqOf R _ _ (⟨2 * k.val + (i 1).val / 128, _⟩ : Fin 34) (⟨(i 1).val / 128, _⟩ : Fin 2) i
    rw [ea, eb]

/-- The transposed half tile of codes. -/
theorem pay50_apply (v : Vec F S768x128 .i8) (r : Fin 128) (j : Fin 768) : k0_pay50 v (ix3 0 r j) = v (ix2 j r) := by
  show shapeCast S1x128x768 (transpose S128x768 [1, 0] v transposes_S768x128_p1_0_S128x768) shapeCasts_S128x768_S1x128x768 (ix3 0 r j) = _
  refine (shapeCast_addUnit_apply ![128, 768] _ _ _).trans ?_
  refine transpose_apply _ _ _ _ _ fun b => ?_
  fin_cases b <;> rfl
theorem pay57_eq (v : Vec F S768x128 .i8) : k0_pay57 v = k0_pay50 v := rfl

/-- A slot of the codes' ring after both half tiles are stored. -/
theorem cod_slot (T : S256x768.Idx → Elt F .i8) (f : S2x256x768.Idx → Elt F .i8) (s : Fin 2) (p0 p1 : S1x128x768.Idx → Elt F .i8) {o17 o22 : Fin 3 → ℕ}
    (e17 : o17 = ![s.val, 0, 0]) (e22 : o22 = ![s.val, 128, 0]) (hh17 hh22)
    (h0 : ∀ (r : Fin 128) j, p0 (ix3 0 r j) = T (ix2 ⟨r.val, by omega⟩ j))
    (h1 : ∀ (r : Fin 128) j, p1 (ix3 0 r j) = T (ix2 ⟨r.val + 128, by omega⟩ j)) (r : Fin 256) (j : Fin 768) :
    codB.view.writes (Elt F) f [⟨Rect.unit (s := S2x256x768) o22 S1x128x768.size hh22, p1⟩,
      ⟨Rect.unit (s := S2x256x768) o17 S1x128x768.size hh17, p0⟩] (ix3 s r j) = T (ix2 r j) := by
  by_cases h : r.val < 128
  · refine Eq.trans ?_ (h0 ⟨r.val, h⟩ j)
    refine Eq.trans (cod_miss f hh22 p1 _ (ix3 s r j) e22 1 (Or.inl (by show r.val < 128; omega))) ?_
    refine cod_hit f hh17 p0 _ (ix3 s r j) (ix3 0 ⟨r.val, h⟩ j) e17 fun a => ?_
    fin_cases a
    · show s.val = s.val + 0; omega
    · show r.val = 0 + r.val; omega
    · show j.val = 0 + j.val; omega
  · refine Eq.trans ?_ ((h1 ⟨r.val - 128, by omega⟩ j).trans (congrArg (fun r => T (ix2 r j)) (Fin.ext (by show r.val - 128 + 128 = r.val; omega))))
    refine cod_hit f hh22 p1 _ (ix3 s r j) (ix3 0 ⟨r.val - 128, by omega⟩ j) e22 fun a => ?_
    fin_cases a
    · show s.val = s.val + 0; omega
    · show r.val = 128 + (r.val - 128); omega
    · show j.val = 0 + j.val; omega

theorem COD_lo (k : Fin k0_t1_loop.trips) (r : Fin 128) (j : Fin 768) :
    COD R A v0 ⟨k.val, hk17 k⟩ (ix2 ⟨r.val, by omega⟩ j) = ctOf R (inv2 A v0 ⟨k.val, hk17 k⟩) (hOf k 0) 0 (ix2 j r) := by
  have ea : (⟨2 * k.val + r.val / 128, by have := hk17 k; omega⟩ : Fin 34) = hOf k 0 := Fin.ext (by show 2 * k.val + r.val / 128 = 2 * k.val + 0; omega)
  have eb : (⟨r.val / 128, by omega⟩ : Fin 2) = 0 := Fin.ext (by show r.val / 128 = 0; omega)
  have ec : (⟨r.val % 128, by omega⟩ : Fin 128) = r := Fin.ext (by show r.val % 128 = r.val; omega)
  show ctOf R _ (⟨2 * k.val + r.val / 128, _⟩ : Fin 34) (⟨r.val / 128, _⟩ : Fin 2) (ix2 j ⟨r.val % 128, _⟩) = _
  rw [ea, eb, ec]
theorem COD_hi (k : Fin k0_t1_loop.trips) (r : Fin 128) (j : Fin 768) :
    COD R A v0 ⟨k.val, hk17 k⟩ (ix2 ⟨r.val + 128, by omega⟩ j) = ctOf R (inv2 A v0 ⟨k.val, hk17 k⟩) (hOf k 1) 1 (ix2 j r) := by
  have ea : (⟨2 * k.val + (r.val + 128) / 128, by have := hk17 k; omega⟩ : Fin 34) = hOf k 1 := Fin.ext (by show 2 * k.val + (r.val + 128) / 128 = 2 * k.val + 1; omega)
  have eb : (⟨(r.val + 128) / 128, by omega⟩ : Fin 2) = 1 := Fin.ext (by show (r.val + 128) / 128 = 1; omega)
  have ec : (⟨(r.val + 128) % 128, by omega⟩ : Fin 128) = r := Fin.ext (by show (r.val + 128) % 128 = r.val; omega)
  show ctOf R _ (⟨2 * k.val + (r.val + 128) / 128, _⟩ : Fin 34) (⟨(r.val + 128) / 128, _⟩ : Fin 2) (ix2 j ⟨(r.val + 128) % 128, _⟩) = _
  rw [ea, eb, ec]

/-- Slot contents that hold tile `p` of the main gradient, as far as its rows reach. -/
def MGAt (p : ℕ) (f : S2x256x1152.Idx → Elt F .f32) : Prop :=
  ∀ (r : Fin 256) (j : Fin 1152) (h : 256 * p + r.val < 4304), f (ix3 (Ring.sl 2 p) r j) = MG (ix2 ⟨256 * p + r.val, h⟩ j)
/-- Slot contents that hold tile `p` of the codes. -/
def CodAt (p : ℕ) (f : S2x256x768.Idx → Elt F .i8) : Prop :=
  ∀ (r : Fin 256) (j : Fin 768) (h : 256 * p + r.val < 4304), f (ix3 (Ring.sl 2 p) r j) = Gcod R A v0 (ix2 ⟨256 * p + r.val, h⟩ j)

/-- A slot of the result's ring after its tile is stored. -/
theorem out_writes (f : S2x256x1152.Idx → Elt F .f32) (p : S1x256x1152.Idx → Elt F .f32) (s : Fin 2) {off : Fin 3 → ℕ} (e : off = slotOff s) (hh)
    (r : Fin 256) (j : Fin 1152) :
    outB.view.writes (Elt F) f [⟨Rect.unit (s := S2x256x1152) off S1x256x1152.size hh, p⟩] (ix3 s r j) = p (ix3 0 r j) := by
  refine out_hit f hh p [] (ix3 s r j) (ix3 0 r j) e fun a => ?_
  fin_cases a
  · show s.val = s.val + 0; omega
  · show r.val = 0 + r.val; omega
  · show j.val = 0 + j.val; omega
/-- The load of a slot of the main gradient's ring. -/
theorem mg_read (m : S2x256x1152.Idx → Elt F .f32) (s : Fin 2) {off : Fin 3 → ℕ} (e : off = slotOff s) (hh)
    (r : Fin 256) (j : Fin 1152) :
    mgB.view.readAt (Elt F) (Rect.unit (s := S2x256x1152) off S1x256x1152.size hh).toLoadRect m (ix3 0 r j) = m (ix3 s r j) := by
  subst e
  refine congrArg m (funext fun b => Fin.ext ?_)
  fin_cases b
  · show s.val + 1 * 0 = s.val; omega
  · show 0 + 1 * r.val = r.val; omega
  · show 0 + 1 * j.val = j.val; omega
/-- The result at a row of tile `k`. -/
theorem Gout_eq (k : Fin 17) (r : Fin 256) (j : Fin 1152) (hr : 256 * k.val + r.val < 4304) :
    Gout R A XQ v0 v1 MG (ix2 ⟨256 * k.val + r.val, hr⟩ j) = OUT R A XQ v0 v1 k (mgOf MG k) (ix3 0 r j) := by
  have ea : (⟨(256 * k.val + r.val) / 256, by omega⟩ : Fin 17) = k := Fin.ext (by show (256 * k.val + r.val) / 256 = k.val; omega)
  have eb : (⟨(256 * k.val + r.val) % 256, by omega⟩ : Fin 256) = r := Fin.ext (by show (256 * k.val + r.val) % 256 = r.val; omega)
  show OUT R A XQ v0 v1 (⟨(256 * k.val + r.val) / 256, _⟩ : Fin 17) (mgOf MG ⟨(256 * k.val + r.val) / 256, _⟩) (ix3 0 (⟨(256 * k.val + r.val) % 256, _⟩ : Fin 256) j) = _
  rw [ea, eb]
/-- The codes at a row of tile `k`. -/
theorem Gcod_eq (k : Fin 17) (r : Fin 256) (j : Fin 768) (hr : 256 * k.val + r.val < 4304) :
    Gcod R A v0 (ix2 ⟨256 * k.val + r.val, hr⟩ j) = COD R A v0 k (ix2 r j) := by
  have ea : (⟨(256 * k.val + r.val) / 256, by omega⟩ : Fin 17) = k := Fin.ext (by show (256 * k.val + r.val) / 256 = k.val; omega)
  have eb : (⟨(256 * k.val + r.val) % 256, by omega⟩ : Fin 256) = r := Fin.ext (by show (256 * k.val + r.val) % 256 = r.val; omega)
  show COD R A v0 (⟨(256 * k.val + r.val) / 256, _⟩ : Fin 17) (ix2 (⟨(256 * k.val + r.val) % 256, _⟩ : Fin 256) j) = _
  rw [ea, eb]
theorem codAt_of (k : Fin k0_t1_loop.trips) (f : S2x256x768.Idx → Elt F .i8)
    (h : ∀ r j, f (ix3 (Ring.sl 2 k.val) r j) = COD R A v0 ⟨k.val, hk17 k⟩ (ix2 r j)) : CodAt R A v0 k.val f :=
  fun r j hr => (h r j).trans (Gcod_eq R A v0 ⟨k.val, hk17 k⟩ r j hr).symm

/-- The result's slot after tile `k`. -/
theorem out_slot (k : Fin k0_t1_loop.trips) (f m : S2x256x1152.Idx → Elt F .f32) (xq : Vec F S1152x1536 .bf16) (dq : Vec F S1536x256 .bf16)
    (hx : xq = XQ) (hd : dq = DQ R A v0 ⟨k.val, hk17 k⟩) (hm : MGAt MG k.val m) {off off' : Fin 3 → ℕ} (e : off = slotOff (Ring.sl 2 k.val)) (e' : off' = slotOff (Ring.sl 2 k.val)) (hh hh') :
    MGAt (Gout R A XQ v0 v1 MG) k.val (outB.view.writes (Elt F) f [⟨Rect.unit (s := S2x256x1152) off S1x256x1152.size hh,
      k0_pay58 (k0_pay59 v0 v1) xq dq (mgB.view.readAt (Elt F) (Rect.unit (s := S2x256x1152) off' S1x256x1152.size hh').toLoadRect m)⟩]) := by
  subst hx hd
  intro r j hr
  refine (out_writes f _ _ e hh r j).trans (Eq.trans ?_ (Gout_eq R A xq v0 v1 MG ⟨k.val, hk17 k⟩ r j hr).symm)
  refine OUT_congr R A xq v0 v1 ⟨k.val, hk17 k⟩ _ _ (ix3 0 r j) ?_
  refine (mg_read m _ e' hh' r j).trans ((hm r j hr).trans (congrArg (fun q => MG (ix2 q j)) (Fin.ext ?_)))
  show 256 * k.val + r.val = min (256 * k.val + r.val) 4303
  omega

/-- The quantised block scales after tile `k`'s two stores. -/
theorem sb_slot (k : Fin k0_t1_loop.trips) (f : S96x4352.Idx → Elt F .fp8e4m3) (p0 p1 : S96x128.Idx → Elt F .fp8e4m3)
    (h0 : p0 = sbOf A v0 (hOf k 0)) (h1 : p1 = sbOf A v0 (hOf k 1)) {oa ob : Fin 2 → ℕ} (ea : oa = ![0, 256 * k.val]) (eb : ob = ![0, 256 * k.val + 128]) (ha hb)
    (hf : ∀ i : S96x4352.Idx, (i 1).val < 256 * k.val → f i = Gsb A v0 i) (i : S96x4352.Idx) (hi : (i 1).val < 256 * (k.val + 1)) :
    sbB.view.writes (Elt F) f [⟨Rect.unit (s := S96x4352) ob S96x128.size hb, p1⟩, ⟨Rect.unit (s := S96x4352) oa S96x128.size ha, p0⟩] i
      = Gsb A v0 i := by
  subst h0 h1
  have hk := hk17 k
  have hG : ∀ s : Fin 2, (i 1).val / 128 = 2 * k.val + s.val →
      Gsb A v0 i = sbOf A v0 (hOf k s) (ix2 (i 0) ⟨(i 1).val % 128, Nat.mod_lt _ (by decide)⟩) := fun s hs => by
    have e : (⟨(i 1).val / 128, by omega⟩ : Fin 34) = hOf k s := Fin.ext hs
    show sbOf A v0 (⟨(i 1).val / 128, _⟩ : Fin 34) _ = _
    rw [e]
  by_cases c1 : 256 * k.val + 128 ≤ (i 1).val
  · refine Eq.trans ?_ (hG 1 (by show _ = 2 * k.val + 1; omega)).symm
    refine sb_hit f hb _ _ i (ix2 (i 0) ⟨(i 1).val % 128, Nat.mod_lt _ (by decide)⟩) eb fun a => ?_
    fin_cases a
    · show (i 0).val = 0 + (i 0).val; omega
    · show (i 1).val = 256 * k.val + 128 + (i 1).val % 128; omega
  · refine Eq.trans (sb_miss f hb _ _ i eb 1 (Or.inl (by show (i 1).val < 256 * k.val + 128; omega))) ?_
    by_cases c0 : 256 * k.val ≤ (i 1).val
    · refine Eq.trans ?_ (hG 0 (by show _ = 2 * k.val + 0; omega)).symm
      refine sb_hit f ha _ _ i (ix2 (i 0) ⟨(i 1).val % 128, Nat.mod_lt _ (by decide)⟩) ea fun a => ?_
      fin_cases a
      · show (i 0).val = 0 + (i 0).val; omega
      · show (i 1).val = 256 * k.val + (i 1).val % 128; omega
    · refine Eq.trans (sb_miss f ha _ _ i ea 1 (Or.inl (by show (i 1).val < 256 * k.val; omega))) ?_
      exact hf i (by omega)

end

/-! ## The slots and blocks read as tiles -/

theorem read_mslot (s : Fin 2) (f : S2x256x1152.Idx → Elt F .f32) (x : S256x1152.Idx) :
    (mslot s).view.read (Elt F) f x = f (ix3 s (x 0) (x 1)) := by
  refine (shapeCast_dropUnit_apply ![256, 1152] (fun i : S1x256x1152.Idx => f ((Rect.unit (s := S2x256x1152) (slotOff s) S1x256x1152.size (slotOff_inb s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_oslot (s : Fin 2) (f : S2x256x1152.Idx → Elt F .f32) (x : S256x1152.Idx) :
    (oslot s).view.read (Elt F) f x = f (ix3 s (x 0) (x 1)) := read_mslot s f x
theorem read_mslotT (s : Fin 2) (f : S2x256x1152.Idx → Elt F .f32) (x : S208x1152.Idx) :
    (mslotT s).view.read (Elt F) f x = f (ix3 s ⟨(x 0).val, Nat.lt_trans (x 0).isLt (by decide)⟩ (x 1)) := by
  refine (shapeCast_dropUnit_apply ![208, 1152] (fun i : S1x208x1152.Idx => f ((Rect.unit (s := S2x256x1152) (slotOff s) S1x208x1152.size (slotOff_inbT s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_oslotT (s : Fin 2) (f : S2x256x1152.Idx → Elt F .f32) (x : S208x1152.Idx) :
    (oslotT s).view.read (Elt F) f x = f (ix3 s ⟨(x 0).val, Nat.lt_trans (x 0).isLt (by decide)⟩ (x 1)) := read_mslotT s f x
theorem read_cslot (s : Fin 2) (f : S2x256x768.Idx → Elt F .i8) (x : S256x768.Idx) :
    (cslot s).view.read (Elt F) f x = f (ix3 s (x 0) (x 1)) := by
  refine (shapeCast_dropUnit_apply ![256, 768] (fun i : S1x256x768.Idx => f ((Rect.unit (s := S2x256x768) (slotOff s) S1x256x768.size (cslotOff_inb s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem read_cslotT (s : Fin 2) (f : S2x256x768.Idx → Elt F .i8) (x : S208x768.Idx) :
    (cslotT s).view.read (Elt F) f x = f (ix3 s ⟨(x 0).val, Nat.lt_trans (x 0).isLt (by decide)⟩ (x 1)) := by
  refine (shapeCast_dropUnit_apply ![208, 768] (fun i : S1x208x768.Idx => f ((Rect.unit (s := S2x256x768) (slotOff s) S1x208x768.size (cslotOff_inbT s)).emb i)) (by decide) x).trans ?_
  refine congrArg f (funext fun b => Fin.ext ?_)
  fin_cases b
  · show s.val + 1 * 0 = s.val; omega
  · show 0 + 1 * (x 0).val = (x 0).val; omega
  · show 0 + 1 * (x 1).val = (x 1).val; omega
theorem blk_lt (b : Fin 16) (r : ℕ) (h : r < 256) : 256 * b.val + r < 4304 := by omega
theorem read_mblk (b : Fin 16) (f : S4304x1152.Idx → Elt F .f32) (x : S256x1152.Idx) :
    (mblk b).view.read (Elt F) f x = f (ix2 ⟨256 * b.val + (x 0).val, blk_lt b _ (x 0).isLt⟩ (x 1)) := by
  refine congrArg f (funext fun a => Fin.ext ?_)
  fin_cases a
  · show 256 * b.val + 1 * (x 0).val = 256 * b.val + (x 0).val; omega
  · show 0 + 1 * (x 1).val = (x 1).val; omega
theorem read_oblk (b : Fin 16) (f : S4304x1152.Idx → Elt F .f32) (x : S256x1152.Idx) :
    (oblk b).view.read (Elt F) f x = f (ix2 ⟨256 * b.val + (x 0).val, blk_lt b _ (x 0).isLt⟩ (x 1)) := read_mblk b f x
theorem read_mblkT (f : S4304x1152.Idx → Elt F .f32) (x : S208x1152.Idx) :
    mblkT.view.read (Elt F) f x = f (ix2 ⟨256 * 16 + (x 0).val, by have : (x 0).val < 208 := (x 0).isLt; omega⟩ (x 1)) := by
  refine congrArg f (funext fun a => Fin.ext ?_)
  fin_cases a
  · show 4096 + 1 * (x 0).val = 256 * 16 + (x 0).val; omega
  · show 0 + 1 * (x 1).val = (x 1).val; omega
theorem read_oblkT (f : S4304x1152.Idx → Elt F .f32) (x : S208x1152.Idx) :
    oblkT.view.read (Elt F) f x = f (ix2 ⟨256 * 16 + (x 0).val, by have : (x 0).val < 208 := (x 0).isLt; omega⟩ (x 1)) := read_mblkT f x
theorem read_cblk (b : Fin 16) (f : S4304x768.Idx → Elt F .i8) (x : S256x768.Idx) :
    (cblk b).view.read (Elt F) f x = f (ix2 ⟨256 * b.val + (x 0).val, blk_lt b _ (x 0).isLt⟩ (x 1)) := by
  refine congrArg f (funext fun a => Fin.ext ?_)
  fin_cases a
  · show 256 * b.val + 1 * (x 0).val = 256 * b.val + (x 0).val; omega
  · show 0 + 1 * (x 1).val = (x 1).val; omega
theorem read_cblkT (f : S4304x768.Idx → Elt F .i8) (x : S208x768.Idx) :
    cblkT.view.read (Elt F) f x = f (ix2 ⟨256 * 16 + (x 0).val, by have : (x 0).val < 208 := (x 0).isLt; omega⟩ (x 1)) := by
  refine congrArg f (funext fun a => Fin.ext ?_)
  fin_cases a
  · show 4096 + 1 * (x 0).val = 256 * 16 + (x 0).val; omega
  · show 0 + 1 * (x 1).val = (x 1).val; omega

/-! ## Loads of whole buffers, and what a trip's halves leave -/

theorem load_ct (f : S768x128.Idx → Elt F .i8) (hh) :
    ctB.view.readAt (Elt F) (Rect.unit (s := S768x128) ![0, 0] S768x128.size hh).toLoadRect f = f := by
  funext x
  refine congrArg f (funext fun b => Fin.ext ?_)
  fin_cases b
  · show 0 + 1 * (x 0).val = (x 0).val; omega
  · show 0 + 1 * (x 1).val = (x 1).val; omega
theorem load_dq (f : S1536x256.Idx → Elt F .bf16) (hh) :
    dqB.view.readAt (Elt F) (Rect.unit (s := S1536x256) ![0, 0] S1536x256.size hh).toLoadRect f = f := by
  funext x
  refine congrArg f (funext fun b => Fin.ext ?_)
  fin_cases b
  · show 0 + 1 * (x 0).val = (x 0).val; omega
  · show 0 + 1 * (x 1).val = (x 1).val; omega
theorem load_xq {arg2 : Memref sig .tc .vmem S1152x1536 .bf16} (harg2 : arg2.IsWhole) (XQ : S1152x1536.Idx → Elt F .bf16) (hh) :
    arg2.view.readAt (Elt F) (Rect.unit (s := S1152x1536) ![0, 0] S1152x1536.size hh).toLoadRect (harg2.unread XQ) = XQ := by
  funext x
  rw [harg2.readAt_unread]
  refine congrArg XQ (funext fun b => Fin.ext ?_)
  fin_cases b
  · show 0 + 1 * (x 0).val = (x 0).val; omega
  · show 0 + 1 * (x 1).val = (x 1).val; omega

theorem off12_0 (k : Fin k0_t1_loop.trips) : k0_off12 k 0#32 = ![0, 128 * (hOf k 0).val] := off12h k 0
theorem off12_1 (k : Fin k0_t1_loop.trips) : k0_off12 k 128#32 = ![0, 128 * (hOf k 1).val] := off12h k 1

section
variable {arg1 : Memref sig .tc .vmem S96x4352 .f32} (harg1 : arg1.IsWhole) (A : S96x4352.Idx → Elt F .f32) (v0 : Vec F S1x1 .f32)
  (k : Fin k0_t1_loop.trips)

/-- Plane 0 of the reciprocal scales after the first half's stores. -/
theorem inv_first (f : S2x96x128.Idx → Elt F .f32) (hh hh0) (r : Fin 96) (l : Fin 128) :
    invB.view.writes (Elt F) f [⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩] (ix3 0 r l)
      = inv2 A v0 ⟨k.val, hk17 k⟩ (ix3 0 r l) := by
  refine (inv_plane f _ hh0 r l).trans ?_
  rw [load_am harg1 A (hOf k 0) (off12_0 k) hh]
  rfl
theorem sbw_first (f : S2x96x128.Idx → Elt F .f32) (hh hh0) (r : Fin 96) (l : Fin 128) :
    sbwB.view.writes (Elt F) f [⟨Rect.unit (s := S2x96x128) ![0, 0, 0] S1x96x128.size hh0,
        k0_pay48 (k0_pay44 v0 (arg1.view.readAt (Elt F) (Rect.unit (s := S96x4352) (k0_off12 k 0#32) S96x128.size hh).toLoadRect (harg1.unread A)))⟩] (ix3 0 r l)
      = sbw2 A v0 ⟨k.val, hk17 k⟩ (ix3 0 r l) := by
  refine (sbw_plane f _ hh0 r l).trans ?_
  rw [load_am harg1 A (hOf k 0) (off12_0 k) hh]
  rfl
/-- Both planes after the second half's. -/
theorem inv_both (f : S2x96x128.Idx → Elt F .f32) (hh hh' hh0 hh1) :
    invB.view.writes (Elt F) f [⟨Rect.unit (s := S2x96x128) ![1, 0, 0] S1x96x128.size hh1,
        k0_pay54 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩]
      = inv2 A v0 ⟨k.val, hk17 k⟩ := by
  rw [load_am harg1 A (hOf k 0) (off12_0 k) hh, load_am harg1 A (hOf k 1) (off12_1 k) hh', pay54_eq]
  exact inv_planes f _ _ hh0 hh1 _ (fun _ _ => rfl) (fun _ _ => rfl)
theorem sbw_both (f : S2x96x128.Idx → Elt F .f32) (hh hh' hh0 hh1) :
    sbwB.view.writes (Elt F) f [⟨Rect.unit (s := S2x96x128) ![1, 0, 0] S1x96x128.size hh1,
        k0_pay55 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S2x96x128) ![0, 0, 0] S1x96x128.size hh0,
        k0_pay48 (k0_pay44 v0 (arg1.view.readAt (Elt F) (Rect.unit (s := S96x4352) (k0_off12 k 0#32) S96x128.size hh).toLoadRect (harg1.unread A)))⟩]
      = sbw2 A v0 ⟨k.val, hk17 k⟩ := by
  rw [load_am harg1 A (hOf k 0) (off12_0 k) hh, load_am harg1 A (hOf k 1) (off12_1 k) hh', pay55_eq]
  exact sbw_planes f _ _ hh0 hh1 _ (fun _ _ => rfl) (fun _ _ => rfl)
/-- The quantised scales' buffer after a trip. -/
theorem sb_both (f : S96x4352.Idx → Elt F .fp8e4m3) (hh hh' ha hb)
    (hf : ∀ i : S96x4352.Idx, (i 1).val < 256 * k.val → f i = Gsb A v0 i) (i : S96x4352.Idx) (hi : (i 1).val < 256 * (k.val + 1)) :
    sbB.view.writes (Elt F) f [⟨Rect.unit (s := S96x4352) (k0_off12 k 128#32) S96x128.size hb,
        k0_pay56 v0 (k0_pay51 (arg1.view.readAt (Elt F) (Rect.unit (s := S96x4352) (k0_off12 k 128#32) S96x128.size hh').toLoadRect (harg1.unread A))) (Scalar.ofBits .f32 0x3F800800#32)⟩,
      ⟨Rect.unit (s := S96x4352) (k0_off12 k 0#32) S96x128.size ha,
        k0_pay49 (k0_pay43 v0 (arg1.view.readAt (Elt F) (Rect.unit (s := S96x4352) (k0_off12 k 0#32) S96x128.size hh).toLoadRect (harg1.unread A)))⟩] i
      = Gsb A v0 i := by
  refine sb_slot A v0 k f _ _ ?_ ?_ (off12_eq0 k) (off12_eq1 k) ha hb hf i hi
  · rw [pay49_eq, load_am harg1 A (hOf k 0) (off12_0 k) hh]; rfl
  · rw [pay56_eq, load_am harg1 A (hOf k 1) (off12_1 k) hh']; rfl

/-- The codes' slot after a trip. -/
theorem cod_both (R : S34x1632x128.Idx → Elt F .f32) (f : S2x256x768.Idx → Elt F .i8) (hh17 hh22) (v91 v138 : Vec F S768x128 .i8)
    (h0 : v91 = ctOf R (inv2 A v0 ⟨k.val, hk17 k⟩) (hOf k 0) 0) (h1 : v138 = ctOf R (inv2 A v0 ⟨k.val, hk17 k⟩) (hOf k 1) 1) :
    CodAt R A v0 k.val (codB.view.writes (Elt F) f [⟨Rect.unit (s := S2x256x768) (k0_off22 k) S1x128x768.size hh22, k0_pay57 v138⟩,
      ⟨Rect.unit (s := S2x256x768) (k0_off17 k) S1x128x768.size hh17, k0_pay50 v91⟩]) := by
  subst h0 h1
  refine codAt_of R A v0 k _ fun r j => cod_slot _ f _ _ _ (off17_eq k) (off22_eq k) hh17 hh22 (fun r j => ?_) (fun r j => ?_) r j
  · rw [pay50_apply]; exact (COD_lo R A v0 k r j).symm
  · rw [pay57_eq, pay50_apply]; exact (COD_hi R A v0 k r j).symm
end

/-- What a copy of tile `p` of the result's ring carries. -/
theorem oslot_tile (p : Fin 16) (q : ℕ) (hq : Ring.sl 2 q = Ring.sl 2 p.val) (G : S4304x1152.Idx → Elt F .f32) (o : S2x256x1152.Idx → Elt F .f32) (h : MGAt G p.val o) (x : S256x1152.Idx) :
    (oslot (Ring.sl 2 q)).view.read (Elt F) o x = (oblk p).view.read (Elt F) G x := by
  rw [read_oslot, read_oblk, hq]; exact h (x 0) (x 1) _
theorem cslot_tile (p : Fin 16) (q : ℕ) (hq : Ring.sl 2 q = Ring.sl 2 p.val) (R : S34x1632x128.Idx → Elt F .f32) (A : S96x4352.Idx → Elt F .f32) (v0 : Vec F S1x1 .f32)
    (o : S2x256x768.Idx → Elt F .i8) (h : CodAt R A v0 p.val o) (x : S256x768.Idx) :
    (cslot (Ring.sl 2 q)).view.read (Elt F) o x = (cblk p).view.read (Elt F) (Gcod R A v0) x := by
  rw [read_cslot, read_cblk, hq]; exact h (x 0) (x 1) _
theorem oslotT_tile (q : ℕ) (hq : Ring.sl 2 q = Ring.sl 2 16) (G : S4304x1152.Idx → Elt F .f32) (o : S2x256x1152.Idx → Elt F .f32) (h : MGAt G 16 o) (x : S208x1152.Idx) :
    (oslotT (Ring.sl 2 q)).view.read (Elt F) o x = oblkT.view.read (Elt F) G x := by
  have h0 : (x 0).val < 208 := (x 0).isLt
  have e := h ⟨(x 0).val, by omega⟩ (x 1) (by show 256 * 16 + (x 0).val < 4304; omega)
  rw [hq]
  exact (read_oslotT _ o x).trans (e.trans (read_oblkT G x).symm)
theorem cslotT_tile (q : ℕ) (hq : Ring.sl 2 q = Ring.sl 2 16) (R : S34x1632x128.Idx → Elt F .f32) (A : S96x4352.Idx → Elt F .f32) (v0 : Vec F S1x1 .f32)
    (o : S2x256x768.Idx → Elt F .i8) (h : CodAt R A v0 16 o) (x : S208x768.Idx) :
    (cslotT (Ring.sl 2 q)).view.read (Elt F) o x = cblkT.view.read (Elt F) (Gcod R A v0) x := by
  have h0 : (x 0).val < 208 := (x 0).isLt
  have e := h ⟨(x 0).val, by omega⟩ (x 1) (by show 256 * 16 + (x 0).val < 4304; omega)
  rw [hq]
  exact (read_cslotT _ o x).trans (e.trans (read_cblkT (Gcod R A v0) x).symm)
/-- What the copy of tile `p` of the main gradient lands. -/
theorem mgAt_of (p : Fin 16) (MG : S4304x1152.Idx → Elt F .f32) (g : S2x256x1152.Idx → Elt F .f32)
    (hg : ∀ x, (mslot (Ring.sl 2 p.val)).view.read (Elt F) g x = (mblk p).view.read (Elt F) MG x) : MGAt MG p.val g :=
  fun r j h => (read_mslot _ g (ix2 r j)).symm.trans ((hg _).trans (read_mblk p MG (ix2 r j)))
theorem mslot_tile (p : Fin 16) (MG : S4304x1152.Idx → Elt F .f32) (f : S2x256x1152.Idx → Elt F .f32) :
    MGAt MG p.val ((mslot (Ring.sl 2 p.val)).view.writes (Elt F) f [⟨Rect.whole S256x1152, ReadAs.same.apply ((mblk p).view.read (Elt F) MG)⟩]) :=
  mgAt_of p MG _ fun x => congrFun (View.read_writes_whole (mslot (Ring.sl 2 p.val)).view f _) x
theorem mgAtT_of (MG : S4304x1152.Idx → Elt F .f32) (g : S2x256x1152.Idx → Elt F .f32)
    (hg : ∀ x, (mslotT (Ring.sl 2 16)).view.read (Elt F) g x = mblkT.view.read (Elt F) MG x) : MGAt MG 16 g := fun r j h => by
  have hr : r.val < 208 := by omega
  exact (read_mslotT _ g (ix2 ⟨r.val, hr⟩ j)).symm.trans ((hg _).trans (read_mblkT MG (ix2 ⟨r.val, hr⟩ j)))
theorem mslotT_tile (MG : S4304x1152.Idx → Elt F .f32) (f : S2x256x1152.Idx → Elt F .f32) :
    MGAt MG 16 ((mslotT (Ring.sl 2 16)).view.writes (Elt F) f [⟨Rect.whole S208x1152, ReadAs.same.apply (mblkT.view.read (Elt F) MG)⟩]) :=
  mgAtT_of MG _ fun x => congrFun (View.read_writes_whole (mslotT (Ring.sl 2 16)).view f _) x

/-- The same at a trip's number. -/
theorem oslot_tile_at (k : ℕ) (hk : k < 16) (G : S4304x1152.Idx → Elt F .f32) (o : S2x256x1152.Idx → Elt F .f32) (h : MGAt G k o) (x : S256x1152.Idx) :
    (oslot (Ring.sl 2 k)).view.read (Elt F) o x = (oblk (Ring.bk 16 k)).view.read (Elt F) G x := by
  have e : (Ring.bk 16 k).val = k := Nat.mod_eq_of_lt hk
  exact oslot_tile (Ring.bk 16 k) k (by rw [e]) G o (by rw [e]; exact h) x
theorem cslot_tile_at (k : ℕ) (hk : k < 16) (R : S34x1632x128.Idx → Elt F .f32) (A : S96x4352.Idx → Elt F .f32) (v0 : Vec F S1x1 .f32)
    (o : S2x256x768.Idx → Elt F .i8) (h : CodAt R A v0 k o) (x : S256x768.Idx) :
    (cslot (Ring.sl 2 k)).view.read (Elt F) o x = (cblk (Ring.bk 16 k)).view.read (Elt F) (Gcod R A v0) x := by
  have e : (Ring.bk 16 k).val = k := Nat.mod_eq_of_lt hk
  exact cslot_tile (Ring.bk 16 k) k (by rw [e]) R A v0 o (by rw [e]; exact h) x
theorem mslot_tile_at (k : ℕ) (hk : k < 16) (MG : S4304x1152.Idx → Elt F .f32) (f : S2x256x1152.Idx → Elt F .f32) :
    MGAt MG k ((mslot (Ring.sl 2 k)).view.writes (Elt F) f [⟨Rect.whole S256x1152, ReadAs.same.apply ((mblk (Ring.bk 16 k)).view.read (Elt F) MG)⟩]) := by
  have e : (Ring.bk 16 k).val = k := Nat.mod_eq_of_lt hk
  have h := mslot_tile (Ring.bk 16 k) MG f
  rwa [e] at h

/-! ## Stores as single writes -/

theorem cod_write (g : codB.view.ty.Contents (Elt F)) (r : Rect S2x256x768) (p : r.shape.Idx → Elt F .i8) :
    View.write (Elt F) (codB.access r) g p Finset.univ = codB.view.writes (Elt F) g [⟨r, p⟩] := rfl
theorem cod_writes (g : codB.view.ty.Contents (Elt F)) (q q' : View.Piece (Elt F) S2x256x768 .i8) :
    codB.view.writes (Elt F) (codB.view.writes (Elt F) g [q]) [q'] = codB.view.writes (Elt F) g [q', q] := rfl
theorem out_write (g : outB.view.ty.Contents (Elt F)) (r : Rect S2x256x1152) (p : r.shape.Idx → Elt F .f32) :
    View.write (Elt F) (outB.access r) g p Finset.univ = outB.view.writes (Elt F) g [⟨r, p⟩] := rfl
/-- The codes' slot after a trip, as stored. -/
theorem cod_stored (k : Fin k0_t1_loop.trips) (R : S34x1632x128.Idx → Elt F .f32) (A : S96x4352.Idx → Elt F .f32) (v0 : Vec F S1x1 .f32)
    (f : S2x256x768.Idx → Elt F .i8) (hh17 hh22) (v91 v138 : Vec F S768x128 .i8)
    (h0 : v91 = ctOf R (inv2 A v0 ⟨k.val, hk17 k⟩) (hOf k 0) 0) (h1 : v138 = ctOf R (inv2 A v0 ⟨k.val, hk17 k⟩) (hOf k 1) 1) :
    CodAt R A v0 k.val (View.write (Elt F) (codB.access (Rect.unit (s := S2x256x768) (k0_off22 k) S1x128x768.size hh22))
      (View.write (Elt F) (codB.access (Rect.unit (s := S2x256x768) (k0_off17 k) S1x128x768.size hh17)) f (k0_pay50 v91) Finset.univ) (k0_pay57 v138) Finset.univ) := by
  have e := cod_both A v0 k R f hh17 hh22 v91 v138 h0 h1
  generalize k0_pay57 v138 = p1 at e ⊢
  generalize k0_pay50 v91 = p0 at e ⊢
  rw [cod_write, cod_write, cod_writes]
  exact e
/-- The result's slot after a trip, as stored. -/
theorem out_stored (k : Fin k0_t1_loop.trips) (R : S34x1632x128.Idx → Elt F .f32) (A : S96x4352.Idx → Elt F .f32) (XQ : S1152x1536.Idx → Elt F .bf16)
    (v0 v1 : Vec F S1x1 .f32) (MG : S4304x1152.Idx → Elt F .f32) (f m : S2x256x1152.Idx → Elt F .f32) (xq : Vec F S1152x1536 .bf16) (dq : Vec F S1536x256 .bf16)
    (hx : xq = XQ) (hd : dq = DQ R A v0 ⟨k.val, hk17 k⟩) (hm : MGAt MG k.val m) (hh hh') :
    MGAt (Gout R A XQ v0 v1 MG) k.val (View.write (Elt F) (outB.access (Rect.unit (s := S2x256x1152) (k0_off29 k) S1x256x1152.size hh)) f
      (k0_pay58 (k0_pay59 v0 v1) xq dq (mgB.view.readAt (Elt F) (Rect.unit (s := S2x256x1152) (k0_off29 k) S1x256x1152.size hh').toLoadRect m)) Finset.univ) := by
  have e := out_slot R A XQ v0 v1 MG k f m xq dq hx hd hm (off29_eq k) (off29_eq k) hh hh'
  generalize k0_pay58 (k0_pay59 v0 v1) xq dq (mgB.view.readAt (Elt F) (Rect.unit (s := S2x256x1152) (k0_off29 k) S1x256x1152.size hh').toLoadRect m) = p at e ⊢
  rw [out_write]
  exact e
/-- The codes of the first half tile, as loaded. -/
theorem ct_first (k : Fin k0_t1_loop.trips) (R : S34x1632x128.Idx → Elt F .f32) {arg1 : Memref sig .tc .vmem S96x4352 .f32} (harg1 : arg1.IsWhole) (A : S96x4352.Idx → Elt F .f32) (v0 : Vec F S1x1 .f32)
    (f9 : S2x96x128.Idx → Elt F .f32) (f12 : S768x128.Idx → Elt F .i8) (hh hh0 hl) :
    ctB.view.readAt (Elt F) (Rect.unit (s := S768x128) ![0, 0] S768x128.size hl).toLoadRect
      (mix (I := S768x128.Idx) (fun i => (i 0).val / 32) (ctOf R (invB.view.writes (Elt F) f9 [⟨Rect.unit (s := S2x96x128) ![0, 0, 0] S1x96x128.size hh0,
        k0_pay47 (k0_pay45 v0 (arg1.view.readAt (Elt F) (Rect.unit (s := S96x4352) (k0_off12 k 0#32) S96x128.size hh).toLoadRect (harg1.unread A))) k0_pay46⟩]) (hOf k 0) 0)
        (Scf.trips k0_t2_loop.lb k0_t2_loop.ub k0_t2_loop.st) f12)
      = ctOf R (inv2 A v0 ⟨k.val, hk17 k⟩) (hOf k 0) 0 := by
  rw [load_ct, ct_done _ _ _ (by decide)]
  exact ctOf_congr R (hOf k 0) (inv_first harg1 A v0 k f9 hh hh0)
/-- The codes of the second. -/
theorem ct_second (v g : S768x128.Idx → Elt F .i8) (hl) :
    ctB.view.readAt (Elt F) (Rect.unit (s := S768x128) ![0, 0] S768x128.size hl).toLoadRect
      (mix (I := S768x128.Idx) (fun i => (i 0).val / 32) v (Scf.trips k0_t3_loop.lb k0_t3_loop.ub k0_t3_loop.st) g) = v := by
  rw [load_ct, ct_done _ _ _ (by decide)]
/-- The dequantised tile, as loaded. -/
theorem dq_both (k : Fin k0_t1_loop.trips) (R : S34x1632x128.Idx → Elt F .f32) (A : S96x4352.Idx → Elt F .f32) (v0 : Vec F S1x1 .f32)
    (f14 g14 : S1536x256.Idx → Elt F .bf16) (hl)
    (e : mix (I := S1536x256.Idx) (dqStep 0) (dqOf R (inv2 A v0 ⟨k.val, hk17 k⟩) (sbw2 A v0 ⟨k.val, hk17 k⟩) (hOf k 0) 0) 24 f14 = g14) :
    dqB.view.readAt (Elt F) (Rect.unit (s := S1536x256) ![0, 0] S1536x256.size hl).toLoadRect
      (mix (I := S1536x256.Idx) (dqStep 1) (dqOf R (inv2 A v0 ⟨k.val, hk17 k⟩) (sbw2 A v0 ⟨k.val, hk17 k⟩) (hOf k 1) 1) (Scf.trips k0_t3_loop.lb k0_t3_loop.ub k0_t3_loop.st) g14)
      = DQ R A v0 ⟨k.val, hk17 k⟩ := by
  subst e
  rw [load_dq]
  exact dq_done R A v0 k f14 24 (Scf.trips k0_t3_loop.lb k0_t3_loop.ub k0_t3_loop.st) rfl (by decide) _ rfl

/-! ## Held memrefs -/

section Pieces
variable (c : Dev nD)

/-- A memref's elements, held at contents `f`. -/
abbrev hold {sp : Space} {s : Shape} {e : EltTy} (M : Memref sig .tc sp s e) (f : Buf (Elt F) (M.view.loc (c : Thread nD τ))) : sProp (𝕄 F) :=
  M.view.loc (c : Thread nD τ) ↦[M.view.set]{fullShare} f
/-- A memref's elements, held at some contents. -/
abbrev any {sp : Space} {s : Shape} {e : EltTy} (M : Memref sig .tc sp s e) : sProp (𝕄 F) := iprop(∃ f, hold c M f)
/-- A copy's semaphore at zero. -/
abbrev cell0 (σ : DmaSems sig S_) : sProp (𝕄 F) := semVal ((c : Thread nD τ), SemLoc.dma σ.sem) 0
/-- A copy in flight, delivering `P` on its semaphore. -/
abbrev fly (σ : DmaSems sig S_) (n : ℕ) (P : sProp (𝕄 F)) : sProp (𝕄 F) :=
  Transfers.Flight countersEmb (c : Thread nD τ) (SemLoc.dma σ.sem) () n P

/-- Contents that a memref reads alike hold alike. -/
theorem hold_congr {sp : Space} {s : Shape} {e : EltTy} (M : Memref sig .tc sp s e) (f g : Buf (Elt F) (M.view.loc (c : Thread nD τ)))
    (h : ∀ x, M.view.read (Elt F) f x = M.view.read (Elt F) g x) : (hold c M f : sProp (𝕄 F)) = hold c M g := by
  refine pointsTo_congr fun i hi => ?_
  obtain ⟨x, rfl⟩ := View.exists_emb_of_mem_set M.view hi
  exact Idealize.ShloMosaic.View.eq_of_read_eq (h x)

/-- What a copy lands: its source's tile. -/
theorem hold_landed {sp : Space} {s : Shape} {e : EltTy} (M : Memref sig .tc sp s e) (f g : Buf (Elt F) (M.view.loc (c : Thread nD τ)))
    (p : s.Idx → Elt F e) (h : ∀ x, p x = M.view.read (Elt F) g x) :
    (hold c M (M.view.writes (Elt F) f [⟨Rect.whole s, p⟩]) : sProp (𝕄 F)) = hold c M g :=
  hold_congr c M _ g fun x => (congrFun (View.read_writes_whole M.view f p) x).trans (h x)

end Pieces

end Cert.KernelIdeal.Run
end
-- ==== Proof.KernelIdeal.Packs.lean ====
/-
  What one trip of the main loop holds: the slots and copies of its three rings, the scratch buffers, the windows.
-/
module

public import proofs.«01_k».proof.Proof.KernelIdeal.Tiles

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

/-! ## The slots' elements -/

theorem mslot_set (s : Fin 2) : (mslot s).view.set = (Rect.unit (s := S2x256x1152) (slotOff s) S1x256x1152.size (slotOff_inb s)).set :=
  (View.set_reshape _ _).trans (View.set_slice_whole _ _)
theorem mslotT_set (s : Fin 2) : (mslotT s).view.set = (Rect.unit (s := S2x256x1152) (slotOff s) S1x208x1152.size (slotOff_inbT s)).set :=
  (View.set_reshape _ _).trans (View.set_slice_whole _ _)
theorem oslot_set (s : Fin 2) : (oslot s).view.set = (Rect.unit (s := S2x256x1152) (slotOff s) S1x256x1152.size (slotOff_inb s)).set :=
  (View.set_reshape _ _).trans (View.set_slice_whole _ _)
theorem oslotT_set (s : Fin 2) : (oslotT s).view.set = (Rect.unit (s := S2x256x1152) (slotOff s) S1x208x1152.size (slotOff_inbT s)).set :=
  (View.set_reshape _ _).trans (View.set_slice_whole _ _)
theorem cslot_set (s : Fin 2) : (cslot s).view.set = (Rect.unit (s := S2x256x768) (slotOff s) S1x256x768.size (cslotOff_inb s)).set :=
  (View.set_reshape _ _).trans (View.set_slice_whole _ _)
theorem cslotT_set (s : Fin 2) : (cslotT s).view.set = (Rect.unit (s := S2x256x768) (slotOff s) S1x208x768.size (cslotOff_inbT s)).set :=
  (View.set_reshape _ _).trans (View.set_slice_whole _ _)

theorem mem_slot (s : Fin 2) (i : S2x256x1152.Idx) :
    i ∈ (Rect.unit (s := S2x256x1152) (slotOff s) S1x256x1152.size (slotOff_inb s)).set ↔ (i 0).val = s.val := by
  have h1 : (i 1).val < 256 := (i 1).isLt
  have h2 : (i 2).val < 1152 := (i 2).isLt
  rw [Rect.mem_set_unit]
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 256; omega
    · show 0 ≤ (i 2).val ∧ (i 2).val < 0 + 1152; omega
theorem mem_slotT (s : Fin 2) (i : S2x256x1152.Idx) :
    i ∈ (Rect.unit (s := S2x256x1152) (slotOff s) S1x208x1152.size (slotOff_inbT s)).set ↔ (i 0).val = s.val ∧ (i 1).val < 208 := by
  have h2 : (i 2).val < 1152 := (i 2).isLt
  rw [Rect.mem_set_unit]
  constructor
  · intro H
    have a0 : s.val ≤ (i 0).val ∧ (i 0).val < s.val + 1 := H 0
    have a1 : 0 ≤ (i 1).val ∧ (i 1).val < 0 + 208 := H 1
    omega
  · intro H a; fin_cases a
    · show s.val ≤ (i 0).val ∧ (i 0).val < s.val + 1; omega
    · show 0 ≤ (i 1).val ∧ (i 1).val < 0 + 208; omega
    · show 0 ≤ (i 2).val ∧ (i 2).val < 0 + 1152; omega
theorem mem_cslot (s : Fin 2) (i : S2x256x768.Idx) :
    i ∈ (Rect.unit (s := S2x256x768) (slotOff s) S1x256x768.size (cslotOff_inb s)).set ↔ (i 0).val = s.val := by
  have h1 : (i 1).val < 256 := (i 1).isLt
  have h2 : (i 2).val < 768 := (i 2).isLt
  rw [Rect.mem_set_unit]
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 256; omega
    · show 0 ≤ (i 2).val ∧ (i 2).val < 0 + 768; omega
theorem mem_cslotT (s : Fin 2) (i : S2x256x768.Idx) :
    i ∈ (Rect.unit (s := S2x256x768) (slotOff s) S1x208x768.size (cslotOff_inbT s)).set ↔ (i 0).val = s.val ∧ (i 1).val < 208 := by
  have h2 : (i 2).val < 768 := (i 2).isLt
  rw [Rect.mem_set_unit]
  constructor
  · intro H
    have a0 : s.val ≤ (i 0).val ∧ (i 0).val < s.val + 1 := H 0
    have a1 : 0 ≤ (i 1).val ∧ (i 1).val < 0 + 208 := H 1
    omega
  · intro H a; fin_cases a
    · show s.val ≤ (i 0).val ∧ (i 0).val < s.val + 1; omega
    · show 0 ≤ (i 1).val ∧ (i 1).val < 0 + 208; omega
    · show 0 ≤ (i 2).val ∧ (i 2).val < 0 + 768; omega

theorem mem_mslot_view (s : Fin 2) (i : S2x256x1152.Idx) : i ∈ (mslot s).view.set ↔ (i 0).val = s.val := by
  rw [mslot_set]; exact mem_slot s i
theorem mem_mslotT_view (s : Fin 2) (i : S2x256x1152.Idx) : i ∈ (mslotT s).view.set ↔ (i 0).val = s.val ∧ (i 1).val < 208 := by
  rw [mslotT_set]; exact mem_slotT s i
theorem mslotT_sub (s : Fin 2) : (mslotT s).view.set ⊆ (mslot s).view.set := fun i hi =>
  (mem_mslot_view s i).2 ((mem_mslotT_view s i).1 hi).1
theorem mem_oslot_view (s : Fin 2) (i : S2x256x1152.Idx) : i ∈ (oslot s).view.set ↔ (i 0).val = s.val := by
  rw [oslot_set]; exact mem_slot s i
theorem mem_oslotT_view (s : Fin 2) (i : S2x256x1152.Idx) : i ∈ (oslotT s).view.set ↔ (i 0).val = s.val ∧ (i 1).val < 208 := by
  rw [oslotT_set]; exact mem_slotT s i
theorem oslotT_sub (s : Fin 2) : (oslotT s).view.set ⊆ (oslot s).view.set := fun i hi =>
  (mem_oslot_view s i).2 ((mem_oslotT_view s i).1 hi).1
theorem mem_cslot_view (s : Fin 2) (i : S2x256x768.Idx) : i ∈ (cslot s).view.set ↔ (i 0).val = s.val := by
  rw [cslot_set]; exact mem_cslot s i
theorem mem_cslotT_view (s : Fin 2) (i : S2x256x768.Idx) : i ∈ (cslotT s).view.set ↔ (i 0).val = s.val ∧ (i 1).val < 208 := by
  rw [cslotT_set]; exact mem_cslotT s i
theorem cslotT_sub (s : Fin 2) : (cslotT s).view.set ⊆ (cslot s).view.set := fun i hi =>
  (mem_cslot_view s i).2 ((mem_cslotT_view s i).1 hi).1
/-- A piecewise function on its first part, the decision procedure whatever it is. -/
theorem piecewise_on {ι : Type} {π : ι → Type} (s : Finset ι) (f g : ∀ i, π i) (d : ∀ j, Decidable (j ∈ s)) {i : ι} (hi : i ∈ s) :
    @Finset.piecewise ι π s f g d i = f i := Finset.piecewise_eq_of_mem _ _ _ hi
/-- A slot whose first 208 rows landed, made whole, holds the tile there. -/
theorem mslot_join (c : Dev nD) (MG : S4304x1152.Idx → Elt F .f32) (q : ℕ) (hq : Ring.sl 2 q = Ring.sl 2 16) (m f : S2x256x1152.Idx → Elt F .f32) (h : MGAt MG 16 m) :
    (iprop(hold c (mslotT (Ring.sl 2 q)) m ∗ (mslot (Ring.sl 2 q)).view.loc (c : Thread nD τ) ↦[(mslot (Ring.sl 2 q)).view.set \ (mslotT (Ring.sl 2 q)).view.set]{fullShare} f) : sProp (𝕄 F))
      ⊢ iprop(∃ g : S2x256x1152.Idx → Elt F .f32, ⌜MGAt MG 16 g⌝ ∗ hold c (mslot (Ring.sl 2 q)) g) := by
  iintro H
  iexists _; isplitr; swap
  · iapply (pointsTo_join_subset (mslotT_sub (Ring.sl 2 q))); iexact H
  · ipureintro
    intro r j hr
    have hm : ix3 (Ring.sl 2 16) r j ∈ (mslotT (Ring.sl 2 q)).view.set := by
      rw [hq]; exact (mem_mslotT_view _ _).2 ⟨rfl, by show r.val < 208; omega⟩
    exact (piecewise_on _ _ _ _ hm).trans (h r j hr)
/-- The first 208 rows of a slot, apart from the rest. -/
theorem oslot_cut (c : Dev nD) (q : ℕ) (o : S2x256x1152.Idx → Elt F .f32) :
    (hold c (oslot (Ring.sl 2 q)) o : sProp (𝕄 F)) ⊢ iprop(hold c (oslotT (Ring.sl 2 q)) o
      ∗ (oslot (Ring.sl 2 q)).view.loc (c : Thread nD τ) ↦[(oslot (Ring.sl 2 q)).view.set \ (oslotT (Ring.sl 2 q)).view.set]{fullShare} o) :=
  (pointsTo_split_subset (oslotT_sub (Ring.sl 2 q))).1
theorem cslot_cut (c : Dev nD) (q : ℕ) (o : S2x256x768.Idx → Elt F .i8) :
    (hold c (cslot (Ring.sl 2 q)) o : sProp (𝕄 F)) ⊢ iprop(hold c (cslotT (Ring.sl 2 q)) o
      ∗ (cslot (Ring.sl 2 q)).view.loc (c : Thread nD τ) ↦[(cslot (Ring.sl 2 q)).view.set \ (cslotT (Ring.sl 2 q)).view.set]{fullShare} o) :=
  (pointsTo_split_subset (cslotT_sub (Ring.sl 2 q))).1
theorem mslot_cut (c : Dev nD) (q : ℕ) (o : S2x256x1152.Idx → Elt F .f32) :
    (hold c (mslot (Ring.sl 2 q)) o : sProp (𝕄 F)) ⊢ iprop(hold c (mslotT (Ring.sl 2 q)) o
      ∗ (mslot (Ring.sl 2 q)).view.loc (c : Thread nD τ) ↦[(mslot (Ring.sl 2 q)).view.set \ (mslotT (Ring.sl 2 q)).view.set]{fullShare} o) :=
  (pointsTo_split_subset (mslotT_sub (Ring.sl 2 q))).1
/-- and back. -/
theorem oslot_join (c : Dev nD) (q : ℕ) :
    (iprop((∃ o : S2x256x1152.Idx → Elt F .f32, hold c (oslotT (Ring.sl 2 q)) o)
      ∗ ∃ o : S2x256x1152.Idx → Elt F .f32, (oslot (Ring.sl 2 q)).view.loc (c : Thread nD τ) ↦[(oslot (Ring.sl 2 q)).view.set \ (oslotT (Ring.sl 2 q)).view.set]{fullShare} o) : sProp (𝕄 F))
      ⊢ iprop(∃ o : S2x256x1152.Idx → Elt F .f32, hold c (oslot (Ring.sl 2 q)) o) := by
  iintro ⟨⟨%o, H⟩, ⟨%o', H'⟩⟩
  iexists _
  iapply (pointsTo_join_subset (oslotT_sub (Ring.sl 2 q)))
  isplitl [H]; · iexact H
  iexact H'
theorem cslot_join (c : Dev nD) (q : ℕ) :
    (iprop((∃ o : S2x256x768.Idx → Elt F .i8, hold c (cslotT (Ring.sl 2 q)) o)
      ∗ ∃ o : S2x256x768.Idx → Elt F .i8, (cslot (Ring.sl 2 q)).view.loc (c : Thread nD τ) ↦[(cslot (Ring.sl 2 q)).view.set \ (cslotT (Ring.sl 2 q)).view.set]{fullShare} o) : sProp (𝕄 F))
      ⊢ iprop(∃ o : S2x256x768.Idx → Elt F .i8, hold c (cslot (Ring.sl 2 q)) o) := by
  iintro ⟨⟨%o, H⟩, ⟨%o', H'⟩⟩
  iexists _
  iapply (pointsTo_join_subset (cslotT_sub (Ring.sl 2 q)))
  isplitl [H]; · iexact H
  iexact H'

section Packs
variable (c : Dev nD) (MG G : S4304x1152.Idx → Elt F .f32) (GC : S4304x768.Idx → Elt F .i8)

/-- Tile `p` of the main gradient in flight. -/
abbrev mgFly (p : ℕ) : sProp (𝕄 F) := iprop(∃ m : S2x256x1152.Idx → Elt F .f32, ⌜MGAt MG p m⌝ ∗ fly c (msem (Ring.sl 2 p)) 36864 iprop(hold c (mslot (Ring.sl 2 p)) m ∗ hold c (mblk (Ring.bk 16 p)) MG))
/-- The last one, of 208 rows. -/
abbrev mgFlyT (p : ℕ) : sProp (𝕄 F) := iprop(∃ m : S2x256x1152.Idx → Elt F .f32, ⌜MGAt MG 16 m⌝ ∗ fly c (msem (Ring.sl 2 p)) 29952 iprop(hold c (mslotT (Ring.sl 2 p)) m ∗ hold c mblkT MG))
/-- What is left of a slot beside its first 208 rows. -/
abbrev mrest (s : Fin 2) : sProp (𝕄 F) := iprop(∃ f, (mslot s).view.loc (c : Thread nD τ) ↦[(mslot s).view.set \ (mslotT s).view.set]{fullShare} f)
abbrev orest (s : Fin 2) : sProp (𝕄 F) := iprop(∃ f, (oslot s).view.loc (c : Thread nD τ) ↦[(oslot s).view.set \ (oslotT s).view.set]{fullShare} f)
abbrev crest (s : Fin 2) : sProp (𝕄 F) := iprop(∃ f, (cslot s).view.loc (c : Thread nD τ) ↦[(cslot s).view.set \ (cslotT s).view.set]{fullShare} f)
/-- Slot `s` of the main gradient's ring, free. -/
abbrev mgFree (s : Fin 2) : sProp (𝕄 F) := iprop((∃ f : S2x256x1152.Idx → Elt F .f32, hold c (mslot s) f) ∗ cell0 c (msem s))
/-- Tile `t` of the result in flight from slot `s`. -/
abbrev outFly (s : Fin 2) (t : ℕ) : sProp (𝕄 F) := iprop(∃ o : S2x256x1152.Idx → Elt F .f32, fly c (osem s) 36864 iprop(hold c (oblk (Ring.bk 16 t)) G ∗ hold c (oslot s) o))
abbrev outFlyT (s : Fin 2) : sProp (𝕄 F) := iprop(∃ o : S2x256x1152.Idx → Elt F .f32, fly c (osem s) 29952 iprop(hold c oblkT G ∗ hold c (oslotT s) o))
abbrev outFree (s : Fin 2) : sProp (𝕄 F) := iprop((∃ f : S2x256x1152.Idx → Elt F .f32, hold c (oslot s) f) ∗ cell0 c (osem s))
/-- Tile `t` of the codes in flight from slot `s`. -/
abbrev codFly (s : Fin 2) (t : ℕ) : sProp (𝕄 F) := iprop(∃ o : S2x256x768.Idx → Elt F .i8, fly c (csem s) 6144 iprop(hold c (cblk (Ring.bk 16 t)) GC ∗ hold c (cslot s) o))
abbrev codFlyT (s : Fin 2) : sProp (𝕄 F) := iprop(∃ o : S2x256x768.Idx → Elt F .i8, fly c cc0_scratch11 5376 iprop(hold c cblkT GC ∗ hold c (cslotT s) o))
abbrev codFree (s : Fin 2) : sProp (𝕄 F) := iprop((∃ f : S2x256x768.Idx → Elt F .i8, hold c (cslot s) f) ∗ cell0 c (csem s))
/-- The scratch buffers that a trip overwrites. -/
abbrev scr : sProp (𝕄 F) := iprop((∃ f : S2x96x128.Idx → Elt F .f32, hold c invB f) ∗ (∃ f : S2x96x128.Idx → Elt F .f32, hold c sbwB f)
    ∗ (∃ f : S768x128.Idx → Elt F .i8, hold c ctB f) ∗ (∃ f : S1536x256.Idx → Elt F .bf16, hold c dqB f))
/-- The quantised scales, done up to tile `k`. -/
abbrev sbTo (A : S96x4352.Idx → Elt F .f32) (v0 : Vec F S1x1 .f32) (k : ℕ) : sProp (𝕄 F) :=
  iprop(∃ f : S96x4352.Idx → Elt F .fp8e4m3, ⌜∀ i : S96x4352.Idx, (i 1).val < 256 * k → f i = Gsb A v0 i⌝ ∗ hold c sbB f)
/-- The core's record of waits. -/
abbrev waits : sProp (𝕄 F) := iprop(∃ W, owes (c : Thread nD τ) 0 W)

end Packs

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

/-- The whole windows, as every trip reads them. -/
abbrev wins : sProp (𝕄 F) := iprop(hold c arg0 (harg0.unread R) ∗ hold c arg1 (harg1.unread A) ∗ hold c arg2 (harg2.unread XQ))

/-- Trip `k` of the main loop. -/
abbrev tripB (k : Fin k0_t1_loop.trips) :=
  k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k ()

end Trip
end Cert.KernelIdeal.Run
end
-- ==== Proof.KernelIdeal.TripFirst.lean ====
/-
  A trip of the main loop at the start, tiles 0 and 1: the slots of the result's and the codes' rings are free.
-/
module

public import proofs.«01_k».proof.Proof.KernelIdeal.Packs

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- A trip at the start: the rings' slots are still free. -/
theorem trip_first (k : Fin k0_t1_loop.trips) (h2 : k.val < 2)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ mgFree c (Ring.sl 2 (k.val + 1)) ∗ hold c (mblk (Ring.bk 16 (k.val + 1))) MG
      ∗ outFree c (Ring.sl 2 k.val) ∗ codFree c (Ring.sl 2 k.val)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFly c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨⟨%m1, HMs⟩, HMc⟩, HMb, ⟨⟨%o0, HO_src⟩, HO⟩, ⟨⟨%c0, HC_src⟩, HC⟩, HOb, HCb, ⟨%W, HW⟩⟩
  have c1 := cond1_pos k (by omega)
  have c2 := cond2_pos k (by omega)
  have c3 := cond3_neg k (by omega)
  have c4 := cond4_neg k h2
  have c5 := cond5_pos k (by omega)
  have c6 := cond6_neg k (by omega)
  have c7 := cond7_pos k (by omega)
  have c8 := cond8_neg k (by omega)
  have hk16 : k.val < 16 := by omega
  have hk15 : k.val + 1 < 16 := by omega
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_first.sl.H9_2 arg1 harg1 A v0 k) = inv2 A v0 ⟨k.val, hk17 k⟩ := inv_both harg1 A v0 k _ _ _ _ _
  rw [e9]
  have e10 : sbwB.view.writes (Elt F) sbwB.view.junk (trip_first.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_first.sl.v91 arg1 harg1 R A v0 k f9 f12 = ctOf R (inv2 A v0 ⟨k.val, hk17 k⟩) (hOf k 0) 0 := by
    delta trip_first.sl.v91 trip_first.sl.r_2
    exact ct_first k R harg1 A v0 f9 f12 _ _ _
  have h138 : trip_first.sl.v138 R A v0 k = ctOf R (inv2 A v0 ⟨k.val, hk17 k⟩) (hOf k 1) 1 := by
    delta trip_first.sl.v138
    exact ct_second _ _ _
  have h146 : trip_first.sl.v146 R A v0 k g14 = DQ R A v0 ⟨k.val, hk17 k⟩ := by
    delta trip_first.sl.v146
    exact dq_both k R A v0 f14 g14 _ e14'
  have hO : MGAt (Gout R A XQ v0 v1 MG) k.val (trip_first.sl.HO_src_w2 arg2 harg2 R A XQ v0 v1 k m0 o0 g14) := by
    delta trip_first.sl.HO_src_w2
    exact out_stored k R A XQ v0 v1 MG o0 m0 _ _ (load_xq harg2 XQ _) h146 hm0 _ _
  have hC : CodAt R A v0 k.val (trip_first.sl.HC_src_w1_1 arg1 harg1 R A v0 k f9 f12 c0) := by
    delta trip_first.sl.HC_src_w1_1 trip_first.sl.HC_src_w1
    exact cod_stored k R A v0 c0 _ _ _ _ h91 h138
  have hOl : (hold c (oblk (Ring.bk 16 k.val)) ((oblk (Ring.bk 16 k.val)).view.writes (Elt F) go [⟨Rect.whole S256x1152, trip_first.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_first.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslot_tile_at (k.val + 1) hk15 MG m1
  isplitl [HM_dst HM]
  · isplitl [HM_dst]; · iexists _; iexact HM_dst
    iexact HM
  isplitl [HM_src]; · iexact HM_src
  isplitl [HO]
  · iexists (trip_first.sl.HO_src_w2 arg2 harg2 R A XQ v0 v1 k m0 o0 g14)
    first | irw [← hOl] | exact fail_irwO
    first | iexact HO | exact fail_exO
  isplitl [HC]
  · iexists (trip_first.sl.HC_src_w1_1 arg1 harg1 R A v0 k f9 f12 c0)
    first | irw [← hCl] | exact fail_irwC
    first | iexact HC | exact fail_exC
  iexists _; iexact HW

end Trip
end Cert.KernelIdeal.Run
end
-- ==== Proof.KernelIdeal.TripMid.lean ====
/-
  A trip of the main loop in the middle, tiles 2 to 14: both slots of every ring in use.
-/
module

public import proofs.«01_k».proof.Proof.KernelIdeal.Packs

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- A trip in the middle: both rings run full. -/
theorem trip_mid (k : Fin k0_t1_loop.trips) (h2 : 2 ≤ k.val) (h15 : k.val < 15)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ mgFree c (Ring.sl 2 (k.val + 1)) ∗ hold c (mblk (Ring.bk 16 (k.val + 1))) MG
      ∗ outFly c (Gout R A XQ v0 v1 MG) (Ring.sl 2 k.val) (k.val - 2) ∗ codFly c (Gcod R A v0) (Ring.sl 2 k.val) (k.val - 2)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFly c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨⟨%m1, HMs⟩, HMc⟩, HMb, ⟨%o0, HO⟩, ⟨%c0, HC⟩, HOb, HCb, ⟨%W, HW⟩⟩
  have c1 := cond1_pos k (by omega)
  have c2 := cond2_pos k h15
  have c3 := cond3_neg k h15
  have c4 := cond4_pos k h2
  have c5 := cond5_pos k (by omega)
  have c6 := cond6_neg k (by omega)
  have c7 := cond7_pos k (by omega)
  have c8 := cond8_neg k (by omega)
  have hk16 : k.val < 16 := by omega
  have hk15 : k.val + 1 < 16 := by omega
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_mid.sl.H9_2 arg1 harg1 A v0 k) = inv2 A v0 ⟨k.val, hk17 k⟩ := inv_both harg1 A v0 k _ _ _ _ _
  rw [e9]
  have e10 : sbwB.view.writes (Elt F) sbwB.view.junk (trip_mid.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_mid.sl.v91 arg1 harg1 R A v0 k f9 f12 = ctOf R (inv2 A v0 ⟨k.val, hk17 k⟩) (hOf k 0) 0 := by
    delta trip_mid.sl.v91 trip_mid.sl.r_2
    exact ct_first k R harg1 A v0 f9 f12 _ _ _
  have h138 : trip_mid.sl.v138 R A v0 k = ctOf R (inv2 A v0 ⟨k.val, hk17 k⟩) (hOf k 1) 1 := by
    delta trip_mid.sl.v138
    exact ct_second _ _ _
  have h146 : trip_mid.sl.v146 R A v0 k g14 = DQ R A v0 ⟨k.val, hk17 k⟩ := by
    delta trip_mid.sl.v146
    exact dq_both k R A v0 f14 g14 _ e14'
  have hO : MGAt (Gout R A XQ v0 v1 MG) k.val (trip_mid.sl.HO_src_w2 arg2 harg2 R A XQ v0 v1 k m0 o0 g14) := by
    delta trip_mid.sl.HO_src_w2
    exact out_stored k R A XQ v0 v1 MG o0 m0 _ _ (load_xq harg2 XQ _) h146 hm0 _ _
  have hC : CodAt R A v0 k.val (trip_mid.sl.HC_src_w1_1 arg1 harg1 R A v0 k f9 f12 c0) := by
    delta trip_mid.sl.HC_src_w1_1 trip_mid.sl.HC_src_w1
    exact cod_stored k R A v0 c0 _ _ _ _ h91 h138
  have hOl : (hold c (oblk (Ring.bk 16 k.val)) ((oblk (Ring.bk 16 k.val)).view.writes (Elt F) go [⟨Rect.whole S256x1152, trip_mid.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_mid.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslot_tile_at (k.val + 1) hk15 MG m1
  isplitl [HM_dst HM]
  · isplitl [HM_dst]; · iexists _; iexact HM_dst
    iexact HM
  isplitl [HM_src]; · iexact HM_src
  isplitl [HO]
  · iexists (trip_mid.sl.HO_src_w2 arg2 harg2 R A XQ v0 v1 k m0 o0 g14)
    first | irw [← hOl] | exact fail_irwO
    first | iexact HO | exact fail_exO
  isplitl [HC]
  · iexists (trip_mid.sl.HC_src_w1_1 arg1 harg1 R A v0 k f9 f12 c0)
    first | irw [← hCl] | exact fail_irwC
    first | iexact HC | exact fail_exC
  isplitl [HO_dst]; · iexact HO_dst
  isplitl [HC_dst]; · iexact HC_dst
  iexists _; iexact HW

end Trip
end Cert.KernelIdeal.Run
end
-- ==== Proof.KernelIdeal.TripPen.lean ====
/-
  The trip of tile 15: it sends for the last tile of the main gradient, which has 208 rows.
-/
module

public import proofs.«01_k».proof.Proof.KernelIdeal.Packs

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

theorem mslotT_tile_at (q : ℕ) (hq : Ring.sl 2 q = Ring.sl 2 16) (MG : S4304x1152.Idx → Elt F .f32) (f : S2x256x1152.Idx → Elt F .f32) :
    MGAt MG 16 ((mslotT (Ring.sl 2 q)).view.writes (Elt F) f [⟨Rect.whole S208x1152, ReadAs.same.apply (mblkT.view.read (Elt F) MG)⟩]) := by
  rw [hq]; exact mslotT_tile MG f

set_option maxHeartbeats 4000000 in
/-- The last trip but one: the last tile's 208 rows are sent for. -/
theorem trip_pen (k : Fin k0_t1_loop.trips) (h15 : k.val = 15)
    (go : S4304x1152.Idx → Elt F .f32) (gc : S4304x768.Idx → Elt F .i8) :
    iprop(wins c arg0 harg0 arg1 harg1 arg2 harg2 R A XQ ∗ scr c ∗ sbTo c A v0 k.val ∗ mgFly c MG k.val ∗ (∃ f : S2x256x1152.Idx → Elt F .f32, hold c (mslotT (Ring.sl 2 (k.val + 1))) f) ∗ cell0 c (msem (Ring.sl 2 (k.val + 1))) ∗ hold c mblkT MG
      ∗ outFly c (Gout R A XQ v0 v1 MG) (Ring.sl 2 k.val) (k.val - 2) ∗ codFly c (Gcod R A v0) (Ring.sl 2 k.val) (k.val - 2)
      ∗ hold c (oblk (Ring.bk 16 k.val)) go ∗ hold c (cblk (Ring.bk 16 k.val)) gc ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFlyT c MG (k.val + 1) ∗ mgFree c (Ring.sl 2 k.val) ∗ hold c (mblk (Ring.bk 16 k.val)) MG
        ∗ outFly c (Gout R A XQ v0 v1 MG) (Ring.sl 2 k.val) k.val ∗ codFly c (Gcod R A v0) (Ring.sl 2 k.val) k.val
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨%m1, HMs⟩, HMc, HMb, ⟨%o0, HO⟩, ⟨%c0, HC⟩, HOb, HCb, ⟨%W, HW⟩⟩
  have c1 := cond1_pos k (by omega)
  have c2 := cond2_neg k h15
  have c3 := cond3_pos k h15
  have c4 := cond4_pos k (by omega)
  have c5 := cond5_pos k (by omega)
  have c6 := cond6_neg k (by omega)
  have c7 := cond7_pos k (by omega)
  have c8 := cond8_neg k (by omega)
  have hk16 : k.val < 16 := by omega
  have hk15 : Ring.sl 2 (k.val + 1) = Ring.sl 2 16 := by rw [h15]
  unfold tripB k0_t1_body
  set_option sl_exec.matchHeartbeats 200 in
  sl_exec (disch := first | sl_exact c1 | sl_exact c2 | sl_exact c3 | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_pen.sl.H9_2 arg1 harg1 A v0 k) = inv2 A v0 ⟨k.val, hk17 k⟩ := inv_both harg1 A v0 k _ _ _ _ _
  rw [e9]
  have e10 : sbwB.view.writes (Elt F) sbwB.view.junk (trip_pen.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1 | sl_exact c2 | sl_exact c3 | sl_exact c4 | sl_exact c5 | sl_exact c6 | sl_exact c7 | sl_exact c8)
  sl_step
  have h91 : trip_pen.sl.v91 arg1 harg1 R A v0 k f9 f12 = ctOf R (inv2 A v0 ⟨k.val, hk17 k⟩) (hOf k 0) 0 := by
    delta trip_pen.sl.v91 trip_pen.sl.r_2
    exact ct_first k R harg1 A v0 f9 f12 _ _ _
  have h138 : trip_pen.sl.v138 R A v0 k = ctOf R (inv2 A v0 ⟨k.val, hk17 k⟩) (hOf k 1) 1 := by
    delta trip_pen.sl.v138
    exact ct_second _ _ _
  have h146 : trip_pen.sl.v146 R A v0 k g14 = DQ R A v0 ⟨k.val, hk17 k⟩ := by
    delta trip_pen.sl.v146
    exact dq_both k R A v0 f14 g14 _ e14'
  have hO : MGAt (Gout R A XQ v0 v1 MG) k.val (trip_pen.sl.HO_src_w2 arg2 harg2 R A XQ v0 v1 k m0 o0 g14) := by
    delta trip_pen.sl.HO_src_w2
    exact out_stored k R A XQ v0 v1 MG o0 m0 _ _ (load_xq harg2 XQ _) h146 hm0 _ _
  have hC : CodAt R A v0 k.val (trip_pen.sl.HC_src_w1_1 arg1 harg1 R A v0 k f9 f12 c0) := by
    delta trip_pen.sl.HC_src_w1_1 trip_pen.sl.HC_src_w1
    exact cod_stored k R A v0 c0 _ _ _ _ h91 h138
  have hOl : (hold c (oblk (Ring.bk 16 k.val)) ((oblk (Ring.bk 16 k.val)).view.writes (Elt F) go [⟨Rect.whole S256x1152, trip_pen.sl.dma8 arg2 harg2 R A XQ v0 v1 k m0 o0 g14⟩]) : sProp (𝕄 F))
      = hold c (oblk (Ring.bk 16 k.val)) (Gout R A XQ v0 v1 MG) := hold_landed c _ _ _ _ (oslot_tile_at k.val hk16 _ _ hO)
  have hCl : (hold c (cblk (Ring.bk 16 k.val)) ((cblk (Ring.bk 16 k.val)).view.writes (Elt F) gc [⟨Rect.whole S256x768, trip_pen.sl.dma8_1 arg1 harg1 R A v0 k f9 f12 c0⟩]) : sProp (𝕄 F))
      = hold c (cblk (Ring.bk 16 k.val)) (Gcod R A v0) := hold_landed c _ _ _ _ (cslot_tile_at k.val hk16 _ _ _ _ hC)
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMc]
  · iexists _; isplitr; swap
    · iexact HMc
    · ipureintro; exact mslotT_tile_at (k.val + 1) hk15 MG m1
  isplitl [HM_dst HM]
  · isplitl [HM_dst]; · iexists _; iexact HM_dst
    iexact HM
  isplitl [HM_src]; · iexact HM_src
  isplitl [HO]
  · iexists (trip_pen.sl.HO_src_w2 arg2 harg2 R A XQ v0 v1 k m0 o0 g14)
    first | irw [← hOl] | exact fail_irwO
    first | iexact HO | exact fail_exO
  isplitl [HC]
  · iexists (trip_pen.sl.HC_src_w1_1 arg1 harg1 R A v0 k f9 f12 c0)
    first | irw [← hCl] | exact fail_irwC
    first | iexact HC | exact fail_exC
  isplitl [HO_dst]; · iexact HO_dst
  isplitl [HC_dst]; · iexact HC_dst
  iexists _; iexact HW

end Trip
end Cert.KernelIdeal.Run
end
-- ==== Proof.KernelIdeal.TripLast.lean ====
/-
  The trip of the last tile, 16, which has 208 rows.
-/
module

public import proofs.«01_k».proof.Proof.KernelIdeal.Packs

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

set_option maxHeartbeats 4000000 in
/-- The last trip: a tile of 208 rows. -/
theorem trip_last (k : Fin k0_t1_loop.trips) (h16 : k.val = 16)
    (go : S4304x1152.Idx → Elt F .f32) (gc : S4304x768.Idx → Elt F .i8) :
    iprop(wins c arg0 harg0 arg1 harg1 arg2 harg2 R A XQ ∗ scr c ∗ sbTo c A v0 k.val ∗ mgFlyT c MG k.val ∗ mrest c (Ring.sl 2 k.val)
      ∗ outFly c (Gout R A XQ v0 v1 MG) (Ring.sl 2 k.val) (k.val - 2) ∗ codFly c (Gcod R A v0) (Ring.sl 2 k.val) (k.val - 2)
      ∗ hold c oblkT go ∗ hold c cblkT gc ∗ cell0 c cc0_scratch11 ∗ waits c)
    ⊢ wp frame (wpE (defs₀ (F := F)) 𝒱 (c : Thread nD τ) none) Set.univ (tripB arg0 harg0 arg1 harg1 arg2 harg2 arg3 harg3 arg4 harg4 v0 v1 k)
      (fun _ => iprop(wins c arg0 harg0 arg1 harg1 arg2 harg2 R A XQ ∗ scr c ∗ sbTo c A v0 (k.val + 1) ∗ mgFree c (Ring.sl 2 k.val) ∗ hold c mblkT MG
        ∗ outFlyT c (Gout R A XQ v0 v1 MG) (Ring.sl 2 k.val) ∗ orest c (Ring.sl 2 k.val) ∗ codFlyT c (Gcod R A v0) (Ring.sl 2 k.val) ∗ crest c (Ring.sl 2 k.val) ∗ cell0 c (csem (Ring.sl 2 k.val))
        ∗ hold c (oblk (Ring.bk 16 (k.val - 2))) (Gout R A XQ v0 v1 MG) ∗ hold c (cblk (Ring.bk 16 (k.val - 2))) (Gcod R A v0) ∗ waits c)) := by
  iintro ⟨⟨H0, H1, H2⟩, ⟨⟨%f9, H9⟩, ⟨%f10, H10⟩, ⟨%f12, H12⟩, ⟨%f14, H14⟩⟩, ⟨%f11, %hf11, H11⟩, ⟨%m0, %hm0, HM⟩, ⟨%m1, HMr⟩, ⟨%o0, HO⟩, ⟨%c0, HC⟩, HOb, HCb, HCt, ⟨%W, HW⟩⟩
  have c1 := cond1_neg k h16
  have c4 := cond4_pos k (by omega)
  have c5 := cond5_neg k h16
  have c6 := cond6_pos k h16
  have c7 := cond7_neg k h16
  have c8 := cond8_pos k h16
  have hq : Ring.sl 2 k.val = Ring.sl 2 16 := by rw [h16]
  unfold tripB k0_t1_body
  set_option sl_exec.matchHeartbeats 200 in
  sl_exec (disch := first | sl_exact c1  | sl_exact c4 | sl_exact c5 | sl_exact c6 | sl_exact c7 | sl_exact c8)
  generalize x9e : invB.view.writes (Elt F) f9 _ = x9
  have hx9 : ∀ r l, x9 (ix3 0 r l) = inv2 A v0 ⟨k.val, hk17 k⟩ (ix3 0 r l) := fun r l => (congrFun x9e.symm _).trans (inv_first harg1 A v0 k f9 _ _ r l)
  generalize x10e : sbwB.view.writes (Elt F) f10 _ = x10
  have hx10 : ∀ r l, x10 (ix3 0 r l) = sbw2 A v0 ⟨k.val, hk17 k⟩ (ix3 0 r l) := fun r l => (congrFun x10e.symm _).trans (sbw_first harg1 A v0 k f10 _ _ r l)
  have e12 : mix (I := S768x128.Idx) (fun i => (i 0).val / 32) (ctOf R x9 (hOf k 0) 0) (Scf.trips k0_t2_loop.lb k0_t2_loop.ub k0_t2_loop.st) f12
      = ctOf R (inv2 A v0 ⟨k.val, hk17 k⟩) (hOf k 0) 0 :=
    (ct_done _ _ _ (by decide)).trans (ctOf_congr R (hOf k 0) hx9)
  rw [e12]
  have e14 : mix (I := S1536x256.Idx) (dqStep 0) (dqOf R x9 x10 (hOf k 0) 0) (Scf.trips k0_t2_loop.lb k0_t2_loop.ub k0_t2_loop.st) f14
      = mix (I := S1536x256.Idx) (dqStep 0) (dqOf R (inv2 A v0 ⟨k.val, hk17 k⟩) (sbw2 A v0 ⟨k.val, hk17 k⟩) (hOf k 0) 0) 24 f14 :=
    congrArg (fun v => mix (I := S1536x256.Idx) (dqStep 0) v 24 f14) (dqOf_congr R (hOf k 0) hx9 hx10)
  rw [e14]
  have e9 : invB.view.writes (Elt F) invB.view.junk (trip_last.sl.H9_2 arg1 harg1 A v0 k) = inv2 A v0 ⟨k.val, hk17 k⟩ := inv_both harg1 A v0 k _ _ _ _ _
  rw [e9]
  have e10 : sbwB.view.writes (Elt F) sbwB.view.junk (trip_last.sl.H10_2 arg1 harg1 A v0 k) = sbw2 A v0 ⟨k.val, hk17 k⟩ := sbw_both harg1 A v0 k _ _ _ _ _
  rw [e10]
  generalize e14' : mix (I := S1536x256.Idx) (dqStep 0) _ 24 f14 = g14
  sl_exec (disch := first | sl_exact c1  | sl_exact c4 | sl_exact c5 | sl_exact c6 | sl_exact c7 | sl_exact c8)
  ihave HMj := (mslot_join c MG k.val hq m0 m1 hm0) $$ [HM_dst HMr]
  · isplitl [HM_dst]; · iexact HM_dst
    iexact HMr
  icases HMj with ⟨%m2, %hm2, HMs⟩
  sl_exec (disch := first | sl_exact c1  | sl_exact c4 | sl_exact c5 | sl_exact c6 | sl_exact c7 | sl_exact c8)
  have h91 : trip_last.sl.v91 arg1 harg1 R A v0 k f9 f12 = ctOf R (inv2 A v0 ⟨k.val, hk17 k⟩) (hOf k 0) 0 := by
    delta trip_last.sl.v91 trip_last.sl.r_2
    exact ct_first k R harg1 A v0 f9 f12 _ _ _
  have h138 : trip_last.sl.v138 R A v0 k = ctOf R (inv2 A v0 ⟨k.val, hk17 k⟩) (hOf k 1) 1 := by
    delta trip_last.sl.v138
    exact ct_second _ _ _
  have h146 : trip_last.sl.v146 R A v0 k g14 = DQ R A v0 ⟨k.val, hk17 k⟩ := by
    delta trip_last.sl.v146
    exact dq_both k R A v0 f14 g14 _ e14'
  have hm2' : MGAt MG k.val m2 := by rw [h16]; exact hm2
  have hO : MGAt (Gout R A XQ v0 v1 MG) k.val (trip_last.sl.HO_src_w1 arg2 harg2 R A XQ v0 v1 k o0 g14 m2) := by
    delta trip_last.sl.HO_src_w1
    exact out_stored k R A XQ v0 v1 MG o0 m2 _ _ (load_xq harg2 XQ _) h146 hm2' _ _
  have hC : CodAt R A v0 k.val (trip_last.sl.HC_src_w1_1 arg1 harg1 R A v0 k f9 f12 c0) := by
    delta trip_last.sl.HC_src_w1_1 trip_last.sl.HC_src_w1
    exact cod_stored k R A v0 c0 _ _ _ _ h91 h138
  generalize trip_last.sl.HO_src_w1 arg2 harg2 R A XQ v0 v1 k o0 g14 m2 = o2 at hO ⊢
  generalize trip_last.sl.HC_src_w1_1 arg1 harg1 R A v0 k f9 f12 c0 = c2 at hC ⊢
  ihave HOx := (oslot_cut c k.val o2) $$ HO_src
  icases HOx with ⟨HOt, HOr⟩
  ihave HCx := (cslot_cut c k.val c2) $$ HC_src
  icases HCx with ⟨HCs, HCr⟩
  sl_exec (disch := first | sl_exact c1  | sl_exact c4 | sl_exact c5 | sl_exact c6 | sl_exact c7 | sl_exact c8)
  sl_step
  have hOl : (hold c oblkT (oblkT.view.writes (Elt F) go [⟨Rect.whole S208x1152, trip_last.sl.dma0 k o2⟩]) : sProp (𝕄 F))
      = hold c oblkT (Gout R A XQ v0 v1 MG) := hold_landed c _ _ _ _ (oslotT_tile k.val hq _ _ (by rw [← h16]; exact hO))
  have hCl : (hold c cblkT (cblkT.view.writes (Elt F) gc [⟨Rect.whole S208x768, trip_last.sl.dma0_1 k c2⟩]) : sProp (𝕄 F))
      = hold c cblkT (Gcod R A v0) := hold_landed c _ _ _ _ (cslotT_tile k.val hq _ _ _ _ (by rw [← h16]; exact hC))
  isplitl [H0 H1 H2]
  · isplitl [H0]; · iexact H0
    isplitl [H1]; · iexact H1
    iexact H2
  isplitl [H9 H10 H12 H14]
  · isplitl [H9]; · iexists _; iexact H9
    isplitl [H10]; · iexists _; iexact H10
    isplitl [H12]; · iexists _; iexact H12
    iexists _; iexact H14
  isplitl [H11]
  · iexists _; isplitr; swap
    · iexact H11
    · ipureintro; exact sb_both harg1 A v0 k f11 _ _ _ _ hf11
  isplitl [HMs HM]
  · isplitl [HMs]; · iexists _; iexact HMs
    iexact HM
  isplitl [HM_src]; · iexact HM_src
  isplitl [HO]
  · iexists o2
    irw [← hOl]
    iexact HO
  isplitl [HOr]; · iexists _; iexact HOr
  isplitl [HCt]
  · iexists c2
    irw [← hCl]
    iexact HCt
  isplitl [HCr]; · iexists _; iexact HCr
  isplitl [HC]; · iexact HC
  isplitl [HO_dst]; · iexact HO_dst
  isplitl [HC_dst]; · iexact HC_dst
  iexists _; iexact HW

end Trip
end Cert.KernelIdeal.Run
end
-- ==== Proof.KernelIdeal.Loop.lean ====
/-
  The main loop: what it holds before each trip, and that a trip carries it on.
-/
module

public import proofs.«01_k».proof.Proof.KernelIdeal.TripFirst
public import proofs.«01_k».proof.Proof.KernelIdeal.TripMid
public import proofs.«01_k».proof.Proof.KernelIdeal.TripPen
public import proofs.«01_k».proof.Proof.KernelIdeal.TripLast

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

section Families
variable (P : ℕ → sProp (𝕄 F))

/-- Every tile but `k`. -/
def allBut (k : ℕ) : sProp (𝕄 F) := bigSep ((Finset.range 17).erase k) P
/-- Every tile but `k` and `k + 1`. -/
def allBut2 (k : ℕ) : sProp (𝕄 F) := bigSep (((Finset.range 17).erase k).erase (k + 1)) P
/-- The tiles from `k` on. -/
def ahead (k : ℕ) : sProp (𝕄 F) := bigSep (Finset.Ico k 17) P
/-- The tiles waited for before trip `k`: those below `k - 2`. -/
def behind (k : ℕ) : sProp (𝕄 F) := bigSep (Finset.range (k - 2)) P

theorem allBut_open (k : ℕ) (h : k < 16) : allBut P k = iprop(P (k + 1) ∗ allBut2 P k) := by
  unfold allBut allBut2
  have e : (Finset.range 17).erase k = insert (k + 1) (((Finset.range 17).erase k).erase (k + 1)) := by
    ext t; simp only [Finset.mem_insert, Finset.mem_erase, Finset.mem_range]; omega
  exact (congrArg (fun S => bigSep S P) e).trans (bigSep_insert (by simp only [Finset.mem_erase]; omega))
theorem allBut_close (k : ℕ) (h : k < 16) : allBut P (k + 1) = iprop(P k ∗ allBut2 P k) := by
  unfold allBut allBut2
  have e : (Finset.range 17).erase (k + 1) = insert k (((Finset.range 17).erase k).erase (k + 1)) := by
    ext t; simp only [Finset.mem_insert, Finset.mem_erase, Finset.mem_range]; omega
  exact (congrArg (fun S => bigSep S P) e).trans (bigSep_insert (by simp only [Finset.mem_erase]; omega))
theorem allBut_last (k : ℕ) (h : k = 16) : allBut P (k + 1) = iprop(P k ∗ allBut P k) := by
  subst h; unfold allBut
  have e : (Finset.range 17).erase (16 + 1) = insert 16 ((Finset.range 17).erase 16) := by
    ext t; simp only [Finset.mem_insert, Finset.mem_erase, Finset.mem_range]; omega
  exact (congrArg (fun S => bigSep S P) e).trans (bigSep_insert (by simp only [Finset.mem_erase]; omega))
theorem ahead_open (k : ℕ) (h : k < 17) : ahead P k = iprop(P k ∗ ahead P (k + 1)) := by
  unfold ahead
  have e : Finset.Ico k 17 = insert k (Finset.Ico (k + 1) 17) := by
    ext t; simp only [Finset.mem_insert, Finset.mem_Ico]; omega
  exact (congrArg (fun S => bigSep S P) e).trans (bigSep_insert (by simp only [Finset.mem_Ico]; omega))
theorem behind_close (k : ℕ) (h : 2 ≤ k) : behind P (k + 1) = iprop(P (k - 2) ∗ behind P k) := by
  unfold behind
  have e : Finset.range (k + 1 - 2) = insert (k - 2) (Finset.range (k - 2)) := by
    ext t; simp only [Finset.mem_insert, Finset.mem_range]; omega
  exact (congrArg (fun S => bigSep S P) e).trans (bigSep_insert (by simp only [Finset.mem_range]; omega))
theorem behind_boot (k : ℕ) (h : k < 2) : behind P (k + 1) = behind P k := by
  unfold behind
  exact congrArg (fun n => bigSep (Finset.range n) P) (show k + 1 - 2 = k - 2 by omega)
end Families

section Rings
variable (c : Dev nD) (MG G : S4304x1152.Idx → Elt F .f32) (GC : S4304x768.Idx → Elt F .i8)

/-- Tile `t` of the main gradient, at home. -/
def mHome (t : ℕ) : sProp (𝕄 F) := if t < 16 then hold c (mblk (Ring.bk 16 t)) MG else hold c mblkT MG
/-- Tile `t` of the result, at home. -/
def oHome (t : ℕ) : sProp (𝕄 F) := if t < 16 then hold c (oblk (Ring.bk 16 t)) G else hold c oblkT G
/-- Tile `t` of the codes, at home. -/
def cHome (t : ℕ) : sProp (𝕄 F) := if t < 16 then hold c (cblk (Ring.bk 16 t)) GC else hold c cblkT GC
/-- The slot of trip `k` in the main gradient's ring, before it. -/
def mSt (k : ℕ) : sProp (𝕄 F) :=
  if k < 16 then mgFly c MG k else if k = 16 then iprop(mgFlyT c MG k ∗ mrest c (Ring.sl 2 k)) else mgFree c (Ring.sl 2 k)
/-- The slot of trip `p` in the result's ring, before it. -/
def oSt (p : ℕ) : sProp (𝕄 F) :=
  if p < 2 then outFree c (Ring.sl 2 p) else if p < 18 then outFly c G (Ring.sl 2 p) (p - 2) else iprop(outFlyT c G (Ring.sl 2 p) ∗ orest c (Ring.sl 2 p))
/-- The slot of trip `p` in the codes' ring, before it. -/
def cSt (p : ℕ) : sProp (𝕄 F) :=
  if p < 2 then codFree c (Ring.sl 2 p) else if p < 18 then codFly c GC (Ring.sl 2 p) (p - 2)
  else iprop(codFlyT c GC (Ring.sl 2 p) ∗ crest c (Ring.sl 2 p) ∗ cell0 c (csem (Ring.sl 2 p)))
/-- The semaphore of the last tile's codes, before trip `k`. -/
def ctSt (k : ℕ) : sProp (𝕄 F) := if k < 17 then cell0 c cc0_scratch11 else iprop(emp)

theorem sl_two (k : ℕ) : Ring.sl 2 (k + 1 + 1) = Ring.sl 2 k := Ring.sl_add 2 k
theorem mHome_lt (t : ℕ) (h : t < 16) : mHome c MG t = hold c (mblk (Ring.bk 16 t)) MG := if_pos h
theorem mHome_last (t : ℕ) (h : t = 16) : mHome c MG t = hold c mblkT MG := if_neg (by omega)
theorem oHome_lt (t : ℕ) (h : t < 16) : oHome c G t = hold c (oblk (Ring.bk 16 t)) G := if_pos h
theorem oHome_last (t : ℕ) (h : t = 16) : oHome c G t = hold c oblkT G := if_neg (by omega)
theorem cHome_lt (t : ℕ) (h : t < 16) : cHome c GC t = hold c (cblk (Ring.bk 16 t)) GC := if_pos h
theorem cHome_last (t : ℕ) (h : t = 16) : cHome c GC t = hold c cblkT GC := if_neg (by omega)
theorem mSt_lt (k : ℕ) (h : k < 16) : mSt c MG k = mgFly c MG k := if_pos h
theorem mSt_last (k : ℕ) (h : k = 16) : mSt c MG k = iprop(mgFlyT c MG k ∗ mrest c (Ring.sl 2 k)) := (if_neg (by omega)).trans (if_pos h)
theorem mSt_end (k : ℕ) (h : 16 < k) : mSt c MG k = mgFree c (Ring.sl 2 k) := (if_neg (by omega)).trans (if_neg (by omega))
theorem oSt_boot (p : ℕ) (h : p < 2) : oSt c G p = outFree c (Ring.sl 2 p) := if_pos h
theorem oSt_mid (p : ℕ) (h : 2 ≤ p) (h' : p < 18) : oSt c G p = outFly c G (Ring.sl 2 p) (p - 2) := (if_neg (by omega)).trans (if_pos h')
theorem oSt_next (k : ℕ) (h : k < 16) : oSt c G (k + 1 + 1) = outFly c G (Ring.sl 2 k) k := by
  rw [oSt_mid c G (k + 1 + 1) (by omega) (by omega), sl_two, show k + 1 + 1 - 2 = k by omega]
theorem oSt_end (k : ℕ) (h : k = 16) : oSt c G (k + 1 + 1) = iprop(outFlyT c G (Ring.sl 2 k) ∗ orest c (Ring.sl 2 k)) := by
  rw [← sl_two k]; exact (if_neg (by omega)).trans (if_neg (by omega))
theorem cSt_boot (p : ℕ) (h : p < 2) : cSt c GC p = codFree c (Ring.sl 2 p) := if_pos h
theorem cSt_mid (p : ℕ) (h : 2 ≤ p) (h' : p < 18) : cSt c GC p = codFly c GC (Ring.sl 2 p) (p - 2) := (if_neg (by omega)).trans (if_pos h')
theorem cSt_next (k : ℕ) (h : k < 16) : cSt c GC (k + 1 + 1) = codFly c GC (Ring.sl 2 k) k := by
  rw [cSt_mid c GC (k + 1 + 1) (by omega) (by omega), sl_two, show k + 1 + 1 - 2 = k by omega]
theorem cSt_end (k : ℕ) (h : k = 16) : cSt c GC (k + 1 + 1) = iprop(codFlyT c GC (Ring.sl 2 k) ∗ crest c (Ring.sl 2 k) ∗ cell0 c (csem (Ring.sl 2 k))) := by
  rw [← sl_two k]; exact (if_neg (by omega)).trans (if_neg (by omega))
theorem ctSt_lt (k : ℕ) (h : k < 17) : (ctSt c k : sProp (𝕄 F)) = cell0 c cc0_scratch11 := if_pos h
theorem ctSt_end (k : ℕ) (h : 17 ≤ k) : (ctSt c k : sProp (𝕄 F)) = iprop(emp) := if_neg (by omega)
end Rings

section Trip
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : Vec F S1x1 .f32) (MG : S4304x1152.Idx → Elt F .f32) (𝒱 : Variants)

variable (GO : S4304x1152.Idx → Elt F .f32) (GC : S4304x768.Idx → Elt F .i8)

/-- What the main loop holds before trip `k`; `GO` and `GC` are the results' contents at the launch. -/
def mainInv (k : ℕ) : sProp (𝕄 F) :=
  iprop(wins c arg0 harg0 arg1 harg1 arg2 harg2 R A XQ ∗ scr c ∗ sbTo c A v0 k
    ∗ mSt c MG k ∗ mgFree c (Ring.sl 2 (k + 1)) ∗ allBut (mHome c MG) k
    ∗ oSt c (Gout R A XQ v0 v1 MG) k ∗ oSt c (Gout R A XQ v0 v1 MG) (k + 1) ∗ ahead (oHome c GO) k ∗ behind (oHome c (Gout R A XQ v0 v1 MG)) k
    ∗ cSt c (Gcod R A v0) k ∗ cSt c (Gcod R A v0) (k + 1) ∗ ahead (cHome c GC) k ∗ behind (cHome c (Gcod R A v0)) k
    ∗ ctSt c k ∗ waits c)

/-- Trips 0 and 1. -/
theorem step_first (k : Fin k0_t1_loop.trips) (h : k.val < 2) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_lt c MG (k.val + 1) (by omega), sl_two, allBut_open _ k.val (by omega), allBut_close _ k.val (by omega), mHome_lt c MG k.val (by omega), mHome_lt c MG (k.val + 1) (by omega), oSt_boot c (Gout R A XQ v0 v1 MG) k.val h, cSt_boot c (Gcod R A v0) k.val h, oSt_next c (Gout R A XQ v0 v1 MG) k.val (by omega), cSt_next c (Gcod R A v0) k.val (by omega), ahead_open (oHome c GO) k.val (by omega), ahead_open (cHome c GC) k.val (by omega), oHome_lt c GO k.val (by omega), cHome_lt c GC k.val (by omega), behind_boot _ k.val h, behind_boot _ k.val h, ctSt_lt c k.val (by omega), ctSt_lt c (k.val + 1) (by omega)]
  iintro ⟨W, S, B, M, MF, ⟨Mb, Mr⟩, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MF Mb O C Oa Ca HW]
  · iapply (trip_first c arg0 harg0 arg1 harg1 arg2 harg2 arg3 harg3 arg4 harg4 R A XQ v0 v1 MG 𝒱 k h GO GC)
    isplitl [W]; · iexact W
    isplitl [S]; · iexact S
    isplitl [B]; · iexact B
    isplitl [M]; · iexact M
    isplitl [MF]; · iexact MF
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, HW⟩
    isplitl [W]; · iexact W
    isplitl [S]; · iexact S
    isplitl [B]; · iexact B
    isplitl [M]; · iexact M
    isplitl [MF]; · iexact MF
    isplitl [Mb Mr]
    · isplitl [Mb]; · iexact Mb
      iexact Mr
    isplitl [O']; · iexact O'
    isplitl [O]; · iexact O
    isplitl [OA]; · iexact OA
    isplitl [OB]; · iexact OB
    isplitl [C']; · iexact C'
    isplitl [C]; · iexact C
    isplitl [CA]; · iexact CA
    isplitl [CB]; · iexact CB
    isplitl [CT]; · iexact CT
    iexact HW

/-- Trips 2 to 14. -/
theorem step_mid (k : Fin k0_t1_loop.trips) (h : 2 ≤ k.val) (h15 : k.val < 15) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_lt c MG (k.val + 1) (by omega), sl_two, allBut_open _ k.val (by omega), allBut_close _ k.val (by omega), mHome_lt c MG k.val (by omega), mHome_lt c MG (k.val + 1) (by omega), oSt_next c (Gout R A XQ v0 v1 MG) k.val (by omega), cSt_next c (Gcod R A v0) k.val (by omega), oSt_mid c (Gout R A XQ v0 v1 MG) k.val (by omega) (by omega), cSt_mid c (Gcod R A v0) k.val (by omega) (by omega), ahead_open (oHome c GO) k.val (by omega), ahead_open (cHome c GC) k.val (by omega), oHome_lt c GO k.val (by omega), cHome_lt c GC k.val (by omega), behind_close _ k.val h, behind_close _ k.val h, oHome_lt c (Gout R A XQ v0 v1 MG) (k.val - 2) (by omega), cHome_lt c (Gcod R A v0) (k.val - 2) (by omega), ctSt_lt c k.val (by omega), ctSt_lt c (k.val + 1) (by omega)]
  iintro ⟨W, S, B, M, MF, ⟨Mb, Mr⟩, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MF Mb O C Oa Ca HW]
  · iapply (trip_mid c arg0 harg0 arg1 harg1 arg2 harg2 arg3 harg3 arg4 harg4 R A XQ v0 v1 MG 𝒱 k h h15 GO GC)
    isplitl [W]; · iexact W
    isplitl [S]; · iexact S
    isplitl [B]; · iexact B
    isplitl [M]; · iexact M
    isplitl [MF]; · iexact MF
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, Ob, Cb, HW⟩
    isplitl [W]; · iexact W
    isplitl [S]; · iexact S
    isplitl [B]; · iexact B
    isplitl [M]; · iexact M
    isplitl [MF]; · iexact MF
    isplitl [Mb Mr]
    · isplitl [Mb]; · iexact Mb
      iexact Mr
    isplitl [O']; · iexact O'
    isplitl [O]; · iexact O
    isplitl [OA]; · iexact OA
    isplitl [Ob OB]
    · isplitl [Ob]; · iexact Ob
      iexact OB
    isplitl [C']; · iexact C'
    isplitl [C]; · iexact C
    isplitl [CA]; · iexact CA
    isplitl [Cb CB]
    · isplitl [Cb]; · iexact Cb
      iexact CB
    isplitl [CT]; · iexact CT
    iexact HW

/-- Trip 15. -/
theorem step_pen (k : Fin k0_t1_loop.trips) (h15 : k.val = 15) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_lt c MG k.val (by omega), mSt_last c MG (k.val + 1) (by omega), sl_two, allBut_open _ k.val (by omega), allBut_close _ k.val (by omega), mHome_lt c MG k.val (by omega), mHome_last c MG (k.val + 1) (by omega), oSt_next c (Gout R A XQ v0 v1 MG) k.val (by omega), cSt_next c (Gcod R A v0) k.val (by omega), oSt_mid c (Gout R A XQ v0 v1 MG) k.val (by omega) (by omega), cSt_mid c (Gcod R A v0) k.val (by omega) (by omega), ahead_open (oHome c GO) k.val (by omega), ahead_open (cHome c GC) k.val (by omega), oHome_lt c GO k.val (by omega), cHome_lt c GC k.val (by omega), behind_close _ k.val (by omega), behind_close _ k.val (by omega), oHome_lt c (Gout R A XQ v0 v1 MG) (k.val - 2) (by omega), cHome_lt c (Gcod R A v0) (k.val - 2) (by omega), ctSt_lt c k.val (by omega), ctSt_lt c (k.val + 1) (by omega)]
  iintro ⟨W, S, B, M, ⟨⟨%mf, MF⟩, MC⟩, ⟨Mb, Mr⟩, O, O', ⟨Oa, OA⟩, OB, C, C', ⟨Ca, CA⟩, CB, CT, HW⟩
  ihave MX := (mslot_cut c (k.val + 1) mf) $$ MF
  icases MX with ⟨MT, MR⟩
  iapply (wp_wand_r Idealize.ShloMosaic.frame (wpE (defs₀ (F := F)) 𝒱 (c : Thread nD τ) none) Set.univ)
  isplitl [W S B M MT MC Mb O C Oa Ca HW]
  · iapply (trip_pen c arg0 harg0 arg1 harg1 arg2 harg2 arg3 harg3 arg4 harg4 R A XQ v0 v1 MG 𝒱 k h15 GO GC)
    isplitl [W]; · iexact W
    isplitl [S]; · iexact S
    isplitl [B]; · iexact B
    isplitl [M]; · iexact M
    isplitl [MT]; · iexists mf; iexact MT
    isplitl [MC]; · iexact MC
    isplitl [Mb]; · iexact Mb
    isplitl [O]; · iexact O
    isplitl [C]; · iexact C
    isplitl [Oa]; · iexact Oa
    isplitl [Ca]; · iexact Ca
    iexact HW
  · iintro %_ ⟨W, S, B, M, MF, Mb, O, C, Ob, Cb, HW⟩
    isplitl [W]; · iexact W
    isplitl [S]; · iexact S
    isplitl [B]; · iexact B
    isplitl [M MR]
    · isplitl [M]; · iexact M
      iexists mf; iexact MR
    isplitl [MF]; · iexact MF
    isplitl [Mb Mr]
    · isplitl [Mb]; · iexact Mb
      iexact Mr
    isplitl [O']; · iexact O'
    isplitl [O]; · iexact O
    isplitl [OA]; · iexact OA
    isplitl [Ob OB]
    · isplitl [Ob]; · iexact Ob
      iexact OB
    isplitl [C']; · iexact C'
    isplitl [C]; · iexact C
    isplitl [CA]; · iexact CA
    isplitl [Cb CB]
    · isplitl [Cb]; · iexact Cb
      iexact CB
    isplitl [CT]; · iexact CT
    iexact HW

/-- Trip 16. -/
theorem step_last (k : Fin k0_t1_loop.trips) (h16 : k.val = 16) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  unfold mainInv
  rw [mSt_last c MG k.val h16, mSt_end c MG (k.val + 1) (by omega), sl_two, allBut_last _ k.val h16, mHome_last c MG k.val h16, oSt_end c (Gout R A XQ v0 v1 MG) k.val h16, cSt_end c (Gcod R A v0) k.val h16, oSt_mid c (Gout R A XQ v0 v1 MG) k.val (by omega) (by omega), cSt_mid c (Gcod R A v0) k.val (by omega) (by omega), ahead_open (oHome c GO) k.val (by omega), ahead_open (cHome c GC) k.val (by omega), oHome_last c GO k.val h16, cHome_last c GC k.val h16, behind_close _ k.val (by omega), behind_close _ k.val (by omega), oHome_lt c (Gout R A XQ v0 v1 MG) (k.val - 2) (by omega), cHome_lt c (Gcod R A v0) (k.val - 2) (by omega), ctSt_lt c k.val (by omega), ctSt_end c (k.val + 1) (by omega)]
  iintro ⟨W, S, B, ⟨M, MR⟩, MF, Mr, O, O', ⟨Oa, OA⟩, OB, C, C', ⟨Ca, CA⟩, CB, CT, HW⟩
  iapply (wp_wand_r Idealize.ShloMosaic.frame (wpE (defs₀ (F := F)) 𝒱 (c : Thread nD τ) none) Set.univ)
  isplitl [W S B M MR O C Oa Ca CT HW]
  · iapply (trip_last c arg0 harg0 arg1 harg1 arg2 harg2 arg3 harg3 arg4 harg4 R A XQ v0 v1 MG 𝒱 k h16 GO GC)
    isplitl [W]; · iexact W
    isplitl [S]; · iexact S
    isplitl [B]; · iexact B
    isplitl [M]; · iexact M
    isplitl [MR]; · iexact MR
    isplitl [O]; · iexact O
    isplitl [C]; · iexact C
    isplitl [Oa]; · iexact Oa
    isplitl [Ca]; · iexact Ca
    isplitl [CT]; · iexact CT
    iexact HW
  · iintro %_ ⟨W, S, B, MF2, Mb, O, OR, C, CR, CC, Ob, Cb, HW⟩
    isplitl [W]; · iexact W
    isplitl [S]; · iexact S
    isplitl [B]; · iexact B
    isplitl [MF]; · iexact MF
    isplitl [MF2]; · iexact MF2
    isplitl [Mb Mr]
    · isplitl [Mb]; · iexact Mb
      iexact Mr
    isplitl [O']; · iexact O'
    isplitl [O OR]
    · isplitl [O]; · iexact O
      iexact OR
    isplitl [OA]; · iexact OA
    isplitl [Ob OB]
    · isplitl [Ob]; · iexact Ob
      iexact OB
    isplitl [C']; · iexact C'
    isplitl [C CR CC]
    · isplitl [C]; · iexact C
      isplitl [CR]; · iexact CR
      iexact CC
    isplitl [CA]; · iexact CA
    isplitl [Cb CB]
    · isplitl [Cb]; · iexact Cb
      iexact CB
    isplitr; · iempintro
    iexact HW

set_option maxHeartbeats 4000000 in
/-- One trip, whichever. -/
theorem step_any (k : Fin k0_t1_loop.trips) :
    mainInv c arg0 harg0 arg1 harg1 arg2 harg2 R A XQ v0 v1 MG GO GC k.val
    ⊢ wp frame (wpE (defs₀ (F := F)) 𝒱 (c : Thread nD τ) none) Set.univ (tripB arg0 harg0 arg1 harg1 arg2 harg2 arg3 harg3 arg4 harg4 v0 v1 k)
      (fun _ => mainInv c arg0 harg0 arg1 harg1 arg2 harg2 R A XQ v0 v1 MG GO GC (k.val + 1)) := by
  have hk := hk17 k
  rcases Nat.lt_or_ge k.val 2 with h | h
  · exact step_first c arg0 harg0 arg1 harg1 arg2 harg2 arg3 harg3 arg4 harg4 R A XQ v0 v1 MG 𝒱 GO GC k h
  rcases Nat.lt_or_ge k.val 15 with h' | h'
  · exact step_mid c arg0 harg0 arg1 harg1 arg2 harg2 arg3 harg3 arg4 harg4 R A XQ v0 v1 MG 𝒱 GO GC k h h'
  rcases Nat.lt_or_ge k.val 16 with h'' | h''
  · exact step_pen c arg0 harg0 arg1 harg1 arg2 harg2 arg3 harg3 arg4 harg4 R A XQ v0 v1 MG 𝒱 GO GC k (by omega)
  · exact step_last c arg0 harg0 arg1 harg1 arg2 harg2 arg3 harg3 arg4 harg4 R A XQ v0 v1 MG 𝒱 GO GC k (by omega)

set_option maxHeartbeats 4000000 in
/-- The loop with its invariant. -/
def mainLoop : Gen.LoopInvTy_k0_t1 (F := F) Unit ℕ (Pipeline.UD sig nD τ) ℕ 𝒱 c none Set.univ arg0 harg0 arg1 harg1 arg2 harg2 arg3 harg3 arg4 harg4
    mgH (Memref.isWhole_whole _) outH (Memref.isWhole_whole _) codH (Memref.isWhole_whole _) sbH (Memref.isWhole_whole _)
    invB (Memref.isWhole_whole _) sbwB (Memref.isWhole_whole _) sbB (Memref.isWhole_whole _) ctB (Memref.isWhole_whole _) codB (Memref.isWhole_whole _)
    dqB (Memref.isWhole_whole _) mgB (Memref.isWhole_whole _) outB (Memref.isWhole_whole _)
    cc0_scratch8 cc0_scratch9 cc0_scratch10 cc0_scratch11 cc0_scratch12 v0 v1 where
  inv k _ := mainInv c arg0 harg0 arg1 harg1 arg2 harg2 R A XQ v0 v1 MG GO GC k
  step k _ := step_any c arg0 harg0 arg1 harg1 arg2 harg2 arg3 harg3 arg4 harg4 R A XQ v0 v1 MG 𝒱 GO GC k

end Trip
end Cert.KernelIdeal.Run
end
-- ==== Proof.KernelIdeal.Parts.lean ====
/-
  The arrays cut into their tiles and the rings into their slots, and put together again.
-/
module

public import proofs.«01_k».proof.Proof.KernelIdeal.Loop

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays cut into tiles -/

/-- The rows of tile `t` in an array of 4304 rows of 1152. -/
def rowsO (t : ℕ) : Finset S4304x1152.Idx :=
  if t < 16 then (Rect.unit (s := S4304x1152) (blkOff (Ring.bk 16 t)) S256x1152.size (blkOff_inb (Ring.bk 16 t))).set
  else (Rect.unit (s := S4304x1152) ![4096, 0] S208x1152.size tailOff_inb).set
/-- The rows of tile `t` in an array of 4304 rows of 768. -/
def rowsC (t : ℕ) : Finset S4304x768.Idx :=
  if t < 16 then (Rect.unit (s := S4304x768) (blkOff (Ring.bk 16 t)) S256x768.size (cblkOff_inb (Ring.bk 16 t))).set
  else (Rect.unit (s := S4304x768) ![4096, 0] S208x768.size ctailOff_inb).set

theorem mem_rowsO (t : ℕ) (ht : t < 17) (i : S4304x1152.Idx) : i ∈ rowsO t ↔ (i 0).val / 256 = t := by
  have h0 : (i 0).val < 4304 := (i 0).isLt
  have h1 : (i 1).val < 1152 := (i 1).isLt
  unfold rowsO
  split
  · rename_i h
    have hb : (Ring.bk 16 t).val = t := Ring.bk_val h
    rw [Rect.mem_set_unit]
    constructor
    · intro H
      have a := H 0
      change 256 * (Ring.bk 16 t).val ≤ (i 0).val ∧ (i 0).val < 256 * (Ring.bk 16 t).val + 256 at a
      omega
    · intro e a
      fin_cases a
      · change 256 * (Ring.bk 16 t).val ≤ (i 0).val ∧ (i 0).val < 256 * (Ring.bk 16 t).val + 256
        omega
      · change 0 ≤ (i 1).val ∧ (i 1).val < 0 + 1152
        omega
  · rw [Rect.mem_set_unit]
    constructor
    · intro H
      have a := H 0
      change 4096 ≤ (i 0).val ∧ (i 0).val < 4096 + 208 at a
      omega
    · intro e a
      fin_cases a
      · change 4096 ≤ (i 0).val ∧ (i 0).val < 4096 + 208
        omega
      · change 0 ≤ (i 1).val ∧ (i 1).val < 0 + 1152
        omega
theorem mem_rowsC (t : ℕ) (ht : t < 17) (i : S4304x768.Idx) : i ∈ rowsC t ↔ (i 0).val / 256 = t := by
  have h0 : (i 0).val < 4304 := (i 0).isLt
  have h1 : (i 1).val < 768 := (i 1).isLt
  unfold rowsC
  split
  · rename_i h
    have hb : (Ring.bk 16 t).val = t := Ring.bk_val h
    rw [Rect.mem_set_unit]
    constructor
    · intro H
      have a := H 0
      change 256 * (Ring.bk 16 t).val ≤ (i 0).val ∧ (i 0).val < 256 * (Ring.bk 16 t).val + 256 at a
      omega
    · intro e a
      fin_cases a
      · change 256 * (Ring.bk 16 t).val ≤ (i 0).val ∧ (i 0).val < 256 * (Ring.bk 16 t).val + 256
        omega
      · change 0 ≤ (i 1).val ∧ (i 1).val < 0 + 768
        omega
  · rw [Rect.mem_set_unit]
    constructor
    · intro H
      have a := H 0
      change 4096 ≤ (i 0).val ∧ (i 0).val < 4096 + 208 at a
      omega
    · intro e a
      fin_cases a
      · change 4096 ≤ (i 0).val ∧ (i 0).val < 4096 + 208
        omega
      · change 0 ≤ (i 1).val ∧ (i 1).val < 0 + 768
        omega

theorem rowsO_cover : (Finset.range 17).biUnion rowsO = Finset.univ := by
  refine Finset.eq_univ_of_forall fun i => ?_
  have h0 : (i 0).val < 4304 := (i 0).isLt
  exact Finset.mem_biUnion.2 ⟨(i 0).val / 256, Finset.mem_range.2 (by omega), (mem_rowsO _ (by omega) i).2 rfl⟩
theorem rowsC_cover : (Finset.range 17).biUnion rowsC = Finset.univ := by
  refine Finset.eq_univ_of_forall fun i => ?_
  have h0 : (i 0).val < 4304 := (i 0).isLt
  exact Finset.mem_biUnion.2 ⟨(i 0).val / 256, Finset.mem_range.2 (by omega), (mem_rowsC _ (by omega) i).2 rfl⟩
theorem rowsO_disj (t : ℕ) (ht : t ∈ Finset.range 17) (t' : ℕ) (ht' : t' ∈ Finset.range 17) (h : t ≠ t') : Disjoint (rowsO t) (rowsO t') :=
  Finset.disjoint_left.2 fun i hi hi' => h (((mem_rowsO t (Finset.mem_range.1 ht) i).1 hi).symm.trans ((mem_rowsO t' (Finset.mem_range.1 ht') i).1 hi'))
theorem rowsC_disj (t : ℕ) (ht : t ∈ Finset.range 17) (t' : ℕ) (ht' : t' ∈ Finset.range 17) (h : t ≠ t') : Disjoint (rowsC t) (rowsC t') :=
  Finset.disjoint_left.2 fun i hi hi' => h (((mem_rowsC t (Finset.mem_range.1 ht) i).1 hi).symm.trans ((mem_rowsC t' (Finset.mem_range.1 ht') i).1 hi'))

theorem mblk_set (b : Fin 16) : (mblk b).view.set = (Rect.unit (s := S4304x1152) (blkOff b) S256x1152.size (blkOff_inb b)).set := View.set_slice_whole _ _
theorem mblkT_set : mblkT.view.set = (Rect.unit (s := S4304x1152) ![4096, 0] S208x1152.size tailOff_inb).set := View.set_slice_whole _ _
theorem oblk_set (b : Fin 16) : (oblk b).view.set = (Rect.unit (s := S4304x1152) (blkOff b) S256x1152.size (blkOff_inb b)).set := View.set_slice_whole _ _
theorem oblkT_set : oblkT.view.set = (Rect.unit (s := S4304x1152) ![4096, 0] S208x1152.size tailOff_inb).set := View.set_slice_whole _ _
theorem cblk_set (b : Fin 16) : (cblk b).view.set = (Rect.unit (s := S4304x768) (blkOff b) S256x768.size (cblkOff_inb b)).set := View.set_slice_whole _ _
theorem cblkT_set : cblkT.view.set = (Rect.unit (s := S4304x768) ![4096, 0] S208x768.size ctailOff_inb).set := View.set_slice_whole _ _

section
variable (c : Dev nD) (G : S4304x1152.Idx → Elt F .f32) (GC : S4304x768.Idx → Elt F .i8)

theorem mHome_rows (t : ℕ) : mHome c G t = (iprop(mgH.view.loc (c : Thread nD τ) ↦[rowsO t]{fullShare} G) : sProp (𝕄 F)) := by
  unfold mHome rowsO
  split
  · exact congrArg (fun S => (iprop(mgH.view.loc (c : Thread nD τ) ↦[S]{fullShare} G) : sProp (𝕄 F))) (mblk_set (Ring.bk 16 t))
  · exact congrArg (fun S => (iprop(mgH.view.loc (c : Thread nD τ) ↦[S]{fullShare} G) : sProp (𝕄 F))) mblkT_set
theorem oHome_rows (t : ℕ) : oHome c G t = (iprop(outH.view.loc (c : Thread nD τ) ↦[rowsO t]{fullShare} G) : sProp (𝕄 F)) := by
  unfold oHome rowsO
  split
  · exact congrArg (fun S => (iprop(outH.view.loc (c : Thread nD τ) ↦[S]{fullShare} G) : sProp (𝕄 F))) (oblk_set (Ring.bk 16 t))
  · exact congrArg (fun S => (iprop(outH.view.loc (c : Thread nD τ) ↦[S]{fullShare} G) : sProp (𝕄 F))) oblkT_set
theorem cHome_rows (t : ℕ) : cHome c GC t = (iprop(codH.view.loc (c : Thread nD τ) ↦[rowsC t]{fullShare} GC) : sProp (𝕄 F)) := by
  unfold cHome rowsC
  split
  · exact congrArg (fun S => (iprop(codH.view.loc (c : Thread nD τ) ↦[S]{fullShare} GC) : sProp (𝕄 F))) (cblk_set (Ring.bk 16 t))
  · exact congrArg (fun S => (iprop(codH.view.loc (c : Thread nD τ) ↦[S]{fullShare} GC) : sProp (𝕄 F))) cblkT_set

/-- The main gradient, held whole, is its seventeen tiles. -/
theorem mg_tiles : (iprop(mgH.view.loc (c : Thread nD τ) ↦[Finset.univ]{fullShare} G) : sProp (𝕄 F)) = bigSep (Finset.range 17) (mHome c G) := by
  rw [show mHome c G = fun t => (iprop(mgH.view.loc (c : Thread nD τ) ↦[rowsO t]{fullShare} G) : sProp (𝕄 F)) from funext fun t => mHome_rows c G t]
  rw [← rowsO_cover]
  exact pointsTo_biUnion (ℓ := mgH.view.loc (c : Thread nD τ)) (Finset.range 17) rowsO (fun t ht t' ht' h => rowsO_disj t ht t' ht' h)
/-- The result likewise, -/
theorem out_tiles : (iprop(outH.view.loc (c : Thread nD τ) ↦[Finset.univ]{fullShare} G) : sProp (𝕄 F)) = bigSep (Finset.range 17) (oHome c G) := by
  rw [show oHome c G = fun t => (iprop(outH.view.loc (c : Thread nD τ) ↦[rowsO t]{fullShare} G) : sProp (𝕄 F)) from funext fun t => oHome_rows c G t]
  rw [← rowsO_cover]
  exact pointsTo_biUnion (ℓ := outH.view.loc (c : Thread nD τ)) (Finset.range 17) rowsO (fun t ht t' ht' h => rowsO_disj t ht t' ht' h)
/-- and the codes. -/
theorem cod_tiles : (iprop(codH.view.loc (c : Thread nD τ) ↦[Finset.univ]{fullShare} GC) : sProp (𝕄 F)) = bigSep (Finset.range 17) (cHome c GC) := by
  rw [show cHome c GC = fun t => (iprop(codH.view.loc (c : Thread nD τ) ↦[rowsC t]{fullShare} GC) : sProp (𝕄 F)) from funext fun t => cHome_rows c GC t]
  rw [← rowsC_cover]
  exact pointsTo_biUnion (ℓ := codH.view.loc (c : Thread nD τ)) (Finset.range 17) rowsC (fun t ht t' ht' h => rowsC_disj t ht t' ht' h)
end

section
variable (P : ℕ → sProp (𝕄 F))
/-- All seventeen tiles: the first and the rest; -/
theorem all_first : bigSep (Finset.range 17) P = iprop(P 0 ∗ allBut P 0) := by
  unfold allBut
  exact (congrArg (fun S => bigSep S P) (by decide : Finset.range 17 = insert 0 ((Finset.range 17).erase 0))).trans (bigSep_insert (by decide))
theorem all_ahead : ahead P 0 = bigSep (Finset.range 17) P := by
  unfold ahead; exact congrArg (fun S => bigSep S P) (by decide : Finset.Ico 0 17 = Finset.range 17)
theorem behind_none : behind P 0 = iprop(emp) := by
  unfold behind; exact (congrArg (fun S => bigSep S P) (by decide : Finset.range (0 - 2) = ∅)).trans bigSep_empty
/-- at the end of the loop all are at home, -/
theorem allBut_end : allBut P 17 = bigSep (Finset.range 17) P := by
  unfold allBut; exact congrArg (fun S => bigSep S P) (by decide : (Finset.range 17).erase 17 = Finset.range 17)
/-- or all but the last two. -/
theorem all_last : bigSep (Finset.range 17) P = iprop(P 16 ∗ P 15 ∗ behind P 17) := by
  unfold behind
  have e1 : bigSep (insert 15 (Finset.range (17 - 2))) P = iprop(P 15 ∗ bigSep (Finset.range (17 - 2)) P) := bigSep_insert (by decide)
  have e2 : bigSep (insert 16 (insert 15 (Finset.range (17 - 2)))) P = iprop(P 16 ∗ bigSep (insert 15 (Finset.range (17 - 2))) P) := bigSep_insert (by decide)
  rw [← e1, ← e2]
  exact congrArg (fun S => bigSep S P) (by decide : Finset.range 17 = insert 16 (insert 15 (Finset.range (17 - 2))))
end

/-! ## The rings cut into their two slots -/

theorem mslot_cover : Finset.biUnion (β := S2x256x1152.Idx) (Finset.univ : Finset (Fin 2)) (fun s => (mslot s).view.set) = Finset.univ := by
  refine Finset.eq_univ_of_forall fun (i : S2x256x1152.Idx) => ?_
  exact Finset.mem_biUnion.2 ⟨i 0, Finset.mem_univ _, (mem_mslot_view (i 0) i).2 rfl⟩
theorem oslot_cover : Finset.biUnion (β := S2x256x1152.Idx) (Finset.univ : Finset (Fin 2)) (fun s => (oslot s).view.set) = Finset.univ := by
  refine Finset.eq_univ_of_forall fun (i : S2x256x1152.Idx) => ?_
  exact Finset.mem_biUnion.2 ⟨i 0, Finset.mem_univ _, (mem_oslot_view (i 0) i).2 rfl⟩
theorem cslot_cover : Finset.biUnion (β := S2x256x768.Idx) (Finset.univ : Finset (Fin 2)) (fun s => (cslot s).view.set) = Finset.univ := by
  refine Finset.eq_univ_of_forall fun (i : S2x256x768.Idx) => ?_
  exact Finset.mem_biUnion.2 ⟨i 0, Finset.mem_univ _, (mem_cslot_view (i 0) i).2 rfl⟩
theorem mslot_disj (s s' : Fin 2) (h : s ≠ s') : Disjoint (mslot s).view.set (mslot s').view.set :=
  Finset.disjoint_left.2 fun (i : S2x256x1152.Idx) hi hi' => h (Fin.ext (((mem_mslot_view s i).1 hi).symm.trans ((mem_mslot_view s' i).1 hi')))
theorem oslot_disj (s s' : Fin 2) (h : s ≠ s') : Disjoint (oslot s).view.set (oslot s').view.set :=
  Finset.disjoint_left.2 fun (i : S2x256x1152.Idx) hi hi' => h (Fin.ext (((mem_oslot_view s i).1 hi).symm.trans ((mem_oslot_view s' i).1 hi')))
theorem cslot_disj (s s' : Fin 2) (h : s ≠ s') : Disjoint (cslot s).view.set (cslot s').view.set :=
  Finset.disjoint_left.2 fun (i : S2x256x768.Idx) hi hi' => h (Fin.ext (((mem_cslot_view s i).1 hi).symm.trans ((mem_cslot_view s' i).1 hi')))

theorem two_sep (P : Fin 2 → sProp (𝕄 F)) : bigSep Finset.univ P = iprop(P 0 ∗ P 1) := by
  rw [show (Finset.univ : Finset (Fin 2)) = insert 0 {1} from by decide, bigSep_insert (by decide), bigSep_singleton]
  rfl

section
variable (c : Dev nD)

theorem mg_slots (f : S2x256x1152.Idx → Elt F .f32) : (iprop(mgB.view.loc (c : Thread nD τ) ↦[Finset.univ]{fullShare} f) : sProp (𝕄 F)) ⊢ iprop(hold c (mslot 0) f ∗ hold c (mslot 1) f) := by
  have e := Ring.pointsTo_blocks (Ix := Unit) (Val := Elt F) (Name := ℕ) (U := Pipeline.UD sig nD τ) (Lvl := ℕ) (ℓ := mgB.view.loc (c : Thread nD τ)) (fun s : Fin 2 => (mslot s).view.set) mslot_disj mslot_cover (q := fullShare) f
  rw [two_sep] at e
  exact Entails.of_eq e
theorem out_slots (f : S2x256x1152.Idx → Elt F .f32) : (iprop(outB.view.loc (c : Thread nD τ) ↦[Finset.univ]{fullShare} f) : sProp (𝕄 F)) ⊢ iprop(hold c (oslot 0) f ∗ hold c (oslot 1) f) := by
  have e := Ring.pointsTo_blocks (Ix := Unit) (Val := Elt F) (Name := ℕ) (U := Pipeline.UD sig nD τ) (Lvl := ℕ) (ℓ := outB.view.loc (c : Thread nD τ)) (fun s : Fin 2 => (oslot s).view.set) oslot_disj oslot_cover (q := fullShare) f
  rw [two_sep] at e
  exact Entails.of_eq e
theorem cod_slots (g : S2x256x768.Idx → Elt F .i8) : (iprop(codB.view.loc (c : Thread nD τ) ↦[Finset.univ]{fullShare} g) : sProp (𝕄 F)) ⊢ iprop(hold c (cslot 0) g ∗ hold c (cslot 1) g) := by
  have e := Ring.pointsTo_blocks (Ix := Unit) (Val := Elt F) (Name := ℕ) (U := Pipeline.UD sig nD τ) (Lvl := ℕ) (ℓ := codB.view.loc (c : Thread nD τ)) (fun s : Fin 2 => (cslot s).view.set) cslot_disj cslot_cover (q := fullShare) g
  rw [two_sep] at e
  exact Entails.of_eq e
theorem mg_whole (f : S2x256x1152.Idx → Elt F .f32) : (iprop((∃ f : S2x256x1152.Idx → Elt F .f32, hold c (mslot 0) f) ∗ ∃ f : S2x256x1152.Idx → Elt F .f32, hold c (mslot 1) f) : sProp (𝕄 F))
    ⊢ iprop(∃ f, mgB.view.loc (c : Thread nD τ) ↦[Finset.univ]{fullShare} f) := by
  have e := Ring.pointsTo_blocks_join_exists (Ix := Unit) (Val := Elt F) (Name := ℕ) (U := Pipeline.UD sig nD τ) (Lvl := ℕ) (ℓ := mgB.view.loc (c : Thread nD τ)) (fun s : Fin 2 => (mslot s).view.set) mslot_disj mslot_cover (q := fullShare) f
  rw [two_sep] at e
  exact e
theorem out_whole (f : S2x256x1152.Idx → Elt F .f32) : (iprop((∃ f : S2x256x1152.Idx → Elt F .f32, hold c (oslot 0) f) ∗ ∃ f : S2x256x1152.Idx → Elt F .f32, hold c (oslot 1) f) : sProp (𝕄 F))
    ⊢ iprop(∃ f, outB.view.loc (c : Thread nD τ) ↦[Finset.univ]{fullShare} f) := by
  have e := Ring.pointsTo_blocks_join_exists (Ix := Unit) (Val := Elt F) (Name := ℕ) (U := Pipeline.UD sig nD τ) (Lvl := ℕ) (ℓ := outB.view.loc (c : Thread nD τ)) (fun s : Fin 2 => (oslot s).view.set) oslot_disj oslot_cover (q := fullShare) f
  rw [two_sep] at e
  exact e
theorem cod_whole (g : S2x256x768.Idx → Elt F .i8) : (iprop((∃ f : S2x256x768.Idx → Elt F .i8, hold c (cslot 0) f) ∗ ∃ f : S2x256x768.Idx → Elt F .i8, hold c (cslot 1) f) : sProp (𝕄 F))
    ⊢ iprop(∃ f, codB.view.loc (c : Thread nD τ) ↦[Finset.univ]{fullShare} f) := by
  have e := Ring.pointsTo_blocks_join_exists (Ix := Unit) (Val := Elt F) (Name := ℕ) (U := Pipeline.UD sig nD τ) (Lvl := ℕ) (ℓ := codB.view.loc (c : Thread nD τ)) (fun s : Fin 2 => (cslot s).view.set) cslot_disj cslot_cover (q := fullShare) g
  rw [two_sep] at e
  exact e
end
end Cert.KernelIdeal.Run
end
-- ==== Proof.KernelIdeal.Body.lean ====
/-
  The run of the kernel: what it holds before and after.
-/
module

public import proofs.«01_k».proof.Proof.KernelIdeal.Parts

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The semaphore of the block scales' copy. -/
abbrev xsem : DmaSems sig S_ := (cc0_scratch12.slice (Rect.unit (s := S8) ![7] S1.size inb_S8_S1_7)).squeeze S_ squeezes_S1_S_

section
variable (c : Dev nD) (arg0 : Memref sig .tc .vmem S34x1632x128 .f32) (harg0 : arg0.IsWhole)
  (arg1 : Memref sig .tc .vmem S96x4352 .f32) (harg1 : arg1.IsWhole) (arg2 : Memref sig .tc .vmem S1152x1536 .bf16) (harg2 : arg2.IsWhole)
  (arg3 : Memref sig .tc .vmem S1x1 .f32) (harg3 : arg3.IsWhole) (arg4 : Memref sig .tc .vmem S1x1 .f32) (harg4 : arg4.IsWhole)
  (R : S34x1632x128.Idx → Elt F .f32) (A : S96x4352.Idx → Elt F .f32) (XQ : S1152x1536.Idx → Elt F .bf16)
  (v0 v1 : S1x1.Idx → Elt F .f32) (MG : S4304x1152.Idx → Elt F .f32) (𝒱 : Variants)
  (GO : S4304x1152.Idx → Elt F .f32) (GC : S4304x768.Idx → Elt F .i8)

/-- The semaphores, all at zero. -/
abbrev cells : sProp (𝕄 F) := iprop(cell0 c (msem 0) ∗ cell0 c (msem 1) ∗ cell0 c (osem 0) ∗ cell0 c (osem 1) ∗ cell0 c (csem 0) ∗ cell0 c (csem 1)
  ∗ cell0 c cc0_scratch11 ∗ cell0 c xsem)
/-- The windows. -/
abbrev wins5 : sProp (𝕄 F) := iprop(wins c arg0 harg0 arg1 harg1 arg2 harg2 R A XQ ∗ hold c arg3 (harg3.unread v1) ∗ hold c arg4 (harg4.unread v0))
/-- The scratch buffers, at some contents. -/
abbrev scratch : sProp (𝕄 F) := iprop(scr c ∗ (∃ f : S96x4352.Idx → Elt F .fp8e4m3, hold c sbB f)
  ∗ (∃ f : S2x256x1152.Idx → Elt F .f32, mgB.view.loc (c : Thread nD τ) ↦[Finset.univ]{fullShare} f)
  ∗ (∃ f : S2x256x1152.Idx → Elt F .f32, outB.view.loc (c : Thread nD τ) ↦[Finset.univ]{fullShare} f)
  ∗ (∃ f : S2x256x768.Idx → Elt F .i8, codB.view.loc (c : Thread nD τ) ↦[Finset.univ]{fullShare} f))

/-- The kernel. -/
abbrev wholeB := cc0_nvfp4_wgrad (F := F) arg0 harg0 arg1 harg1 arg2 harg2 arg3 harg3 arg4 harg4
    mgH (Memref.isWhole_whole _) outH (Memref.isWhole_whole _) codH (Memref.isWhole_whole _) sbH (Memref.isWhole_whole _)
    invB (Memref.isWhole_whole _) sbwB (Memref.isWhole_whole _) sbB (Memref.isWhole_whole _) ctB (Memref.isWhole_whole _) codB (Memref.isWhole_whole _)
    dqB (Memref.isWhole_whole _) mgB (Memref.isWhole_whole _) outB (Memref.isWhole_whole _)
    cc0_scratch8 cc0_scratch9 cc0_scratch10 cc0_scratch11 cc0_scratch12

/-- The loop, run to its end, before the rest of the program. -/
theorem loopRun (kk : PUnit → Prog (TpuEff nD τ sig (Elt F) Λ₀ .tc) PUnit) (Q : PUnit → sProp (𝕄 F)) :
    mainInv c arg0 harg0 arg1 harg1 arg2 harg2 R A XQ v0 v1 MG GO GC 0
    ⊢ iprop((mainInv c arg0 harg0 arg1 harg1 arg2 harg2 R A XQ v0 v1 MG GO GC 17 -∗ wp frame (wpE (defs₀ (F := F)) 𝒱 (c : Thread nD τ) none) Set.univ (kk ⟨⟩) Q)
      -∗ wp frame (wpE (defs₀ (F := F)) 𝒱 (c : Thread nD τ) none) Set.univ
        (k0_t1_loop.for k0_t1_ok PUnit.unit (fun k acc => k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k acc) >>= kk) Q) := by
  have H := Scf.wp_for_bind (Idealize.ShloMosaic.frame (nD := nD) (τ := τ) (sig := sig)) (wpE (defs₀ (F := F)) 𝒱 (c : Thread nD τ) none) Set.univ _ _ _ k0_t1_ok PUnit.unit
    (fun k acc => k0_t1_body (F := F) arg0 harg0 arg1 harg1 arg2 harg2 arg3 harg3 arg4 harg4 mgH (Memref.isWhole_whole _) outH (Memref.isWhole_whole _)
    codH (Memref.isWhole_whole _) sbH (Memref.isWhole_whole _) invB (Memref.isWhole_whole _) sbwB (Memref.isWhole_whole _)
    sbB (Memref.isWhole_whole _) ctB (Memref.isWhole_whole _) codB (Memref.isWhole_whole _) dqB (Memref.isWhole_whole _)
    mgB (Memref.isWhole_whole _) outB (Memref.isWhole_whole _) cc0_scratch8 cc0_scratch9 cc0_scratch10 cc0_scratch11 cc0_scratch12
    v0 v1 k acc)
    (fun k _ => mainInv c arg0 harg0 arg1 harg1 arg2 harg2 R A XQ v0 v1 MG GO GC k)
    (fun k _ => step_any c arg0 harg0 arg1 harg1 arg2 harg2 arg3 harg3 arg4 harg4 R A XQ v0 v1 MG 𝒱 GO GC k) (kk := kk) (Q := Q)
  refine H.trans ?_
  iintro H H1
  iapply H
  iintro %acc HI
  iapply H1
  iexact HI

/-- A window's one number, as loaded. -/
theorem load_one {M : Memref sig .tc .vmem S1x1 .f32} (hM : M.IsWhole) (v : S1x1.Idx → Elt F .f32) :
    View.readAt (Elt F) M.view (Rect.unit (s := S1x1) ![0, 0] S1x1.size inb_S1x1_S1x1_0_0).toLoadRect (hM.unread v) = v := by
  funext x
  refine (Memref.IsWhole.readAt_unread hM v _ x).trans (congrArg v ?_)
  funext a
  have h : ∀ n : Fin 1, n = 0 := by decide
  fin_cases a
  · exact (h _).trans (h _).symm
  · exact (h _).trans (h _).symm

/-- What the loop ends with. -/
theorem mainInv_end : mainInv c arg0 harg0 arg1 harg1 arg2 harg2 R A XQ v0 v1 MG GO GC 17
    = iprop(wins c arg0 harg0 arg1 harg1 arg2 harg2 R A XQ ∗ scr c ∗ sbTo c A v0 17 ∗ mgFree c 1 ∗ mgFree c 0 ∗ bigSep (Finset.range 17) (mHome c MG)
      ∗ (∃ o : S2x256x1152.Idx → Elt F .f32, fly c (osem 1) 36864 iprop(hold c (oblk 15) (Gout R A XQ v0 v1 MG) ∗ hold c (oslot 1) o))
      ∗ ((∃ o : S2x256x1152.Idx → Elt F .f32, fly c (osem 0) 29952 iprop(hold c oblkT (Gout R A XQ v0 v1 MG) ∗ hold c (oslotT 0) o)) ∗ orest c 0)
      ∗ ahead (oHome c GO) 17 ∗ behind (oHome c (Gout R A XQ v0 v1 MG)) 17
      ∗ (∃ o : S2x256x768.Idx → Elt F .i8, fly c (csem 1) 6144 iprop(hold c (cblk 15) (Gcod R A v0) ∗ hold c (cslot 1) o))
      ∗ ((∃ o : S2x256x768.Idx → Elt F .i8, fly c cc0_scratch11 5376 iprop(hold c cblkT (Gcod R A v0) ∗ hold c (cslotT 0) o)) ∗ crest c 0 ∗ cell0 c (csem 0))
      ∗ ahead (cHome c GC) 17 ∗ behind (cHome c (Gcod R A v0)) 17 ∗ ctSt c 17 ∗ waits c) := by
  unfold mainInv
  rw [mSt_end c MG 17 (by omega), allBut_end, oSt_mid c (Gout R A XQ v0 v1 MG) 17 (by omega) (by omega), oSt_end c (Gout R A XQ v0 v1 MG) 16 rfl,
    cSt_mid c (Gcod R A v0) 17 (by omega) (by omega), cSt_end c (Gcod R A v0) 16 rfl]
  rfl

/-- What the loop starts with. -/
theorem mainInv_start : iprop(wins c arg0 harg0 arg1 harg1 arg2 harg2 R A XQ ∗ scr c ∗ (∃ f : S96x4352.Idx → Elt F .fp8e4m3, hold c sbB f)
      ∗ mgFly c MG 0 ∗ mgFree c 1 ∗ allBut (mHome c MG) 0 ∗ outFree c 0 ∗ outFree c 1 ∗ bigSep (Finset.range 17) (oHome c GO)
      ∗ codFree c 0 ∗ codFree c 1 ∗ bigSep (Finset.range 17) (cHome c GC) ∗ cell0 c cc0_scratch11 ∗ waits c)
    ⊢ mainInv c arg0 harg0 arg1 harg1 arg2 harg2 R A XQ v0 v1 MG GO GC 0 := by
  unfold mainInv
  rw [mSt_lt c MG 0 (by omega), oSt_boot c (Gout R A XQ v0 v1 MG) 0 (by omega), oSt_boot c (Gout R A XQ v0 v1 MG) (0 + 1) (by omega),
    cSt_boot c (Gcod R A v0) 0 (by omega), cSt_boot c (Gcod R A v0) (0 + 1) (by omega), all_ahead, all_ahead, behind_none, behind_none, ctSt_lt c 0 (by omega)]
  iintro ⟨W, S, ⟨%f, B⟩, M, MF, Mr, O, O', OA, C, C', CA, CT, HW⟩
  isplitl [W]; · iexact W
  isplitl [S]; · iexact S
  isplitl [B]
  · iexists f; isplitr; swap; · iexact B
    ipureintro; intro i h; omega
  isplitl [M]; · iexact M
  isplitl [MF]; · iexact MF
  isplitl [Mr]; · iexact Mr
  isplitl [O]; · iexact O
  isplitl [O']; · iexact O'
  isplitl [OA]; · iexact OA
  isplitr; · iempintro
  isplitl [C]; · iexact C
  isplitl [C']; · iexact C'
  isplitl [CA]; · iexact CA
  isplitr; · iempintro
  isplitl [CT]; · iexact CT
  iexact HW

/-- The result's tiles, all written, are the whole result. -/
theorem out_back (G : S4304x1152.Idx → Elt F .f32) : iprop(hold c oblkT G ∗ hold c (oblk 15) G ∗ behind (oHome c G) 17)
    ⊢ (outH.view.loc (c : Thread nD τ) ↦[Finset.univ]{fullShare} G : sProp (𝕄 F)) := by
  rw [out_tiles, all_last, oHome_last c G 16 rfl, oHome_lt c G 15 (by omega)]
  exact .rfl
/-- The codes' tiles, all written, are the whole array of codes. -/
theorem cod_back (G : S4304x768.Idx → Elt F .i8) : iprop(hold c cblkT G ∗ hold c (cblk 15) G ∗ behind (cHome c G) 17)
    ⊢ (codH.view.loc (c : Thread nD τ) ↦[Finset.univ]{fullShare} G : sProp (𝕄 F)) := by
  rw [cod_tiles, all_last, cHome_last c G 16 rfl, cHome_lt c G 15 (by omega)]
  exact .rfl
/-- What the last copy leaves in the array of block scales. -/
theorem sb_back (fb : S96x4352.Idx → Elt F .fp8e4m3) (fs : S96x4304.Idx → Elt F .fp8e4m3)
    (h : ∀ i : S96x4352.Idx, (i 1).val < 256 * 17 → fb i = Gsb A v0 i) (p : S96x4304.Idx → Elt F .fp8e4m3)
    (hp : ∀ i : S96x4304.Idx, p i = fb (ix2 (i 0) ⟨(i 1).val, by have h1 : (i 1).val < 4304 := (i 1).isLt; omega⟩)) :
    (sbH.view.loc (c : Thread nD τ) ↦[sbH.view.set]{fullShare} sbH.view.writes (Elt F) fs [⟨Rect.whole S96x4304, p⟩] : sProp (𝕄 F))
      = hold c sbH (GsbH A v0) :=
  hold_landed c sbH fs (GsbH A v0) p fun x => by
    rw [hp, h _ (by have h1 : (x 1).val < 4304 := (x 1).isLt; show (x 1).val < 4352; omega)]
    rfl

set_option maxHeartbeats 4000000 in
/-- A run of the kernel. -/
theorem bodyRun (Q : PUnit → sProp (𝕄 F)) :
    iprop((wins5 c arg0 harg0 arg1 harg1 arg2 harg2 arg3 harg3 arg4 harg4 R A XQ v0 v1 ∗ scratch c ∗ cells c
      ∗ (mgH.view.loc (c : Thread nD τ) ↦[Finset.univ]{fullShare} MG) ∗ (outH.view.loc (c : Thread nD τ) ↦[Finset.univ]{fullShare} GO)
      ∗ (codH.view.loc (c : Thread nD τ) ↦[Finset.univ]{fullShare} GC) ∗ (∃ f : S96x4304.Idx → Elt F .fp8e4m3, hold c sbH f) ∗ waits c)
      ∗ (iprop(wins5 c arg0 harg0 arg1 harg1 arg2 harg2 arg3 harg3 arg4 harg4 R A XQ v0 v1 ∗ scratch c ∗ cells c
        ∗ (mgH.view.loc (c : Thread nD τ) ↦[Finset.univ]{fullShare} MG) ∗ (outH.view.loc (c : Thread nD τ) ↦[Finset.univ]{fullShare} Gout R A XQ v0 v1 MG)
        ∗ (codH.view.loc (c : Thread nD τ) ↦[Finset.univ]{fullShare} Gcod R A v0) ∗ hold c sbH (GsbH A v0) ∗ waits c) -∗ Q ⟨⟩))
    ⊢ wp frame (wpE (defs₀ (F := F)) 𝒱 (c : Thread nD τ) none) Set.univ (wholeB arg0 harg0 arg1 harg1 arg2 harg2 arg3 harg3 arg4 harg4) Q := by
  unfold wholeB
  iintro ⟨⟨⟨W, H3, H4⟩, ⟨S, SB, ⟨%fm, MB⟩, ⟨%fo, OB⟩, ⟨%fc, CB⟩⟩, ⟨M0, M1, O0, O1, C0, C1, CT, X⟩, MH, OH, CH, ⟨%fs, SH⟩, ⟨%W0, HW⟩⟩, Hk⟩
  ihave MH2 := (show (mgH.view.loc (c : Thread nD τ) ↦[Finset.univ]{fullShare} MG : sProp (𝕄 F)) ⊢ iprop(hold c (mblk 0) MG ∗ allBut (mHome c MG) 0) from by
    rw [mg_tiles c MG, all_first, mHome_lt c MG 0 (by omega)]; exact .rfl) $$ MH
  icases MH2 with ⟨Mb, Mr⟩
  ihave MX := (mg_slots c fm) $$ MB
  icases MX with ⟨MS0, MS1⟩
  ihave OX := (out_slots c fo) $$ OB
  icases OX with ⟨OS0, OS1⟩
  ihave CX := (cod_slots c fc) $$ CB
  icases CX with ⟨CS0, CS1⟩
  sl_exec
  sl_rw [load_one harg4 v0, load_one harg3 v1]
  ihave OT := (Entails.of_eq (out_tiles c GO)) $$ OH
  ihave CTL := (Entails.of_eq (cod_tiles c GC)) $$ CH
  ihave I0 := (mainInv_start c arg0 harg0 arg1 harg1 arg2 harg2 R A XQ v0 v1 MG GO GC) $$ [W S SB M0 MS1 M1 Mr OS0 O0 OS1 O1 OT CS0 C0 CS1 C1 CTL CT HW]
  · isplitl [W]; · iexact W
    isplitl [S]; · iexact S
    isplitl [SB]; · iexact SB
    isplitl [M0]
    · iexists _; isplitr; swap; · iexact M0
      ipureintro; exact mslot_tile_at 0 (by omega) MG fm
    isplitl [MS1 M1]
    · isplitl [MS1]; · iexists fm; iexact MS1
      iexact M1
    isplitl [Mr]; · iexact Mr
    isplitl [OS0 O0]
    · isplitl [OS0]; · iexists fo; iexact OS0
      iexact O0
    isplitl [OS1 O1]
    · isplitl [OS1]; · iexists fo; iexact OS1
      iexact O1
    isplitl [OT]; · iexact OT
    isplitl [CS0 C0]
    · isplitl [CS0]; · iexists fc; iexact CS0
      iexact C0
    isplitl [CS1 C1]
    · isplitl [CS1]; · iexists fc; iexact CS1
      iexact C1
    isplitl [CTL]; · iexact CTL
    isplitl [CT]; · iexact CT
    iexists _; iexact HW
  iapply (loopRun c arg0 harg0 arg1 harg1 arg2 harg2 arg3 harg3 arg4 harg4 R A XQ v0 v1 MG 𝒱 GO GC) $$ I0
  rw [mainInv_end]
  iintro ⟨W, S, ⟨%fb, %hfb, SB⟩, ⟨MS1, M1⟩, ⟨MS0, M0⟩, MH, ⟨%o1, O1⟩, ⟨⟨%o0, O0⟩, OR⟩, -, OB, ⟨%c1, C1⟩, ⟨⟨%c0, CT⟩, CR, C0⟩, -, CB, -, ⟨%W1, HW⟩⟩
  sl_exec
  have hsb := sb_back c A v0 fb fs hfb (bodyRun.sl.dma0 fb) (by
    intro i
    delta bodyRun.sl.dma0
    refine congrArg fb ?_
    funext a
    apply Fin.ext
    fin_cases a
    · show 0 + 1 * (i 0).val = (i 0).val
      omega
    · show 0 + 1 * (i 1).val = (i 1).val
      omega)
  ihave OH := (out_back c (Gout R A XQ v0 v1 MG)) $$ [O0_dst O1_dst OB]
  · isplitl [O0_dst]; · iexact O0_dst
    isplitl [O1_dst]; · iexact O1_dst
    iexact OB
  ihave CH := (cod_back c (Gcod R A v0)) $$ [CT_dst C1_dst CB]
  · isplitl [CT_dst]; · iexact CT_dst
    isplitl [C1_dst]; · iexact C1_dst
    iexact CB
  ihave MT := (Entails.of_eq (mg_tiles c MG).symm) $$ MH
  ihave OS0 := (oslot_join c 16) $$ [O0_src OR]
  · isplitl [O0_src]; · iexists o0; iexact O0_src
    iexact OR
  ihave CS0 := (cslot_join c 16) $$ [CT_src CR]
  · isplitl [CT_src]; · iexists c0; iexact CT_src
    iexact CR
  ihave OW := (out_whole c fo) $$ [OS0 O1_src]
  · isplitl [OS0]; · iexact OS0
    iexists o1; iexact O1_src
  ihave CW := (cod_whole c fc) $$ [CS0 C1_src]
  · isplitl [CS0]; · iexact CS0
    iexists c1; iexact C1_src
  ihave MW := (mg_whole c fm) $$ [MS0 MS1]
  · isplitl [MS0]; · iexact MS0
    iexact MS1
  ihave SHH := (Entails.of_eq hsb) $$ SH
  sl_step
  iapply Hk
  isplitl [W H3 H4]
  · isplitl [W]; · iexact W
    isplitl [H3]; · iexact H3
    iexact H4
  isplitl [S SB MW OW CW]
  · isplitl [S]; · iexact S
    isplitl [SB]; · iexists fb; iexact SB
    isplitl [MW]; · iexact MW
    isplitl [OW]; · iexact OW
    iexact CW
  isplitl [M0 M1 O0 O1 C0 C1 CT X]
  · isplitl [M0]; · iexact M0
    isplitl [M1]; · iexact M1
    isplitl [O0]; · iexact O0
    isplitl [O1]; · iexact O1
    isplitl [C0]; · iexact C0
    isplitl [C1]; · iexact C1
    isplitl [CT]; · iexact CT
    iexact X
  isplitl [MT]; · iexact MT
  isplitl [OH]; · iexact OH
  isplitl [CH]; · iexact CH
  isplitl [SHH]; · iexact SHH
  iexists _; iexact HW
end
end Cert.KernelIdeal.Run
end
-- ==== Proof.KernelIdeal.Launch.lean ====
/-
  The launch: the kernel's run at its one grid point, within @main.
-/
module

public import proofs.«01_k».proof.Proof.Gen.KernelIdeal.Frame
public import proofs.«01_k».proof.Proof.KernelIdeal.Body
public import Idealize.ShloMosaic.Lib.Pipeline.FrameBody
public import Idealize.ShloMosaic.Lib.Pipeline.FrameSuffixV

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 800000 in
/-- `@main` around the kernel: the host lines before it, and after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the kernel is given and what it leaves -/

/-- The rotated gradient, as staged. -/
abbrev inR (c : Dev nD) (t : Fin cfg0.N) : S34x1632x128.Idx → Elt F .f32 := iblk m c 0 t
/-- Its block maxima, as staged. -/
abbrev inA (c : Dev nD) (t : Fin cfg0.N) : S96x4352.Idx → Elt F .f32 := iblk m c 1 t
/-- The quantised activations, as staged. -/
abbrev inX (c : Dev nD) (t : Fin cfg0.N) : S1152x1536.Idx → Elt F .bf16 := iblk m c 2 t
/-- The activations' global scale, as staged. -/
abbrev inG1 (c : Dev nD) (t : Fin cfg0.N) : S1x1.Idx → Elt F .f32 := iblk m c 3 t
/-- The gradient's global scale, as staged. -/
abbrev inG0 (c : Dev nD) (t : Fin cfg0.N) : S1x1.Idx → Elt F .f32 := iblk m c 4 t
/-- The main gradient. -/
abbrev inM (c : Dev nD) : S4304x1152.Idx → Elt F .f32 := V m c main_v6

/-- What the kernel leaves in its three results; every other buffer as it was. -/
def Gres (c : Dev nD) : (b : Ref sig .tc) → Buf (Elt F) ((c.tc : Thread nD τ).loc b) :=
  Function.update (Function.update (Function.update (V m c)
    main_v7_0 (show S4304x1152.Idx → Elt F .f32 from Gout (inR m c t0_0) (inA m c t0_0) (inX m c t0_0) (inG0 m c t0_0) (inG1 m c t0_0) (inM m c)))
    main_v7_1 (show S4304x768.Idx → Elt F .i8 from Gcod (inR m c t0_0) (inA m c t0_0) (inG0 m c t0_0)))
    main_v7_2 (show S96x4304.Idx → Elt F .fp8e4m3 from GsbH (inA m c t0_0) (inG0 m c t0_0))

theorem Gres_0 (c : Dev nD) : Gres m c main_v7_0 = Gout (inR m c t0_0) (inA m c t0_0) (inX m c t0_0) (inG0 m c t0_0) (inG1 m c t0_0) (inM m c) := by
  unfold Gres
  rw [Function.update_of_ne (by decide), Function.update_of_ne (by decide), Function.update_self]
theorem Gres_1 (c : Dev nD) : Gres m c main_v7_1 = Gcod (inR m c t0_0) (inA m c t0_0) (inG0 m c t0_0) := by
  unfold Gres
  rw [Function.update_of_ne (by decide), Function.update_self]
theorem Gres_2 (c : Dev nD) : Gres m c main_v7_2 = GsbH (inA m c t0_0) (inG0 m c t0_0) := by
  unfold Gres
  rw [Function.update_self]

/-! ## What the pipeline holds beside the windows -/

/-- The kernel's own semaphores. -/
abbrev osem0 : Fin 15 → SemLoc sig := fun j => (![SemLoc.dma 5, SemLoc.dma 6, SemLoc.dma 7, SemLoc.dma 8, SemLoc.dma 9, SemLoc.dma 10, SemLoc.dma 11, SemLoc.dma 12,
  SemLoc.dma 13, SemLoc.dma 14, SemLoc.dma 15, SemLoc.dma 16, SemLoc.dma 17, SemLoc.dma 18, SemLoc.dma 19] : Fin 15 → SemLoc sig) j
theorem ownSemFacts0 : Pipeline.OwnSemFacts spec0 osem0 := by decide
/-- The array the kernel only reads by its own copies. -/
abbrev H0 : Finset (Ref sig .tc) := {main_v6}
/-- The arrays it writes by its own copies. -/
abbrev R0 : Finset (Ref sig .tc) := {main_v7_0, main_v7_1, main_v7_2}
theorem H0_sub : H0 ⊆ Pipeline.restRefs sig spec0 := by decide
theorem R0_sub : R0 ⊆ Pipeline.restRefs sig spec0 \ H0 := by decide

theorem ownSems0_list (c : Dev nD) :
    (Pipeline.ownSems0 (Ix := Unit) (Name := ℕ) (U := Pipeline.UD sig nD τ) (Lvl := ℕ) (Val := Elt F) (τ := τ) osem0 c : sProp (𝕄 F))
      = iprop(cell0 c (msem 0) ∗ cell0 c (msem 1) ∗ cell0 c (osem 0) ∗ cell0 c (osem 1) ∗ cell0 c (csem 0) ∗ cell0 c (csem 1)
        ∗ cell0 c cc0_scratch11 ∗ semVal ((c : Thread nD τ), osem0 7) 0 ∗ semVal ((c : Thread nD τ), osem0 8) 0 ∗ semVal ((c : Thread nD τ), osem0 9) 0
        ∗ semVal ((c : Thread nD τ), osem0 10) 0 ∗ semVal ((c : Thread nD τ), osem0 11) 0 ∗ semVal ((c : Thread nD τ), osem0 12) 0
        ∗ semVal ((c : Thread nD τ), osem0 13) 0 ∗ cell0 c xsem) := by
  rw [Pipeline.ownSems0_eq_of_list c osem0 [0, 1, 2, 3, 4, 5, 6, 7, 8, 9, 10, 11, 12, 13, 14] (by decide) (by decide)]; rfl

theorem H0_list (c : Dev nD) (Y : (b : Ref sig .tc) → Buf (Elt F) ((c.tc : Thread nD τ).loc b)) :
    (bigSep H0 (fun b => ((c.tc : Thread nD τ).loc b) ↦{fullShare} Y b) : sProp (𝕄 F))
      = iprop(mgH.view.loc (c : Thread nD τ) ↦[Finset.univ]{fullShare} Y main_v6) := by
  rw [BI.bigSep_eq_bigSepL_of_eq [main_v6] (by decide) (by decide)]; rfl
theorem R0_list (c : Dev nD) (Y : (b : Ref sig .tc) → Buf (Elt F) ((c.tc : Thread nD τ).loc b)) :
    (bigSep R0 (fun b => ((c.tc : Thread nD τ).loc b) ↦{fullShare} Y b) : sProp (𝕄 F))
      = iprop((outH.view.loc (c : Thread nD τ) ↦[Finset.univ]{fullShare} Y main_v7_0) ∗ (codH.view.loc (c : Thread nD τ) ↦[Finset.univ]{fullShare} Y main_v7_1)
        ∗ (sbH.view.loc (c : Thread nD τ) ↦[Finset.univ]{fullShare} Y main_v7_2)) := by
  rw [BI.bigSep_eq_bigSepL_of_eq [main_v7_0, main_v7_1, main_v7_2] (by decide) (by decide)]; rfl

/-- A whole buffer, held, is its reference's points-to. -/
theorem hold_whole (c : Dev nD) {sp : Space} {s : Shape} {e : EltTy} (M : Memref sig .tc sp s e) (hM : M.IsWhole) (f : Buf (Elt F) (M.view.loc (c : Thread nD τ))) :
    (hold c M f : sProp (𝕄 F)) = iprop(M.view.loc (c : Thread nD τ) ↦[Finset.univ]{fullShare} f) := by
  exact congrArg (fun S => (iprop(M.view.loc (c : Thread nD τ) ↦[S]{fullShare} f) : sProp (𝕄 F))) hM.set_eq_univ

/-- What the kernel holds beside the windows and waits, its own arrays at contents `Y`. -/
theorem rest_eq (c : Dev nD) (Y : (c : Dev nD) → (b : Ref sig .tc) → Buf (Elt F) ((c.tc : Thread nD τ).loc b)) :
    (Pipeline.ΦDRV osem0 spec0 H0 R0 (V m) Y c : sProp (𝕄 F))
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
        ∗ (cell0 c (msem 0) ∗ cell0 c (msem 1) ∗ cell0 c (osem 0) ∗ cell0 c (osem 1) ∗ cell0 c (csem 0) ∗ cell0 c (csem 1)
        ∗ cell0 c cc0_scratch11 ∗ semVal ((c : Thread nD τ), osem0 7) 0 ∗ semVal ((c : Thread nD τ), osem0 8) 0 ∗ semVal ((c : Thread nD τ), osem0 9) 0
        ∗ semVal ((c : Thread nD τ), osem0 10) 0 ∗ semVal ((c : Thread nD τ), osem0 11) 0 ∗ semVal ((c : Thread nD τ), osem0 12) 0
        ∗ semVal ((c : Thread nD τ), osem0 13) 0 ∗ cell0 c xsem)
        ∗ (mgH.view.loc (c : Thread nD τ) ↦[Finset.univ]{fullShare} V m c main_v6)
        ∗ ((outH.view.loc (c : Thread nD τ) ↦[Finset.univ]{fullShare} Y c main_v7_0) ∗ (codH.view.loc (c : Thread nD τ) ↦[Finset.univ]{fullShare} Y c main_v7_1)
        ∗ (sbH.view.loc (c : Thread nD τ) ↦[Finset.univ]{fullShare} Y c main_v7_2))) := by
  unfold Pipeline.ΦDRV
  rw [scopedRest0_eq, ownSems0_list, H0_list, R0_list]

/-- A scratch buffer held whole, as its memref's elements. -/
theorem any_whole (c : Dev nD) {sp : Space} {s : Shape} {e : EltTy} (M : Memref sig .tc sp s e) (hM : M.IsWhole) :
    (iprop(∃ f : Buf (Elt F) (M.view.loc (c : Thread nD τ)), hold c M f) : sProp (𝕄 F)) = iprop(∃ f : Buf (Elt F) (M.view.loc (c : Thread nD τ)), M.view.loc (c : Thread nD τ) ↦[Finset.univ]{fullShare} f) := by
  exact congrArg (fun S => (iprop(∃ f : Buf (Elt F) (M.view.loc (c : Thread nD τ)), M.view.loc (c : Thread nD τ) ↦[S]{fullShare} f) : sProp (𝕄 F))) hM.set_eq_univ

/-- The kernel's own arrays at a time: before the one grid point, and after it. -/
def Yat (t : ℕ) : (c : Dev nD) → (b : Ref sig .tc) → Buf (Elt F) ((c.tc : Thread nD τ).loc b) := if t = 0 then V m else Gres m

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRV osem0 spec0 H0 R0 (V m) (Yat m t.val) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body is given. -/
def bodyPre (c : Dev nD) (t : Fin cfg0.N) : sProp (𝕄 F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
/-- What the body leaves. -/
def bodyPost (c : Dev nD) (t : Fin cfg0.N) : sProp (𝕄 F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- A window held whole at contents `X`. -/
theorem owns_unread (c : Dev nD) {sp : Space} {s : Shape} {e : EltTy} (M : Memref sig .tc sp s e) (hM : M.IsWhole) (X : s.Idx → Elt F e) :
    (owns (c : Thread nD τ) M fullShare X : sProp (𝕄 F)) ⊢ hold c M (hM.unread X) := by
  unfold owns
  iintro ⟨%f, %h, H⟩
  iapply (Entails.of_eq (hold_congr c M f (hM.unread X) (fun x => (congrFun h x).trans (congrFun (hM.read_unread X) x).symm)))
  iexact H
theorem unread_owns (c : Dev nD) {sp : Space} {s : Shape} {e : EltTy} (M : Memref sig .tc sp s e) (hM : M.IsWhole) (X : s.Idx → Elt F e) :
    (hold c M (hM.unread X) : sProp (𝕄 F)) ⊢ owns (c : Thread nD τ) M fullShare X := by
  unfold owns
  iintro H
  iexists _; isplitr; swap; · iexact H
  ipureintro; exact hM.read_unread X

/-- Window 0, before the body, held at its block. -/
theorem beforeH0 (c : Dev nD) (d) : (owns (c : Thread nD τ) (win0_0.stage (cfg0.slots t0_0 0)) fullShare ((dats m 0 c).before 0 t0_0 d) : sProp (𝕄 F))
    ⊢ hold c (win0_0.stage (cfg0.slots t0_0 0)) ((hstage0_0 0).unread (inR m c t0_0)) := by
  rw [before0]
  exact owns_unread c _ (hstage0_0 0) (inR m c t0_0)
/-- Window 1, before the body, held at its block. -/
theorem beforeH1 (c : Dev nD) (d) : (owns (c : Thread nD τ) (win0_1.stage (cfg0.slots t0_0 1)) fullShare ((dats m 0 c).before 1 t0_0 d) : sProp (𝕄 F))
    ⊢ hold c (win0_1.stage (cfg0.slots t0_0 1)) ((hstage0_1 0).unread (inA m c t0_0)) := by
  rw [before1]
  exact owns_unread c _ (hstage0_1 0) (inA m c t0_0)
/-- Window 2, before the body, held at its block. -/
theorem beforeH2 (c : Dev nD) (d) : (owns (c : Thread nD τ) (win0_2.stage (cfg0.slots t0_0 2)) fullShare ((dats m 0 c).before 2 t0_0 d) : sProp (𝕄 F))
    ⊢ hold c (win0_2.stage (cfg0.slots t0_0 2)) ((hstage0_2 0).unread (inX m c t0_0)) := by
  rw [before2]
  exact owns_unread c _ (hstage0_2 0) (inX m c t0_0)
/-- Window 3, before the body, held at its block. -/
theorem beforeH3 (c : Dev nD) (d) : (owns (c : Thread nD τ) (win0_3.stage (cfg0.slots t0_0 3)) fullShare ((dats m 0 c).before 3 t0_0 d) : sProp (𝕄 F))
    ⊢ hold c (win0_3.stage (cfg0.slots t0_0 3)) ((hstage0_3 0).unread (inG1 m c t0_0)) := by
  rw [before3]
  exact owns_unread c _ (hstage0_3 0) (inG1 m c t0_0)
/-- Window 4, before the body, held at its block. -/
theorem beforeH4 (c : Dev nD) (d) : (owns (c : Thread nD τ) (win0_4.stage (cfg0.slots t0_0 4)) fullShare ((dats m 0 c).before 4 t0_0 d) : sProp (𝕄 F))
    ⊢ hold c (win0_4.stage (cfg0.slots t0_0 4)) ((hstage0_4 0).unread (inG0 m c t0_0)) := by
  rw [before4]
  exact owns_unread c _ (hstage0_4 0) (inG0 m c t0_0)

set_option maxHeartbeats 4000000 in
/-- The body at the grid point. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0 m c t0_0, after1 m c t0_0, after2 m c t0_0, after3 m c t0_0, after4 m c t0_0]
  rw [show (dats m 0 c).Φ t0_0.castSucc = Pipeline.ΦDRV osem0 spec0 H0 R0 (V m) (V m) c from rfl,
    show (dats m 0 c).Φ t0_0.succ = Pipeline.ΦDRV osem0 spec0 H0 R0 (V m) (Gres m) c from rfl, rest_eq, rest_eq, Gres_0, Gres_1, Gres_2]
  unfold Dat.owesAt Pipeline.owesWithin
  rw [show (dats m 0 c).owed t0_0.castSucc = 0 from rfl, show (dats m 0 c).owed t0_0.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, ⟨Q0, Q1, Q2, Q3, Q4, Q5, Q6, U0, U1, U2, U3, U4, U5, U6, Q7⟩, MH, ⟨OH, CH, SH⟩⟩, ⟨%W, -, HW⟩,
    ⟨%d0, W0⟩, ⟨%d1, W1⟩, ⟨%d2, W2⟩, ⟨%d3, W3⟩, ⟨%d4, W4⟩⟩
  ihave W0 := (beforeH0 m c d0) $$ W0
  ihave W1 := (beforeH1 m c d1) $$ W1
  ihave W2 := (beforeH2 m c d2) $$ W2
  ihave W3 := (beforeH3 m c d3) $$ W3
  ihave W4 := (beforeH4 m c d4) $$ W4
  iapply (bodyRun c _ _ _ _ _ _ _ _ _ _ (inR m c t0_0) (inA m c t0_0) (inX m c t0_0) (inG0 m c t0_0) (inG1 m c t0_0) (inM m c) Variants.none (V m c main_v7_0) (V m c main_v7_1) _)
  isplitl [S0 S1 S2 S3 S4 S5 S6 S7 Q0 Q1 Q2 Q3 Q4 Q5 Q6 Q7 MH OH CH SH HW W0 W1 W2 W3 W4]
  · isplitl [W0 W1 W2 W3 W4]
    · isplitl [W0 W1 W2]
      · isplitl [W0]; · iexact W0
        isplitl [W1]; · iexact W1
        iexact W2
      isplitl [W3]; · iexact W3
      iexact W4
    isplitl [S0 S1 S2 S3 S4 S5 S6 S7]
    · isplitl [S0 S1 S3 S5]
      · isplitl [S0]; · iexists s0; iapply (Entails.of_eq (hold_whole c invB (Memref.isWhole_whole _) s0).symm); iexact S0
        isplitl [S1]; · iexists s1; iapply (Entails.of_eq (hold_whole c sbwB (Memref.isWhole_whole _) s1).symm); iexact S1
        isplitl [S3]; · iexists s3; iapply (Entails.of_eq (hold_whole c ctB (Memref.isWhole_whole _) s3).symm); iexact S3
        iexists s5; iapply (Entails.of_eq (hold_whole c dqB (Memref.isWhole_whole _) s5).symm); iexact S5
      isplitl [S2]; · iexists s2; iapply (Entails.of_eq (hold_whole c sbB (Memref.isWhole_whole _) s2).symm); iexact S2
      isplitl [S6]; · iexists s6; iexact S6
      isplitl [S7]; · iexists s7; iexact S7
      iexists s4; iexact S4
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [MH]; · iexact MH
    isplitl [OH]; · iexact OH
    isplitl [CH]; · iexact CH
    isplitl [SH]; · iexists (V m c main_v7_2); iapply (Entails.of_eq (hold_whole c sbH (Memref.isWhole_whole _) (V m c main_v7_2)).symm); iexact SH
    iexists W; iexact HW
  iintro ⟨⟨⟨W0, W1, W2⟩, W3, W4⟩, ⟨⟨S0, S1, S3, S5⟩, S2, S6, S7, S4⟩, ⟨Q0, Q1, Q2, Q3, Q4, Q5, Q6, Q7⟩, MH, OH, CH, SH, ⟨%W', HW'⟩⟩
  isplitl [S0 S1 S2 S3 S4 S5 S6 S7 Q0 Q1 Q2 Q3 Q4 Q5 Q6 Q7 MH OH CH SH U0 U1 U2 U3 U4 U5 U6]
  · isplitl [S0 S1 S2 S3 S4 S5 S6 S7]
    · isplitl [S0]; · iapply (Entails.of_eq (any_whole c invB (Memref.isWhole_whole _))); iexact S0
      isplitl [S1]; · iapply (Entails.of_eq (any_whole c sbwB (Memref.isWhole_whole _))); iexact S1
      isplitl [S2]; · iapply (Entails.of_eq (any_whole c sbB (Memref.isWhole_whole _))); iexact S2
      isplitl [S3]; · iapply (Entails.of_eq (any_whole c ctB (Memref.isWhole_whole _))); iexact S3
      isplitl [S4]; · iexact S4
      isplitl [S5]; · iapply (Entails.of_eq (any_whole c dqB (Memref.isWhole_whole _))); iexact S5
      isplitl [S6]; · iexact S6
      iexact S7
    isplitl [Q0 Q1 Q2 Q3 Q4 Q5 Q6 Q7 U0 U1 U2 U3 U4 U5 U6]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [U0]; · iexact U0
      isplitl [U1]; · iexact U1
      isplitl [U2]; · iexact U2
      isplitl [U3]; · iexact U3
      isplitl [U4]; · iexact U4
      isplitl [U5]; · iexact U5
      isplitl [U6]; · iexact U6
      iexact Q7
    isplitl [MH]; · iexact MH
    isplitl [OH]; · iexact OH
    isplitl [CH]; · iexact CH
    iapply (Entails.of_eq (hold_whole c sbH (Memref.isWhole_whole _) (GsbH (inA m c t0_0) (inG0 m c t0_0)))); iexact SH
  isplitl [HW']
  · iexists W'; isplitr; · ipureintro; exact fun _ _ => Or.inl trivial
    iexact HW'
  isplitl [W0]; · iapply (unread_owns c _ (hstage0_0 0) (inR m c t0_0)); iexact W0
  isplitl [W1]; · iapply (unread_owns c _ (hstage0_1 0) (inA m c t0_0)); iexact W1
  isplitl [W2]; · iapply (unread_owns c _ (hstage0_2 0) (inX m c t0_0)); iexact W2
  isplitl [W3]; · iapply (unread_owns c _ (hstage0_3 0) (inG1 m c t0_0)); iexact W3
  iapply (unread_owns c _ (hstage0_4 0) (inG0 m c t0_0)); iexact W4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What every buffer that is no window's array holds when `@main` ends. -/
abbrev Vend (c : Dev nD) : Valuation τ sig (Elt F) :=
  StableHlo.after ([hostOps1] : List (List (HloOp τ sig (Elt F)))).flatten (Pipeline.withArrays spec0 c (Pipeline.withR (V0 m c) R0 c (Gres m c)) fun w => (dats m 0 c).arrAt w (cfgs 0).N)

set_option backward.isDefEq.respectTransparency.types false in
theorem run_main : θ_run defs (onTc (τ := τ) (main (F := F))) (s₀ m ρ) (fun r => (∀ c : Dev nD, (∀ w, r.2.mem ((spec0 w).arr.view.loc (c.tc : Thread nD τ)) = (dats m 0 c).arrAt w (cfgs 0).N)
      ∧ ∀ b ∈ Pipeline.restRefs sig spec0, r.2.mem ((c.tc : Thread nD τ).loc b) = Vend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gres m) (hmain := hmainD m Variants.none) (hA := A_eq m)
    (hin := fun _ => .rfl) (hout := fun _ => .rfl) (hQ' := fun _ h => ⟨fun c => ⟨(h.1 c).1, (h.1 c).2⟩, h.2⟩)

/-- A buffer that neither the kernel nor the lines after it write ends as the kernel found it. -/
theorem Vend_keep (c : Dev nD) (b : Ref sig .tc) (h : (hostOps1 : List (HloOp τ sig (Elt F))).Forall fun op => Proc.devRef .tc b ∉ op.writes)
    (hw : ∀ w, Pipeline.arrRef spec0 w ≠ b) (hr : b ∉ R0) : Vend m c (Proc.devRef .tc b) = V m c b := by
  unfold Vend
  rw [StableHlo.after_of_forall_not_mem (b := Proc.devRef .tc b) _ _ (List.forall_iff_forall_mem.mp (by simpa only [List.flatten_cons, List.flatten_nil, List.append_nil] using h)),
    Pipeline.withArrays_of_ne _ c _ _ b hw, Pipeline.withR_of_not_mem _ _ _ _ _ hr]
theorem end_arg0 (c : Dev nD) : Vend m c (Proc.devRef .tc main_arg0) = m ((c : Thread nD τ).loc main_arg0) :=
  (Vend_keep m c main_arg0 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg0)) (by decide)).trans (V_main_arg0 m c)
theorem end_arg1 (c : Dev nD) : Vend m c (Proc.devRef .tc main_arg1) = m ((c : Thread nD τ).loc main_arg1) :=
  (Vend_keep m c main_arg1 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg1)) (by decide)).trans (V_main_arg1 m c)
theorem end_arg2 (c : Dev nD) : Vend m c (Proc.devRef .tc main_arg2) = m ((c : Thread nD τ).loc main_arg2) :=
  (Vend_keep m c main_arg2 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg2)) (by decide)).trans (V_main_arg2 m c)
theorem end_arg5 (c : Dev nD) : Vend m c (Proc.devRef .tc main_arg5) = m ((c : Thread nD τ).loc main_arg5) :=
  (Vend_keep m c main_arg5 (by
    simp only [hostOps1, List.Forall, StableHlo.unary_writes, Finset.mem_singleton]
    repeat' apply And.intro
    all_goals exact StableHlo.devRef_ne_of_ne (by decide)) (by exact (by decide : ∀ w, Pipeline.arrRef spec0 w ≠ main_arg5)) (by decide)).trans (V_main_arg5 m c)

/-- THE FRAME: `@main` runs, its arguments end unchanged, every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (end_arg0 m c),
    ((h.1 c).2 main_arg1 (Pipeline.mem_restRefs_of main_arg1 (by decide) (by decide))).trans (end_arg1 m c),
    ((h.1 c).2 main_arg2 (Pipeline.mem_restRefs_of main_arg2 (by decide) (by decide))).trans (end_arg2 m c),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).2 main_arg5 (Pipeline.mem_restRefs_of main_arg5 (by decide) (by decide))).trans (end_arg5 m c)⟩, h.2⟩) (run_main m ρ)

end Cert.KernelIdeal.Run
end
-- ==== Proof.Value.Scalar.lean ====
/-
  The four-bit quantiser on one value: the rounding to the grid {0, 1/2, 1, 3/2, 2, 3, 4, 6}, its three-bit code, the sign
  bit, and the decoding of a code, over the extended reals.
-/
module

public import Idealize.ShloMosaic.PureOps.Ideal.Laws
public import Idealize.ShloMosaic.Lib.IdealHost

@[expose] public section

noncomputable section

namespace Cert.Fp4

open Idealize.ShloMosaic

variable {F : FTy → Type} [FloatOps F]

/-- A block scale from a block maximum `a` and the global scale `s`. -/
def scS (a s : F .f32) : F .f32 :=
  FloatOps.minimumf (Scalar.ofBits .f32 0x43E00000#32) (FloatOps.maximumf (Scalar.ofBits .f32 0x00000000#32)
    (FloatOps.divf (FloatOps.divf (FloatOps.mulf a (Scalar.ofBits .f32 0x3F800800#32)) (Scalar.ofBits .f32 0x40C00000#32)) s))
/-- A scale, or one where it is not positive. -/
def safe (d : F .f32) : F .f32 :=
  Scalar.select (FloatOps.cmpf .ogt d (Scalar.ofBits .f32 0x00000000#32)) d (Scalar.ofBits .f32 0x3F800000#32)
/-- The reciprocal of a positive scale, else zero. -/
def invS (d : F .f32) : F .f32 :=
  Scalar.select (FloatOps.cmpf .ogt d (Scalar.ofBits .f32 0x00000000#32)) (FloatOps.divf (Scalar.ofBits .f32 0x3F800000#32) (safe d))
    (Scalar.ofBits .f32 0x00000000#32)
/-- A value divided by a positive scale, else zero. -/
def quoS (x d : F .f32) : F .f32 :=
  Scalar.select (FloatOps.cmpf .ogt d (Scalar.ofBits .f32 0x00000000#32)) (FloatOps.divf x (safe d)) (Scalar.ofBits .f32 0x00000000#32)
/-- Clipped to [-6, 6]. -/
def clipS (x : F .f32) : F .f32 :=
  FloatOps.minimumf (Scalar.ofBits .f32 0x40C00000#32) (FloatOps.maximumf (Scalar.ofBits .f32 0xC0C00000#32) x)
/-- A magnitude rounded to the grid. -/
def gridS (m : F .f32) : F .f32 :=
  Scalar.select (FloatOps.cmpf .olt m (Scalar.ofBits .f32 0x40000000#32))
    (FloatOps.mulf (FloatOps.roundeven (FloatOps.mulf (Scalar.ofBits .f32 0x40000000#32) m)) (Scalar.ofBits .f32 0x3F000000#32))
    (Scalar.select (FloatOps.cmpf .olt m (Scalar.ofBits .f32 0x40800000#32)) (FloatOps.roundeven m)
      (FloatOps.mulf (Scalar.ofBits .f32 0x40000000#32) (FloatOps.roundeven (FloatOps.mulf m (Scalar.ofBits .f32 0x3F000000#32)))))
/-- The magnitude of a clipped value on the grid. -/
def qS (w : F .f32) : F .f32 := gridS (FloatOps.absf w)
/-- The three-bit code of a grid magnitude. -/
def kS (q : F .f32) : BitVec 32 :=
  FloatOps.fptosi 32 (Scalar.select (FloatOps.cmpf .olt q (Scalar.ofBits .f32 0x40000000#32)) (FloatOps.mulf (Scalar.ofBits .f32 0x40000000#32) q)
    (Scalar.select (FloatOps.cmpf .olt q (Scalar.ofBits .f32 0x40800000#32)) (FloatOps.addf q (Scalar.ofBits .f32 0x40000000#32))
      (FloatOps.addf (FloatOps.mulf q (Scalar.ofBits .f32 0x3F000000#32)) (Scalar.ofBits .f32 0x40800000#32))))
/-- Whether a value is negative. -/
def negS (w : F .f32) : BitVec 1 := FloatOps.cmpf .olt w (Scalar.ofBits .f32 0x00000000#32)
/-- A code with its sign bit, a negative zero kept. -/
def codeK (w : F .f32) : BitVec 32 := IntOp.ori (kS (qS w)) (Scalar.select (negS w) 8#32 0#32)
/-- A code with its sign bit, zero without sign. -/
def codeR (w : F .f32) : BitVec 32 :=
  IntOp.addi (kS (qS w)) (IntOp.muli 8#32
    ((IntOp.andi (negS w) (FloatOps.cmpf .ogt (qS w) (Scalar.ofBits .f32 0x00000000#32))).setWidth 32))
/-- The value of a code. -/
def decS (n : BitVec 32) : F .f32 :=
  have u : BitVec 32 := IntOp.andi n 7#32
  have e : BitVec 32 := IntOp.shrsi .vector u 1#32
  have f : F .f32 := FloatOps.sitofp .f32 (IntOp.andi u 1#32)
  have v : F .f32 := Scalar.select (IntOp.cmpi .eq e 0#32) (FloatOps.mulf (Scalar.ofBits .f32 0x3F000000#32) f)
    (FloatOps.mulf (Scalar.select (IntOp.cmpi .eq e 1#32) (Scalar.ofBits .f32 0x3F800000#32)
        (Scalar.select (IntOp.cmpi .eq e 2#32) (Scalar.ofBits .f32 0x40000000#32) (Scalar.ofBits .f32 0x40800000#32)))
      (FloatOps.addf (Scalar.ofBits .f32 0x3F800000#32) (FloatOps.mulf (Scalar.ofBits .f32 0x3F000000#32) f)))
  Scalar.select (IntOp.cmpi .ne (IntOp.andi n 8#32) 0#32) (FloatOps.subf (Scalar.ofBits .f32 0x00000000#32) v) v
/-- The signed grid value. -/
def valS (w : F .f32) : F .f32 :=
  Scalar.select (negS w) (FloatOps.subf (Scalar.ofBits .f32 0x00000000#32) (qS w)) (qS w)

/-! ## The constants -/

theorem c_one : Ideal.ofBits .f32 0x3F800000#32 = ((1 : ℝ) : EReal) := by rw [Ideal.ofBits_one_f32]; rfl
theorem c_zero : Ideal.ofBits .f32 0x00000000#32 = ((0 : ℝ) : EReal) := by rw [Ideal.ofBits_zero_f32]; rfl
theorem c_half : Ideal.ofBits .f32 0x3F000000#32 = ((1 / 2 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_four : Ideal.ofBits .f32 0x40800000#32 = ((4 : ℝ) : EReal) := by simp [Ideal.ofBits, Ideal.ieee, -EReal.coe_mul]; norm_num
theorem c_six : Ideal.ofBits .f32 0x40C00000#32 = ((6 : ℝ) : EReal) := by simp [Ideal.ofBits, Ideal.ieee, -EReal.coe_mul]; norm_num
theorem c_neg6 : Ideal.ofBits .f32 0xC0C00000#32 = ((-6 : ℝ) : EReal) := by simp [Ideal.ofBits, Ideal.ieee, -EReal.coe_mul]; norm_num

/-! ## The reciprocal -/

/-- Multiplying by the reciprocal scale is dividing by the scale. -/
theorem mul_invS (x d : Ideal .f32) : FloatOps.mulf x (invS d) = quoS x d := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  unfold invS quoS safe
  rw [h0, h1]
  by_cases h : (0 : EReal) < d
  · have hc : (FloatOps.cmpf .ogt d (0 : EReal) : BitVec 1) = 1 := by
      show Ideal.cmp .ogt d 0 = 1
      simp [Ideal.cmp, h]
    rw [hc]
    show x * Ideal.div 1 d = Ideal.div x d
    unfold Ideal.div
    rw [if_neg h.ne', if_neg h.ne', one_mul]
  · have hc : (FloatOps.cmpf .ogt d (0 : EReal) : BitVec 1) = 0 := by
      show Ideal.cmp .ogt d 0 = 0
      simp [Ideal.cmp, h]
    rw [hc]
    show x * (0 : EReal) = 0
    exact mul_zero x

/-! ## The grid -/

/-- The eight magnitudes. -/
def grid : Fin 8 → ℝ := ![0, 1 / 2, 1, 3 / 2, 2, 3, 4, 6]

theorem rhe_bounds (r : ℝ) : (Ideal.roundHalfEven r : ℝ) - 1 / 2 ≤ r ∧ r ≤ Ideal.roundHalfEven r + 1 / 2 := by
  have h1 := Int.floor_le r
  have h2 := Int.lt_floor_add_one r
  unfold Ideal.roundHalfEven
  dsimp only
  split_ifs with a b c
  · constructor <;> linarith
  · push_cast; constructor <;> linarith
  · constructor <;> linarith
  · push_cast; constructor <;> linarith

theorem lt_coe_cmp (a b : ℝ) : Ideal.cmp .olt ((a : ℝ) : EReal) ((b : ℝ) : EReal) = BitVec.ofBool (decide (a < b)) := by
  simp [Ideal.cmp]

/-- A rounded magnitude of at most six is one of the eight. -/
theorem gridS_mem (m : ℝ) (h0 : 0 ≤ m) (h6 : m ≤ 6) : ∃ k : Fin 8, (gridS (F := Ideal) ((m : ℝ) : EReal) : EReal) = ((grid k : ℝ) : EReal) := by
  have key : (gridS (F := Ideal) ((m : ℝ) : EReal) : EReal)
      = (((if m < 2 then (Ideal.roundHalfEven (2 * m) : ℝ) * (1 / 2) else if m < 4 then (Ideal.roundHalfEven m : ℝ)
          else 2 * (Ideal.roundHalfEven (m * (1 / 2)) : ℝ)) : ℝ) : EReal) := by
    show Scalar.select (Ideal.cmp .olt (m : EReal) (Ideal.ofBits .f32 0x40000000#32))
      (Ideal.liftRound Ideal.roundHalfEven (Ideal.ofBits .f32 0x40000000#32 * (m : EReal)) * Ideal.ofBits .f32 0x3F000000#32)
      (Scalar.select (Ideal.cmp .olt (m : EReal) (Ideal.ofBits .f32 0x40800000#32)) (Ideal.liftRound Ideal.roundHalfEven (m : EReal))
        (Ideal.ofBits .f32 0x40000000#32 * Ideal.liftRound Ideal.roundHalfEven ((m : EReal) * Ideal.ofBits .f32 0x3F000000#32))) = _
    rw [c_two, c_half, c_four, lt_coe_cmp, lt_coe_cmp, ← EReal.coe_mul, ← EReal.coe_mul, Ideal.liftRound_coe, Ideal.liftRound_coe,
      Ideal.liftRound_coe, ← EReal.coe_mul, ← EReal.coe_mul]
    by_cases h2 : m < 2
    · simp [Scalar.select, h2]
    · by_cases h4 : m < 4 <;> simp [Scalar.select, h2, h4]
  rw [key]
  have pick (n : ℤ) (l u : ℤ) (hl : l ≤ n) (hu : n ≤ u) : n = l ∨ l + 1 ≤ n := by omega
  by_cases h2 : m < 2
  · rw [if_pos h2]
    obtain ⟨b1, b2⟩ := rhe_bounds (2 * m)
    generalize Ideal.roundHalfEven (2 * m) = n at b1 b2 ⊢
    have l : -1 < n := by have : (-1 : ℝ) < n := by linarith
                          exact_mod_cast this
    have u : n < 5 := by have : (n : ℝ) < 5 := by linarith
                         exact_mod_cast this
    have : n = 0 ∨ n = 1 ∨ n = 2 ∨ n = 3 ∨ n = 4 := by omega
    rcases this with h | h | h | h | h <;> subst h
    · exact ⟨0, congrArg _ (by simp [grid])⟩
    · exact ⟨1, congrArg _ (by simp [grid])⟩
    · exact ⟨2, congrArg _ (by simp [grid])⟩
    · exact ⟨3, congrArg _ (by simp [grid]; try norm_num)⟩
    · exact ⟨4, congrArg _ (by simp [grid]; try norm_num)⟩
  · rw [if_neg h2]
    by_cases h4 : m < 4
    · rw [if_pos h4]
      obtain ⟨b1, b2⟩ := rhe_bounds m
      generalize Ideal.roundHalfEven m = n at b1 b2 ⊢
      have l : 1 < n := by have : (1 : ℝ) < n := by linarith
                           exact_mod_cast this
      have u : n < 5 := by have : (n : ℝ) < 5 := by linarith
                           exact_mod_cast this
      have : n = 2 ∨ n = 3 ∨ n = 4 := by omega
      rcases this with h | h | h <;> subst h
      · exact ⟨4, congrArg _ (by simp [grid])⟩
      · exact ⟨5, congrArg _ (by simp [grid])⟩
      · exact ⟨6, congrArg _ (by simp [grid])⟩
    · rw [if_neg h4]
      obtain ⟨b1, b2⟩ := rhe_bounds (m * (1 / 2))
      generalize Ideal.roundHalfEven (m * (1 / 2)) = n at b1 b2 ⊢
      have l : 1 < n := by have : (1 : ℝ) < n := by linarith
                           exact_mod_cast this
      have u : n < 4 := by have : (n : ℝ) < 4 := by linarith
                           exact_mod_cast this
      have : n = 2 ∨ n = 3 := by omega
      rcases this with h | h <;> subst h
      · exact ⟨6, congrArg _ (by simp [grid]; try norm_num)⟩
      · exact ⟨7, congrArg _ (by simp [grid]; try norm_num)⟩

/-- The grid magnitude of a clipped value is one of the eight. -/
theorem qS_clip (x : Ideal .f32) : ∃ k : Fin 8, (qS (clipS x) : EReal) = ((grid k : ℝ) : EReal) := by
  obtain ⟨r, hr, hlo, hhi⟩ : ∃ r : ℝ, (clipS x : EReal) = (r : EReal) ∧ -6 ≤ r ∧ r ≤ 6 := by
    have e : (clipS x : EReal) = min ((6 : ℝ) : EReal) (max ((-6 : ℝ) : EReal) x) := by
      show min (Ideal.ofBits .f32 0x40C00000#32) (max (Ideal.ofBits .f32 0xC0C00000#32) x) = _
      rw [c_six, c_neg6]
    rw [e]
    have hl : ((-6 : ℝ) : EReal) ≤ min ((6 : ℝ) : EReal) (max ((-6 : ℝ) : EReal) x) :=
      le_min (EReal.coe_le_coe_iff.2 (by norm_num)) (le_max_left _ _)
    have hu : min ((6 : ℝ) : EReal) (max ((-6 : ℝ) : EReal) x) ≤ ((6 : ℝ) : EReal) := min_le_left _ _
    generalize min ((6 : ℝ) : EReal) (max ((-6 : ℝ) : EReal) x) = y at hl hu
    induction y with
    | bot => exact absurd hl (by simp)
    | top => exact absurd hu (by simp)
    | coe r => exact ⟨r, rfl, EReal.coe_le_coe_iff.1 hl, EReal.coe_le_coe_iff.1 hu⟩
  have ha : (FloatOps.absf (clipS x) : EReal) = ((|r| : ℝ) : EReal) := by
    show max (clipS x : EReal) (-(clipS x : EReal)) = _
    rw [hr, ← EReal.coe_neg]; exact (EReal.coe_strictMono.monotone.map_max (a := r) (b := -r)).symm
  have := gridS_mem |r| (abs_nonneg r) (abs_le.2 ⟨hlo, hhi⟩)
  unfold qS
  rw [show (FloatOps.absf (clipS x) : Ideal .f32) = ((|r| : ℝ) : EReal) from ha]
  exact this

theorem selR (p : Prop) [Decidable p] (a b : ℝ) :
    Scalar.select (BitVec.ofBool (decide p)) ((a : ℝ) : EReal) ((b : ℝ) : EReal) = (((if p then a else b) : ℝ) : EReal) := by
  by_cases h : p <;> simp [Scalar.select, h]
theorem sel1 (a b : EReal) : Scalar.select 1 a b = a := rfl
theorem sel0 (a b : EReal) : Scalar.select 0 a b = b := rfl

/-- The code of a grid magnitude is its number. -/
theorem kS_grid (k : Fin 8) : kS (F := Ideal) ((grid k : ℝ) : EReal) = BitVec.ofNat 32 k.val := by
  show Ideal.fptosi 32 (Scalar.select (Ideal.cmp .olt ((grid k : ℝ) : EReal) (Ideal.ofBits .f32 0x40000000#32))
    (Ideal.ofBits .f32 0x40000000#32 * ((grid k : ℝ) : EReal))
    (Scalar.select (Ideal.cmp .olt ((grid k : ℝ) : EReal) (Ideal.ofBits .f32 0x40800000#32)) (((grid k : ℝ) : EReal) + Ideal.ofBits .f32 0x40000000#32)
      (((grid k : ℝ) : EReal) * Ideal.ofBits .f32 0x3F000000#32 + Ideal.ofBits .f32 0x40800000#32))) = _
  rw [c_two, c_half, c_four, lt_coe_cmp, lt_coe_cmp, ← EReal.coe_mul, ← EReal.coe_mul, ← EReal.coe_add, ← EReal.coe_add]
  have fin (r : ℝ) (hr : r = (k.val : ℝ)) : Ideal.fptosi 32 ((r : ℝ) : EReal) = BitVec.ofNat 32 k.val := by
    subst hr
    show BitVec.ofInt 32 (max _ (min _ (if (0 : ℝ) ≤ (k.val : ℝ) then ⌊(k.val : ℝ)⌋ else ⌈(k.val : ℝ)⌉))) = _
    rw [if_pos (Nat.cast_nonneg _), Int.floor_natCast]
    revert k; decide
  rw [selR, selR]
  refine fin _ ?_
  clear fin
  fin_cases k <;> norm_num [grid]

/-! ## The codes -/

/-- Four bits with the sign of a zero magnitude cleared. -/
def clr (d : BitVec 4) : BitVec 4 := if d &&& 7#4 = 0#4 then 0#4 else d
/-- Four bits of a magnitude's number and a sign. -/
def dig (k : Fin 8) (s : BitVec 1) : BitVec 4 := BitVec.ofNat 4 k.val ||| (Scalar.select s 8#4 0#4)

/-- What is known of a clipped value: its grid number and its sign give its codes and its signed grid value. -/
theorem code_spec (x : Ideal .f32) : ∃ d : BitVec 4, codeK (clipS x) = d.setWidth 32 ∧ codeR (clipS x) = (clr d).setWidth 32
    ∧ decS (F := Ideal) ((clr d).setWidth 32) = valS (clipS x) := by
  obtain ⟨k, hk⟩ := qS_clip x
  refine ⟨dig k (negS (clipS x)), ?_, ?_, ?_⟩
  · unfold codeK
    rw [show qS (clipS x) = (((grid k : ℝ) : EReal) : Ideal .f32) from hk, kS_grid]
    generalize negS (clipS x) = s
    clear hk
    revert k s; decide
  · unfold codeR
    rw [show qS (clipS x) = (((grid k : ℝ) : EReal) : Ideal .f32) from hk, kS_grid]
    have hc : (FloatOps.cmpf (F := Ideal) (φ := .f32) .ogt ((grid k : ℝ) : EReal) (Scalar.ofBits .f32 0x00000000#32) : BitVec 1)
        = BitVec.ofBool (decide (0 < k.val)) := by
      show Ideal.cmp .ogt ((grid k : ℝ) : EReal) (Ideal.ofBits .f32 0x00000000#32) = _
      rw [c_zero]
      fin_cases k <;> simp [Ideal.cmp, grid]
    rw [hc]
    generalize negS (clipS x) = s
    clear hc hk
    revert k s; decide
  · unfold valS
    rw [show qS (clipS x) = (((grid k : ℝ) : EReal) : Ideal .f32) from hk]
    generalize negS (clipS x) = s
    clear hk
    have hs : s = 0#1 ∨ s = 1#1 := by revert s; decide
    have sg (b : BitVec 32) (n : ℤ) (h : b.toInt = n) : (FloatOps.sitofp .f32 b : Ideal .f32) = (((n : ℝ)) : EReal) := by
      subst h; rfl
    have dec (n : BitVec 32) (e0 e1 e2 sgn : BitVec 1) (f : ℤ) (h0 : IntOp.cmpi .eq (IntOp.shrsi .vector (IntOp.andi n 7#32) 1#32) 0#32 = e0)
        (h1 : IntOp.cmpi .eq (IntOp.shrsi .vector (IntOp.andi n 7#32) 1#32) 1#32 = e1)
        (h2 : IntOp.cmpi .eq (IntOp.shrsi .vector (IntOp.andi n 7#32) 1#32) 2#32 = e2)
        (h3 : IntOp.cmpi .ne (IntOp.andi n 8#32) 0#32 = sgn) (h4 : (IntOp.andi (IntOp.andi n 7#32) 1#32).toInt = f) :
        (decS (F := Ideal) n : EReal) = Scalar.select sgn (((0 : ℝ) : EReal) - Scalar.select e0 (((1/2 : ℝ) : EReal) * ((f : ℝ) : EReal))
          (Scalar.select e1 ((1 : ℝ) : EReal) (Scalar.select e2 ((2 : ℝ) : EReal) ((4 : ℝ) : EReal)) * (((1 : ℝ) : EReal) + ((1/2 : ℝ) : EReal) * ((f : ℝ) : EReal))))
          (Scalar.select e0 (((1/2 : ℝ) : EReal) * ((f : ℝ) : EReal))
          (Scalar.select e1 ((1 : ℝ) : EReal) (Scalar.select e2 ((2 : ℝ) : EReal) ((4 : ℝ) : EReal)) * (((1 : ℝ) : EReal) + ((1/2 : ℝ) : EReal) * ((f : ℝ) : EReal)))) := by
      subst h0 h1 h2 h3 h4
      rw [← c_two, ← c_half, ← c_four, ← c_one, ← c_zero]; rfl
    rcases hs with rfl | rfl
    · show (decS (F := Ideal) _ : EReal) = ((grid k : ℝ) : EReal)
      fin_cases k
      · refine (dec _ 1 0 0 0 0 (by decide) (by decide) (by decide) (by decide) (by decide)).trans ?_; simp only [sel1, sel0, ← EReal.coe_mul, ← EReal.coe_add, ← EReal.coe_sub]; exact congrArg _ (by norm_num [grid])
      · refine (dec _ 1 0 0 0 1 (by decide) (by decide) (by decide) (by decide) (by decide)).trans ?_; simp only [sel1, sel0, ← EReal.coe_mul, ← EReal.coe_add, ← EReal.coe_sub]; exact congrArg _ (by norm_num [grid])
      · refine (dec _ 0 1 0 0 0 (by decide) (by decide) (by decide) (by decide) (by decide)).trans ?_; simp only [sel1, sel0, ← EReal.coe_mul, ← EReal.coe_add, ← EReal.coe_sub]; exact congrArg _ (by norm_num [grid])
      · refine (dec _ 0 1 0 0 1 (by decide) (by decide) (by decide) (by decide) (by decide)).trans ?_; simp only [sel1, sel0, ← EReal.coe_mul, ← EReal.coe_add, ← EReal.coe_sub]; exact congrArg _ (by norm_num [grid])
      · refine (dec _ 0 0 1 0 0 (by decide) (by decide) (by decide) (by decide) (by decide)).trans ?_; simp only [sel1, sel0, ← EReal.coe_mul, ← EReal.coe_add, ← EReal.coe_sub]; exact congrArg _ (by norm_num [grid])
      · refine (dec _ 0 0 1 0 1 (by decide) (by decide) (by decide) (by decide) (by decide)).trans ?_; simp only [sel1, sel0, ← EReal.coe_mul, ← EReal.coe_add, ← EReal.coe_sub]; exact congrArg _ (by norm_num [grid])
      · refine (dec _ 0 0 0 0 0 (by decide) (by decide) (by decide) (by decide) (by decide)).trans ?_; simp only [sel1, sel0, ← EReal.coe_mul, ← EReal.coe_add, ← EReal.coe_sub]; exact congrArg _ (by norm_num [grid])
      · refine (dec _ 0 0 0 0 1 (by decide) (by decide) (by decide) (by decide) (by decide)).trans ?_; simp only [sel1, sel0, ← EReal.coe_mul, ← EReal.coe_add, ← EReal.coe_sub]; exact congrArg _ (by norm_num [grid])
    · have e0 : (FloatOps.subf (F := Ideal) (φ := .f32) (Scalar.ofBits .f32 0x00000000#32) ((grid k : ℝ) : EReal) : EReal) = ((0 - grid k : ℝ) : EReal) := by
        show Ideal.ofBits .f32 0x00000000#32 - ((grid k : ℝ) : EReal) = _
        rw [c_zero, ← EReal.coe_sub]
      refine Eq.trans ?_ e0.symm
      fin_cases k
      · refine (dec _ 1 0 0 0 0 (by decide) (by decide) (by decide) (by decide) (by decide)).trans ?_; simp only [sel1, sel0, ← EReal.coe_mul, ← EReal.coe_add, ← EReal.coe_sub]; exact congrArg _ (by norm_num [grid])
      · refine (dec _ 1 0 0 1 1 (by decide) (by decide) (by decide) (by decide) (by decide)).trans ?_; simp only [sel1, sel0, ← EReal.coe_mul, ← EReal.coe_add, ← EReal.coe_sub]; exact congrArg _ (by norm_num [grid])
      · refine (dec _ 0 1 0 1 0 (by decide) (by decide) (by decide) (by decide) (by decide)).trans ?_; simp only [sel1, sel0, ← EReal.coe_mul, ← EReal.coe_add, ← EReal.coe_sub]; exact congrArg _ (by norm_num [grid])
      · refine (dec _ 0 1 0 1 1 (by decide) (by decide) (by decide) (by decide) (by decide)).trans ?_; simp only [sel1, sel0, ← EReal.coe_mul, ← EReal.coe_add, ← EReal.coe_sub]; exact congrArg _ (by norm_num [grid])
      · refine (dec _ 0 0 1 1 0 (by decide) (by decide) (by decide) (by decide) (by decide)).trans ?_; simp only [sel1, sel0, ← EReal.coe_mul, ← EReal.coe_add, ← EReal.coe_sub]; exact congrArg _ (by norm_num [grid])
      · refine (dec _ 0 0 1 1 1 (by decide) (by decide) (by decide) (by decide) (by decide)).trans ?_; simp only [sel1, sel0, ← EReal.coe_mul, ← EReal.coe_add, ← EReal.coe_sub]; exact congrArg _ (by norm_num [grid])
      · refine (dec _ 0 0 0 1 0 (by decide) (by decide) (by decide) (by decide) (by decide)).trans ?_; simp only [sel1, sel0, ← EReal.coe_mul, ← EReal.coe_add, ← EReal.coe_sub]; exact congrArg _ (by norm_num [grid])
      · refine (dec _ 0 0 0 1 1 (by decide) (by decide) (by decide) (by decide) (by decide)).trans ?_; simp only [sel1, sel0, ← EReal.coe_mul, ← EReal.coe_add, ← EReal.coe_sub]; exact congrArg _ (by norm_num [grid])

end Cert.Fp4
end
-- ==== Proof.Value.Words.lean ====
/-
  Eight four-bit digits in a 32-bit word: clearing the sign bit of every digit whose magnitude is zero by one addition over
  the whole word, and the bytes of the result.
-/
module

public import proofs.«01_k».proof.Proof.Value.Scalar
public import Idealize.ShloMosaic.Lib.BitcastPair

@[expose] public section

noncomputable section

namespace Cert.Fp4

open Idealize.ShloMosaic

/-- Eight digits in a word. -/
def word (d : Fin 8 → BitVec 4) : BitVec 32 :=
  (d 0).setWidth 32 ||| (d 1).setWidth 32 <<< 4 ||| (d 2).setWidth 32 <<< 8 ||| (d 3).setWidth 32 <<< 12
    ||| (d 4).setWidth 32 <<< 16 ||| (d 5).setWidth 32 <<< 20 ||| (d 6).setWidth 32 <<< 24 ||| (d 7).setWidth 32 <<< 28
/-- The sign of every zero magnitude cleared. -/
def cleared (W : BitVec 32) : BitVec 32 := W &&& (((W &&& 2004318071#32) + 2004318071#32) ||| 2004318071#32)

theorem nib_at (d : BitVec 4) (k j : Fin 8) : (d.setWidth 32 <<< (4 * k.val)).extractLsb' (4 * j.val) 4 = if j = k then d else 0#4 := by
  revert d k j; decide

theorem nib_at0 (d : BitVec 4) (j : Fin 8) : (d.setWidth 32).extractLsb' (4 * j.val) 4 = if j = 0 then d else 0#4 := by
  revert d j; decide

theorem nib_word (d : Fin 8 → BitVec 4) (j : Fin 8) : (word d).extractLsb' (4 * j.val) 4 = d j := by
  have h0 := nib_at0 (d 0) j
  have h1 : ((d 1).setWidth 32 <<< 4).extractLsb' (4 * j.val) 4 = if j = 1 then d 1 else 0#4 := nib_at (d 1) 1 j
  have h2 : ((d 2).setWidth 32 <<< 8).extractLsb' (4 * j.val) 4 = if j = 2 then d 2 else 0#4 := nib_at (d 2) 2 j
  have h3 : ((d 3).setWidth 32 <<< 12).extractLsb' (4 * j.val) 4 = if j = 3 then d 3 else 0#4 := nib_at (d 3) 3 j
  have h4 : ((d 4).setWidth 32 <<< 16).extractLsb' (4 * j.val) 4 = if j = 4 then d 4 else 0#4 := nib_at (d 4) 4 j
  have h5 : ((d 5).setWidth 32 <<< 20).extractLsb' (4 * j.val) 4 = if j = 5 then d 5 else 0#4 := nib_at (d 5) 5 j
  have h6 : ((d 6).setWidth 32 <<< 24).extractLsb' (4 * j.val) 4 = if j = 6 then d 6 else 0#4 := nib_at (d 6) 6 j
  have h7 : ((d 7).setWidth 32 <<< 28).extractLsb' (4 * j.val) 4 = if j = 7 then d 7 else 0#4 := nib_at (d 7) 7 j
  unfold word
  simp only [BitVec.extractLsb'_or]
  rw [h0, h1, h2, h3, h4, h5, h6, h7]
  fin_cases j <;> simp

theorem nib_add (x : BitVec 32) (e : Fin 8 → BitVec 4) (he : ∀ j : Fin 8, x.extractLsb' (4 * j.val) 4 = e j) (hl : ∀ j, (e j).toNat < 8) (j : Fin 8) :
    (x + 2004318071#32).extractLsb' (4 * j.val) 4 = e j + 7#4 := by
  have t (y : BitVec 32) (i : ℕ) : (y.extractLsb' i 4).toNat = y.toNat / 2 ^ i % 16 := by
    simp [BitVec.extractLsb'_toNat, Nat.shiftRight_eq_div_pow]
  have hx (j : Fin 8) : x.toNat / 2 ^ (4 * j.val) % 16 < 8 := by rw [← t, he]; exact hl j
  have h0 := hx 0; have h1 := hx 1; have h2 := hx 2; have h3 := hx 3
  have h4 := hx 4; have h5 := hx 5; have h6 := hx 6; have h7 := hx 7
  have hlt : x.toNat < 4294967296 := x.isLt
  apply BitVec.eq_of_toNat_eq
  rw [t, BitVec.toNat_add, BitVec.toNat_add, ← he j, t]
  generalize x.toNat = n at *
  simp only [Fin.isValue, Fin.val_zero, Fin.val_one, Fin.val_two, show (3 : Fin 8).val = 3 from rfl, show (4 : Fin 8).val = 4 from rfl,
    show (5 : Fin 8).val = 5 from rfl, show (6 : Fin 8).val = 6 from rfl, show (7 : Fin 8).val = 7 from rfl] at h0 h1 h2 h3 h4 h5 h6 h7
  norm_num at h0 h1 h2 h3 h4 h5 h6 h7
  fin_cases j <;> simp <;> omega

theorem nib_cleared (d : Fin 8 → BitVec 4) (j : Fin 8) : (cleared (word d)).extractLsb' (4 * j.val) 4 = clr (d j) := by
  have c7 (j : Fin 8) : (2004318071#32).extractLsb' (4 * j.val) 4 = 7#4 := by revert j; decide
  have ha (j : Fin 8) : (word d &&& 2004318071#32).extractLsb' (4 * j.val) 4 = d j &&& 7#4 := by
    rw [BitVec.extractLsb'_and, nib_word, c7]
  have hl (a : BitVec 4) : (a &&& 7#4).toNat < 8 := by revert a; decide
  unfold cleared
  rw [BitVec.extractLsb'_and, BitVec.extractLsb'_or, nib_word, c7, nib_add _ _ ha (fun j => hl _)]
  generalize d j = a
  revert a; decide

/-- Byte `b` of the cleared word holds digits `2 b` and `2 b + 1`. -/
theorem byte_cleared (d : Fin 8 → BitVec 4) (b : Fin 4) :
    (cleared (word d)).extractLsb' (8 * b.val) 8
      = (clr (d ⟨2 * b.val, by omega⟩)).setWidth 8 ||| (clr (d ⟨2 * b.val + 1, by omega⟩)).setWidth 8 <<< 4 := by
  have e (j : Fin 8) (i : ℕ) (hi : i < 4) : (clr (d j)).getLsbD i = (cleared (word d)).getLsbD (4 * j.val + i) := by
    rw [← nib_cleared, BitVec.getLsbD_extractLsb']; simp [hi]
  generalize cleared (word d) = W at *
  apply BitVec.eq_of_getLsbD_eq
  intro i hi
  rw [BitVec.getLsbD_extractLsb', BitVec.getLsbD_or, BitVec.getLsbD_setWidth, BitVec.getLsbD_shiftLeft, BitVec.getLsbD_setWidth]
  have z (a : BitVec 4) (n : ℕ) (hn : 4 ≤ n) : a.getLsbD n = false := BitVec.getLsbD_of_ge _ _ hn
  by_cases h : i < 4
  · rw [e _ i h]
    simp [hi, h]
    congr 1; omega
  · rw [z _ i (by omega), e _ (i - 4) (by omega)]
    simp [hi, h, show i - 4 < 8 by omega]
    congr 1; omega

/-- Two digits of the reference's codes in a byte. -/
theorem byte_codes (a b : BitVec 4) : (IntOp.ori (a.setWidth 32) (IntOp.shli .vector (b.setWidth 32) 4#32)).setWidth 8
    = a.setWidth 8 ||| b.setWidth 8 <<< 4 := by
  revert a b; decide

end Cert.Fp4
end
-- ==== Proof.Value.Group.lean ====
/-
  A group of four blocks, element by element: the clipped value, the two codes in a byte, the dequantised value.
-/
module

public import proofs.«01_k».proof.Proof.KernelIdeal.Vals
public import proofs.«01_k».proof.Proof.Value.Words
public import Idealize.ShloMosaic.Lib.ValueLayout

@[expose] public section

set_option maxRecDepth 16384

noncomputable section

namespace Cert.KernelIdeal.Run

open Cert.KernelIdeal Cert.KernelIdeal.Gen Cert.Fp4
open Idealize.ShloMosaic Idealize.ShloMosaic.ValueIdx

variable {F : FTy → Type} [FloatOps F]

/-- One row of scales over eight rows. -/
theorem rowB (v : Vec F S1x1x128 .f32) (x : Fin 8) (l : Fin 128) : k0_pay8 v (ix2 x l) = v (ix3 0 0 l) := by
  show broadcastTo S8x128 (shapeCast S1x128 (shapeCast S1x128 v shapeCasts_S1x1x128_S1x128) shapeCasts_S1x128_S1x128) broadcasts_S1x128_S8x128 (ix2 x l) = _
  rw [shapeCast_self]
  refine (broadcastTo_apply (s := S1x128) (t := S8x128) _ broadcasts_S1x128_S8x128 (ix2 x l) (ix2 (0 : Fin 1) l) (fun a => match a with | ⟨0, _⟩ => rfl | ⟨1, _⟩ => rfl)).trans ?_
  exact shapeCast_1ab_ab_apply v _ 0 l

/-- Eight clipped rows. -/
theorem piece_apply (v : Vec F S1x1x128 .f32) (t : Vec F S1x8x128 .f32) (x : Fin 8) (l : Fin 128) :
    k0_pay9 v t (ix2 x l) = clipS (FloatOps.mulf (t (ix3 0 x l)) (v (ix3 0 0 l))) := by
  show clipS (FloatOps.mulf (shapeCast S8x128 t shapeCasts_S1x8x128_S8x128 (ix2 x l)) (k0_pay8 v (ix2 x l))) = _
  rw [rowB]
  congr 2
  exact shapeCast_1ab_ab_apply t _ x l

/-- The group's values as a concatenation of eight pieces. -/
theorem wV_eq (iv : Fin 4 → Vec F S1x1x128 .f32) (rt : Fin 4 → Fin 2 → Vec F S1x8x128 .f32) :
    wV iv rt = concatenate S64x128 0 (List.ofFn fun p : Fin 8 => (⟨S8x128, k0_pay9 (iv ⟨p.val / 2, by omega⟩) (rt ⟨p.val / 2, by omega⟩ ⟨p.val % 2, by omega⟩)⟩ : (s : Shape) × (s.Idx → F .f32)))
      concatenates_S8x128_S8x128_S8x128_S8x128_S8x128_S8x128_S8x128_S8x128_S64x128_d0 := rfl

/-- A clipped value of the group. -/
theorem wV_apply (iv : Fin 4 → Vec F S1x1x128 .f32) (rt : Fin 4 → Fin 2 → Vec F S1x8x128 .f32) (r : Fin 64) (l : Fin 128) :
    wV iv rt (ix2 r l) = clipS (FloatOps.mulf (rt ⟨r.val / 16, by omega⟩ ⟨r.val % 16 / 8, by omega⟩ (ix3 0 ⟨r.val % 8, by omega⟩ l))
      (iv ⟨r.val / 16, by omega⟩ (ix3 0 0 l))) := by
  rw [wV_eq]
  refine (concatenate_ofFn_apply (t := S64x128) (s₁ := S8x128) 0 _ _ rfl 8 rfl (ix2 r l) ⟨r.val / 8, by omega⟩ rfl (ix2 ⟨r.val % 8, by omega⟩ l) rfl
    (fun b hb => match b, hb with | ⟨0, _⟩, hb => absurd rfl hb | ⟨1, _⟩, _ => rfl)).trans ?_
  rw [piece_apply]
  have e1 : (⟨r.val / 8 / 2, by omega⟩ : Fin 4) = ⟨r.val / 16, by omega⟩ := Fin.ext (by show r.val / 8 / 2 = r.val / 16; omega)
  have e2 : (⟨r.val / 8 % 2, by omega⟩ : Fin 2) = ⟨r.val % 16 / 8, by omega⟩ := Fin.ext (by show r.val / 8 % 2 = r.val % 16 / 8; omega)
  show clipS (FloatOps.mulf (rt ⟨r.val / 8 / 2, _⟩ ⟨r.val / 8 % 2, _⟩ _) (iv ⟨r.val / 8 / 2, _⟩ _)) = _
  rw [e1, e2]

/-- The codes of the group, a word each. -/
def nibV (iv : Fin 4 → Vec F S1x1x128 .f32) (rt : Fin 4 → Fin 2 → Vec F S1x8x128 .f32) : IVec S64x128 32 := fun i => codeK (wV iv rt i)

theorem pay14_eq (iv : Fin 4 → Vec F S1x1x128 .f32) (rt : Fin 4 → Fin 2 → Vec F S1x8x128 .f32) :
    k0_pay14 (wV iv rt) (mV iv rt) (lV iv rt) = shapeCast S8x8x128 (nibV iv rt) shapeCasts_S64x128_S8x8x128 := rfl

/-- Row `t` of every eight. -/
theorem slice_apply (N : IVec S64x128 32) (t : Fin 8) (off : Fin 3 → ℕ) (ho : off = ![0, t.val, 0]) (h : S8x8x128.Slices off S8x1x128)
    (j : Fin 8) (l : Fin 128) :
    shapeCast S8x128 (extractStridedSlice S8x1x128 off (shapeCast S8x8x128 N shapeCasts_S64x128_S8x8x128) h) shapeCasts_S8x1x128_S8x128 (ix2 j l)
      = N (ix2 ⟨8 * j.val + t.val, by omega⟩ l) := by
  subst ho
  refine (shapeCast_apply _ _ (ix2 j l) (ix3 j 0 l) ?_).trans ?_
  · rw [Shape.rowMajor_val_three, Shape.rowMajor_val_two]
    show (j.val * 1 + 0) * 128 + l.val = j.val * 128 + l.val
    omega
  refine (extractStridedSlice_apply _ _ h (ix3 j 0 l) (ix3 j t l) (fun a => match a with
    | ⟨0, _⟩ => by show j.val = 0 + j.val; omega
    | ⟨1, _⟩ => by show t.val = t.val + 0; omega
    | ⟨2, _⟩ => by show l.val = 0 + l.val; omega)).trans ?_
  refine shapeCast_apply _ _ (ix3 j t l) (ix2 ⟨8 * j.val + t.val, by omega⟩ l) ?_
  rw [Shape.rowMajor_val_three, Shape.rowMajor_val_two]
  show (8 * j.val + t.val) * 128 + l.val = (j.val * 8 + t.val) * 128 + l.val
  omega

/-- The packed words of the group. -/
def wordV (iv : Fin 4 → Vec F S1x1x128 .f32) (rt : Fin 4 → Fin 2 → Vec F S1x8x128 .f32) : IVec S8x128 32 :=
  k0_pay17 (k0_pay14 (wV iv rt) (mV iv rt) (lV iv rt)) (k0_pay15 (wV iv rt) (mV iv rt) (lV iv rt)) (k0_pay16 (wV iv rt) (mV iv rt) (lV iv rt))

theorem wordV_apply (iv : Fin 4 → Vec F S1x1x128 .f32) (rt : Fin 4 → Fin 2 → Vec F S1x8x128 .f32) (d : Fin 64 → BitVec 4) (j : Fin 8) (l : Fin 128)
    (hd : ∀ r : Fin 64, codeK (wV iv rt (ix2 r l)) = (d r).setWidth 32) :
    wordV iv rt (ix2 j l) = cleared (word fun t => d ⟨8 * j.val + t.val, by omega⟩) := by
  have s (t : Fin 8) (off : Fin 3 → ℕ) (ho : off = ![0, t.val, 0]) (h : S8x8x128.Slices off S8x1x128) :=
    (slice_apply (nibV iv rt) t off ho h j l).trans (hd ⟨8 * j.val + t.val, by omega⟩)
  unfold wordV k0_pay17 k0_pay15 k0_pay16
  simp only [pay14_eq]
  have s0 := s 0 _ rfl slices_S8x8x128_o0_0_0_S8x1x128
  have s1 := s 1 _ rfl slices_S8x8x128_o0_1_0_S8x1x128
  have s2 := s 2 _ rfl slices_S8x8x128_o0_2_0_S8x1x128
  have s3 := s 3 _ rfl slices_S8x8x128_o0_3_0_S8x1x128
  have s4 := s 4 _ rfl slices_S8x8x128_o0_4_0_S8x1x128
  have s5 := s 5 _ rfl slices_S8x8x128_o0_5_0_S8x1x128
  have s6 := s 6 _ rfl slices_S8x8x128_o0_6_0_S8x1x128
  have s7 := s 7 _ rfl slices_S8x8x128_o0_7_0_S8x1x128
  unfold word
  rw [← s0, ← s1, ← s2, ← s3, ← s4, ← s5, ← s6, ← s7]
  rfl

theorem cdV_bits (iv : Fin 4 → Vec F S1x1x128 .f32) (rt : Fin 4 → Fin 2 → Vec F S1x8x128 .f32) (p : Fin 32) (l : Fin 128) :
    cdV iv rt (ix2 p l) = (wordV iv rt (ix2 ⟨p.val / 4, by omega⟩ l)).extractLsb' (8 * (p.val % 4)) 8 := by
  show shapeCast S32x128 (bitcast S32x128 8 (wordV iv rt) bitcasts_S8x128_w32_S32x128_w8) shapeCasts_S32x128_S32x128 (ix2 p l) = _
  rw [shapeCast_self]
  apply BitVec.eq_of_getLsbD_eq
  intro q hq
  rw [bitcast_getLsbD _ _ _ q hq (by decide), BitVec.getLsbD_extractLsb']
  have hrow : S32x128.row (ix2 p l) = p.val := rfl
  have e1 : (S32x128.row (ix2 p l) * 8 + q) / 32 = p.val / 4 := by rw [hrow]; omega
  have e2 : (S32x128.row (ix2 p l) * 8 + q) % 32 = 8 * (p.val % 4) + q := by rw [hrow]; omega
  rw [Shape.Bitcasts.srcIdx_congr _ _ e1, e2]
  · simp only [hq, decide_true, Bool.true_and]
    congr 2
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  · intro a ha
    match a, ha with
    | ⟨0, _⟩, _ => show p.val / 4 < 8; omega

/-- A byte of the group: the codes of rows `2 p` and `2 p + 1`. -/
theorem cdV_apply (iv : Fin 4 → Vec F S1x1x128 .f32) (rt : Fin 4 → Fin 2 → Vec F S1x8x128 .f32) (d : Fin 64 → BitVec 4) (p : Fin 32) (l : Fin 128)
    (hd : ∀ r : Fin 64, codeK (wV iv rt (ix2 r l)) = (d r).setWidth 32) :
    cdV iv rt (ix2 p l) = (clr (d ⟨2 * p.val, by omega⟩)).setWidth 8 ||| (clr (d ⟨2 * p.val + 1, by omega⟩)).setWidth 8 <<< 4 := by
  rw [cdV_bits, wordV_apply iv rt d _ l hd]
  refine (byte_cleared _ ⟨p.val % 4, by omega⟩).trans ?_
  have e0 : (⟨8 * (p.val / 4) + 2 * (p.val % 4), by omega⟩ : Fin 64) = ⟨2 * p.val, by omega⟩ := Fin.ext (by show 8 * (p.val / 4) + 2 * (p.val % 4) = 2 * p.val; omega)
  have e1 : (⟨8 * (p.val / 4) + (2 * (p.val % 4) + 1), by omega⟩ : Fin 64) = ⟨2 * p.val + 1, by omega⟩ := Fin.ext (by show 8 * (p.val / 4) + (2 * (p.val % 4) + 1) = 2 * p.val + 1; omega)
  show (clr (d ⟨8 * (p.val / 4) + 2 * (p.val % 4), _⟩)).setWidth 8 ||| (clr (d ⟨8 * (p.val / 4) + (2 * (p.val % 4) + 1), _⟩)).setWidth 8 <<< 4 = _
  rw [e0, e1]

/-! ## The dequantised values -/

/-- The signed grid values of the group. -/
def vV (iv : Fin 4 → Vec F S1x1x128 .f32) (rt : Fin 4 → Fin 2 → Vec F S1x8x128 .f32) : FVec F S64x128 .bf16 :=
  fun i => FloatOps.truncf .bf16 bitsLt_bf16_f32 (valS (wV iv rt i))

theorem pay18_eq (iv : Fin 4 → Vec F S1x1x128 .f32) (rt : Fin 4 → Fin 2 → Vec F S1x8x128 .f32) :
    k0_pay18 (wV iv rt) (k0_pay13 (mV iv rt) (lV iv rt)) = vV iv rt := rfl

/-- Sixteen rows of scaled values. -/
def dqP (X : FVec F S64x128 .bf16) (v : Vec F S1x1x128 .f32) (off : Fin 2 → ℕ) (h : S64x128.Slices off S16x128) : FVec F S16x128 .bf16 :=
  mulf (extractStridedSlice S16x128 off X h) (truncf .bf16 (broadcastTo S16x128 (shapeCast S1x128 (shapeCast S1x128 v shapeCasts_S1x1x128_S1x128)
    shapeCasts_S1x128_S1x128) broadcasts_S1x128_S16x128) bitsLt_bf16_f32)

theorem dqP_apply (X : FVec F S64x128 .bf16) (v : Vec F S1x1x128 .f32) (b : Fin 4) (h : S64x128.Slices ![16 * b.val, 0] S16x128) (x : Fin 16) (l : Fin 128) :
    dqP X v ![16 * b.val, 0] h (ix2 x l) = FloatOps.mulf (X (ix2 ⟨16 * b.val + x.val, by omega⟩ l)) (FloatOps.truncf .bf16 bitsLt_bf16_f32 (v (ix3 0 0 l))) := by
  show FloatOps.mulf (extractStridedSlice S16x128 _ X h (ix2 x l)) (FloatOps.truncf .bf16 bitsLt_bf16_f32 (broadcastTo S16x128 (shapeCast S1x128 (shapeCast S1x128 v shapeCasts_S1x1x128_S1x128)
    shapeCasts_S1x128_S1x128) broadcasts_S1x128_S16x128 (ix2 x l))) = _
  rw [shapeCast_self, extractStridedSlice_apply _ X h (ix2 x l) (ix2 ⟨16 * b.val + x.val, by omega⟩ l) (fun a => match a with
    | ⟨0, _⟩ => rfl
    | ⟨1, _⟩ => by show l.val = 0 + l.val; omega)]
  congr 2
  refine (broadcastTo_apply (s := S1x128) (t := S16x128) _ broadcasts_S1x128_S16x128 (ix2 x l) (ix2 (0 : Fin 1) l) (fun a => match a with | ⟨0, _⟩ => rfl | ⟨1, _⟩ => rfl)).trans ?_
  exact shapeCast_1ab_ab_apply v _ 0 l

theorem sl16 (b : Fin 4) : S64x128.Slices ![16 * b.val, 0] S16x128 := by
  revert b; decide

theorem dqV_eq (iv : Fin 4 → Vec F S1x1x128 .f32) (rt : Fin 4 → Fin 2 → Vec F S1x8x128 .f32) (sb : Fin 4 → Vec F S1x1x128 .f32) :
    dqV iv rt sb = concatenate S64x128 0 (List.ofFn fun b : Fin 4 => (⟨S16x128, dqP (vV iv rt) (sb b) ![16 * b.val, 0] (sl16 b)⟩ : (s : Shape) × (s.Idx → F .bf16)))
      concatenates_S16x128_S16x128_S16x128_S16x128_S64x128_d0 := by
  refine Eq.trans (?_ : dqV iv rt sb = shapeCast S64x128 _ shapeCasts_S64x128_S64x128) (shapeCast_self _ _)
  rfl

/-- A dequantised value of the group. -/
theorem dqV_apply (iv : Fin 4 → Vec F S1x1x128 .f32) (rt : Fin 4 → Fin 2 → Vec F S1x8x128 .f32) (sb : Fin 4 → Vec F S1x1x128 .f32) (r : Fin 64) (l : Fin 128) :
    dqV iv rt sb (ix2 r l) = FloatOps.mulf (FloatOps.truncf .bf16 bitsLt_bf16_f32 (valS (wV iv rt (ix2 r l))))
      (FloatOps.truncf .bf16 bitsLt_bf16_f32 (sb ⟨r.val / 16, by omega⟩ (ix3 0 0 l))) := by
  rw [dqV_eq]
  refine (concatenate_ofFn_apply (t := S64x128) (s₁ := S16x128) 0 _ _ rfl 16 rfl (ix2 r l) ⟨r.val / 16, by omega⟩ rfl (ix2 ⟨r.val % 16, by omega⟩ l) rfl
    (fun b hb => match b, hb with | ⟨0, _⟩, hb => absurd rfl hb | ⟨1, _⟩, _ => rfl)).trans ?_
  refine (dqP_apply (vV iv rt) _ ⟨r.val / 16, by omega⟩ _ ⟨r.val % 16, by omega⟩ l).trans ?_
  have e : (⟨16 * (r.val / 16) + r.val % 16, by omega⟩ : Fin 64) = r := Fin.ext (by show 16 * (r.val / 16) + r.val % 16 = r.val; omega)
  show FloatOps.mulf (vV iv rt (ix2 ⟨16 * (r.val / 16) + r.val % 16, _⟩ l)) _ = _
  rw [e]; rfl

end Cert.KernelIdeal.Run
end
-- ==== Proof.Value.Tile.lean ====
/-
  The kernel's three results element by element: each a function of one column of the gradient, of its block maxima and of
  the two global scales.
-/
module

public import proofs.«01_k».proof.Proof.Value.Group

@[expose] public section

set_option maxRecDepth 16384

noncomputable section

namespace Cert.KernelIdeal.Run

open Cert.KernelIdeal Cert.KernelIdeal.Gen Cert.Fp4
open Idealize.ShloMosaic Idealize.ShloMosaic.ValueIdx

variable {F : FTy → Type} [FloatOps F]

variable (R : S34x1632x128.Idx → Elt F .f32) (A : S96x4352.Idx → Elt F .f32) (XQ : S1152x1536.Idx → Elt F .bf16)
  (v0 v1 : Vec F S1x1 .f32) (MG : S4304x1152.Idx → Elt F .f32)

/-- The quantised scale of block `g` of column `col`. -/
def sE (g : Fin 96) (col : Fin 4352) : F .fp8e4m3 := FloatOps.truncf .fp8e4m3 bitsLt_fp8e4m3_f32 (scS (A (ix2 g col)) (v0 (ix2 0 0)))
/-- It times the global scale. -/
def dE (g : Fin 96) (col : Fin 4352) : F .f32 := FloatOps.mulf (FloatOps.extf .f32 bitsLt_fp8e4m3_f32 (sE A v0 g col)) (v0 (ix2 0 0))
/-- The clipped value at row `t` of column `col`. -/
def wE (t : Fin 1536) (col : Fin 4352) : F .f32 :=
  clipS (FloatOps.mulf (R (ix3 ⟨col.val / 128, by omega⟩ ⟨17 * (t.val / 16) + t.val % 16, by omega⟩ ⟨col.val % 128, by omega⟩))
    (invS (dE A v0 ⟨t.val / 16, by omega⟩ col)))

theorem bcS (g : Fin 96) (l : Fin 128) : broadcastTo S96x128 v0 broadcasts_S1x1_S96x128 (ix2 g l) = v0 (ix2 0 0) :=
  broadcastTo_apply (s := S1x1) (t := S96x128) v0 broadcasts_S1x1_S96x128 (ix2 g l) (ix2 (0 : Fin 1) (0 : Fin 1))
    (fun a => match a with | ⟨0, _⟩ => rfl | ⟨1, _⟩ => rfl)

theorem sbOf_apply (h : Fin 34) (g : Fin 96) (l : Fin 128) (col : Fin 4352) (hc : col.val = 128 * h.val + l.val) :
    sbOf A v0 h (ix2 g l) = sE A v0 g col := by
  show FloatOps.truncf .fp8e4m3 bitsLt_fp8e4m3_f32 (scS (shapeCast S96x128 (amOf A h) shapeCasts_S96x128_S96x128 (ix2 g l))
    (broadcastTo S96x128 v0 broadcasts_S1x1_S96x128 (ix2 g l))) = _
  rw [shapeCast_self, bcS]
  show FloatOps.truncf .fp8e4m3 bitsLt_fp8e4m3_f32 (scS (A (ix2 g ⟨128 * h.val + l.val, _⟩)) (v0 (ix2 0 0))) = _
  have e : (⟨128 * h.val + l.val, by omega⟩ : Fin 4352) = col := Fin.ext hc.symm
  rw [e]; rfl

theorem sbwOf_apply (h : Fin 34) (g : Fin 96) (l : Fin 128) (col : Fin 4352) (hc : col.val = 128 * h.val + l.val) :
    sbwOf A v0 h (ix3 0 g l) = FloatOps.extf .f32 bitsLt_fp8e4m3_f32 (sE A v0 g col) := by
  refine (shapeCast_ab_1ab_apply (k0_pay44 v0 (amOf A h)) _ 0 g l).trans ?_
  show FloatOps.extf .f32 bitsLt_fp8e4m3_f32 (sbOf A v0 h (ix2 g l)) = _
  rw [sbOf_apply A v0 h g l col hc]

theorem invOf_apply (h : Fin 34) (g : Fin 96) (l : Fin 128) (col : Fin 4352) (hc : col.val = 128 * h.val + l.val) :
    invOf A v0 h (ix3 0 g l) = invS (dE A v0 g col) := by
  refine (shapeCast_ab_1ab_apply (fun i => invS (k0_pay45 v0 (amOf A h) i)) _ 0 g l).trans ?_
  show invS (FloatOps.mulf (FloatOps.extf .f32 bitsLt_fp8e4m3_f32 (sbOf A v0 h (ix2 g l))) (broadcastTo S96x128 v0 broadcasts_S1x1_S96x128 (ix2 g l))) = _
  rw [sbOf_apply A v0 h g l col hc, bcS]; rfl

/-- A clipped value of a half tile. -/
theorem w_apply (k : Fin 17) (s : Fin 2) (h : Fin 34) (hh : h.val = 2 * k.val + s.val) (n : Fin 24) (r : Fin 64) (l : Fin 128)
    (t : Fin 1536) (ht : t.val = 64 * n.val + r.val) (col : Fin 4352) (hc : col.val = 128 * h.val + l.val) :
    wV (rowAt (inv2 A v0 k) s n) (rtAt R h n) (ix2 r l) = wE R A v0 t col := by
  rw [wV_apply]
  show clipS (FloatOps.mulf (R (ix3 h ⟨68 * n.val + 17 * (r.val / 16) + 8 * (r.val % 16 / 8) + r.val % 8, _⟩ l))
    (invOf A v0 ⟨2 * k.val + s.val, _⟩ (ix3 0 ⟨4 * n.val + r.val / 16, _⟩ l))) = _
  rw [invOf_apply A v0 _ _ l col (by show col.val = 128 * (2 * k.val + s.val) + l.val; omega)]
  have e1 : (⟨68 * n.val + 17 * (r.val / 16) + 8 * (r.val % 16 / 8) + r.val % 8, by omega⟩ : Fin 1632)
      = ⟨17 * (t.val / 16) + t.val % 16, by omega⟩ := Fin.ext (by
    show 68 * n.val + 17 * (r.val / 16) + 8 * (r.val % 16 / 8) + r.val % 8 = 17 * (t.val / 16) + t.val % 16
    omega)
  have e2 : (⟨4 * n.val + r.val / 16, by omega⟩ : Fin 96) = ⟨t.val / 16, by omega⟩ := Fin.ext (by
    show 4 * n.val + r.val / 16 = t.val / 16
    omega)
  have e3 : h = ⟨col.val / 128, by omega⟩ := Fin.ext (by show h.val = col.val / 128; omega)
  have e4 : l = ⟨col.val % 128, by omega⟩ := Fin.ext (by show l.val = col.val % 128; omega)
  rw [e1, e2]
  unfold wE
  rw [← e3, ← e4]

/-- The block scales. -/
theorem GsbH_apply (g : Fin 96) (j : Fin 4304) : GsbH A v0 (ix2 g j) = sE A v0 g ⟨j.val, by omega⟩ :=
  sbOf_apply A v0 ⟨j.val / 128, by omega⟩ g ⟨j.val % 128, by omega⟩ ⟨j.val, by omega⟩ (by show j.val = 128 * (j.val / 128) + j.val % 128; omega)

/-- The codes: a byte holds the codes of rows `2 p` and `2 p + 1` of the column. -/
theorem Gcod_apply (j : Fin 4304) (p : Fin 768) (d : Fin 1536 → BitVec 4)
    (hd : ∀ t : Fin 1536, codeK (wE R A v0 t ⟨j.val, by omega⟩) = (d t).setWidth 32) :
    Gcod R A v0 (ix2 j p) = (clr (d ⟨2 * p.val, by omega⟩)).setWidth 8 ||| (clr (d ⟨2 * p.val + 1, by omega⟩)).setWidth 8 <<< 4 := by
  have key := cdV_apply (rowAt (inv2 A v0 ⟨j.val / 256, by omega⟩) ⟨j.val % 256 / 128, by omega⟩ ⟨p.val / 32, by omega⟩)
    (rtAt R ⟨2 * (j.val / 256) + j.val % 256 / 128, by omega⟩ ⟨p.val / 32, by omega⟩)
    (fun r => d ⟨64 * (p.val / 32) + r.val, by omega⟩) ⟨p.val % 32, by omega⟩ ⟨j.val % 256 % 128, by omega⟩
    (fun r => by
      rw [w_apply R A v0 _ _ _ rfl _ r _ ⟨64 * (p.val / 32) + r.val, by omega⟩ rfl ⟨j.val, by omega⟩
        (by show j.val = 128 * (2 * (j.val / 256) + j.val % 256 / 128) + j.val % 256 % 128; omega)]
      exact hd _)
  refine (show Gcod R A v0 (ix2 j p) = _ from key).trans ?_
  have e0 : (⟨64 * (p.val / 32) + 2 * (p.val % 32), by omega⟩ : Fin 1536) = ⟨2 * p.val, by omega⟩ := Fin.ext (by
    show 64 * (p.val / 32) + 2 * (p.val % 32) = 2 * p.val; omega)
  have e1 : (⟨64 * (p.val / 32) + (2 * (p.val % 32) + 1), by omega⟩ : Fin 1536) = ⟨2 * p.val + 1, by omega⟩ := Fin.ext (by
    show 64 * (p.val / 32) + (2 * (p.val % 32) + 1) = 2 * p.val + 1; omega)
  show (clr (d ⟨64 * (p.val / 32) + 2 * (p.val % 32), _⟩)).setWidth 8 ||| (clr (d ⟨64 * (p.val / 32) + (2 * (p.val % 32) + 1), _⟩)).setWidth 8 <<< 4 = _
  rw [e0, e1]

/-- The dequantised value at row `t` of column `col`. -/
def qE (t : Fin 1536) (col : Fin 4352) : F .bf16 :=
  FloatOps.mulf (FloatOps.truncf .bf16 bitsLt_bf16_f32 (valS (wE R A v0 t col)))
    (FloatOps.truncf .bf16 bitsLt_bf16_f32 (FloatOps.extf .f32 bitsLt_fp8e4m3_f32 (sE A v0 ⟨t.val / 16, by omega⟩ col)))

theorem DQ_apply (k : Fin 17) (t : Fin 1536) (cc : Fin 256) (col : Fin 4352) (hc : col.val = 256 * k.val + cc.val) :
    DQ R A v0 k (ix2 t cc) = qE R A v0 t col := by
  show dqV (rowAt (inv2 A v0 k) ⟨cc.val / 128, _⟩ ⟨t.val / 64, _⟩) (rtAt R ⟨2 * k.val + cc.val / 128, _⟩ ⟨t.val / 64, _⟩)
    (rowAt (sbw2 A v0 k) ⟨cc.val / 128, _⟩ ⟨t.val / 64, _⟩) (ix2 ⟨t.val % 64, _⟩ ⟨cc.val % 128, _⟩) = _
  rw [dqV_apply, w_apply R A v0 k _ _ rfl _ _ _ t (by show t.val = 64 * (t.val / 64) + t.val % 64; omega) col
    (by show col.val = 128 * (2 * k.val + cc.val / 128) + cc.val % 128; omega)]
  show FloatOps.mulf _ (FloatOps.truncf .bf16 bitsLt_bf16_f32 (sbwOf A v0 ⟨2 * k.val + cc.val / 128, _⟩ (ix3 0 ⟨4 * (t.val / 64) + t.val % 64 / 16, _⟩ ⟨cc.val % 128, _⟩))) = _
  rw [sbwOf_apply A v0 _ _ _ col (by show col.val = 128 * (2 * k.val + cc.val / 128) + cc.val % 128; omega)]
  have e : (⟨4 * (t.val / 64) + t.val % 64 / 16, by omega⟩ : Fin 96) = ⟨t.val / 16, by omega⟩ := Fin.ext (by
    show 4 * (t.val / 64) + t.val % 64 / 16 = t.val / 16; omega)
  rw [e]; rfl

/-- The updated main gradient. -/
theorem Gout_apply (j : Fin 4304) (ci : Fin 1152) :
    Gout R A XQ v0 v1 MG (ix2 j ci) = FloatOps.addf (MG (ix2 j ci)) (FloatOps.mulf (FloatOps.mulf (v1 (ix2 0 0)) (v0 (ix2 0 0)))
      (matmul dot_S1152x1536_S1536x256_S1152x256_1_0_0_1_n_n none XQ (DQ R A v0 ⟨j.val / 256, by omega⟩) (constant S1152x256 .f32 0x00000000#32)
        (ix2 ci (⟨j.val % 256, by omega⟩ : Fin 256)))) := by
  show k0_pay58 (k0_pay59 v0 v1) XQ (DQ R A v0 ⟨j.val / 256, _⟩) (mgOf MG ⟨j.val / 256, _⟩) (ix3 0 (⟨j.val % 256, _⟩ : Fin 256) ci) = _
  have key : ∀ (v2 : Vec F S1x1 .f32) (D : Vec F S1536x256 .bf16) (M : Vec F S1x256x1152 .f32), k0_pay58 v2 XQ D M
      = shapeCast S1x256x1152 (addf (shapeCast S256x1152 M shapeCasts_S1x256x1152_S256x1152) (mulf (broadcastTo S256x1152 v2 broadcasts_S1x1_S256x1152)
        (transpose S256x1152 [1, 0] (matmul dot_S1152x1536_S1536x256_S1152x256_1_0_0_1_n_n none (shapeCast S1152x1536 XQ shapeCasts_S1152x1536_S1152x1536) D
          (constant S1152x256 .f32 0x00000000#32)) transposes_S1152x256_p1_0_S256x1152))) shapeCasts_S256x1152_S1x256x1152 := fun _ _ _ => rfl
  rw [key]
  refine (shapeCast_ab_1ab_apply _ shapeCasts_S256x1152_S1x256x1152 0 (⟨j.val % 256, by omega⟩ : Fin 256) ci).trans ?_
  show FloatOps.addf (shapeCast S256x1152 (mgOf MG ⟨j.val / 256, _⟩) shapeCasts_S1x256x1152_S256x1152 (ix2 ⟨j.val % 256, _⟩ ci))
    (FloatOps.mulf (broadcastTo S256x1152 (k0_pay59 v0 v1) broadcasts_S1x1_S256x1152 (ix2 ⟨j.val % 256, _⟩ ci))
      (transpose S256x1152 [1, 0] (matmul dot_S1152x1536_S1536x256_S1152x256_1_0_0_1_n_n none (shapeCast S1152x1536 XQ shapeCasts_S1152x1536_S1152x1536)
        (DQ R A v0 ⟨j.val / 256, _⟩) (constant S1152x256 .f32 0x00000000#32)) transposes_S1152x256_p1_0_S256x1152 (ix2 ⟨j.val % 256, _⟩ ci))) = _
  rw [shapeCast_self]
  have e1 : shapeCast S256x1152 (mgOf MG ⟨j.val / 256, by omega⟩) shapeCasts_S1x256x1152_S256x1152 (ix2 ⟨j.val % 256, by omega⟩ ci) = MG (ix2 j ci) := by
    refine (shapeCast_1ab_ab_apply _ _ ⟨j.val % 256, by omega⟩ ci).trans ?_
    show MG (ix2 ⟨min (256 * (j.val / 256) + j.val % 256) 4303, _⟩ ci) = _
    have e : (⟨min (256 * (j.val / 256) + j.val % 256) 4303, by omega⟩ : Fin 4304) = j := Fin.ext (by
      show min (256 * (j.val / 256) + j.val % 256) 4303 = j.val; omega)
    rw [e]
  have e2 : broadcastTo S256x1152 (k0_pay59 v0 v1) broadcasts_S1x1_S256x1152 (ix2 (⟨j.val % 256, by omega⟩ : Fin 256) ci) = FloatOps.mulf (v1 (ix2 0 0)) (v0 (ix2 0 0)) :=
    broadcastTo_apply (s := S1x1) (t := S256x1152) (k0_pay59 v0 v1) broadcasts_S1x1_S256x1152 (ix2 ⟨j.val % 256, by omega⟩ ci) (ix2 (0 : Fin 1) (0 : Fin 1))
      (fun a => match a with | ⟨0, _⟩ => rfl | ⟨1, _⟩ => rfl)
  rw [e1, e2]
  congr 2
  exact transpose_ix2_apply _ _ ⟨j.val % 256, by omega⟩ ci

end Cert.KernelIdeal.Run
end
-- ==== Proof.Value.Host.lean ====
/-
  The host lines around the kernel: what its operands hold of the arguments, and what the results hold of its outputs.
-/
module

public import proofs.«01_k».proof.Proof.KernelIdeal.Launch
public import proofs.«01_k».proof.Proof.Value.Tile
public import Idealize.ShloMosaic.Lib.KernelVsHost
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.ValueIdx Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Every window's block is its array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb0 (t : Fin cfg0.N) (j : S34x1632x128.Idx) : ((cfg0.win 0).blk t).view.emb j = j := by
  obtain ⟨e0, e1, e2⟩ := idx_zero0 t
  funext a; apply Fin.ext
  match a with
  | ⟨0, _⟩ => show win0_0.index t (0 : Fin 3) * 34 + 1 * (j 0).val = (j 0).val; omega
  | ⟨1, _⟩ => show win0_0.index t (1 : Fin 3) * 1632 + 1 * (j 1).val = (j 1).val; omega
  | ⟨2, _⟩ => show win0_0.index t (2 : Fin 3) * 128 + 1 * (j 2).val = (j 2).val; omega
theorem iblk0_eq (c : Dev nD) (t : Fin cfg0.N) : iblk m c 0 t = V m c main_v3 := by
  funext j; show V m c main_v3 (((cfg0.win 0).blk t).view.emb j) = V m c main_v3 j; rw [emb0]

theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S96x4352.Idx) : ((cfg0.win 1).blk t).view.emb j = j := by
  obtain ⟨e0, e1⟩ := idx_zero1 t
  funext a; apply Fin.ext
  match a with
  | ⟨0, _⟩ => show win0_1.index t (0 : Fin 2) * 96 + 1 * (j 0).val = (j 0).val; omega
  | ⟨1, _⟩ => show win0_1.index t (1 : Fin 2) * 4352 + 1 * (j 1).val = (j 1).val; omega
theorem iblk1_eq (c : Dev nD) (t : Fin cfg0.N) : iblk m c 1 t = V m c main_v4 := by
  funext j; show V m c main_v4 (((cfg0.win 1).blk t).view.emb j) = V m c main_v4 j; rw [emb1]

theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S1152x1536.Idx) : ((cfg0.win 2).blk t).view.emb j = j := by
  obtain ⟨e0, e1⟩ := idx_zero2 t
  funext a; apply Fin.ext
  match a with
  | ⟨0, _⟩ => show win0_2.index t (0 : Fin 2) * 1152 + 1 * (j 0).val = (j 0).val; omega
  | ⟨1, _⟩ => show win0_2.index t (1 : Fin 2) * 1536 + 1 * (j 1).val = (j 1).val; omega
theorem iblk2_eq (c : Dev nD) (t : Fin cfg0.N) : iblk m c 2 t = V m c main_v5 := by
  funext j; show V m c main_v5 (((cfg0.win 2).blk t).view.emb j) = V m c main_v5 j; rw [emb2]

theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S1x1.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S1x1.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega
theorem iblk4_eq (c : Dev nD) (t : Fin cfg0.N) : iblk m c 4 t = V m c main_arg4 := by
  funext j; show V m c main_arg4 (((cfg0.win 4).blk t).view.emb j) = V m c main_arg4 j; rw [emb4]

/-! ## The operands -/

/-- The rotated gradient, padded, in planes of 128 columns. -/
theorem V_v3 (c : Dev nD) : V m c main_v3 = (transpose S34x1632x128 [1, 0, 2] (shapeCast S1632x34x128 (pad S96x17x4352 ![0, 0, 0] ![0, 1, 48] ![0, 0, 0]
      (shapeCast S96x16x4304 (m ((c : Thread nD τ).loc main_arg0)) shapeCasts_S1536x4304_S96x16x4304) (sitofp .f32 (constantI S_ 32 0#32)) pads_S96x16x4304_S96x17x4352_000_010_0480 h_S_)
      shapeCasts_S96x17x4352_S1632x34x128) transposes_S1632x34x128_S34x1632x128_1_0_2 : S34x1632x128.Idx → Elt F .f32) := by
  show StableHlo.after ([hostOps0, hostOps0_1, hostOps0_2, hostOps0_3, hostOps0_4].flatten) (fun b => m (c, b)) (Proc.devRef .tc main_v3) = _
  simp only [hostOps0, hostOps0_1, hostOps0_2, hostOps0_3, hostOps0_4, List.flatten_cons, List.flatten_nil, List.append_nil, List.cons_append, List.nil_append]
  after_results
  rfl

/-- The block maxima, padded. -/
theorem V_v4 (c : Dev nD) : V m c main_v4 = (pad S96x4352 ![0, 0] ![0, 48] ![0, 0] (m ((c : Thread nD τ).loc main_arg1)) (sitofp .f32 (constantI S_ 32 0#32))
      pads_S96x4304_S96x4352_000_0480 h_S_ : S96x4352.Idx → Elt F .f32) := by
  show StableHlo.after ([hostOps0, hostOps0_1, hostOps0_2, hostOps0_3, hostOps0_4].flatten) (fun b => m (c, b)) (Proc.devRef .tc main_v4) = _
  simp only [hostOps0, hostOps0_1, hostOps0_2, hostOps0_3, hostOps0_4, List.flatten_cons, List.flatten_nil, List.append_nil, List.cons_append, List.nil_append]
  after_results
  rfl

/-- The activations, transposed. -/
theorem V_v5 (c : Dev nD) : V m c main_v5 = (transpose S1152x1536 [1, 0] (m ((c : Thread nD τ).loc main_arg2)) transposes_S1536x1152_S1152x1536_1_0 : S1152x1536.Idx → Elt F .bf16) := by
  show StableHlo.after ([hostOps0, hostOps0_1, hostOps0_2, hostOps0_3, hostOps0_4].flatten) (fun b => m (c, b)) (Proc.devRef .tc main_v5) = _
  simp only [hostOps0, hostOps0_1, hostOps0_2, hostOps0_3, hostOps0_4, List.flatten_cons, List.flatten_nil, List.append_nil, List.cons_append, List.nil_append]
  after_results

/-- The main gradient, transposed. -/
theorem V_v6 (c : Dev nD) : V m c main_v6 = (transpose S4304x1152 [1, 0] (m ((c : Thread nD τ).loc main_arg5)) transposes_S1152x4304_S4304x1152_1_0 : S4304x1152.Idx → Elt F .f32) := by
  show StableHlo.after ([hostOps0, hostOps0_1, hostOps0_2, hostOps0_3, hostOps0_4].flatten) (fun b => m (c, b)) (Proc.devRef .tc main_v6) = _
  simp only [hostOps0, hostOps0_1, hostOps0_2, hostOps0_3, hostOps0_4, List.flatten_cons, List.flatten_nil, List.append_nil, List.cons_append, List.nil_append]
  after_results

/-- Row `t` of column `j` of the gradient, where the kernel finds it. -/
theorem inR_apply (c : Dev nD) (t : Fin 1536) (j : Fin 4304) :
    inR m c t0_0 (ix3 ⟨j.val / 128, by omega⟩ ⟨17 * (t.val / 16) + t.val % 16, by omega⟩ ⟨j.val % 128, by omega⟩)
      = (m ((c : Thread nD τ).loc main_arg0) : S1536x4304.Idx → Elt F .f32) (ix2 t j) := by
  show (iblk m c 0 t0_0 : S34x1632x128.Idx → Elt F .f32) _ = _
  rw [iblk0_eq, V_v3]
  rw [transpose_apply _ _ _ _ (ix3 (⟨17 * (t.val / 16) + t.val % 16, by omega⟩ : Fin 1632) (⟨j.val / 128, by omega⟩ : Fin 34) (⟨j.val % 128, by omega⟩ : Fin 128))
    (fun b => match b with | ⟨0, _⟩ => rfl | ⟨1, _⟩ => rfl | ⟨2, _⟩ => rfl)]
  rw [shapeCast_apply _ _ _ (ix3 (⟨t.val / 16, by omega⟩ : Fin 96) (⟨t.val % 16, by omega⟩ : Fin 17) (⟨j.val, by omega⟩ : Fin 4352)) (by
    rw [Shape.rowMajor_val_three, Shape.rowMajor_val_three]
    show (t.val / 16 * 17 + t.val % 16) * 4352 + j.val = ((17 * (t.val / 16) + t.val % 16) * 34 + j.val / 128) * 128 + j.val % 128
    omega)]
  rw [pad_apply_of_inside _ _ _ _ _ _ _ _ (ix3 (⟨t.val / 16, by omega⟩ : Fin 96) (⟨t.val % 16, by omega⟩ : Fin 16) j) (fun a => match a with
    | ⟨0, _⟩ => by show t.val / 16 = 0 + t.val / 16 * (0 + 1); omega
    | ⟨1, _⟩ => by show t.val % 16 = 0 + t.val % 16 * (0 + 1); omega
    | ⟨2, _⟩ => by show j.val = 0 + j.val * (0 + 1); omega)]
  exact shapeCast_apply _ _ _ _ (by
    show (S1536x4304.rowMajor (ix2 t j)).val = (S96x16x4304.rowMajor (ix3 (⟨t.val / 16, _⟩ : Fin 96) (⟨t.val % 16, _⟩ : Fin 16) j)).val
    rw [Shape.rowMajor_val_two, Shape.rowMajor_val_three]
    show t.val * 4304 + j.val = (t.val / 16 * 16 + t.val % 16) * 4304 + j.val
    omega)

/-- The block maximum of block `g` of column `j`, where the kernel finds it. -/
theorem inA_apply (c : Dev nD) (g : Fin 96) (j : Fin 4304) :
    inA m c t0_0 (ix2 g ⟨j.val, by omega⟩) = (m ((c : Thread nD τ).loc main_arg1) : S96x4304.Idx → Elt F .f32) (ix2 g j) := by
  show (iblk m c 1 t0_0 : S96x4352.Idx → Elt F .f32) _ = _
  rw [iblk1_eq, V_v4]
  exact pad_apply_of_inside _ _ _ _ _ _ _ _ (ix2 g j) (fun a => match a with
    | ⟨0, _⟩ => by show g.val = 0 + g.val * (0 + 1); omega
    | ⟨1, _⟩ => by show j.val = 0 + j.val * (0 + 1); omega)

theorem inX_apply (c : Dev nD) (i : Fin 1152) (t : Fin 1536) :
    inX m c t0_0 (ix2 i t) = (m ((c : Thread nD τ).loc main_arg2) : S1536x1152.Idx → Elt F .bf16) (ix2 t i) := by
  show (iblk m c 2 t0_0 : S1152x1536.Idx → Elt F .bf16) _ = _
  rw [iblk2_eq, V_v5]
  exact transpose_ix2_apply _ _ i t

theorem inM_apply (c : Dev nD) (j : Fin 4304) (i : Fin 1152) :
    inM m c (ix2 j i) = (m ((c : Thread nD τ).loc main_arg5) : S1152x4304.Idx → Elt F .f32) (ix2 i j) := by
  show (V m c main_v6 : S4304x1152.Idx → Elt F .f32) _ = _
  rw [V_v6]
  exact transpose_ix2_apply _ _ j i

theorem inG1_eq (c : Dev nD) : inG1 m c t0_0 = (m ((c : Thread nD τ).loc main_arg3) : S1x1.Idx → Elt F .f32) :=
  (iblk3_eq m c t0_0).trans (V_main_arg3 m c)

theorem inG0_eq (c : Dev nD) : inG0 m c t0_0 = (m ((c : Thread nD τ).loc main_arg4) : S1x1.Idx → Elt F .f32) :=
  (iblk4_eq m c t0_0).trans (V_main_arg4 m c)

/-! ## The results -/

/-- What the lines after the kernel read of a result of it. -/
theorem tail_read (c : Dev nD) (b : Ref sig .tc) (hb : b ∈ R0) (hw : ∀ w, Pipeline.arrRef spec0 w ≠ b) :
    Pipeline.withArrays spec0 c (Pipeline.withR (V0 m c) R0 c (Gres m c)) (fun w => (dats m 0 c).arrAt w (cfgs 0).N) (Proc.devRef .tc b) = Gres m c b := by
  rw [Pipeline.withArrays_of_ne _ c _ _ b hw, Pipeline.withR_of_mem _ _ _ _ _ hb]

theorem Vend_v8 (c : Dev nD) : Vend m c (Proc.devRef .tc main_v8) = (transpose S1152x4304 [1, 0]
    (Gout (inR m c t0_0) (inA m c t0_0) (inX m c t0_0) (inG0 m c t0_0) (inG1 m c t0_0) (inM m c)) transposes_S4304x1152_S1152x4304_1_0 : S1152x4304.Idx → Elt F .f32) := by
  have e := tail_read m c main_v7_0 (by decide) (by exact (by decide : ∀ w, Pipeline.arrRef spec0 w ≠ main_v7_0))
  unfold Vend
  generalize Pipeline.withArrays spec0 c (Pipeline.withR (V0 m c) R0 c (Gres m c)) (fun w => (dats m 0 c).arrAt w (cfgs 0).N) = W at e ⊢
  simp only [hostOps1, List.flatten_cons, List.flatten_nil, List.append_nil]
  after_results
  rw [e, Gres_0]

theorem Vend_v9 (c : Dev nD) : Vend m c (Proc.devRef .tc main_v9) = (transpose S768x4304 [1, 0]
    (Gcod (inR m c t0_0) (inA m c t0_0) (inG0 m c t0_0)) transposes_S4304x768_S768x4304_1_0 : S768x4304.Idx → Elt F .i8) := by
  have e := tail_read m c main_v7_1 (by decide) (by exact (by decide : ∀ w, Pipeline.arrRef spec0 w ≠ main_v7_1))
  unfold Vend
  generalize Pipeline.withArrays spec0 c (Pipeline.withR (V0 m c) R0 c (Gres m c)) (fun w => (dats m 0 c).arrAt w (cfgs 0).N) = W at e ⊢
  simp only [hostOps1, List.flatten_cons, List.flatten_nil, List.append_nil]
  after_results
  rw [e, Gres_1]

theorem Vend_v7 (c : Dev nD) : Vend m c (Proc.devRef .tc main_v7_2) = (GsbH (inA m c t0_0) (inG0 m c t0_0) : S96x4304.Idx → Elt F .fp8e4m3) := by
  have e := tail_read m c main_v7_2 (by decide) (by exact (by decide : ∀ w, Pipeline.arrRef spec0 w ≠ main_v7_2))
  unfold Vend
  generalize Pipeline.withArrays spec0 c (Pipeline.withR (V0 m c) R0 c (Gres m c)) (fun w => (dats m 0 c).arrAt w (cfgs 0).N) = W at e ⊢
  simp only [hostOps1, List.flatten_cons, List.flatten_nil, List.append_nil]
  after_results
  rw [e, Gres_2]

/-- THE RUN: each result at its function of the kernel's operands, the arguments unchanged. -/
theorem run_values : θ_run defs (onTc (τ := τ) (main (F := F))) ⟨m, fun _ => 0, ρ⟩ (fun r => ∀ c : Dev nD,
      r.2.mem ((c.tc : Thread nD τ).loc main_v8) = Vend m c (Proc.devRef .tc main_v8)
      ∧ r.2.mem ((c.tc : Thread nD τ).loc main_v9) = Vend m c (Proc.devRef .tc main_v9)
      ∧ r.2.mem ((c.tc : Thread nD τ).loc main_v7_2) = Vend m c (Proc.devRef .tc main_v7_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v8 (Pipeline.mem_restRefs_of main_v8 (by decide) (by decide)),
    (h.1 c).2 main_v9 (Pipeline.mem_restRefs_of main_v9 (by decide) (by decide)),
    (h.1 c).2 main_v7_2 (Pipeline.mem_restRefs_of main_v7_2 (by decide) (by decide)),
    ((h.1 c).2 main_arg0 (Pipeline.mem_restRefs_of main_arg0 (by decide) (by decide))).trans (end_arg0 m c),
    ((h.1 c).2 main_arg1 (Pipeline.mem_restRefs_of main_arg1 (by decide) (by decide))).trans (end_arg1 m c),
    ((h.1 c).2 main_arg2 (Pipeline.mem_restRefs_of main_arg2 (by decide) (by decide))).trans (end_arg2 m c),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).2 main_arg5 (Pipeline.mem_restRefs_of main_arg5 (by decide) (by decide))).trans (end_arg5 m c)⟩) (run_main m ρ)

end Cert.KernelIdeal.Run
end
-- ==== Proof.Value.Ref.lean ====
/-
  The reference's three results element by element.
-/
module

public import proofs.«01_k».proof.Proof.Gen.ReferenceIdeal.Value
public import proofs.«01_k».proof.Proof.Value.Scalar
public import Idealize.ShloMosaic.Lib.Pipeline.Value
public import Idealize.ShloMosaic.Lib.ValueLayout

@[expose] public section

set_option maxRecDepth 65536

noncomputable section

namespace Cert.ReferenceIdeal.Val

open Cert.ReferenceIdeal Cert.ReferenceIdeal.Gen Cert.ReferenceIdeal.Value Cert.Fp4
open Idealize.ShloMosaic Idealize.ShloMosaic.ValueIdx

variable {F : FTy → Type} [FloatOps F]

variable (a0 : Vec F S1536x4304 .f32) (a1 : Vec F S96x4304 .f32) (a2 : Vec F S1536x1152 .bf16) (a3 a4 : Vec F S1x1 .f32)
  (a5 : Vec F S1152x4304 .f32)

/-! ## Layouts -/

theorem split_apply {e : Type} (v : S1536x4304.Idx → e) (g : Fin 96) (x : Fin 16) (j : Fin 4304) :
    shapeCast S96x16x4304 v shapeCasts_S1536x4304_S96x16x4304 (ix3 g x j) = v (ix2 ⟨16 * g.val + x.val, by omega⟩ j) :=
  shapeCast_apply v _ _ _ (by
    rw [Shape.rowMajor_val_two, Shape.rowMajor_val_three]
    show (16 * g.val + x.val) * 4304 + j.val = (g.val * 16 + x.val) * 4304 + j.val
    omega)

theorem join_apply {e : Type} (v : S96x16x4304.Idx → e) (t : Fin 1536) (j : Fin 4304) :
    shapeCast S1536x4304 v shapeCasts_S96x16x4304_S1536x4304 (ix2 t j) = v (ix3 ⟨t.val / 16, by omega⟩ ⟨t.val % 16, by omega⟩ j) :=
  shapeCast_apply v _ _ _ (by
    rw [Shape.rowMajor_val_two, Shape.rowMajor_val_three]
    show (t.val / 16 * 16 + t.val % 16) * 4304 + j.val = t.val * 4304 + j.val
    omega)

theorem mid_apply {e : Type} (v : S96x4304.Idx → e) (g : Fin 96) (j : Fin 4304) :
    shapeCast S96x1x4304 v shapeCasts_S96x4304_S96x1x4304 (ix3 g (0 : Fin 1) j) = v (ix2 g j) :=
  shapeCast_apply v _ _ _ (by
    rw [Shape.rowMajor_val_two, Shape.rowMajor_val_three]
    show g.val * 4304 + j.val = (g.val * 1 + 0) * 4304 + j.val
    omega)

theorem rows_apply {e : Type} (v : S96x1x4304.Idx → e) (g : Fin 96) (x : Fin 16) (j : Fin 4304) :
    broadcastTo S96x16x4304 v broadcasts_S96x1x4304_S96x16x4304 (ix3 g x j) = v (ix3 g (0 : Fin 1) j) :=
  broadcastTo_apply (s := S96x1x4304) (t := S96x16x4304) v broadcasts_S96x1x4304_S96x16x4304 (ix3 g x j) (ix3 g (0 : Fin 1) j)
    (fun a => match a with | ⟨0, _⟩ => rfl | ⟨1, _⟩ => rfl | ⟨2, _⟩ => rfl)

theorem one_apply (g : Fin 96) (j : Fin 4304) : broadcastTo S96x4304 a4 broadcasts_S1x1_S96x4304 (ix2 g j) = a4 (ix2 0 0) :=
  broadcastTo_apply (s := S1x1) (t := S96x4304) a4 broadcasts_S1x1_S96x4304 (ix2 g j) (ix2 (0 : Fin 1) (0 : Fin 1))
    (fun a => match a with | ⟨0, _⟩ => rfl | ⟨1, _⟩ => rfl)

theorem one_apply' (v : Vec F S1x1 .f32) (i : Fin 1152) (j : Fin 4304) : broadcastTo S1152x4304 v broadcasts_S1x1_S1152x4304 (ix2 i j) = v (ix2 0 0) :=
  broadcastTo_apply (s := S1x1) (t := S1152x4304) v broadcasts_S1x1_S1152x4304 (ix2 i j) (ix2 (0 : Fin 1) (0 : Fin 1))
    (fun a => match a with | ⟨0, _⟩ => rfl | ⟨1, _⟩ => rfl)

/-! ## The scales and the clipped values -/

/-- The quantised scale of block `g` of column `j`. -/
def sR (g : Fin 96) (j : Fin 4304) : F .fp8e4m3 := FloatOps.truncf .fp8e4m3 bitsLt_fp8e4m3_f32 (scS (a1 (ix2 g j)) (a4 (ix2 0 0)))
/-- It times the global scale. -/
def dR (g : Fin 96) (j : Fin 4304) : F .f32 := FloatOps.mulf (FloatOps.extf .f32 bitsLt_fp8e4m3_f32 (sR a1 a4 g j)) (a4 (ix2 0 0))
/-- The clipped value at row `t` of column `j`. -/
def wR (t : Fin 1536) (j : Fin 4304) : F .f32 := clipS (quoS (a0 (ix2 t j)) (dR a1 a4 ⟨t.val / 16, by omega⟩ j))

theorem pay2_apply (g : Fin 96) (j : Fin 4304) : k0_pay2 a4 a1 (ix2 g j) = sR a1 a4 g j := by
  show FloatOps.truncf .fp8e4m3 bitsLt_fp8e4m3_f32 (scS (a1 (ix2 g j)) (broadcastTo S96x4304 a4 broadcasts_S1x1_S96x4304 (ix2 g j))) = _
  rw [one_apply]; rfl

/-- The scale of a block as the reference computes it. -/
theorem scale_apply (g : Fin 96) (j : Fin 4304) :
    mulf (extf .f32 (k0_pay2 a4 a1) bitsLt_fp8e4m3_f32) (broadcastTo S96x4304 a4 broadcasts_S1x1_S96x4304) (ix2 g j) = dR a1 a4 g j := by
  show FloatOps.mulf (FloatOps.extf .f32 bitsLt_fp8e4m3_f32 (k0_pay2 a4 a1 (ix2 g j))) (broadcastTo S96x4304 a4 broadcasts_S1x1_S96x4304 (ix2 g j)) = _
  rw [one_apply, pay2_apply]; rfl

theorem pay3_apply (g : Fin 96) (x : Fin 16) (j : Fin 4304) :
    k0_pay3 a0 a4 a1 (ix3 g x j) = clipS (quoS (a0 (ix2 ⟨16 * g.val + x.val, by omega⟩ j)) (dR a1 a4 g j)) := by
  have key : ∀ D : FVec F S96x4304 .f32, D = mulf (extf .f32 (k0_pay2 a4 a1) bitsLt_fp8e4m3_f32) (broadcastTo S96x4304 a4 broadcasts_S1x1_S96x4304) →
      k0_pay3 a0 a4 a1 (ix3 g x j) = clipS (Scalar.select
        (broadcastTo S96x16x4304 (shapeCast S96x1x4304 (cmpf .ogt (shapeCast S96x1x4304 D shapeCasts_S96x4304_S96x1x4304) (broadcast S96x1x4304 (Scalar.ofBits .f32 0x00000000#32)))
          shapeCasts_S96x1x4304_S96x1x4304) broadcasts_S96x1x4304_S96x16x4304 (ix3 g x j))
        (FloatOps.divf (shapeCast S96x16x4304 a0 shapeCasts_S1536x4304_S96x16x4304 (ix3 g x j))
          (broadcastTo S96x16x4304 (shapeCast S96x1x4304 (fun i => safe (D i)) shapeCasts_S96x4304_S96x1x4304) broadcasts_S96x1x4304_S96x16x4304 (ix3 g x j)))
        (Scalar.ofBits .f32 0x00000000#32)) := by
    intro D hD; subst hD; rfl
  rw [key _ rfl, shapeCast_self, rows_apply, rows_apply, split_apply, mid_apply]
  show clipS (Scalar.select (FloatOps.cmpf .ogt (shapeCast S96x1x4304 _ shapeCasts_S96x4304_S96x1x4304 (ix3 g (0 : Fin 1) j)) (Scalar.ofBits .f32 0x00000000#32)) _ _) = _
  rw [mid_apply, scale_apply]; rfl

/-- The code of row `t`, column `j`. -/
theorem code_apply (t : Fin 1536) (j : Fin 4304) :
    k0_pay7 (k0_pay3 a0 a4 a1) (k0_pay4 a0 a4 a1) (k0_pay5 a0 a4 a1) (k0_pay6 a0 a4 a1) (ix2 t j) = codeR (wR a0 a1 a4 t j) := by
  have key : k0_pay7 (k0_pay3 a0 a4 a1) (k0_pay4 a0 a4 a1) (k0_pay5 a0 a4 a1) (k0_pay6 a0 a4 a1)
      = shapeCast S1536x4304 (fun i => codeR (k0_pay3 a0 a4 a1 i)) shapeCasts_S96x16x4304_S1536x4304 := rfl
  rw [key, join_apply]
  rw [pay3_apply]
  have e : (⟨16 * (t.val / 16) + t.val % 16, by omega⟩ : Fin 1536) = t := Fin.ext (by show 16 * (t.val / 16) + t.val % 16 = t.val; omega)
  show codeR (clipS (quoS (a0 (ix2 ⟨16 * (t.val / 16) + t.val % 16, _⟩ j)) _)) = _
  rw [e]; rfl

/-! ## The loads -/

theorem pay12_eq : k0_pay12 a0 a1 a2 a3 a4 a5 = k0_pay2 a4 a1 := by
  unfold k0_pay12
  rw [View.ld_unit_zero (S := S1x1) hz4 _ a4, View.ld_unit_zero (S := S96x4304) hz1 _ a1]

theorem pay13_eq : k0_pay13 a0 a1 a2 a3 a4 a5 = k0_pay3 a0 a4 a1 := by
  unfold k0_pay13
  rw [View.ld_unit_zero (S := S1x1) hz4 _ a4, View.ld_unit_zero (S := S96x4304) hz1 _ a1, View.ld_unit_zero (S := S1536x4304) hz0 _ a0]

theorem pay14_eq : k0_pay14 a0 a1 a2 a3 a4 a5 = k0_pay4 a0 a4 a1 := by
  unfold k0_pay14
  rw [View.ld_unit_zero (S := S1x1) hz4 _ a4, View.ld_unit_zero (S := S96x4304) hz1 _ a1, View.ld_unit_zero (S := S1536x4304) hz0 _ a0]

theorem pay15_eq : k0_pay15 a0 a1 a2 a3 a4 a5 = k0_pay5 a0 a4 a1 := by
  unfold k0_pay15
  rw [View.ld_unit_zero (S := S1x1) hz4 _ a4, View.ld_unit_zero (S := S96x4304) hz1 _ a1, View.ld_unit_zero (S := S1536x4304) hz0 _ a0]

theorem pay16_eq : k0_pay16 a0 a1 a2 a3 a4 a5 = k0_pay6 a0 a4 a1 := by
  unfold k0_pay16
  rw [View.ld_unit_zero (S := S1x1) hz4 _ a4, View.ld_unit_zero (S := S96x4304) hz1 _ a1, View.ld_unit_zero (S := S1536x4304) hz0 _ a0]

/-- The codes of every row and column. -/
def CD : IVec S1536x4304 32 := k0_pay7 (k0_pay3 a0 a4 a1) (k0_pay4 a0 a4 a1) (k0_pay5 a0 a4 a1) (k0_pay6 a0 a4 a1)

theorem pay17_eq : k0_pay17 a0 a1 a2 a3 a4 a5 = CD a0 a1 a4 := by
  unfold k0_pay17
  rw [pay13_eq, pay14_eq, pay15_eq, pay16_eq]; rfl

/-! ## The results -/

/-- The block scales. -/
theorem G8_apply (g : Fin 96) (j : Fin 4304) : G8 a0 a1 a2 a3 a4 a5 (ix2 g j) = sR a1 a4 g j := by
  show k0_pay12 a0 a1 a2 a3 a4 a5 (ix2 g j) = _
  rw [pay12_eq, pay2_apply]

theorem pair_apply (v : IVec S1536x4304 32) (p : Fin 768) (b : Fin 2) (j : Fin 4304) :
    shapeCast S768x2x4304 v shapeCasts_S1536x4304_S768x2x4304 (ix3 p b j) = v (ix2 ⟨2 * p.val + b.val, by omega⟩ j) :=
  shapeCast_apply v _ _ _ (by
    rw [Shape.rowMajor_val_two, Shape.rowMajor_val_three]
    show (2 * p.val + b.val) * 4304 + j.val = (p.val * 2 + b.val) * 4304 + j.val
    omega)

theorem drop_apply (v : IVec S768x1x4304 32) (p : Fin 768) (j : Fin 4304) :
    shapeCast S768x4304 v shapeCasts_S768x1x4304_S768x4304 (ix2 p j) = v (ix3 p (0 : Fin 1) j) :=
  shapeCast_apply v _ _ _ (by
    rw [Shape.rowMajor_val_two, Shape.rowMajor_val_three]
    show (p.val * 1 + 0) * 4304 + j.val = p.val * 4304 + j.val
    omega)

/-- The codes: a byte holds the codes of rows `2 p` and `2 p + 1`. -/
theorem G7_apply (p : Fin 768) (j : Fin 4304) : G7 a0 a1 a2 a3 a4 a5 (ix2 p j)
    = (IntOp.ori (codeR (wR a0 a1 a4 ⟨2 * p.val, by omega⟩ j)) (IntOp.shli .vector (codeR (wR a0 a1 a4 ⟨2 * p.val + 1, by omega⟩ j)) 4#32)).setWidth 8 := by
  show k0_pay1 (k0_pay17 a0 a1 a2 a3 a4 a5) (ix2 p j) = _
  rw [pay17_eq]
  have e0 : shapeCast S768x4304 (extractStridedSlice S768x1x4304 ![0, 0, 0] (shapeCast S768x2x4304 (CD a0 a1 a4) shapeCasts_S1536x4304_S768x2x4304) slices_S768x2x4304_o0_0_0_S768x1x4304)
      shapeCasts_S768x1x4304_S768x4304 (ix2 p j) = codeR (wR a0 a1 a4 ⟨2 * p.val, by omega⟩ j) := by
    rw [drop_apply, extractStridedSlice_apply _ _ _ (ix3 p (0 : Fin 1) j) (ix3 p (0 : Fin 2) j)
      (fun a => match a with | ⟨0, _⟩ => (Nat.zero_add _).symm | ⟨1, _⟩ => rfl | ⟨2, _⟩ => (Nat.zero_add _).symm), pair_apply]
    exact code_apply a0 a1 a4 _ j
  have e1 : shapeCast S768x4304 (extractStridedSlice S768x1x4304 ![0, 1, 0] (shapeCast S768x2x4304 (CD a0 a1 a4) shapeCasts_S1536x4304_S768x2x4304) slices_S768x2x4304_o0_1_0_S768x1x4304)
      shapeCasts_S768x1x4304_S768x4304 (ix2 p j) = codeR (wR a0 a1 a4 ⟨2 * p.val + 1, by omega⟩ j) := by
    rw [drop_apply, extractStridedSlice_apply _ _ _ (ix3 p (0 : Fin 1) j) (ix3 p (1 : Fin 2) j)
      (fun a => match a with | ⟨0, _⟩ => (Nat.zero_add _).symm | ⟨1, _⟩ => rfl | ⟨2, _⟩ => (Nat.zero_add _).symm), pair_apply]
    exact code_apply a0 a1 a4 _ j
  rw [← e0, ← e1]; rfl

/-- The dequantised gradient, from the block scales and the codes. -/
def RQ (v14 : FVec F S96x4304 .fp8e4m3) (v78 : IVec S1536x4304 32) : FVec F S1536x4304 .bf16 :=
  shapeCast S1536x4304 (mulf (shapeCast S96x16x4304 (fun i => FloatOps.truncf .bf16 bitsLt_bf16_f32 (decS (v78 i)) : FVec F S1536x4304 .bf16) shapeCasts_S1536x4304_S96x16x4304)
    (broadcastTo S96x16x4304 (shapeCast S96x1x4304 (extf .bf16 v14 bitsLt_fp8e4m3_bf16) shapeCasts_S96x4304_S96x1x4304) broadcasts_S96x1x4304_S96x16x4304))
    shapeCasts_S96x16x4304_S1536x4304

theorem RQ_apply (t : Fin 1536) (j : Fin 4304) : RQ (k0_pay2 a4 a1) (CD a0 a1 a4) (ix2 t j)
    = FloatOps.mulf (FloatOps.truncf .bf16 bitsLt_bf16_f32 (decS (codeR (wR a0 a1 a4 t j))))
      (FloatOps.extf .bf16 bitsLt_fp8e4m3_bf16 (sR a1 a4 ⟨t.val / 16, by omega⟩ j)) := by
  refine (join_apply _ t j).trans ?_
  show FloatOps.mulf (shapeCast S96x16x4304 _ shapeCasts_S1536x4304_S96x16x4304 (ix3 ⟨t.val / 16, _⟩ ⟨t.val % 16, _⟩ j))
    (broadcastTo S96x16x4304 _ broadcasts_S96x1x4304_S96x16x4304 (ix3 ⟨t.val / 16, _⟩ ⟨t.val % 16, _⟩ j)) = _
  rw [split_apply, rows_apply, mid_apply]
  have e : (⟨16 * (t.val / 16) + t.val % 16, by omega⟩ : Fin 1536) = t := Fin.ext (by show 16 * (t.val / 16) + t.val % 16 = t.val; omega)
  show FloatOps.mulf (FloatOps.truncf .bf16 bitsLt_bf16_f32 (decS (CD a0 a1 a4 (ix2 ⟨16 * (t.val / 16) + t.val % 16, _⟩ j))))
    (FloatOps.extf .bf16 bitsLt_fp8e4m3_bf16 (k0_pay2 a4 a1 (ix2 ⟨t.val / 16, _⟩ j))) = _
  rw [e, pay2_apply, show CD a0 a1 a4 (ix2 t j) = _ from code_apply a0 a1 a4 t j]

/-- The updated main gradient. -/
theorem G6_apply (i : Fin 1152) (j : Fin 4304) : G6 a0 a1 a2 a3 a4 a5 (ix2 i j)
    = FloatOps.addf (a5 (ix2 i j)) (FloatOps.mulf (FloatOps.mulf (a3 (ix2 0 0)) (a4 (ix2 0 0)))
      (matmul dot_S1536x1152_S1536x4304_S1152x4304_0_0_1_1_n_n none a2 (RQ (k0_pay2 a4 a1) (CD a0 a1 a4)) (constant S1152x4304 .f32 0x00000000#32) (ix2 i j))) := by
  show k0_pay11 a4 (k0_pay12 a0 a1 a2 a3 a4 a5) (k0_pay17 a0 a1 a2 a3 a4 a5) (k0_pay9 (k0_pay13 a0 a1 a2 a3 a4 a5) (k0_pay14 a0 a1 a2 a3 a4 a5) (k0_pay15 a0 a1 a2 a3 a4 a5) (k0_pay16 a0 a1 a2 a3 a4 a5)) (k0_pay10 (k0_pay13 a0 a1 a2 a3 a4 a5) (k0_pay14 a0 a1 a2 a3 a4 a5) (k0_pay15 a0 a1 a2 a3 a4 a5) (k0_pay16 a0 a1 a2 a3 a4 a5)) a2 a5 a3 (ix2 i j) = _
  rw [pay12_eq, pay17_eq, pay13_eq, pay14_eq, pay15_eq, pay16_eq]
  show FloatOps.addf (a5 (ix2 i j)) (FloatOps.mulf (broadcastTo S1152x4304 (mulf a3 a4) broadcasts_S1x1_S1152x4304 (ix2 i j))
    (matmul dot_S1536x1152_S1536x4304_S1152x4304_0_0_1_1_n_n none a2 (RQ (k0_pay2 a4 a1) (CD a0 a1 a4)) (constant S1152x4304 .f32 0x00000000#32) (ix2 i j))) = _
  rw [one_apply']; rfl

end Cert.ReferenceIdeal.Val
end
-- ==== Proof.Value.Equal.lean ====
/-
  The kernel's results are the reference's, element by element, over the extended reals.
-/
module

public import proofs.«01_k».proof.Proof.Value.Tile
public import proofs.«01_k».proof.Proof.Value.Ref
public import proofs.«01_k».proof.Proof.Value.Words
public import Idealize.ShloMosaic.Lib.Pointwise.Contract

@[expose] public section

set_option maxRecDepth 16384

noncomputable section

namespace Cert.Equal

open Cert.Fp4 Cert.ReferenceIdeal.Val Cert.ReferenceIdeal.Value
open Cert.KernelIdeal.Run (Gout Gcod GsbH DQ sE dE wE qE DQ_apply Gout_apply Gcod_apply GsbH_apply)
open Idealize.ShloMosaic hiding ix1 ix2 ix3
open Idealize.ShloMosaic.ValueIdx

/-! ## The two products as sums over the 1536 rows -/

theorem dotK (X : FVec Ideal Cert.KernelIdeal.S1152x1536 .bf16) (D : FVec Ideal Cert.KernelIdeal.S1536x256 .bf16) (i : Fin 1152) (c : Fin 256) :
    (matmul Cert.KernelIdeal.dot_S1152x1536_S1536x256_S1152x256_1_0_0_1_n_n none X D (constant Cert.KernelIdeal.S1152x256 .f32 0x00000000#32) (ix2 i c) : EReal)
      = ∑ t : Fin 1536, (X (ix2 i t) : EReal) * (D (ix2 t c) : EReal) := by
  refine (Ideal.matmul_constant_zero_apply Cert.KernelIdeal.dot_S1152x1536_S1536x256_S1152x256_1_0_0_1_n_n none X D (ix2 i c)).trans ?_
  rw [DotDims.sum_contr₁ Cert.KernelIdeal.dot_S1152x1536_S1536x256_S1152x256_1_0_0_1_n_n (a := 1) rfl (K := 1536) rfl]
  refine Finset.sum_congr rfl fun t _ => ?_
  have el : Cert.KernelIdeal.dot_S1152x1536_S1536x256_S1152x256_1_0_0_1_n_n.lhsIdx (ix2 i c)
      (DotDims.contrIdx₁ _ (a := 1) rfl (K := 1536) rfl t) = ix2 i t := funext fun a => Fin.ext (match a with
    | ⟨0, _⟩ => by simp [DotDims.lhsIdx, Cert.KernelIdeal.dot_S1152x1536_S1536x256_S1152x256_1_0_0_1_n_n]; rfl
    | ⟨1, _⟩ => DotDims.lhsIdx_val_of_single _ rfl _ _)
  have er : Cert.KernelIdeal.dot_S1152x1536_S1536x256_S1152x256_1_0_0_1_n_n.rhsIdx (ix2 i c)
      (DotDims.contrIdx₁ _ (a := 1) rfl (K := 1536) rfl t) = ix2 t c := funext fun a => Fin.ext (match a with
    | ⟨0, _⟩ => DotDims.rhsIdx_val_of_single _ rfl _ _
    | ⟨1, _⟩ => by simp [DotDims.rhsIdx, Cert.KernelIdeal.dot_S1152x1536_S1536x256_S1152x256_1_0_0_1_n_n]; rfl)
  rw [el, er]

theorem dotR (X : FVec Ideal Cert.ReferenceIdeal.S1536x1152 .bf16) (D : FVec Ideal Cert.ReferenceIdeal.S1536x4304 .bf16) (i : Fin 1152) (j : Fin 4304) :
    (matmul Cert.ReferenceIdeal.dot_S1536x1152_S1536x4304_S1152x4304_0_0_1_1_n_n none X D (constant Cert.ReferenceIdeal.S1152x4304 .f32 0x00000000#32) (ix2 i j) : EReal)
      = ∑ t : Fin 1536, (X (ix2 t i) : EReal) * (D (ix2 t j) : EReal) := by
  refine (Ideal.matmul_constant_zero_apply Cert.ReferenceIdeal.dot_S1536x1152_S1536x4304_S1152x4304_0_0_1_1_n_n none X D (ix2 i j)).trans ?_
  rw [DotDims.sum_contr₁ Cert.ReferenceIdeal.dot_S1536x1152_S1536x4304_S1152x4304_0_0_1_1_n_n (a := 0) rfl (K := 1536) rfl]
  refine Finset.sum_congr rfl fun t _ => ?_
  have el : Cert.ReferenceIdeal.dot_S1536x1152_S1536x4304_S1152x4304_0_0_1_1_n_n.lhsIdx (ix2 i j)
      (DotDims.contrIdx₁ _ (a := 0) rfl (K := 1536) rfl t) = ix2 t i := funext fun a => Fin.ext (match a with
    | ⟨0, _⟩ => DotDims.lhsIdx_val_of_single _ rfl _ _
    | ⟨1, _⟩ => by simp [DotDims.lhsIdx, Cert.ReferenceIdeal.dot_S1536x1152_S1536x4304_S1152x4304_0_0_1_1_n_n]; rfl)
  have er : Cert.ReferenceIdeal.dot_S1536x1152_S1536x4304_S1152x4304_0_0_1_1_n_n.rhsIdx (ix2 i j)
      (DotDims.contrIdx₁ _ (a := 0) rfl (K := 1536) rfl t) = ix2 t j := funext fun a => Fin.ext (match a with
    | ⟨0, _⟩ => DotDims.rhsIdx_val_of_single _ rfl _ _
    | ⟨1, _⟩ => by simp [DotDims.rhsIdx, Cert.ReferenceIdeal.dot_S1536x1152_S1536x4304_S1152x4304_0_0_1_1_n_n]; rfl)
  rw [el, er]

/-! ## The elements -/

section

variable (a0 : Vec Ideal Cert.ReferenceIdeal.S1536x4304 .f32) (a1 : Vec Ideal Cert.ReferenceIdeal.S96x4304 .f32)
  (a2 : Vec Ideal Cert.ReferenceIdeal.S1536x1152 .bf16) (a3 a4 : Vec Ideal Cert.ReferenceIdeal.S1x1 .f32)
  (a5 : Vec Ideal Cert.ReferenceIdeal.S1152x4304 .f32)
  (R : Cert.KernelIdeal.S34x1632x128.Idx → Elt Ideal .f32) (A : Cert.KernelIdeal.S96x4352.Idx → Elt Ideal .f32)
  (XQ : Cert.KernelIdeal.S1152x1536.Idx → Elt Ideal .bf16) (MG : Cert.KernelIdeal.S4304x1152.Idx → Elt Ideal .f32)

/-- A block scale is the reference's. -/
theorem s_eq (hA : ∀ (g : Fin 96) (j : Fin 4304), A (ix2 g ⟨j.val, by omega⟩) = a1 (ix2 g j)) (g : Fin 96) (j : Fin 4304) :
    sE A a4 g ⟨j.val, by omega⟩ = sR a1 a4 g j := by
  unfold sE sR
  rw [hA]

/-- A clipped value is the reference's: multiplying by the reciprocal of a scale is dividing by it. -/
theorem w_eq (hA : ∀ (g : Fin 96) (j : Fin 4304), A (ix2 g ⟨j.val, by omega⟩) = a1 (ix2 g j))
    (hR : ∀ (t : Fin 1536) (j : Fin 4304), R (ix3 ⟨j.val / 128, by omega⟩ ⟨17 * (t.val / 16) + t.val % 16, by omega⟩ ⟨j.val % 128, by omega⟩) = a0 (ix2 t j))
    (t : Fin 1536) (j : Fin 4304) : wE R A a4 t ⟨j.val, by omega⟩ = wR a0 a1 a4 t j := by
  unfold wE wR dE dR
  rw [s_eq a1 a4 A hA]
  show clipS (FloatOps.mulf (F := Ideal) (R (ix3 ⟨j.val / 128, _⟩ ⟨17 * (t.val / 16) + t.val % 16, _⟩ ⟨j.val % 128, _⟩)) (invS _)) = _
  rw [hR, mul_invS]

/-- A dequantised value is the reference's: decoding the code of a value gives its signed magnitude. -/
theorem q_eq (hA : ∀ (g : Fin 96) (j : Fin 4304), A (ix2 g ⟨j.val, by omega⟩) = a1 (ix2 g j))
    (hR : ∀ (t : Fin 1536) (j : Fin 4304), R (ix3 ⟨j.val / 128, by omega⟩ ⟨17 * (t.val / 16) + t.val % 16, by omega⟩ ⟨j.val % 128, by omega⟩) = a0 (ix2 t j))
    (t : Fin 1536) (j : Fin 4304) :
    qE R A a4 t ⟨j.val, by omega⟩ = RQ (Cert.ReferenceIdeal.Gen.k0_pay2 a4 a1) (CD a0 a1 a4) (ix2 t j) := by
  rw [RQ_apply]
  unfold qE
  rw [w_eq a0 a1 a4 R A hA hR, s_eq a1 a4 A hA]
  obtain ⟨d, -, h1, h2⟩ := code_spec (quoS (a0 (ix2 t j)) (dR a1 a4 ⟨t.val / 16, by omega⟩ j))
  have e : decS (F := Ideal) (codeR (wR a0 a1 a4 t j)) = valS (wR a0 a1 a4 t j) := by
    unfold wR
    rw [h1, h2]
  rw [e]; rfl

/-- The block scales. -/
theorem scales_eq (hA : ∀ (g : Fin 96) (j : Fin 4304), A (ix2 g ⟨j.val, by omega⟩) = a1 (ix2 g j)) (g : Fin 96) (j : Fin 4304) :
    GsbH A a4 (ix2 g j) = G8 a0 a1 a2 a3 a4 a5 (ix2 g j) := by
  rw [G8_apply, GsbH_apply]
  exact s_eq a1 a4 A hA g j

/-- The codes. -/
theorem codes_eq (hA : ∀ (g : Fin 96) (j : Fin 4304), A (ix2 g ⟨j.val, by omega⟩) = a1 (ix2 g j))
    (hR : ∀ (t : Fin 1536) (j : Fin 4304), R (ix3 ⟨j.val / 128, by omega⟩ ⟨17 * (t.val / 16) + t.val % 16, by omega⟩ ⟨j.val % 128, by omega⟩) = a0 (ix2 t j))
    (p : Fin 768) (j : Fin 4304) : Gcod R A a4 (ix2 j p) = G7 a0 a1 a2 a3 a4 a5 (ix2 p j) := by
  have h : ∀ t : Fin 1536, ∃ d : BitVec 4, codeK (wR a0 a1 a4 t j) = d.setWidth 32 ∧ codeR (wR a0 a1 a4 t j) = (clr d).setWidth 32 := fun t => by
    obtain ⟨d, h0, h1, -⟩ := code_spec (quoS (a0 (ix2 t j)) (dR a1 a4 ⟨t.val / 16, by omega⟩ j))
    exact ⟨d, h0, h1⟩
  choose d hk hr using h
  rw [Gcod_apply R A a4 j p d (fun t => by rw [w_eq a0 a1 a4 R A hA hR]; exact hk t), G7_apply, hr, hr, byte_codes]

/-- The updated main gradient. -/
theorem grads_eq (hA : ∀ (g : Fin 96) (j : Fin 4304), A (ix2 g ⟨j.val, by omega⟩) = a1 (ix2 g j))
    (hR : ∀ (t : Fin 1536) (j : Fin 4304), R (ix3 ⟨j.val / 128, by omega⟩ ⟨17 * (t.val / 16) + t.val % 16, by omega⟩ ⟨j.val % 128, by omega⟩) = a0 (ix2 t j))
    (hX : ∀ (i : Fin 1152) (t : Fin 1536), XQ (ix2 i t) = a2 (ix2 t i)) (hM : ∀ (j : Fin 4304) (i : Fin 1152), MG (ix2 j i) = a5 (ix2 i j))
    (i : Fin 1152) (j : Fin 4304) : Gout R A XQ a4 a3 MG (ix2 j i) = G6 a0 a1 a2 a3 a4 a5 (ix2 i j) := by
  rw [Gout_apply, G6_apply, hM]
  refine congrArg (FloatOps.addf (F := Ideal) (a5 (ix2 i j))) (congrArg (FloatOps.mulf (F := Ideal) _) ?_)
  refine (dotK XQ _ i ⟨j.val % 256, by omega⟩).trans ((Finset.sum_congr rfl fun t _ => ?_).trans (dotR a2 _ i j).symm)
  rw [hX, DQ_apply R A a4 ⟨j.val / 256, by omega⟩ t ⟨j.val % 256, by omega⟩ ⟨j.val, by omega⟩ (by show j.val = 256 * (j.val / 256) + j.val % 256; omega),
    q_eq a0 a1 a4 R A hA hR]

end

end Cert.Equal
end
-- ==== Proof.Value.Algebraic.lean ====
/-
  The value claim: from memories that agree on the arguments, the kernel and the reference end with equal results over the
  extended reals.
-/
module

public import proofs.«01_k».proof.Defs
public import proofs.«01_k».proof.Proof.Gen.KernelIdeal
public import proofs.«01_k».proof.Proof.Gen.ReferenceIdeal
public import proofs.«01_k».proof.Proof.Value.Host
public import proofs.«01_k».proof.Proof.Value.Equal

@[expose] public section

set_option maxRecDepth 16384

noncomputable section

namespace Cert.Equal

open Cert.ReferenceIdeal.Value (G6 G7 G8)
open Cert.KernelIdeal.Run (Vend)
open Idealize.ShloMosaic hiding ix1 ix2 ix3 eq_ix2
open Idealize.ShloMosaic.ValueIdx Idealize.ShloMosaic.TcCoe Idealize.SL.Sem

section

variable (m : (ℓ : Loc Cert.KernelIdeal.nD Cert.KernelIdeal.τ Cert.KernelIdeal.sig) → Buf (Elt Ideal) ℓ) (c : Dev Cert.KernelIdeal.nD)

/-- The kernel's arguments on a device. -/
abbrev A0 : Vec Ideal Cert.ReferenceIdeal.S1536x4304 .f32 := m ((c.tc : Thread Cert.KernelIdeal.nD Cert.KernelIdeal.τ).loc Cert.KernelIdeal.main_arg0)
abbrev A1 : Vec Ideal Cert.ReferenceIdeal.S96x4304 .f32 := m ((c.tc : Thread Cert.KernelIdeal.nD Cert.KernelIdeal.τ).loc Cert.KernelIdeal.main_arg1)
abbrev A2 : Vec Ideal Cert.ReferenceIdeal.S1536x1152 .bf16 := m ((c.tc : Thread Cert.KernelIdeal.nD Cert.KernelIdeal.τ).loc Cert.KernelIdeal.main_arg2)
abbrev A3 : Vec Ideal Cert.ReferenceIdeal.S1x1 .f32 := m ((c.tc : Thread Cert.KernelIdeal.nD Cert.KernelIdeal.τ).loc Cert.KernelIdeal.main_arg3)
abbrev A4 : Vec Ideal Cert.ReferenceIdeal.S1x1 .f32 := m ((c.tc : Thread Cert.KernelIdeal.nD Cert.KernelIdeal.τ).loc Cert.KernelIdeal.main_arg4)
abbrev A5 : Vec Ideal Cert.ReferenceIdeal.S1152x4304 .f32 := m ((c.tc : Thread Cert.KernelIdeal.nD Cert.KernelIdeal.τ).loc Cert.KernelIdeal.main_arg5)

/-- The updated main gradient is the reference's. -/
theorem end_v8 : (Vend m c (Proc.devRef .tc Cert.KernelIdeal.main_v8) : Cert.ReferenceIdeal.S1152x4304.Idx → Elt Ideal .f32)
    = G6 (A0 m c) (A1 m c) (A2 m c) (A3 m c) (A4 m c) (A5 m c) := by
  refine (Cert.KernelIdeal.Run.Vend_v8 m c).trans (funext fun i => ?_)
  rw [eq_ix2 i]
  refine (transpose_ix2_apply _ _ (i 0) (i 1)).trans ?_
  rw [Cert.KernelIdeal.Run.inG0_eq, Cert.KernelIdeal.Run.inG1_eq]
  exact grads_eq (A0 m c) (A1 m c) (A2 m c) (A3 m c) (A4 m c) (A5 m c) _ _ _ _ (Cert.KernelIdeal.Run.inA_apply m c) (Cert.KernelIdeal.Run.inR_apply m c)
    (Cert.KernelIdeal.Run.inX_apply m c) (Cert.KernelIdeal.Run.inM_apply m c) (i 0) (i 1)

/-- The codes are the reference's. -/
theorem end_v9 : (Vend m c (Proc.devRef .tc Cert.KernelIdeal.main_v9) : Cert.ReferenceIdeal.S768x4304.Idx → Elt Ideal .i8)
    = G7 (A0 m c) (A1 m c) (A2 m c) (A3 m c) (A4 m c) (A5 m c) := by
  refine (Cert.KernelIdeal.Run.Vend_v9 m c).trans (funext fun i => ?_)
  rw [eq_ix2 i]
  refine (transpose_ix2_apply _ _ (i 0) (i 1)).trans ?_
  rw [Cert.KernelIdeal.Run.inG0_eq]
  exact codes_eq (A0 m c) (A1 m c) (A2 m c) (A3 m c) (A4 m c) (A5 m c) _ _ (Cert.KernelIdeal.Run.inA_apply m c) (Cert.KernelIdeal.Run.inR_apply m c) (i 0) (i 1)

/-- The block scales are the reference's. -/
theorem end_v7 : (Vend m c (Proc.devRef .tc Cert.KernelIdeal.main_v7_2) : Cert.ReferenceIdeal.S96x4304.Idx → Elt Ideal .fp8e4m3)
    = G8 (A0 m c) (A1 m c) (A2 m c) (A3 m c) (A4 m c) (A5 m c) := by
  refine (Cert.KernelIdeal.Run.Vend_v7 m c).trans (funext fun i => ?_)
  rw [eq_ix2 i, Cert.KernelIdeal.Run.inG0_eq]
  exact scales_eq (A0 m c) (A1 m c) (A2 m c) (A3 m c) (A4 m c) (A5 m c) _ (Cert.KernelIdeal.Run.inA_apply m c) (i 0) (i 1)

end

/-- THE VALUE CLAIM. -/
theorem algebraic : Cert.algebraic_KernelIdeal_ReferenceIdeal := by
  intro m g m' g' _ hm
  refine ⟨fun c => Vend m c (Proc.devRef .tc Cert.KernelIdeal.main_v8), fun c => Vend m c (Proc.devRef .tc Cert.KernelIdeal.main_v9),
    fun c => Vend m c (Proc.devRef .tc Cert.KernelIdeal.main_v7_2), Cert.KernelIdeal.Run.run_values m g, ?_⟩
  refine (θ_run Cert.ReferenceIdeal.defs _ _).mono (fun r h c => ?_) (Cert.ReferenceIdeal.Value.run m' g')
  obtain ⟨h6, h7, h8, k⟩ := h c
  obtain ⟨e0, e1, e2, e3, e4, e5⟩ := hm c
  rw [e0, e1, e2, e3, e4, e5] at h6 h7 h8
  exact ⟨h6.trans (end_v8 m c).symm, h7.trans (end_v9 m c).symm, h8.trans (end_v7 m c).symm, k⟩

end Cert.Equal
end
-- ==== Proof.lean ====
/-
  The proof of `Cert.Claim`: the frames of the kernel and of its reference, and that their results are equal.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Every program runs, its arguments end unchanged, its semaphores end at zero; and over the extended reals the kernel's results are the
    reference's. -/
theorem claim : Cert.Claim := ⟨Cert.Kernel.Gen.facts, Cert.KernelIdeal.Gen.facts, Cert.ReferenceIdeal.Gen.facts,
  fun m g _ => Cert.Kernel.Run.quiescent m g,
  fun m g _ => Cert.KernelIdeal.Run.quiescent m g,
  fun m g _ => Cert.ReferenceIdeal.Gen.frame m g,
  trivial,
  Cert.Equal.algebraic⟩

end Cert.Proof

end
